-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnH (m : (ℓ : Loc Cert.FfnH.nD Cert.FfnH.τ Cert.FfnH.sig) → Buf (Elt Bits) ℓ) : Prop :=
  True

def Pre_FfnHIdeal (m : (ℓ : Loc Cert.FfnHIdeal.nD Cert.FfnHIdeal.τ Cert.FfnHIdeal.sig) → Buf (Elt Ideal) ℓ) : Prop :=
  True

def Pre_FfnHRefIdeal (m : (ℓ : Loc Cert.FfnHRefIdeal.nD Cert.FfnHRefIdeal.τ Cert.FfnHRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_ConvA (m : (ℓ : Loc Cert.ConvA.nD Cert.ConvA.τ Cert.ConvA.sig) → Buf (Elt Bits) ℓ) : Prop :=
  True

def Pre_ConvAIdeal (m : (ℓ : Loc Cert.ConvAIdeal.nD Cert.ConvAIdeal.τ Cert.ConvAIdeal.sig) → Buf (Elt Ideal) ℓ) : Prop :=
  True

def Pre_ConvARefIdeal (m : (ℓ : Loc Cert.ConvARefIdeal.nD Cert.ConvARefIdeal.τ Cert.ConvARefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_QMem (m : (ℓ : Loc Cert.QMem.nD Cert.QMem.τ Cert.QMem.sig) → Buf (Elt Bits) ℓ) : Prop :=
  True

def Pre_QMemIdeal (m : (ℓ : Loc Cert.QMemIdeal.nD Cert.QMemIdeal.τ Cert.QMemIdeal.sig) → Buf (Elt Ideal) ℓ) : Prop :=
  True

def Pre_QMemRefIdeal (m : (ℓ : Loc Cert.QMemRefIdeal.nD Cert.QMemRefIdeal.τ Cert.QMemRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetRefIdeal (m : (ℓ : Loc Cert.ForgetRefIdeal.nD Cert.ForgetRefIdeal.τ Cert.ForgetRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnIdeal_regular_memory [hPre_regular_memory : Cert.Pre_regular_memory.Facts] (m : (ℓ : Loc Cert.MemAttnIdeal.nD Cert.MemAttnIdeal.τ Cert.MemAttnIdeal.sig) → Buf (Elt Ideal) ℓ) : Prop :=
  ∀ c : Dev Cert.MemAttnIdeal.nD,
    (Cert.Pre_regular_memory.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2))).1 = (fun _ => 1#1)
    ∧ (Cert.Pre_regular_memory.fn (F := Ideal) (m ((c.tc : Thread Cert.MemAttnIdeal.nD Cert.MemAttnIdeal.τ).loc Cert.MemAttnIdeal.main_arg0)) (m ((c.tc : Thread Cert.MemAttnIdeal.nD Cert.MemAttnIdeal.τ).loc Cert.MemAttnIdeal.main_arg1)) (m ((c.tc : Thread Cert.MemAttnIdeal.nD Cert.MemAttnIdeal.τ).loc Cert.MemAttnIdeal.main_arg2))).2 = (fun _ => 1#1)

def Pre_MemAttnRefIdeal (m : (ℓ : Loc Cert.MemAttnRefIdeal.nD Cert.MemAttnRefIdeal.τ Cert.MemAttnRefIdeal.sig) → Buf (Elt Ideal) ℓ) : Prop :=
  True

def Pre_MemAttnRefIdeal_regular_memory [hPre_regular_memory : Cert.Pre_regular_memory.Facts] (m : (ℓ : Loc Cert.MemAttnRefIdeal.nD Cert.MemAttnRefIdeal.τ Cert.MemAttnRefIdeal.sig) → Buf (Elt Ideal) ℓ) : Prop :=
  ∀ c : Dev Cert.MemAttnRefIdeal.nD,
    (Cert.Pre_regular_memory.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2))).1 = (fun _ => 1#1)
    ∧ (Cert.Pre_regular_memory.fn (F := Ideal) (m ((c.tc : Thread Cert.MemAttnRefIdeal.nD Cert.MemAttnRefIdeal.τ).loc Cert.MemAttnRefIdeal.main_arg0)) (m ((c.tc : Thread Cert.MemAttnRefIdeal.nD Cert.MemAttnRefIdeal.τ).loc Cert.MemAttnRefIdeal.main_arg1)) (m ((c.tc : Thread Cert.MemAttnRefIdeal.nD Cert.MemAttnRefIdeal.τ).loc Cert.MemAttnRefIdeal.main_arg2))).2 = (fun _ => 1#1)

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnH [hFfnH : Cert.FfnH.Facts] : Prop :=
  ∀ (m : (ℓ : Loc Cert.FfnH.nD Cert.FfnH.τ Cert.FfnH.sig) → Buf (Elt Bits) ℓ) (g : Dev Cert.FfnH.nD → PrngReg), Pre_FfnH m →
    θ_run (Cert.FfnH.defs (F := Bits)) (onTc (τ := Cert.FfnH.τ) (Cert.FfnH.main (F := Bits))) ⟨m, fun _ => 0, g⟩ (fun r => (∀ c : Dev Cert.FfnH.nD,
      r.2.mem ((c.tc : Thread Cert.FfnH.nD Cert.FfnH.τ).loc Cert.FfnH.main_arg0) = m ((c.tc : Thread Cert.FfnH.nD Cert.FfnH.τ).loc Cert.FfnH.main_arg0)
      ∧ r.2.mem ((c.tc : Thread Cert.FfnH.nD Cert.FfnH.τ).loc Cert.FfnH.main_arg1) = m ((c.tc : Thread Cert.FfnH.nD Cert.FfnH.τ).loc Cert.FfnH.main_arg1)
      ∧ r.2.mem ((c.tc : Thread Cert.FfnH.nD Cert.FfnH.τ).loc Cert.FfnH.main_arg2) = m ((c.tc : Thread Cert.FfnH.nD Cert.FfnH.τ).loc Cert.FfnH.main_arg2)
      ∧ r.2.mem ((c.tc : Thread Cert.FfnH.nD Cert.FfnH.τ).loc Cert.FfnH.main_arg3) = m ((c.tc : Thread Cert.FfnH.nD Cert.FfnH.τ).loc Cert.FfnH.main_arg3)
      ∧ r.2.mem ((c.tc : Thread Cert.FfnH.nD Cert.FfnH.τ).loc Cert.FfnH.main_arg4) = m ((c.tc : Thread Cert.FfnH.nD Cert.FfnH.τ).loc Cert.FfnH.main_arg4)
      ∧ r.2.mem ((c.tc : Thread Cert.FfnH.nD Cert.FfnH.τ).loc Cert.FfnH.main_arg5) = m ((c.tc : Thread Cert.FfnH.nD Cert.FfnH.τ).loc Cert.FfnH.main_arg5))
      ∧ r.2.sem = fun _ => 0)

def quiescent_FfnHIdeal [hFfnHIdeal : Cert.FfnHIdeal.Facts] : Prop :=
  ∀ (m : (ℓ : Loc Cert.FfnHIdeal.nD Cert.FfnHIdeal.τ Cert.FfnHIdeal.sig) → Buf (Elt Ideal) ℓ) (g : Dev Cert.FfnHIdeal.nD → PrngReg), Pre_FfnHIdeal m →
    θ_run (Cert.FfnHIdeal.defs (F := Ideal)) (onTc (τ := Cert.FfnHIdeal.τ) (Cert.FfnHIdeal.main (F := Ideal))) ⟨m, fun _ => 0, g⟩ (fun r => (∀ c : Dev Cert.FfnHIdeal.nD,
      r.2.mem ((c.tc : Thread Cert.FfnHIdeal.nD Cert.FfnHIdeal.τ).loc Cert.FfnHIdeal.main_arg0) = m ((c.tc : Thread Cert.FfnHIdeal.nD Cert.FfnHIdeal.τ).loc Cert.FfnHIdeal.main_arg0)
      ∧ r.2.mem ((c.tc : Thread Cert.FfnHIdeal.nD Cert.FfnHIdeal.τ).loc Cert.FfnHIdeal.main_arg1) = m ((c.tc : Thread Cert.FfnHIdeal.nD Cert.FfnHIdeal.τ).loc Cert.FfnHIdeal.main_arg1)
      ∧ r.2.mem ((c.tc : Thread Cert.FfnHIdeal.nD Cert.FfnHIdeal.τ).loc Cert.FfnHIdeal.main_arg2) = m ((c.tc : Thread Cert.FfnHIdeal.nD Cert.FfnHIdeal.τ).loc Cert.FfnHIdeal.main_arg2)
      ∧ r.2.mem ((c.tc : Thread Cert.FfnHIdeal.nD Cert.FfnHIdeal.τ).loc Cert.FfnHIdeal.main_arg3) = m ((c.tc : Thread Cert.FfnHIdeal.nD Cert.FfnHIdeal.τ).loc Cert.FfnHIdeal.main_arg3)
      ∧ r.2.mem ((c.tc : Thread Cert.FfnHIdeal.nD Cert.FfnHIdeal.τ).loc Cert.FfnHIdeal.main_arg4) = m ((c.tc : Thread Cert.FfnHIdeal.nD Cert.FfnHIdeal.τ).loc Cert.FfnHIdeal.main_arg4)
      ∧ r.2.mem ((c.tc : Thread Cert.FfnHIdeal.nD Cert.FfnHIdeal.τ).loc Cert.FfnHIdeal.main_arg5) = m ((c.tc : Thread Cert.FfnHIdeal.nD Cert.FfnHIdeal.τ).loc Cert.FfnHIdeal.main_arg5))
      ∧ r.2.sem = fun _ => 0)

def quiescent_FfnHRefIdeal [hFfnHRefIdeal : Cert.FfnHRefIdeal.Facts] : Prop :=
  ∀ (m : (ℓ : Loc Cert.FfnHRefIdeal.nD Cert.FfnHRefIdeal.τ Cert.FfnHRefIdeal.sig) → Buf (Elt Ideal) ℓ) (g : Dev Cert.FfnHRefIdeal.nD → PrngReg), Pre_FfnHRefIdeal m →
    θ_run (Cert.FfnHRefIdeal.defs (F := Ideal)) (onTc (τ := Cert.FfnHRefIdeal.τ) (Cert.FfnHRefIdeal.main (F := Ideal))) ⟨m, fun _ => 0, g⟩ (fun r => (∀ c : Dev Cert.FfnHRefIdeal.nD,
      r.2.mem ((c.tc : Thread Cert.FfnHRefIdeal.nD Cert.FfnHRefIdeal.τ).loc Cert.FfnHRefIdeal.main_arg0) = m ((c.tc : Thread Cert.FfnHRefIdeal.nD Cert.FfnHRefIdeal.τ).loc Cert.FfnHRefIdeal.main_arg0)
      ∧ r.2.mem ((c.tc : Thread Cert.FfnHRefIdeal.nD Cert.FfnHRefIdeal.τ).loc Cert.FfnHRefIdeal.main_arg1) = m ((c.tc : Thread Cert.FfnHRefIdeal.nD Cert.FfnHRefIdeal.τ).loc Cert.FfnHRefIdeal.main_arg1)
      ∧ r.2.mem ((c.tc : Thread Cert.FfnHRefIdeal.nD Cert.FfnHRefIdeal.τ).loc Cert.FfnHRefIdeal.main_arg2) = m ((c.tc : Thread Cert.FfnHRefIdeal.nD Cert.FfnHRefIdeal.τ).loc Cert.FfnHRefIdeal.main_arg2)
      ∧ r.2.mem ((c.tc : Thread Cert.FfnHRefIdeal.nD Cert.FfnHRefIdeal.τ).loc Cert.FfnHRefIdeal.main_arg3) = m ((c.tc : Thread Cert.FfnHRefIdeal.nD Cert.FfnHRefIdeal.τ).loc Cert.FfnHRefIdeal.main_arg3)
      ∧ r.2.mem ((c.tc : Thread Cert.FfnHRefIdeal.nD Cert.FfnHRefIdeal.τ).loc Cert.FfnHRefIdeal.main_arg4) = m ((c.tc : Thread Cert.FfnHRefIdeal.nD Cert.FfnHRefIdeal.τ).loc Cert.FfnHRefIdeal.main_arg4)
      ∧ r.2.mem ((c.tc : Thread Cert.FfnHRefIdeal.nD Cert.FfnHRefIdeal.τ).loc Cert.FfnHRefIdeal.main_arg5) = m ((c.tc : Thread Cert.FfnHRefIdeal.nD Cert.FfnHRefIdeal.τ).loc Cert.FfnHRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_ConvA [hConvA : Cert.ConvA.Facts] : Prop :=
  ∀ (m : (ℓ : Loc Cert.ConvA.nD Cert.ConvA.τ Cert.ConvA.sig) → Buf (Elt Bits) ℓ) (g : Dev Cert.ConvA.nD → PrngReg), Pre_ConvA m →
    θ_run (Cert.ConvA.defs (F := Bits)) (onTc (τ := Cert.ConvA.τ) (Cert.ConvA.main (F := Bits))) ⟨m, fun _ => 0, g⟩ (fun r => (∀ c : Dev Cert.ConvA.nD,
      r.2.mem ((c.tc : Thread Cert.ConvA.nD Cert.ConvA.τ).loc Cert.ConvA.main_arg0) = m ((c.tc : Thread Cert.ConvA.nD Cert.ConvA.τ).loc Cert.ConvA.main_arg0)
      ∧ r.2.mem ((c.tc : Thread Cert.ConvA.nD Cert.ConvA.τ).loc Cert.ConvA.main_arg1) = m ((c.tc : Thread Cert.ConvA.nD Cert.ConvA.τ).loc Cert.ConvA.main_arg1))
      ∧ r.2.sem = fun _ => 0)

def quiescent_ConvAIdeal [hConvAIdeal : Cert.ConvAIdeal.Facts] : Prop :=
  ∀ (m : (ℓ : Loc Cert.ConvAIdeal.nD Cert.ConvAIdeal.τ Cert.ConvAIdeal.sig) → Buf (Elt Ideal) ℓ) (g : Dev Cert.ConvAIdeal.nD → PrngReg), Pre_ConvAIdeal m →
    θ_run (Cert.ConvAIdeal.defs (F := Ideal)) (onTc (τ := Cert.ConvAIdeal.τ) (Cert.ConvAIdeal.main (F := Ideal))) ⟨m, fun _ => 0, g⟩ (fun r => (∀ c : Dev Cert.ConvAIdeal.nD,
      r.2.mem ((c.tc : Thread Cert.ConvAIdeal.nD Cert.ConvAIdeal.τ).loc Cert.ConvAIdeal.main_arg0) = m ((c.tc : Thread Cert.ConvAIdeal.nD Cert.ConvAIdeal.τ).loc Cert.ConvAIdeal.main_arg0)
      ∧ r.2.mem ((c.tc : Thread Cert.ConvAIdeal.nD Cert.ConvAIdeal.τ).loc Cert.ConvAIdeal.main_arg1) = m ((c.tc : Thread Cert.ConvAIdeal.nD Cert.ConvAIdeal.τ).loc Cert.ConvAIdeal.main_arg1))
      ∧ r.2.sem = fun _ => 0)

def quiescent_ConvARefIdeal [hConvARefIdeal : Cert.ConvARefIdeal.Facts] : Prop :=
  ∀ (m : (ℓ : Loc Cert.ConvARefIdeal.nD Cert.ConvARefIdeal.τ Cert.ConvARefIdeal.sig) → Buf (Elt Ideal) ℓ) (g : Dev Cert.ConvARefIdeal.nD → PrngReg), Pre_ConvARefIdeal m →
    θ_run (Cert.ConvARefIdeal.defs (F := Ideal)) (onTc (τ := Cert.ConvARefIdeal.τ) (Cert.ConvARefIdeal.main (F := Ideal))) ⟨m, fun _ => 0, g⟩ (fun r => (∀ c : Dev Cert.ConvARefIdeal.nD,
      r.2.mem ((c.tc : Thread Cert.ConvARefIdeal.nD Cert.ConvARefIdeal.τ).loc Cert.ConvARefIdeal.main_arg0) = m ((c.tc : Thread Cert.ConvARefIdeal.nD Cert.ConvARefIdeal.τ).loc Cert.ConvARefIdeal.main_arg0)
      ∧ r.2.mem ((c.tc : Thread Cert.ConvARefIdeal.nD Cert.ConvARefIdeal.τ).loc Cert.ConvARefIdeal.main_arg1) = m ((c.tc : Thread Cert.ConvARefIdeal.nD Cert.ConvARefIdeal.τ).loc Cert.ConvARefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_QMem [hQMem : Cert.QMem.Facts] : Prop :=
  ∀ (m : (ℓ : Loc Cert.QMem.nD Cert.QMem.τ Cert.QMem.sig) → Buf (Elt Bits) ℓ) (g : Dev Cert.QMem.nD → PrngReg), Pre_QMem m →
    θ_run (Cert.QMem.defs (F := Bits)) (onTc (τ := Cert.QMem.τ) (Cert.QMem.main (F := Bits))) ⟨m, fun _ => 0, g⟩ (fun r => (∀ c : Dev Cert.QMem.nD,
      r.2.mem ((c.tc : Thread Cert.QMem.nD Cert.QMem.τ).loc Cert.QMem.main_arg0) = m ((c.tc : Thread Cert.QMem.nD Cert.QMem.τ).loc Cert.QMem.main_arg0)
      ∧ r.2.mem ((c.tc : Thread Cert.QMem.nD Cert.QMem.τ).loc Cert.QMem.main_arg1) = m ((c.tc : Thread Cert.QMem.nD Cert.QMem.τ).loc Cert.QMem.main_arg1)
      ∧ r.2.mem ((c.tc : Thread Cert.QMem.nD Cert.QMem.τ).loc Cert.QMem.main_arg2) = m ((c.tc : Thread Cert.QMem.nD Cert.QMem.τ).loc Cert.QMem.main_arg2))
      ∧ r.2.sem = fun _ => 0)

def quiescent_QMemIdeal [hQMemIdeal : Cert.QMemIdeal.Facts] : Prop :=
  ∀ (m : (ℓ : Loc Cert.QMemIdeal.nD Cert.QMemIdeal.τ Cert.QMemIdeal.sig) → Buf (Elt Ideal) ℓ) (g : Dev Cert.QMemIdeal.nD → PrngReg), Pre_QMemIdeal m →
    θ_run (Cert.QMemIdeal.defs (F := Ideal)) (onTc (τ := Cert.QMemIdeal.τ) (Cert.QMemIdeal.main (F := Ideal))) ⟨m, fun _ => 0, g⟩ (fun r => (∀ c : Dev Cert.QMemIdeal.nD,
      r.2.mem ((c.tc : Thread Cert.QMemIdeal.nD Cert.QMemIdeal.τ).loc Cert.QMemIdeal.main_arg0) = m ((c.tc : Thread Cert.QMemIdeal.nD Cert.QMemIdeal.τ).loc Cert.QMemIdeal.main_arg0)
      ∧ r.2.mem ((c.tc : Thread Cert.QMemIdeal.nD Cert.QMemIdeal.τ).loc Cert.QMemIdeal.main_arg1) = m ((c.tc : Thread Cert.QMemIdeal.nD Cert.QMemIdeal.τ).loc Cert.QMemIdeal.main_arg1)
      ∧ r.2.mem ((c.tc : Thread Cert.QMemIdeal.nD Cert.QMemIdeal.τ).loc Cert.QMemIdeal.main_arg2) = m ((c.tc : Thread Cert.QMemIdeal.nD Cert.QMemIdeal.τ).loc Cert.QMemIdeal.main_arg2))
      ∧ r.2.sem = fun _ => 0)

def quiescent_QMemRefIdeal [hQMemRefIdeal : Cert.QMemRefIdeal.Facts] : Prop :=
  ∀ (m : (ℓ : Loc Cert.QMemRefIdeal.nD Cert.QMemRefIdeal.τ Cert.QMemRefIdeal.sig) → Buf (Elt Ideal) ℓ) (g : Dev Cert.QMemRefIdeal.nD → PrngReg), Pre_QMemRefIdeal m →
    θ_run (Cert.QMemRefIdeal.defs (F := Ideal)) (onTc (τ := Cert.QMemRefIdeal.τ) (Cert.QMemRefIdeal.main (F := Ideal))) ⟨m, fun _ => 0, g⟩ (fun r => (∀ c : Dev Cert.QMemRefIdeal.nD,
      r.2.mem ((c.tc : Thread Cert.QMemRefIdeal.nD Cert.QMemRefIdeal.τ).loc Cert.QMemRefIdeal.main_arg0) = m ((c.tc : Thread Cert.QMemRefIdeal.nD Cert.QMemRefIdeal.τ).loc Cert.QMemRefIdeal.main_arg0)
      ∧ r.2.mem ((c.tc : Thread Cert.QMemRefIdeal.nD Cert.QMemRefIdeal.τ).loc Cert.QMemRefIdeal.main_arg1) = m ((c.tc : Thread Cert.QMemRefIdeal.nD Cert.QMemRefIdeal.τ).loc Cert.QMemRefIdeal.main_arg1)
      ∧ r.2.mem ((c.tc : Thread Cert.QMemRefIdeal.nD Cert.QMemRefIdeal.τ).loc Cert.QMemRefIdeal.main_arg2) = m ((c.tc : Thread Cert.QMemRefIdeal.nD Cert.QMemRefIdeal.τ).loc Cert.QMemRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1)
      ∧ r.2.mem ((c.tc : Thread Cert.Forget.nD Cert.Forget.τ).loc Cert.Forget.main_arg2) = m ((c.tc : Thread Cert.Forget.nD Cert.Forget.τ).loc Cert.Forget.main_arg2))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnIdeal_pre_regular_memory [hMemAttnIdeal : Cert.MemAttnIdeal.Facts] [hPre_regular_memory : Cert.Pre_regular_memory.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal_regular_memory m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def quiescent_MemAttnRefIdeal_pre_regular_memory [hMemAttnRefIdeal : Cert.MemAttnRefIdeal.Facts] [hPre_regular_memory : Cert.Pre_regular_memory.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal_regular_memory m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v25) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnH_FfnHIdeal : Prop :=
  True

def algebraic_FfnHIdeal_FfnHRefIdeal [hFfnHIdeal : Cert.FfnHIdeal.Facts] [hFfnHRefIdeal : Cert.FfnHRefIdeal.Facts] : Prop :=
  ∀ (m : (ℓ : Loc Cert.FfnHIdeal.nD Cert.FfnHIdeal.τ Cert.FfnHIdeal.sig) → Buf (Elt Ideal) ℓ) (g : Dev Cert.FfnHIdeal.nD → PrngReg)
    (m' : (ℓ : Loc Cert.FfnHRefIdeal.nD Cert.FfnHRefIdeal.τ Cert.FfnHRefIdeal.sig) → Buf (Elt Ideal) ℓ) (g' : Dev Cert.FfnHRefIdeal.nD → PrngReg), Pre_FfnHIdeal m →
    (∀ c : Dev Cert.FfnHIdeal.nD,
      m' ((c.tc : Thread Cert.FfnHRefIdeal.nD Cert.FfnHRefIdeal.τ).loc Cert.FfnHRefIdeal.main_arg0) = m ((c.tc : Thread Cert.FfnHIdeal.nD Cert.FfnHIdeal.τ).loc Cert.FfnHIdeal.main_arg0)
      ∧ m' ((c.tc : Thread Cert.FfnHRefIdeal.nD Cert.FfnHRefIdeal.τ).loc Cert.FfnHRefIdeal.main_arg1) = m ((c.tc : Thread Cert.FfnHIdeal.nD Cert.FfnHIdeal.τ).loc Cert.FfnHIdeal.main_arg1)
      ∧ m' ((c.tc : Thread Cert.FfnHRefIdeal.nD Cert.FfnHRefIdeal.τ).loc Cert.FfnHRefIdeal.main_arg2) = m ((c.tc : Thread Cert.FfnHIdeal.nD Cert.FfnHIdeal.τ).loc Cert.FfnHIdeal.main_arg2)
      ∧ m' ((c.tc : Thread Cert.FfnHRefIdeal.nD Cert.FfnHRefIdeal.τ).loc Cert.FfnHRefIdeal.main_arg3) = m ((c.tc : Thread Cert.FfnHIdeal.nD Cert.FfnHIdeal.τ).loc Cert.FfnHIdeal.main_arg3)
      ∧ m' ((c.tc : Thread Cert.FfnHRefIdeal.nD Cert.FfnHRefIdeal.τ).loc Cert.FfnHRefIdeal.main_arg4) = m ((c.tc : Thread Cert.FfnHIdeal.nD Cert.FfnHIdeal.τ).loc Cert.FfnHIdeal.main_arg4)
      ∧ m' ((c.tc : Thread Cert.FfnHRefIdeal.nD Cert.FfnHRefIdeal.τ).loc Cert.FfnHRefIdeal.main_arg5) = m ((c.tc : Thread Cert.FfnHIdeal.nD Cert.FfnHIdeal.τ).loc Cert.FfnHIdeal.main_arg5)) →
    ∃ (v0 : (c : Dev Cert.FfnHIdeal.nD) → Buf (Elt Ideal) ((c.tc : Thread Cert.FfnHIdeal.nD Cert.FfnHIdeal.τ).loc Cert.FfnHIdeal.main_v0_0)) (v1 : (c : Dev Cert.FfnHIdeal.nD) → Buf (Elt Ideal) ((c.tc : Thread Cert.FfnHIdeal.nD Cert.FfnHIdeal.τ).loc Cert.FfnHIdeal.main_v0_1)),
      θ_run (Cert.FfnHIdeal.defs (F := Ideal)) (onTc (τ := Cert.FfnHIdeal.τ) (Cert.FfnHIdeal.main (F := Ideal))) ⟨m, fun _ => 0, g⟩ (fun r => ∀ c : Dev Cert.FfnHIdeal.nD,
          r.2.mem ((c.tc : Thread Cert.FfnHIdeal.nD Cert.FfnHIdeal.τ).loc Cert.FfnHIdeal.main_v0_0) = v0 c
          ∧ r.2.mem ((c.tc : Thread Cert.FfnHIdeal.nD Cert.FfnHIdeal.τ).loc Cert.FfnHIdeal.main_v0_1) = v1 c
          ∧ r.2.mem ((c.tc : Thread Cert.FfnHIdeal.nD Cert.FfnHIdeal.τ).loc Cert.FfnHIdeal.main_arg0) = m ((c.tc : Thread Cert.FfnHIdeal.nD Cert.FfnHIdeal.τ).loc Cert.FfnHIdeal.main_arg0)
          ∧ r.2.mem ((c.tc : Thread Cert.FfnHIdeal.nD Cert.FfnHIdeal.τ).loc Cert.FfnHIdeal.main_arg1) = m ((c.tc : Thread Cert.FfnHIdeal.nD Cert.FfnHIdeal.τ).loc Cert.FfnHIdeal.main_arg1)
          ∧ r.2.mem ((c.tc : Thread Cert.FfnHIdeal.nD Cert.FfnHIdeal.τ).loc Cert.FfnHIdeal.main_arg2) = m ((c.tc : Thread Cert.FfnHIdeal.nD Cert.FfnHIdeal.τ).loc Cert.FfnHIdeal.main_arg2)
          ∧ r.2.mem ((c.tc : Thread Cert.FfnHIdeal.nD Cert.FfnHIdeal.τ).loc Cert.FfnHIdeal.main_arg3) = m ((c.tc : Thread Cert.FfnHIdeal.nD Cert.FfnHIdeal.τ).loc Cert.FfnHIdeal.main_arg3)
          ∧ r.2.mem ((c.tc : Thread Cert.FfnHIdeal.nD Cert.FfnHIdeal.τ).loc Cert.FfnHIdeal.main_arg4) = m ((c.tc : Thread Cert.FfnHIdeal.nD Cert.FfnHIdeal.τ).loc Cert.FfnHIdeal.main_arg4)
          ∧ r.2.mem ((c.tc : Thread Cert.FfnHIdeal.nD Cert.FfnHIdeal.τ).loc Cert.FfnHIdeal.main_arg5) = m ((c.tc : Thread Cert.FfnHIdeal.nD Cert.FfnHIdeal.τ).loc Cert.FfnHIdeal.main_arg5))
      ∧ θ_run (Cert.FfnHRefIdeal.defs (F := Ideal)) (onTc (τ := Cert.FfnHRefIdeal.τ) (Cert.FfnHRefIdeal.main (F := Ideal))) ⟨m', fun _ => 0, g'⟩ (fun r => ∀ c : Dev Cert.FfnHRefIdeal.nD,
          r.2.mem ((c.tc : Thread Cert.FfnHRefIdeal.nD Cert.FfnHRefIdeal.τ).loc Cert.FfnHRefIdeal.main_v25) = v0 c
          ∧ r.2.mem ((c.tc : Thread Cert.FfnHRefIdeal.nD Cert.FfnHRefIdeal.τ).loc Cert.FfnHRefIdeal.main_v38) = v1 c
          ∧ r.2.mem ((c.tc : Thread Cert.FfnHRefIdeal.nD Cert.FfnHRefIdeal.τ).loc Cert.FfnHRefIdeal.main_arg0) = m' ((c.tc : Thread Cert.FfnHRefIdeal.nD Cert.FfnHRefIdeal.τ).loc Cert.FfnHRefIdeal.main_arg0)
          ∧ r.2.mem ((c.tc : Thread Cert.FfnHRefIdeal.nD Cert.FfnHRefIdeal.τ).loc Cert.FfnHRefIdeal.main_arg1) = m' ((c.tc : Thread Cert.FfnHRefIdeal.nD Cert.FfnHRefIdeal.τ).loc Cert.FfnHRefIdeal.main_arg1)
          ∧ r.2.mem ((c.tc : Thread Cert.FfnHRefIdeal.nD Cert.FfnHRefIdeal.τ).loc Cert.FfnHRefIdeal.main_arg2) = m' ((c.tc : Thread Cert.FfnHRefIdeal.nD Cert.FfnHRefIdeal.τ).loc Cert.FfnHRefIdeal.main_arg2)
          ∧ r.2.mem ((c.tc : Thread Cert.FfnHRefIdeal.nD Cert.FfnHRefIdeal.τ).loc Cert.FfnHRefIdeal.main_arg3) = m' ((c.tc : Thread Cert.FfnHRefIdeal.nD Cert.FfnHRefIdeal.τ).loc Cert.FfnHRefIdeal.main_arg3)
          ∧ r.2.mem ((c.tc : Thread Cert.FfnHRefIdeal.nD Cert.FfnHRefIdeal.τ).loc Cert.FfnHRefIdeal.main_arg4) = m' ((c.tc : Thread Cert.FfnHRefIdeal.nD Cert.FfnHRefIdeal.τ).loc Cert.FfnHRefIdeal.main_arg4)
          ∧ r.2.mem ((c.tc : Thread Cert.FfnHRefIdeal.nD Cert.FfnHRefIdeal.τ).loc Cert.FfnHRefIdeal.main_arg5) = m' ((c.tc : Thread Cert.FfnHRefIdeal.nD Cert.FfnHRefIdeal.τ).loc Cert.FfnHRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v51) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_ConvA_ConvAIdeal : Prop :=
  True

def algebraic_ConvAIdeal_ConvARefIdeal [hConvAIdeal : Cert.ConvAIdeal.Facts] [hConvARefIdeal : Cert.ConvARefIdeal.Facts] : Prop :=
  ∀ (m : (ℓ : Loc Cert.ConvAIdeal.nD Cert.ConvAIdeal.τ Cert.ConvAIdeal.sig) → Buf (Elt Ideal) ℓ) (g : Dev Cert.ConvAIdeal.nD → PrngReg)
    (m' : (ℓ : Loc Cert.ConvARefIdeal.nD Cert.ConvARefIdeal.τ Cert.ConvARefIdeal.sig) → Buf (Elt Ideal) ℓ) (g' : Dev Cert.ConvARefIdeal.nD → PrngReg), Pre_ConvAIdeal m →
    (∀ c : Dev Cert.ConvAIdeal.nD,
      m' ((c.tc : Thread Cert.ConvARefIdeal.nD Cert.ConvARefIdeal.τ).loc Cert.ConvARefIdeal.main_arg0) = m ((c.tc : Thread Cert.ConvAIdeal.nD Cert.ConvAIdeal.τ).loc Cert.ConvAIdeal.main_arg0)
      ∧ m' ((c.tc : Thread Cert.ConvARefIdeal.nD Cert.ConvARefIdeal.τ).loc Cert.ConvARefIdeal.main_arg1) = m ((c.tc : Thread Cert.ConvAIdeal.nD Cert.ConvAIdeal.τ).loc Cert.ConvAIdeal.main_arg1)) →
    ∃ (v0 : (c : Dev Cert.ConvAIdeal.nD) → Buf (Elt Ideal) ((c.tc : Thread Cert.ConvAIdeal.nD Cert.ConvAIdeal.τ).loc Cert.ConvAIdeal.main_v0_0)) (v1 : (c : Dev Cert.ConvAIdeal.nD) → Buf (Elt Ideal) ((c.tc : Thread Cert.ConvAIdeal.nD Cert.ConvAIdeal.τ).loc Cert.ConvAIdeal.main_v0_1)),
      θ_run (Cert.ConvAIdeal.defs (F := Ideal)) (onTc (τ := Cert.ConvAIdeal.τ) (Cert.ConvAIdeal.main (F := Ideal))) ⟨m, fun _ => 0, g⟩ (fun r => ∀ c : Dev Cert.ConvAIdeal.nD,
          r.2.mem ((c.tc : Thread Cert.ConvAIdeal.nD Cert.ConvAIdeal.τ).loc Cert.ConvAIdeal.main_v0_0) = v0 c
          ∧ r.2.mem ((c.tc : Thread Cert.ConvAIdeal.nD Cert.ConvAIdeal.τ).loc Cert.ConvAIdeal.main_v0_1) = v1 c
          ∧ r.2.mem ((c.tc : Thread Cert.ConvAIdeal.nD Cert.ConvAIdeal.τ).loc Cert.ConvAIdeal.main_arg0) = m ((c.tc : Thread Cert.ConvAIdeal.nD Cert.ConvAIdeal.τ).loc Cert.ConvAIdeal.main_arg0)
          ∧ r.2.mem ((c.tc : Thread Cert.ConvAIdeal.nD Cert.ConvAIdeal.τ).loc Cert.ConvAIdeal.main_arg1) = m ((c.tc : Thread Cert.ConvAIdeal.nD Cert.ConvAIdeal.τ).loc Cert.ConvAIdeal.main_arg1))
      ∧ θ_run (Cert.ConvARefIdeal.defs (F := Ideal)) (onTc (τ := Cert.ConvARefIdeal.τ) (Cert.ConvARefIdeal.main (F := Ideal))) ⟨m', fun _ => 0, g'⟩ (fun r => ∀ c : Dev Cert.ConvARefIdeal.nD,
          r.2.mem ((c.tc : Thread Cert.ConvARefIdeal.nD Cert.ConvARefIdeal.τ).loc Cert.ConvARefIdeal.main_v5) = v0 c
          ∧ r.2.mem ((c.tc : Thread Cert.ConvARefIdeal.nD Cert.ConvARefIdeal.τ).loc Cert.ConvARefIdeal.main_v18) = v1 c
          ∧ r.2.mem ((c.tc : Thread Cert.ConvARefIdeal.nD Cert.ConvARefIdeal.τ).loc Cert.ConvARefIdeal.main_arg0) = m' ((c.tc : Thread Cert.ConvARefIdeal.nD Cert.ConvARefIdeal.τ).loc Cert.ConvARefIdeal.main_arg0)
          ∧ r.2.mem ((c.tc : Thread Cert.ConvARefIdeal.nD Cert.ConvARefIdeal.τ).loc Cert.ConvARefIdeal.main_arg1) = m' ((c.tc : Thread Cert.ConvARefIdeal.nD Cert.ConvARefIdeal.τ).loc Cert.ConvARefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0)) (v1 : (c : Dev Cert.GluIdeal.nD) → Buf (Elt Ideal) ((c.tc : Thread Cert.GluIdeal.nD Cert.GluIdeal.τ).loc Cert.GluIdeal.main_v4)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_v4) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v18) = v0 c
          ∧ r.2.mem ((c.tc : Thread Cert.GluRefIdeal.nD Cert.GluRefIdeal.τ).loc Cert.GluRefIdeal.main_v22) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_QMem_QMemIdeal : Prop :=
  True

def algebraic_QMemIdeal_QMemRefIdeal [hQMemIdeal : Cert.QMemIdeal.Facts] [hQMemRefIdeal : Cert.QMemRefIdeal.Facts] : Prop :=
  ∀ (m : (ℓ : Loc Cert.QMemIdeal.nD Cert.QMemIdeal.τ Cert.QMemIdeal.sig) → Buf (Elt Ideal) ℓ) (g : Dev Cert.QMemIdeal.nD → PrngReg)
    (m' : (ℓ : Loc Cert.QMemRefIdeal.nD Cert.QMemRefIdeal.τ Cert.QMemRefIdeal.sig) → Buf (Elt Ideal) ℓ) (g' : Dev Cert.QMemRefIdeal.nD → PrngReg), Pre_QMemIdeal m →
    (∀ c : Dev Cert.QMemIdeal.nD,
      m' ((c.tc : Thread Cert.QMemRefIdeal.nD Cert.QMemRefIdeal.τ).loc Cert.QMemRefIdeal.main_arg0) = m ((c.tc : Thread Cert.QMemIdeal.nD Cert.QMemIdeal.τ).loc Cert.QMemIdeal.main_arg0)
      ∧ m' ((c.tc : Thread Cert.QMemRefIdeal.nD Cert.QMemRefIdeal.τ).loc Cert.QMemRefIdeal.main_arg1) = m ((c.tc : Thread Cert.QMemIdeal.nD Cert.QMemIdeal.τ).loc Cert.QMemIdeal.main_arg1)
      ∧ m' ((c.tc : Thread Cert.QMemRefIdeal.nD Cert.QMemRefIdeal.τ).loc Cert.QMemRefIdeal.main_arg2) = m ((c.tc : Thread Cert.QMemIdeal.nD Cert.QMemIdeal.τ).loc Cert.QMemIdeal.main_arg2)) →
    ∃ (v0 : (c : Dev Cert.QMemIdeal.nD) → Buf (Elt Ideal) ((c.tc : Thread Cert.QMemIdeal.nD Cert.QMemIdeal.τ).loc Cert.QMemIdeal.main_v0)),
      θ_run (Cert.QMemIdeal.defs (F := Ideal)) (onTc (τ := Cert.QMemIdeal.τ) (Cert.QMemIdeal.main (F := Ideal))) ⟨m, fun _ => 0, g⟩ (fun r => ∀ c : Dev Cert.QMemIdeal.nD,
          r.2.mem ((c.tc : Thread Cert.QMemIdeal.nD Cert.QMemIdeal.τ).loc Cert.QMemIdeal.main_v0) = v0 c
          ∧ r.2.mem ((c.tc : Thread Cert.QMemIdeal.nD Cert.QMemIdeal.τ).loc Cert.QMemIdeal.main_arg0) = m ((c.tc : Thread Cert.QMemIdeal.nD Cert.QMemIdeal.τ).loc Cert.QMemIdeal.main_arg0)
          ∧ r.2.mem ((c.tc : Thread Cert.QMemIdeal.nD Cert.QMemIdeal.τ).loc Cert.QMemIdeal.main_arg1) = m ((c.tc : Thread Cert.QMemIdeal.nD Cert.QMemIdeal.τ).loc Cert.QMemIdeal.main_arg1)
          ∧ r.2.mem ((c.tc : Thread Cert.QMemIdeal.nD Cert.QMemIdeal.τ).loc Cert.QMemIdeal.main_arg2) = m ((c.tc : Thread Cert.QMemIdeal.nD Cert.QMemIdeal.τ).loc Cert.QMemIdeal.main_arg2))
      ∧ θ_run (Cert.QMemRefIdeal.defs (F := Ideal)) (onTc (τ := Cert.QMemRefIdeal.τ) (Cert.QMemRefIdeal.main (F := Ideal))) ⟨m', fun _ => 0, g'⟩ (fun r => ∀ c : Dev Cert.QMemRefIdeal.nD,
          r.2.mem ((c.tc : Thread Cert.QMemRefIdeal.nD Cert.QMemRefIdeal.τ).loc Cert.QMemRefIdeal.main_v22) = v0 c
          ∧ r.2.mem ((c.tc : Thread Cert.QMemRefIdeal.nD Cert.QMemRefIdeal.τ).loc Cert.QMemRefIdeal.main_arg0) = m' ((c.tc : Thread Cert.QMemRefIdeal.nD Cert.QMemRefIdeal.τ).loc Cert.QMemRefIdeal.main_arg0)
          ∧ r.2.mem ((c.tc : Thread Cert.QMemRefIdeal.nD Cert.QMemRefIdeal.τ).loc Cert.QMemRefIdeal.main_arg1) = m' ((c.tc : Thread Cert.QMemRefIdeal.nD Cert.QMemRefIdeal.τ).loc Cert.QMemRefIdeal.main_arg1)
          ∧ r.2.mem ((c.tc : Thread Cert.QMemRefIdeal.nD Cert.QMemRefIdeal.τ).loc Cert.QMemRefIdeal.main_arg2) = m' ((c.tc : Thread Cert.QMemRefIdeal.nD Cert.QMemRefIdeal.τ).loc Cert.QMemRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)) (v2 : (c : Dev Cert.QkvIdeal.nD) → Buf (Elt Ideal) ((c.tc : Thread Cert.QkvIdeal.nD Cert.QkvIdeal.τ).loc Cert.QkvIdeal.main_v0_2)) (v3 : (c : Dev Cert.QkvIdeal.nD) → Buf (Elt Ideal) ((c.tc : Thread Cert.QkvIdeal.nD Cert.QkvIdeal.τ).loc Cert.QkvIdeal.main_v0_3)) (v4 : (c : Dev Cert.QkvIdeal.nD) → Buf (Elt Ideal) ((c.tc : Thread Cert.QkvIdeal.nD Cert.QkvIdeal.τ).loc Cert.QkvIdeal.main_v0_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_v0_2) = v2 c
          ∧ r.2.mem ((c.tc : Thread Cert.QkvIdeal.nD Cert.QkvIdeal.τ).loc Cert.QkvIdeal.main_v0_3) = v3 c
          ∧ r.2.mem ((c.tc : Thread Cert.QkvIdeal.nD Cert.QkvIdeal.τ).loc Cert.QkvIdeal.main_v0_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v51) = v0 c
          ∧ r.2.mem ((c.tc : Thread Cert.QkvRefIdeal.nD Cert.QkvRefIdeal.τ).loc Cert.QkvRefIdeal.main_v53) = v1 c
          ∧ r.2.mem ((c.tc : Thread Cert.QkvRefIdeal.nD Cert.QkvRefIdeal.τ).loc Cert.QkvRefIdeal.main_v55) = v2 c
          ∧ r.2.mem ((c.tc : Thread Cert.QkvRefIdeal.nD Cert.QkvRefIdeal.τ).loc Cert.QkvRefIdeal.main_v42) = v3 c
          ∧ r.2.mem ((c.tc : Thread Cert.QkvRefIdeal.nD Cert.QkvRefIdeal.τ).loc Cert.QkvRefIdeal.main_v49) = v4 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)) →
    ∃ (v0 : (c : Dev Cert.SampleIdeal.nD) → Buf (Elt Ideal) ((c.tc : Thread Cert.SampleIdeal.nD Cert.SampleIdeal.τ).loc Cert.SampleIdeal.main_v0_0)) (v1 : (c : Dev Cert.SampleIdeal.nD) → Buf (Elt Ideal) ((c.tc : Thread Cert.SampleIdeal.nD Cert.SampleIdeal.τ).loc Cert.SampleIdeal.main_v0_1)) (v2 : (c : Dev Cert.SampleIdeal.nD) → Buf (Elt Ideal) ((c.tc : Thread Cert.SampleIdeal.nD Cert.SampleIdeal.τ).loc Cert.SampleIdeal.main_v0_2)) (v3 : (c : Dev Cert.SampleIdeal.nD) → Buf (Elt Ideal) ((c.tc : Thread Cert.SampleIdeal.nD Cert.SampleIdeal.τ).loc Cert.SampleIdeal.main_v0_3)) (v4 : (c : Dev Cert.SampleIdeal.nD) → Buf (Elt Ideal) ((c.tc : Thread Cert.SampleIdeal.nD Cert.SampleIdeal.τ).loc Cert.SampleIdeal.main_v0_4)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v0_0) = v0 c
          ∧ r.2.mem ((c.tc : Thread Cert.SampleIdeal.nD Cert.SampleIdeal.τ).loc Cert.SampleIdeal.main_v0_1) = v1 c
          ∧ r.2.mem ((c.tc : Thread Cert.SampleIdeal.nD Cert.SampleIdeal.τ).loc Cert.SampleIdeal.main_v0_2) = v2 c
          ∧ r.2.mem ((c.tc : Thread Cert.SampleIdeal.nD Cert.SampleIdeal.τ).loc Cert.SampleIdeal.main_v0_3) = v3 c
          ∧ r.2.mem ((c.tc : Thread Cert.SampleIdeal.nD Cert.SampleIdeal.τ).loc Cert.SampleIdeal.main_v0_4) = v4 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v51) = v0 c
          ∧ r.2.mem ((c.tc : Thread Cert.SampleRefIdeal.nD Cert.SampleRefIdeal.τ).loc Cert.SampleRefIdeal.main_v44) = v1 c
          ∧ r.2.mem ((c.tc : Thread Cert.SampleRefIdeal.nD Cert.SampleRefIdeal.τ).loc Cert.SampleRefIdeal.main_v52) = v2 c
          ∧ r.2.mem ((c.tc : Thread Cert.SampleRefIdeal.nD Cert.SampleRefIdeal.τ).loc Cert.SampleRefIdeal.main_v50) = v3 c
          ∧ r.2.mem ((c.tc : Thread Cert.SampleRefIdeal.nD Cert.SampleRefIdeal.τ).loc Cert.SampleRefIdeal.main_v53) = v4 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3))

def preserves_Forget_ForgetIdeal : Prop :=
  True

def algebraic_ForgetIdeal_ForgetRefIdeal [hForgetIdeal : Cert.ForgetIdeal.Facts] [hForgetRefIdeal : Cert.ForgetRefIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)
      ∧ m' ((c.tc : Thread Cert.ForgetRefIdeal.nD Cert.ForgetRefIdeal.τ).loc Cert.ForgetRefIdeal.main_arg2) = m ((c.tc : Thread Cert.ForgetIdeal.nD Cert.ForgetIdeal.τ).loc Cert.ForgetIdeal.main_arg2)) →
    ∃ (v0 : (c : Dev Cert.ForgetIdeal.nD) → Buf (Elt Ideal) ((c.tc : Thread Cert.ForgetIdeal.nD Cert.ForgetIdeal.τ).loc Cert.ForgetIdeal.main_v0)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v0) = v0 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
          ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v8) = v0 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1)
          ∧ r.2.mem ((c.tc : Thread Cert.ForgetRefIdeal.nD Cert.ForgetRefIdeal.τ).loc Cert.ForgetRefIdeal.main_arg2) = m' ((c.tc : Thread Cert.ForgetRefIdeal.nD Cert.ForgetRefIdeal.τ).loc Cert.ForgetRefIdeal.main_arg2))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v4_0)) (v1 : (c : Dev Cert.MemoryIdeal.nD) → Buf (Elt Ideal) ((c.tc : Thread Cert.MemoryIdeal.nD Cert.MemoryIdeal.τ).loc Cert.MemoryIdeal.main_v4_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v4_0) = v0 c
          ∧ r.2.mem ((c.tc : Thread Cert.MemoryIdeal.nD Cert.MemoryIdeal.τ).loc Cert.MemoryIdeal.main_v4_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v35) = v0 c
          ∧ r.2.mem ((c.tc : Thread Cert.MemoryRefIdeal.nD Cert.MemoryRefIdeal.τ).loc Cert.MemoryRefIdeal.main_v37) = v1 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3))

def preserves_MemAttn_MemAttnIdeal : Prop :=
  True

def algebraic_MemAttnIdeal_MemAttnRefIdeal_pre_regular_memory [hMemAttnIdeal : Cert.MemAttnIdeal.Facts] [hMemAttnRefIdeal : Cert.MemAttnRefIdeal.Facts] [hPre_regular_memory : Cert.Pre_regular_memory.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal_regular_memory m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)) →
    ∃ (v0 : (c : Dev Cert.MemAttnIdeal.nD) → Buf (Elt Ideal) ((c.tc : Thread Cert.MemAttnIdeal.nD Cert.MemAttnIdeal.τ).loc Cert.MemAttnIdeal.main_v0)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v0) = v0 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v24) = v0 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hFfnH : Cert.FfnH.Facts) (hFfnHIdeal : Cert.FfnHIdeal.Facts) (hFfnHRefIdeal : Cert.FfnHRefIdeal.Facts) (hMerge : Cert.Merge.Facts) (hMergeIdeal : Cert.MergeIdeal.Facts) (hMergeRefIdeal : Cert.MergeRefIdeal.Facts) (hConvA : Cert.ConvA.Facts) (hConvAIdeal : Cert.ConvAIdeal.Facts) (hConvARefIdeal : Cert.ConvARefIdeal.Facts) (hGlu : Cert.Glu.Facts) (hGluIdeal : Cert.GluIdeal.Facts) (hGluRefIdeal : Cert.GluRefIdeal.Facts) (hQMem : Cert.QMem.Facts) (hQMemIdeal : Cert.QMemIdeal.Facts) (hQMemRefIdeal : Cert.QMemRefIdeal.Facts) (hQkv : Cert.Qkv.Facts) (hQkvIdeal : Cert.QkvIdeal.Facts) (hQkvRefIdeal : Cert.QkvRefIdeal.Facts) (hSample : Cert.Sample.Facts) (hSampleIdeal : Cert.SampleIdeal.Facts) (hSampleRefIdeal : Cert.SampleRefIdeal.Facts) (hForget : Cert.Forget.Facts) (hForgetIdeal : Cert.ForgetIdeal.Facts) (hForgetRefIdeal : Cert.ForgetRefIdeal.Facts) (hMemory : Cert.Memory.Facts) (hMemoryIdeal : Cert.MemoryIdeal.Facts) (hMemoryRefIdeal : Cert.MemoryRefIdeal.Facts) (hMemAttn : Cert.MemAttn.Facts) (hMemAttnIdeal : Cert.MemAttnIdeal.Facts) (hMemAttnRefIdeal : Cert.MemAttnRefIdeal.Facts) (hPre_tables : Cert.Pre_tables.Facts) (hPre_regular : Cert.Pre_regular.Facts) (hPre_regular_memory : Cert.Pre_regular_memory.Facts),
    quiescent_Kernel (hKernel := hKernel) (hPre_tables := hPre_tables)
    ∧ quiescent_KernelIdeal (hKernelIdeal := hKernelIdeal) (hPre_tables := hPre_tables)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ quiescent_Ffn (hFfn := hFfn)
    ∧ quiescent_FfnIdeal (hFfnIdeal := hFfnIdeal)
    ∧ quiescent_FfnRefIdeal (hFfnRefIdeal := hFfnRefIdeal)
    ∧ quiescent_FfnH (hFfnH := hFfnH)
    ∧ quiescent_FfnHIdeal (hFfnHIdeal := hFfnHIdeal)
    ∧ quiescent_FfnHRefIdeal (hFfnHRefIdeal := hFfnHRefIdeal)
    ∧ quiescent_Merge (hMerge := hMerge)
    ∧ quiescent_MergeIdeal (hMergeIdeal := hMergeIdeal)
    ∧ quiescent_MergeRefIdeal (hMergeRefIdeal := hMergeRefIdeal)
    ∧ quiescent_ConvA (hConvA := hConvA)
    ∧ quiescent_ConvAIdeal (hConvAIdeal := hConvAIdeal)
    ∧ quiescent_ConvARefIdeal (hConvARefIdeal := hConvARefIdeal)
    ∧ quiescent_Glu (hGlu := hGlu)
    ∧ quiescent_GluIdeal (hGluIdeal := hGluIdeal)
    ∧ quiescent_GluRefIdeal (hGluRefIdeal := hGluRefIdeal)
    ∧ quiescent_QMem (hQMem := hQMem)
    ∧ quiescent_QMemIdeal (hQMemIdeal := hQMemIdeal)
    ∧ quiescent_QMemRefIdeal (hQMemRefIdeal := hQMemRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Sample (hSample := hSample)
    ∧ quiescent_SampleIdeal (hSampleIdeal := hSampleIdeal)
    ∧ quiescent_SampleRefIdeal (hSampleRefIdeal := hSampleRefIdeal)
    ∧ quiescent_Forget (hForget := hForget)
    ∧ quiescent_ForgetIdeal (hForgetIdeal := hForgetIdeal)
    ∧ quiescent_ForgetRefIdeal (hForgetRefIdeal := hForgetRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_MemAttn (hMemAttn := hMemAttn)
    ∧ quiescent_MemAttnIdeal (hMemAttnIdeal := hMemAttnIdeal)
    ∧ quiescent_MemAttnIdeal_pre_regular_memory (hMemAttnIdeal := hMemAttnIdeal) (hPre_regular_memory := hPre_regular_memory)
    ∧ quiescent_MemAttnRefIdeal (hMemAttnRefIdeal := hMemAttnRefIdeal)
    ∧ quiescent_MemAttnRefIdeal_pre_regular_memory (hMemAttnRefIdeal := hMemAttnRefIdeal) (hPre_regular_memory := hPre_regular_memory)
    ∧ preserves_Kernel_KernelIdeal
    ∧ algebraic_KernelIdeal_ReferenceIdeal_pre_regular (hKernelIdeal := hKernelIdeal) (hReferenceIdeal := hReferenceIdeal) (hPre_regular := hPre_regular)
    ∧ preserves_Ffn_FfnIdeal
    ∧ algebraic_FfnIdeal_FfnRefIdeal (hFfnIdeal := hFfnIdeal) (hFfnRefIdeal := hFfnRefIdeal)
    ∧ preserves_FfnH_FfnHIdeal
    ∧ algebraic_FfnHIdeal_FfnHRefIdeal (hFfnHIdeal := hFfnHIdeal) (hFfnHRefIdeal := hFfnHRefIdeal)
    ∧ preserves_Merge_MergeIdeal
    ∧ algebraic_MergeIdeal_MergeRefIdeal (hMergeIdeal := hMergeIdeal) (hMergeRefIdeal := hMergeRefIdeal)
    ∧ preserves_ConvA_ConvAIdeal
    ∧ algebraic_ConvAIdeal_ConvARefIdeal (hConvAIdeal := hConvAIdeal) (hConvARefIdeal := hConvARefIdeal)
    ∧ preserves_Glu_GluIdeal
    ∧ algebraic_GluIdeal_GluRefIdeal (hGluIdeal := hGluIdeal) (hGluRefIdeal := hGluRefIdeal)
    ∧ preserves_QMem_QMemIdeal
    ∧ algebraic_QMemIdeal_QMemRefIdeal (hQMemIdeal := hQMemIdeal) (hQMemRefIdeal := hQMemRefIdeal)
    ∧ preserves_Qkv_QkvIdeal
    ∧ algebraic_QkvIdeal_QkvRefIdeal (hQkvIdeal := hQkvIdeal) (hQkvRefIdeal := hQkvRefIdeal)
    ∧ preserves_Sample_SampleIdeal
    ∧ algebraic_SampleIdeal_SampleRefIdeal (hSampleIdeal := hSampleIdeal) (hSampleRefIdeal := hSampleRefIdeal)
    ∧ preserves_Forget_ForgetIdeal
    ∧ algebraic_ForgetIdeal_ForgetRefIdeal (hForgetIdeal := hForgetIdeal) (hForgetRefIdeal := hForgetRefIdeal)
    ∧ preserves_Memory_MemoryIdeal
    ∧ algebraic_MemoryIdeal_MemoryRefIdeal (hMemoryIdeal := hMemoryIdeal) (hMemoryRefIdeal := hMemoryRefIdeal)
    ∧ preserves_MemAttn_MemAttnIdeal
    ∧ algebraic_MemAttnIdeal_MemAttnRefIdeal_pre_regular_memory (hMemAttnIdeal := hMemAttnIdeal) (hMemAttnRefIdeal := hMemAttnRefIdeal) (hPre_regular_memory := hPre_regular_memory)
-- ==== Pre_regular.lean ====
abbrev S10 : Shape := ⟨1, ![10]⟩
abbrev S8192x1024 : Shape := ⟨2, ![8192, 1024]⟩
abbrev S8192x128 : Shape := ⟨2, ![8192, 128]⟩
abbrev S2x8x1x4096 : Shape := ⟨4, ![2, 8, 1, 4096]⟩
abbrev S_ : Shape := ⟨0, ![]⟩
abbrev S8192x8 : Shape := ⟨2, ![8192, 8]⟩

class Facts : Prop where
  bcast_S_S10 : S_.BroadcastsInDim S10 (![] : Fin 0 → Fin S10.rank)
  bitsLt_bf16_f32 : FTy.bits .bf16 < FTy.bits .f32
  bcast_S_S8192x1024 : S_.BroadcastsInDim S8192x1024 (![] : Fin 0 → Fin S8192x1024.rank)
  slices_S8192x128_S8192x8_0_0 : S8192x128.Slices ![0, 0] S8192x8
  bcast_S_S8192x8 : S_.BroadcastsInDim S8192x8 (![] : Fin 0 → Fin S8192x8.rank)
  bcast_S_S2x8x1x4096 : S_.BroadcastsInDim S2x8x1x4096 (![] : Fin 0 → Fin S2x8x1x4096.rank)

variable [Facts]

def fn_where {F : FTy → Type} [FloatOps F] (arg0 : IVec S10 1) (arg1 : IVec S_ 32) (arg2 : IVec S_ 32) : IVec S10 32 :=
  let v0 : IVec S10 32 := broadcastInDim S10 ![] bcast_S_S10 arg1
  let v1 : IVec S10 32 := broadcastInDim S10 ![] bcast_S_S10 arg2
  let v2 : IVec S10 32 := select arg0 v0 v1
  v2

def fn_where_0 {F : FTy → Type} [FloatOps F] (arg0 : IVec S10 1) (arg1 : IVec S_ 32) (arg2 : IVec S10 32) : IVec S10 32 :=
  let v0 : IVec S10 32 := broadcastInDim S10 ![] bcast_S_S10 arg1
  let v1 : IVec S10 32 := select arg0 v0 arg2
  v1

def fn_part2 {F : FTy → Type} [FloatOps F] (main_v20 : IVec S10 1) (main_v24 : IVec S8192x1024 1) (main_v28 : IVec S8192x1024 1) (main_v32 : IVec S8192x8 1) (main_v33 : FVec F S2x8x1x4096 .f32) (main_v34 : FVec F S2x8x1x4096 .f32) : IVec S10 1 × IVec S8192x1024 1 × IVec S8192x1024 1 × IVec S8192x8 1 × IVec S2x8x1x4096 1 :=
  let main_v35 : IVec S2x8x1x4096 1 := cmpf .olt main_v33 main_v34
  (main_v20, main_v24, main_v28, main_v32, main_v35)

def fn_part1 {F : FTy → Type} [FloatOps F] (main_arg0 : IVec S10 32) (main_arg1 : IVec S10 32) (main_arg2 : FVec F S8192x1024 .bf16) (main_arg3 : FVec F S8192x1024 .bf16) (main_arg5 : FVec F S8192x128 .f32) (main_arg6 : FVec F S2x8x1x4096 .f32) (main_v0 : IVec S10 32) (main_v9 : IVec S10 32) (main_v14 : IVec S10 32) : IVec S10 1 × IVec S8192x1024 1 × IVec S8192x1024 1 × IVec S8192x8 1 × IVec S2x8x1x4096 1 :=
  let main_v15 : IVec S10 32 := id main_v14
  let main_v16 : IVec S10 32 := subi main_v0 main_v15
  let main_v17 : IVec S10 32 := id main_v9
  let main_v18 : IVec S10 1 := cmpi .eq main_arg0 main_v17
  let main_v19 : IVec S10 1 := cmpi .eq main_arg1 main_v16
  let main_v20 : IVec S10 1 := andi main_v18 main_v19
  let main_v21 : FVec F S8192x1024 .f32 := (extf .f32 · bitsLt_bf16_f32) main_arg2
  let main_v22 : FVec F S8192x1024 .f32 := Host.absf main_v21
  let main_cst : FVec F S_ .f32 := constant S_ .f32 0x7F800000#32
  let main_v23 : FVec F S8192x1024 .f32 := broadcastInDim S8192x1024 ![] bcast_S_S8192x1024 main_cst
  let main_v24 : IVec S8192x1024 1 := cmpf .olt main_v22 main_v23
  let main_v25 : FVec F S8192x1024 .f32 := (extf .f32 · bitsLt_bf16_f32) main_arg3
  let main_v26 : FVec F S8192x1024 .f32 := Host.absf main_v25
  let main_cst_8 : FVec F S_ .f32 := constant S_ .f32 0x7F800000#32
  let main_v27 : FVec F S8192x1024 .f32 := broadcastInDim S8192x1024 ![] bcast_S_S8192x1024 main_cst_8
  let main_v28 : IVec S8192x1024 1 := cmpf .olt main_v26 main_v27
  let main_v29 : FVec F S8192x8 .f32 := (extractStridedSlice S8192x8 ![0, 0] · slices_S8192x128_S8192x8_0_0) main_arg5
  let main_v30 : FVec F S8192x8 .f32 := Host.absf main_v29
  let main_cst_9 : FVec F S_ .f32 := constant S_ .f32 0x7F800000#32
  let main_v31 : FVec F S8192x8 .f32 := broadcastInDim S8192x8 ![] bcast_S_S8192x8 main_cst_9
  let main_v32 : IVec S8192x8 1 := cmpf .olt main_v30 main_v31
  let main_v33 : FVec F S2x8x1x4096 .f32 := Host.absf main_arg6
  let main_cst_10 : FVec F S_ .f32 := constant S_ .f32 0x7F800000#32
  let main_v34 : FVec F S2x8x1x4096 .f32 := broadcastInDim S2x8x1x4096 ![] bcast_S_S2x8x1x4096 main_cst_10
  fn_part2 (F := F) main_v20 main_v24 main_v28 main_v32 main_v33 main_v34

def fn {F : FTy → Type} [FloatOps F] (main_arg0 : IVec S10 32) (main_arg1 : IVec S10 32) (main_arg2 : FVec F S8192x1024 .bf16) (main_arg3 : FVec F S8192x1024 .bf16) (main_arg4 : FVec F S8192x1024 .bf16) (main_arg5 : FVec F S8192x128 .f32) (main_arg6 : FVec F S2x8x1x4096 .f32) : IVec S10 1 × IVec S8192x1024 1 × IVec S8192x1024 1 × IVec S8192x8 1 × IVec S2x8x1x4096 1 :=
  let main_v0 : IVec S10 32 := iotaInDim S10 32 0
  let main_c : IVec S_ 32 := constantI S_ 32 6#32
  let main_v1 : IVec S10 32 := broadcastInDim S10 ![] bcast_S_S10 main_c
  let main_v2 : IVec S10 1 := cmpi .sge main_v0 main_v1
  let main_c_0 : IVec S_ 32 := constantI S_ 32 3#32
  let main_v3 : IVec S10 32 := broadcastInDim S10 ![] bcast_S_S10 main_c_0
  let main_v4 : IVec S10 1 := cmpi .sge main_v0 main_v3
  let main_c_1 : IVec S_ 32 := constantI S_ 32 1#32
  let main_v5 : IVec S10 32 := broadcastInDim S10 ![] bcast_S_S10 main_c_1
  let main_v6 : IVec S10 1 := cmpi .sge main_v0 main_v5
  let main_c_2 : IVec S_ 32 := constantI S_ 32 1#32
  let main_c_3 : IVec S_ 32 := constantI S_ 32 0#32
  let main_v7 : IVec S10 32 := fn_where (F := F) main_v6 main_c_2 main_c_3
  let main_c_4 : IVec S_ 32 := constantI S_ 32 2#32
  let main_v8 : IVec S10 32 := fn_where_0 (F := F) main_v4 main_c_4 main_v7
  let main_c_5 : IVec S_ 32 := constantI S_ 32 3#32
  let main_v9 : IVec S10 32 := fn_where_0 (F := F) main_v2 main_c_5 main_v8
  let main_c_6 : IVec S_ 32 := constantI S_ 32 1#32
  let main_v10 : IVec S10 32 := broadcastInDim S10 ![] bcast_S_S10 main_c_6
  let main_v11 : IVec S10 32 := addi main_v9 main_v10
  let main_v12 : IVec S10 32 := muli main_v9 main_v11
  let main_c_7 : IVec S_ 32 := constantI S_ 32 1#32
  let main_v13 : IVec S10 32 := broadcastInDim S10 ![] bcast_S_S10 main_c_7
  let main_v14 : IVec S10 32 := Host.shrui main_v12 main_v13
  fn_part1 (F := F) main_arg0 main_arg1 main_arg2 main_arg3 main_arg5 main_arg6 main_v0 main_v9 main_v14
-- ==== Pre_regular_memory.lean ====
abbrev S8320x1024 : Shape := ⟨2, ![8320, 1024]⟩
abbrev S1x2x256x1024 : Shape := ⟨4, ![1, 2, 256, 1024]⟩
abbrev S8192x1024 : Shape := ⟨2, ![8192, 1024]⟩
abbrev S_ : Shape := ⟨0, ![]⟩

class Facts : Prop where
  slices_S8320x1024_S8192x1024_0_0 : S8320x1024.Slices ![0, 0] S8192x1024
  bitsLt_bf16_f32 : FTy.bits .bf16 < FTy.bits .f32
  bcast_S_S8192x1024 : S_.BroadcastsInDim S8192x1024 (![] : Fin 0 → Fin S8192x1024.rank)
  bcast_S_S1x2x256x1024 : S_.BroadcastsInDim S1x2x256x1024 (![] : Fin 0 → Fin S1x2x256x1024.rank)

variable [Facts]

def fn {F : FTy → Type} [FloatOps F] (main_arg0 : FVec F S8320x1024 .bf16) (main_arg1 : FVec F S1x2x256x1024 .f32) (main_arg2 : FVec F S1x2x256x1024 .f32) : IVec S8192x1024 1 × IVec S1x2x256x1024 1 :=
  let main_v0 : FVec F S8192x1024 .bf16 := (extractStridedSlice S8192x1024 ![0, 0] · slices_S8320x1024_S8192x1024_0_0) main_arg0
  let main_v1 : FVec F S8192x1024 .f32 := (extf .f32 · bitsLt_bf16_f32) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S1x2x256x1024 .f32 := Host.absf main_arg1
  let main_cst_0 : FVec F S_ .f32 := constant S_ .f32 0x7F800000#32
  let main_v6 : FVec F S1x2x256x1024 .f32 := broadcastInDim S1x2x256x1024 ![] bcast_S_S1x2x256x1024 main_cst_0
  let main_v7 : IVec S1x2x256x1024 1 := cmpf .olt main_v5 main_v6
  (main_v4, main_v7)
-- ==== Pre_tables.lean ====
abbrev S10 : Shape := ⟨1, ![10]⟩
abbrev S8192x1024 : Shape := ⟨2, ![8192, 1024]⟩
abbrev S8192x128 : Shape := ⟨2, ![8192, 128]⟩
abbrev S2x8x1x4096 : Shape := ⟨4, ![2, 8, 1, 4096]⟩
abbrev S_ : Shape := ⟨0, ![]⟩

class Facts : Prop where
  bcast_S_S10 : S_.BroadcastsInDim S10 (![] : Fin 0 → Fin S10.rank)

variable [Facts]

def fn_where {F : FTy → Type} [FloatOps F] (arg0 : IVec S10 1) (arg1 : IVec S_ 32) (arg2 : IVec S_ 32) : IVec S10 32 :=
  let v0 : IVec S10 32 := broadcastInDim S10 ![] bcast_S_S10 arg1
  let v1 : IVec S10 32 := broadcastInDim S10 ![] bcast_S_S10 arg2
  let v2 : IVec S10 32 := select arg0 v0 v1
  v2

def fn_where_0 {F : FTy → Type} [FloatOps F] (arg0 : IVec S10 1) (arg1 : IVec S_ 32) (arg2 : IVec S10 32) : IVec S10 32 :=
  let v0 : IVec S10 32 := broadcastInDim S10 ![] bcast_S_S10 arg1
  let v1 : IVec S10 32 := select arg0 v0 arg2
  v1

def fn_part1 {F : FTy → Type} [FloatOps F] (main_arg0 : IVec S10 32) (main_arg1 : IVec S10 32) (main_v0 : IVec S10 32) (main_v9 : IVec S10 32) (main_v14 : IVec S10 32) : IVec S10 1 :=
  let main_v15 : IVec S10 32 := id main_v14
  let main_v16 : IVec S10 32 := subi main_v0 main_v15
  let main_v17 : IVec S10 32 := id main_v9
  let main_v18 : IVec S10 1 := cmpi .eq main_arg0 main_v17
  let main_v19 : IVec S10 1 := cmpi .eq main_arg1 main_v16
  let main_v20 : IVec S10 1 := andi main_v18 main_v19
  main_v20

def fn {F : FTy → Type} [FloatOps F] (main_arg0 : IVec S10 32) (main_arg1 : IVec S10 32) (main_arg2 : FVec F S8192x1024 .bf16) (main_arg3 : FVec F S8192x1024 .bf16) (main_arg4 : FVec F S8192x1024 .bf16) (main_arg5 : FVec F S8192x128 .f32) (main_arg6 : FVec F S2x8x1x4096 .f32) : IVec S10 1 :=
  let main_v0 : IVec S10 32 := iotaInDim S10 32 0
  let main_c : IVec S_ 32 := constantI S_ 32 6#32
  let main_v1 : IVec S10 32 := broadcastInDim S10 ![] bcast_S_S10 main_c
  let main_v2 : IVec S10 1 := cmpi .sge main_v0 main_v1
  let main_c_0 : IVec S_ 32 := constantI S_ 32 3#32
  let main_v3 : IVec S10 32 := broadcastInDim S10 ![] bcast_S_S10 main_c_0
  let main_v4 : IVec S10 1 := cmpi .sge main_v0 main_v3
  let main_c_1 : IVec S_ 32 := constantI S_ 32 1#32
  let main_v5 : IVec S10 32 := broadcastInDim S10 ![] bcast_S_S10 main_c_1
  let main_v6 : IVec S10 1 := cmpi .sge main_v0 main_v5
  let main_c_2 : IVec S_ 32 := constantI S_ 32 1#32
  let main_c_3 : IVec S_ 32 := constantI S_ 32 0#32
  let main_v7 : IVec S10 32 := fn_where (F := F) main_v6 main_c_2 main_c_3
  let main_c_4 : IVec S_ 32 := constantI S_ 32 2#32
  let main_v8 : IVec S10 32 := fn_where_0 (F := F) main_v4 main_c_4 main_v7
  let main_c_5 : IVec S_ 32 := constantI S_ 32 3#32
  let main_v9 : IVec S10 32 := fn_where_0 (F := F) main_v2 main_c_5 main_v8
  let main_c_6 : IVec S_ 32 := constantI S_ 32 1#32
  let main_v10 : IVec S10 32 := broadcastInDim S10 ![] bcast_S_S10 main_c_6
  let main_v11 : IVec S10 32 := addi main_v9 main_v10
  let main_v12 : IVec S10 32 := muli main_v9 main_v11
  let main_c_7 : IVec S_ 32 := constantI S_ 32 1#32
  let main_v13 : IVec S10 32 := broadcastInDim S10 ![] bcast_S_S10 main_c_7
  let main_v14 : IVec S10 32 := Host.shrui main_v12 main_v13
  fn_part1 (F := F) main_arg0 main_arg1 main_v0 main_v9 main_v14
-- ==== Kernel.lean ====
abbrev S10 : Shape := ⟨1, ![10]⟩
abbrev S8192x1024 : Shape := ⟨2, ![8192, 1024]⟩
abbrev S8192x128 : Shape := ⟨2, ![8192, 128]⟩
abbrev S2x8x1x4096 : Shape := ⟨4, ![2, 8, 1, 4096]⟩
abbrev S1024x128 : Shape := ⟨2, ![1024, 128]⟩
abbrev S1 : Shape := ⟨1, ![1]⟩
abbrev S1x1x1x1024 : Shape := ⟨4, ![1, 1, 1, 1024]⟩
abbrev S1024x1 : Shape := ⟨2, ![1024, 1]⟩
abbrev S1024 : Shape := ⟨1, ![1024]⟩
abbrev S256x128 : Shape := ⟨2, ![256, 128]⟩
abbrev S256x1024 : Shape := ⟨2, ![256, 1024]⟩
abbrev S1x1024 : Shape := ⟨2, ![1, 1024]⟩
abbrev S256x1 : Shape := ⟨2, ![256, 1]⟩
abbrev S256 : Shape := ⟨1, ![256]⟩
abbrev S256x256 : Shape := ⟨2, ![256, 256]⟩
abbrev S1x1x1x256 : Shape := ⟨4, ![1, 1, 1, 256]⟩
abbrev S1x256 : Shape := ⟨2, ![1, 256]⟩
abbrev S512x128 : Shape := ⟨2, ![512, 128]⟩
abbrev S256x512 : Shape := ⟨2, ![256, 512]⟩
abbrev S1x1x1x512 : Shape := ⟨4, ![1, 1, 1, 512]⟩
abbrev S1x512 : Shape := ⟨2, ![1, 512]⟩
abbrev S768x128 : Shape := ⟨2, ![768, 128]⟩
abbrev S256x768 : Shape := ⟨2, ![256, 768]⟩
abbrev S1x1x1x768 : Shape := ⟨4, ![1, 1, 1, 768]⟩
abbrev S1x768 : Shape := ⟨2, ![1, 768]⟩

abbrev nBuf : Space → Nat
  | .hbm => 6
  | .vmem => 16
  | .smem => 2
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x128, .f32⟩
  | .hbm, ⟨4, _⟩ => ⟨S2x8x1x4096, .f32⟩
  | .hbm, ⟨5, _⟩ => ⟨S8192x1024, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1024x128, .bf16⟩
  | .local _ .vmem, ⟨11, _⟩ => ⟨S1024x128, .bf16⟩
  | .local _ .vmem, ⟨12, _⟩ => ⟨S1024x1, .f32⟩
  | .local _ .vmem, ⟨13, _⟩ => ⟨S1024x1, .f32⟩
  | .local _ .vmem, ⟨14, _⟩ => ⟨S1024x128, .f32⟩
  | .local _ .vmem, ⟨15, _⟩ => ⟨S1024x1, .f32⟩
  | .local _ .smem, ⟨0, _⟩ => ⟨S10, .i32⟩
  | .local _ .smem, ⟨1, _⟩ => ⟨S10, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 10], ![false, false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  ![v3.toNat, arg1.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c0_i32 : BitVec 32 := 0#32
  ![v3.toNat, arg1.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 1 (Rect.unit (s := S10) ![v1.toNat] S1.size (k0_off1_inb i)) numel1_S1
  let v3 : BitVec 32 := Scalar.addi v0 v2
  let c0_i32 : BitVec 32 := 0#32
  ![v3.toNat, arg1.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_4 (k0_off1_inb : ∀ i : grid0.Coords, ∀ a, (k0_off1 i) a + S1.size a ≤ S10.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S10) ![v0.toNat] S1.size (k0_off1_inb i)) numel1_S1
  let c0_i32 : BitVec 32 := 0#32
  let c0_i32_0 : BitVec 32 := 0#32
  ![arg0.toNat, arg1.toNat, c0_i32.toNat, v1.toNat]

def cc0_transform_5 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : Index := Scalar.indexCast arg2
  let v2 : BitVec 32 := pf.at 0 (Rect.unit (s := S10) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== ReferenceIdeal.lean ====
abbrev S10 : Shape := ⟨1, ![10]⟩
abbrev S8192x1024 : Shape := ⟨2, ![8192, 1024]⟩
abbrev S8192x128 : Shape := ⟨2, ![8192, 128]⟩
abbrev S2x8x1x4096 : Shape := ⟨4, ![2, 8, 1, 4096]⟩
abbrev S2x4096x8x128 : Shape := ⟨4, ![2, 4096, 8, 128]⟩
abbrev S2x4096x128 : Shape := ⟨3, ![2, 4096, 128]⟩
abbrev S2x4096x8 : Shape := ⟨3, ![2, 4096, 8]⟩
abbrev S2x8x4096 : Shape := ⟨3, ![2, 8, 4096]⟩
abbrev S4096 : Shape := ⟨1, ![4096]⟩
abbrev S2x8x4096x4096 : Shape := ⟨4, ![2, 8, 4096, 4096]⟩
abbrev S_ : Shape := ⟨0, ![]⟩
abbrev S2x8x4096x1 : Shape := ⟨4, ![2, 8, 4096, 1]⟩
abbrev S1x4096 : Shape := ⟨2, ![1, 4096]⟩
abbrev S4096x1 : Shape := ⟨2, ![4096, 1]⟩
abbrev S4096x4096 : Shape := ⟨2, ![4096, 4096]⟩
abbrev S2x8x128x4096 : Shape := ⟨4, ![2, 8, 128, 4096]⟩

abbrev nBuf : Space → Nat
  | .hbm => 56
  | .vmem => 0
  | .smem => 0
  | _ => 0

abbrev bufTy : (tb : Table) → Fin (tcTables nBuf tb) → BufTy
  | .hbm, ⟨0, _⟩ => ⟨S10, .i32⟩
  | .hbm, ⟨1, _⟩ => ⟨S10, .i32⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x128, .f32⟩
  | .hbm, ⟨6, _⟩ => ⟨S2x8x1x4096, .f32⟩
  | .hbm, ⟨7, _⟩ => ⟨S8192x1024, .f32⟩
  | .hbm, ⟨8, _⟩ => ⟨S2x4096x8x128, .f32⟩
  | .hbm, ⟨9, _⟩ => ⟨S8192x1024, .f32⟩
  | .hbm, ⟨10, _⟩ => ⟨S2x4096x8x128, .f32⟩
  | .hbm, ⟨11, _⟩ => ⟨S8192x1024, .f32⟩
  | .hbm, ⟨12, _⟩ => ⟨S2x4096x8x128, .f32⟩
  | .hbm, ⟨13, _⟩ => ⟨S2x4096x128, .f32⟩
  | .hbm, ⟨14, _⟩ => ⟨S2x4096x8, .f32⟩
  | .hbm, ⟨15, _⟩ => ⟨S2x8x4096, .f32⟩
  | .hbm, ⟨16, _⟩ => ⟨S2x8x4096, .f32⟩
  | .hbm, ⟨17, _⟩ => ⟨S4096, .i32⟩
  | .hbm, ⟨18, _⟩ => ⟨S2x8x4096x4096, .f32⟩
  | .hbm, ⟨19, _⟩ => ⟨S_, .f32⟩
  | .hbm, ⟨20, _⟩ => ⟨S2x8x4096x4096, .f32⟩
  | .hbm, ⟨21, _⟩ => ⟨S2x8x4096x4096, .f32⟩
  | .hbm, ⟨22, _⟩ => ⟨S2x8x4096x1, .f32⟩
  | .hbm, ⟨23, _⟩ => ⟨S2x8x1x4096, .f32⟩
  | .hbm, ⟨24, _⟩ => ⟨S2x8x4096x4096, .f32⟩
  | .hbm, ⟨25, _⟩ => ⟨S2x8x4096x4096, .f32⟩
  | .hbm, ⟨26, _⟩ => ⟨S2x8x4096x4096, .f32⟩
  | .hbm, ⟨27, _⟩ => ⟨S2x8x4096x4096, .f32⟩
  | .hbm, ⟨28, _⟩ => ⟨S1x4096, .i32⟩
  | .hbm, ⟨29, _⟩ => ⟨S4096x1, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S2x8x4096x4096, .i1⟩
  | .hbm, ⟨36, _⟩ => ⟨S2x8x4096x4096, .f32⟩
  | .hbm, ⟨37, _⟩ => ⟨S2x8x4096x4096, .f32⟩
  | .hbm, ⟨38, _⟩ => ⟨S_, .f32⟩
  | .hbm, ⟨39, _⟩ => ⟨S2x8x4096, .f32⟩
  | .hbm, ⟨40, _⟩ => ⟨S_, .f32⟩
  | .hbm, ⟨41, _⟩ => ⟨S2x8x4096, .f32⟩
  | .hbm, ⟨42, _⟩ => ⟨S2x8x4096, .f32⟩
  | .hbm, ⟨43, _⟩ => ⟨S2x8x4096x1, .f32⟩
  | .hbm, ⟨44, _⟩ => ⟨S2x8x4096x4096, .f32⟩
  | .hbm, ⟨45, _⟩ => ⟨S2x8x4096x4096, .f32⟩
  | .hbm, ⟨46, _⟩ => ⟨S2x8x4096x4096, .f32⟩
  | .hbm, ⟨47, _⟩ => ⟨S_, .f32⟩
  | .hbm, ⟨48, _⟩ => ⟨S2x8x4096, .f32⟩
  | .hbm, ⟨49, _⟩ => ⟨S2x8x4096x1, .f32⟩
  | .hbm, ⟨50, _⟩ => ⟨S2x8x4096x4096, .f32⟩
  | .hbm, ⟨51, _⟩ => ⟨S2x8x4096x4096, .f32⟩
  | .hbm, ⟨52, _⟩ => ⟨S2x8x128x4096, .f32⟩
  | .hbm, ⟨53, _⟩ => ⟨S2x4096x8x128, .f32⟩
  | .hbm, ⟨54, _⟩ => ⟨S8192x1024, .f32⟩
  | .hbm, ⟨55, _⟩ => ⟨S8192x1024, .bf16⟩
  | _, _ => ⟨S10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Ffn.lean ====
abbrev S8320x2048 : Shape := ⟨2, ![8320, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S1040x2048 : Shape := ⟨2, ![1040, 2048]⟩
abbrev S1x2048x256 : Shape := ⟨3, ![1, 2048, 256]⟩
abbrev S1x256x2048 : Shape := ⟨3, ![1, 256, 2048]⟩
abbrev S1040 : Shape := ⟨1, ![1040]⟩
abbrev S1040x1 : Shape := ⟨2, ![1040, 1]⟩
abbrev S2048x256 : Shape := ⟨2, ![2048, 256]⟩
abbrev S1040x256 : Shape := ⟨2, ![1040, 256]⟩
abbrev S1040x512 : Shape := ⟨2, ![1040, 512]⟩
abbrev S1x256x512 : Shape := ⟨3, ![1, 256, 512]⟩
abbrev S256x512 : Shape := ⟨2, ![256, 512]⟩

abbrev nBuf : Space → Nat
  | .hbm => 6
  | .vmem => 12
  | .smem => 0
  | _ => 0

abbrev bufTy : (tb : Table) → Fin (tcTables nBuf tb) → BufTy
  | .hbm, ⟨0, _⟩ => ⟨S8320x2048, .f32⟩
  | .hbm, ⟨1, _⟩ => ⟨S1x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S8320x2048, .f32⟩
  | .local _ .vmem, ⟨0, _⟩ => ⟨S1040x2048, .f32⟩
  | .local _ .vmem, ⟨1, _⟩ => ⟨S1040x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1040x2048, .f32⟩
  | .local _ .vmem, ⟨10, _⟩ => ⟨S1040x2048, .f32⟩
  | .local _ .vmem, ⟨11, _⟩ => ⟨S1040x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1040x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1040x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8320x2048 : Shape := ⟨2, ![8320, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S_ : Shape := ⟨0, ![]⟩
abbrev S8320 : Shape := ⟨1, ![8320]⟩
abbrev S8320x1 : Shape := ⟨2, ![8320, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S8320x5632 : Shape := ⟨2, ![8320, 5632]⟩

abbrev nBuf : Space → Nat
  | .hbm => 43
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S1x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S8320x2048, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x2048, .f32⟩
  | .hbm, ⟨17, _⟩ => ⟨S8320x2048, .f32⟩
  | .hbm, ⟨18, _⟩ => ⟨S8320x2048, .f32⟩
  | .hbm, ⟨19, _⟩ => ⟨S8320x2048, .f32⟩
  | .hbm, ⟨20, _⟩ => ⟨S1x2048x5632, .f32⟩
  | .hbm, ⟨21, _⟩ => ⟨S2048x5632, .f32⟩
  | .hbm, ⟨22, _⟩ => ⟨S1x2048x5632, .f32⟩
  | .hbm, ⟨23, _⟩ => ⟨S2048x5632, .f32⟩
  | .hbm, ⟨24, _⟩ => ⟨S1x5632x2048, .f32⟩
  | .hbm, ⟨25, _⟩ => ⟨S5632x2048, .f32⟩
  | .hbm, ⟨26, _⟩ => ⟨S8320x5632, .f32⟩
  | .hbm, ⟨27, _⟩ => ⟨S8320x5632, .f32⟩
  | .hbm, ⟨28, _⟩ => ⟨S8320x5632, .f32⟩
  | .hbm, ⟨29, _⟩ => ⟨S_, .f32⟩
  | .hbm, ⟨30, _⟩ => ⟨S8320x5632, .f32⟩
  | .hbm, ⟨31, _⟩ => ⟨S8320x5632, .f32⟩
  | .hbm, ⟨32, _⟩ => ⟨S_, .f32⟩
  | .hbm, ⟨33, _⟩ => ⟨S8320x5632, .f32⟩
  | .hbm, ⟨34, _⟩ => ⟨S8320x5632, .f32⟩
  | .hbm, ⟨35, _⟩ => ⟨S8320x5632, .f32⟩
  | .hbm, ⟨36, _⟩ => ⟨S8320x5632, .f32⟩
  | .hbm, ⟨37, _⟩ => ⟨S8320x5632, .f32⟩
  | .hbm, ⟨38, _⟩ => ⟨S8320x2048, .f32⟩
  | .hbm, ⟨39, _⟩ => ⟨S_, .f32⟩
  | .hbm, ⟨40, _⟩ => ⟨S8320x2048, .f32⟩
  | .hbm, ⟨41, _⟩ => ⟨S8320x2048, .f32⟩
  | .hbm, ⟨42, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== FfnH.lean ====
abbrev S8320x2048 : Shape := ⟨2, ![8320, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S1x2048x256 : Shape := ⟨3, ![1, 2048, 256]⟩
abbrev S1x256x2048 : Shape := ⟨3, ![1, 256, 2048]⟩
abbrev S1040x2048 : Shape := ⟨2, ![1040, 2048]⟩
abbrev S1040 : Shape := ⟨1, ![1040]⟩
abbrev S1040x1 : Shape := ⟨2, ![1040, 1]⟩
abbrev S2048x256 : Shape := ⟨2, ![2048, 256]⟩
abbrev S1040x256 : Shape := ⟨2, ![1040, 256]⟩
abbrev S1040x512 : Shape := ⟨2, ![1040, 512]⟩
abbrev S1x256x512 : Shape := ⟨3, ![1, 256, 512]⟩
abbrev S256x512 : Shape := ⟨2, ![256, 512]⟩

abbrev nBuf : Space → Nat
  | .hbm => 8
  | .vmem => 14
  | .smem => 0
  | _ => 0

abbrev bufTy : (tb : Table) → Fin (tcTables nBuf tb) → BufTy
  | .hbm, ⟨0, _⟩ => ⟨S8320x2048, .f32⟩
  | .hbm, ⟨1, _⟩ => ⟨S1x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S8320x2048, .f32⟩
  | .hbm, ⟨7, _⟩ => ⟨S8320x2048, .bf16⟩
  | .local _ .vmem, ⟨0, _⟩ => ⟨S1x2048, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x256x2048, .f32⟩
  | .local _ .vmem, ⟨6, _⟩ => ⟨S1x256x2048, .f32⟩
  | .local _ .vmem, ⟨7, _⟩ => ⟨S1x2048, .f32⟩
  | .local _ .vmem, ⟨8, _⟩ => ⟨S1040x2048, .f32⟩
  | .local _ .vmem, ⟨9, _⟩ => ⟨S1040x2048, .f32⟩
  | .local _ .vmem, ⟨10, _⟩ => ⟨S1040x2048, .f32⟩
  | .local _ .vmem, ⟨11, _⟩ => ⟨S1040x2048, .bf16⟩
  | .local _ .vmem, ⟨12, _⟩ => ⟨S1040x2048, .bf16⟩
  | .local _ .vmem, ⟨13, _⟩ => ⟨S1040x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 22], ![false, false]⟩

def k0_cond2 (i : grid0.Coords) : BitVec 1 :=
  let arg1 : BitVec 32 := BitVec.ofNat 32 (i 1).val
  let c21_i32 : BitVec 32 := 21#32
  let v56 : BitVec 1 := Scalar.cmpi .eq arg1 c21_i32
  let v57 : BitVec 32 := Scalar.extui v56
  let c0_i32_42 : BitVec 32 := 0#32
  let v58 : BitVec 1 := Scalar.cmpi .ne v57 c0_i32_42
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1040x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1040x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1040x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnHRefIdeal.lean ====
abbrev S8320x2048 : Shape := ⟨2, ![8320, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S_ : Shape := ⟨0, ![]⟩
abbrev S8320 : Shape := ⟨1, ![8320]⟩
abbrev S8320x1 : Shape := ⟨2, ![8320, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S8320x5632 : Shape := ⟨2, ![8320, 5632]⟩

abbrev nBuf : Space → Nat
  | .hbm => 60
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S1x2048, .f32⟩
  | .hbm, ⟨2, _⟩ => ⟨S2x2048x5632, .f32⟩
  | .hbm, ⟨3, _⟩ => ⟨S2x2048x5632, .f32⟩
  | .hbm, ⟨4, _⟩ => ⟨S2x5632x2048, .f32⟩
  | .hbm, ⟨5, _⟩ => ⟨S1x2048, .f32⟩
  | .hbm, ⟨6, _⟩ => ⟨S8320x2048, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x2048, .f32⟩
  | .hbm, ⟨18, _⟩ => ⟨S8320x2048, .f32⟩
  | .hbm, ⟨19, _⟩ => ⟨S8320x2048, .f32⟩
  | .hbm, ⟨20, _⟩ => ⟨S8320x2048, .f32⟩
  | .hbm, ⟨21, _⟩ => ⟨S1x2048x5632, .f32⟩
  | .hbm, ⟨22, _⟩ => ⟨S2048x5632, .f32⟩
  | .hbm, ⟨23, _⟩ => ⟨S1x2048x5632, .f32⟩
  | .hbm, ⟨24, _⟩ => ⟨S2048x5632, .f32⟩
  | .hbm, ⟨25, _⟩ => ⟨S1x5632x2048, .f32⟩
  | .hbm, ⟨26, _⟩ => ⟨S5632x2048, .f32⟩
  | .hbm, ⟨27, _⟩ => ⟨S8320x5632, .f32⟩
  | .hbm, ⟨28, _⟩ => ⟨S8320x5632, .f32⟩
  | .hbm, ⟨29, _⟩ => ⟨S8320x5632, .f32⟩
  | .hbm, ⟨30, _⟩ => ⟨S_, .f32⟩
  | .hbm, ⟨31, _⟩ => ⟨S8320x5632, .f32⟩
  | .hbm, ⟨32, _⟩ => ⟨S8320x5632, .f32⟩
  | .hbm, ⟨33, _⟩ => ⟨S_, .f32⟩
  | .hbm, ⟨34, _⟩ => ⟨S8320x5632, .f32⟩
  | .hbm, ⟨35, _⟩ => ⟨S8320x5632, .f32⟩
  | .hbm, ⟨36, _⟩ => ⟨S8320x5632, .f32⟩
  | .hbm, ⟨37, _⟩ => ⟨S8320x5632, .f32⟩
  | .hbm, ⟨38, _⟩ => ⟨S8320x5632, .f32⟩
  | .hbm, ⟨39, _⟩ => ⟨S8320x2048, .f32⟩
  | .hbm, ⟨40, _⟩ => ⟨S_, .f32⟩
  | .hbm, ⟨41, _⟩ => ⟨S8320x2048, .f32⟩
  | .hbm, ⟨42, _⟩ => ⟨S8320x2048, .f32⟩
  | .hbm, ⟨43, _⟩ => ⟨S8320x2048, .f32⟩
  | .hbm, ⟨44, _⟩ => ⟨S8320x2048, .f32⟩
  | .hbm, ⟨45, _⟩ => ⟨S_, .f32⟩
  | .hbm, ⟨46, _⟩ => ⟨S8320, .f32⟩
  | .hbm, ⟨47, _⟩ => ⟨S8320x1, .f32⟩
  | .hbm, ⟨48, _⟩ => ⟨S_, .f32⟩
  | .hbm, ⟨49, _⟩ => ⟨S8320x1, .f32⟩
  | .hbm, ⟨50, _⟩ => ⟨S8320x1, .f32⟩
  | .hbm, ⟨51, _⟩ => ⟨S_, .f32⟩
  | .hbm, ⟨52, _⟩ => ⟨S8320x1, .f32⟩
  | .hbm, ⟨53, _⟩ => ⟨S8320x1, .f32⟩
  | .hbm, ⟨54, _⟩ => ⟨S8320x1, .f32⟩
  | .hbm, ⟨55, _⟩ => ⟨S8320x2048, .f32⟩
  | .hbm, ⟨56, _⟩ => ⟨S8320x2048, .f32⟩
  | .hbm, ⟨57, _⟩ => ⟨S8320x2048, .f32⟩
  | .hbm, ⟨58, _⟩ => ⟨S8320x2048, .f32⟩
  | .hbm, ⟨59, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Merge.lean ====
abbrev S8320x2048 : Shape := ⟨2, ![8320, 2048]⟩
abbrev S8320x1024 : Shape := ⟨2, ![8320, 1024]⟩
abbrev S2x2048x17408 : Shape := ⟨3, ![2, 2048, 17408]⟩
abbrev S2x4x1024x2048 : Shape := ⟨4, ![2, 4, 1024, 2048]⟩
abbrev S2x2048x2048 : Shape := ⟨3, ![2, 2048, 2048]⟩
abbrev S640x2048 : Shape := ⟨2, ![640, 2048]⟩
abbrev S1x2048x256 : Shape := ⟨3, ![1, 2048, 256]⟩
abbrev S1x4x1024x256 : Shape := ⟨4, ![1, 4, 1024, 256]⟩
abbrev S1x256x2048 : Shape := ⟨3, ![1, 256, 2048]⟩
abbrev S640x1024 : Shape := ⟨2, ![640, 1024]⟩
abbrev S2048x256 : Shape := ⟨2, ![2048, 256]⟩
abbrev S640x256 : Shape := ⟨2, ![640, 256]⟩
abbrev S1x1x1024x256 : Shape := ⟨4, ![1, 1, 1024, 256]⟩
abbrev S1024x256 : Shape := ⟨2, ![1024, 256]⟩
abbrev S640x512 : Shape := ⟨2, ![640, 512]⟩
abbrev S1x256x512 : Shape := ⟨3, ![1, 256, 512]⟩
abbrev S256x512 : Shape := ⟨2, ![256, 512]⟩

abbrev nBuf : Space → Nat
  | .hbm => 10
  | .vmem => 21
  | .smem => 0
  | _ => 0

abbrev bufTy : (tb : Table) → Fin (tcTables nBuf tb) → BufTy
  | .hbm, ⟨0, _⟩ => ⟨S8320x2048, .f32⟩
  | .hbm, ⟨1, _⟩ => ⟨S8320x2048, .bf16⟩
  | .hbm, ⟨2, _⟩ => ⟨S8320x1024, .bf16⟩
  | .hbm, ⟨3, _⟩ => ⟨S8320x1024, .bf16⟩
  | .hbm, ⟨4, _⟩ => ⟨S8320x1024, .bf16⟩
  | .hbm, ⟨5, _⟩ => ⟨S8320x1024, .bf16⟩
  | .hbm, ⟨6, _⟩ => ⟨S2x2048x17408, .bf16⟩
  | .hbm, ⟨7, _⟩ => ⟨S2x4x1024x2048, .bf16⟩
  | .hbm, ⟨8, _⟩ => ⟨S2x2048x2048, .bf16⟩
  | .hbm, ⟨9, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x4x1024x256, .bf16⟩
  | .local _ .vmem, ⟨11, _⟩ => ⟨S1x4x1024x256, .bf16⟩
  | .local _ .vmem, ⟨12, _⟩ => ⟨S1x256x2048, .bf16⟩
  | .local _ .vmem, ⟨13, _⟩ => ⟨S1x256x2048, .bf16⟩
  | .local _ .vmem, ⟨14, _⟩ => ⟨S640x2048, .f32⟩
  | .local _ .vmem, ⟨15, _⟩ => ⟨S640x1024, .bf16⟩
  | .local _ .vmem, ⟨16, _⟩ => ⟨S640x1024, .bf16⟩
  | .local _ .vmem, ⟨17, _⟩ => ⟨S640x1024, .bf16⟩
  | .local _ .vmem, ⟨18, _⟩ => ⟨S640x1024, .bf16⟩
  | .local _ .vmem, ⟨19, _⟩ => ⟨S640x2048, .f32⟩
  | .local _ .vmem, ⟨20, _⟩ => ⟨S640x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c60_i32 : BitVec 32 := 60#32
  let v0 : BitVec 32 := Scalar.addi c60_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S640x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S640x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S640x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S640x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S640x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 2 → Memref sig .tc .vmem S640x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== MergeRefIdeal.lean ====
abbrev S8320x2048 : Shape := ⟨2, ![8320, 2048]⟩
abbrev S8320x1024 : Shape := ⟨2, ![8320, 1024]⟩
abbrev S2x2048x17408 : Shape := ⟨3, ![2, 2048, 17408]⟩
abbrev S2x4x1024x2048 : Shape := ⟨4, ![2, 4, 1024, 2048]⟩
abbrev S2x2048x2048 : Shape := ⟨3, ![2, 2048, 2048]⟩
abbrev S1x2048x17408 : Shape := ⟨3, ![1, 2048, 17408]⟩
abbrev S2048x17408 : Shape := ⟨2, ![2048, 17408]⟩
abbrev S8320x17408 : Shape := ⟨2, ![8320, 17408]⟩
abbrev S8320x8192 : Shape := ⟨2, ![8320, 8192]⟩
abbrev S_ : Shape := ⟨0, ![]⟩
abbrev S8320x4x2048 : Shape := ⟨3, ![8320, 4, 2048]⟩
abbrev S1x4x1024x2048 : Shape := ⟨4, ![1, 4, 1024, 2048]⟩
abbrev S4x1024x2048 : Shape := ⟨3, ![4, 1024, 2048]⟩
abbrev S8320x1x2048 : Shape := ⟨3, ![8320, 1, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 63
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x2048, .bf16⟩
  | .hbm, ⟨2, _⟩ => ⟨S8320x1024, .bf16⟩
  | .hbm, ⟨3, _⟩ => ⟨S8320x1024, .bf16⟩
  | .hbm, ⟨4, _⟩ => ⟨S8320x1024, .bf16⟩
  | .hbm, ⟨5, _⟩ => ⟨S8320x1024, .bf16⟩
  | .hbm, ⟨6, _⟩ => ⟨S2x2048x17408, .bf16⟩
  | .hbm, ⟨7, _⟩ => ⟨S2x4x1024x2048, .bf16⟩
  | .hbm, ⟨8, _⟩ => ⟨S2x2048x2048, .bf16⟩
  | .hbm, ⟨9, _⟩ => ⟨S8320x2048, .f32⟩
  | .hbm, ⟨10, _⟩ => ⟨S1x2048x17408, .bf16⟩
  | .hbm, ⟨11, _⟩ => ⟨S2048x17408, .bf16⟩
  | .hbm, ⟨12, _⟩ => ⟨S2048x17408, .f32⟩
  | .hbm, ⟨13, _⟩ => ⟨S8320x17408, .f32⟩
  | .hbm, ⟨14, _⟩ => ⟨S8320x8192, .f32⟩
  | .hbm, ⟨15, _⟩ => ⟨S8320x8192, .f32⟩
  | .hbm, ⟨16, _⟩ => ⟨S8320x8192, .f32⟩
  | .hbm, ⟨17, _⟩ => ⟨S_, .f32⟩
  | .hbm, ⟨18, _⟩ => ⟨S8320x8192, .f32⟩
  | .hbm, ⟨19, _⟩ => ⟨S8320x8192, .f32⟩
  | .hbm, ⟨20, _⟩ => ⟨S_, .f32⟩
  | .hbm, ⟨21, _⟩ => ⟨S8320x8192, .f32⟩
  | .hbm, ⟨22, _⟩ => ⟨S8320x8192, .f32⟩
  | .hbm, ⟨23, _⟩ => ⟨S8320x4x2048, .f32⟩
  | .hbm, ⟨24, _⟩ => ⟨S1x4x1024x2048, .bf16⟩
  | .hbm, ⟨25, _⟩ => ⟨S4x1024x2048, .bf16⟩
  | .hbm, ⟨26, _⟩ => ⟨S4x1024x2048, .f32⟩
  | .hbm, ⟨27, _⟩ => ⟨S8320x1x2048, .f32⟩
  | .hbm, ⟨28, _⟩ => ⟨S8320x2048, .f32⟩
  | .hbm, ⟨29, _⟩ => ⟨S8320x1024, .f32⟩
  | .hbm, ⟨30, _⟩ => ⟨S1x1024x2048, .f32⟩
  | .hbm, ⟨31, _⟩ => ⟨S1024x2048, .f32⟩
  | .hbm, ⟨32, _⟩ => ⟨S8320x2048, .f32⟩
  | .hbm, ⟨33, _⟩ => ⟨S8320x2048, .f32⟩
  | .hbm, ⟨34, _⟩ => ⟨S8320x1x2048, .f32⟩
  | .hbm, ⟨35, _⟩ => ⟨S8320x2048, .f32⟩
  | .hbm, ⟨36, _⟩ => ⟨S8320x1024, .f32⟩
  | .hbm, ⟨37, _⟩ => ⟨S1x1024x2048, .f32⟩
  | .hbm, ⟨38, _⟩ => ⟨S1024x2048, .f32⟩
  | .hbm, ⟨39, _⟩ => ⟨S8320x2048, .f32⟩
  | .hbm, ⟨40, _⟩ => ⟨S8320x2048, .f32⟩
  | .hbm, ⟨41, _⟩ => ⟨S8320x2048, .f32⟩
  | .hbm, ⟨42, _⟩ => ⟨S8320x1x2048, .f32⟩
  | .hbm, ⟨43, _⟩ => ⟨S8320x2048, .f32⟩
  | .hbm, ⟨44, _⟩ => ⟨S8320x1024, .f32⟩
  | .hbm, ⟨45, _⟩ => ⟨S1x1024x2048, .f32⟩
  | .hbm, ⟨46, _⟩ => ⟨S1024x2048, .f32⟩
  | .hbm, ⟨47, _⟩ => ⟨S8320x2048, .f32⟩
  | .hbm, ⟨48, _⟩ => ⟨S8320x2048, .f32⟩
  | .hbm, ⟨49, _⟩ => ⟨S8320x2048, .f32⟩
  | .hbm, ⟨50, _⟩ => ⟨S8320x1x2048, .f32⟩
  | .hbm, ⟨51, _⟩ => ⟨S8320x2048, .f32⟩
  | .hbm, ⟨52, _⟩ => ⟨S8320x1024, .f32⟩
  | .hbm, ⟨53, _⟩ => ⟨S1x1024x2048, .f32⟩
  | .hbm, ⟨54, _⟩ => ⟨S1024x2048, .f32⟩
  | .hbm, ⟨55, _⟩ => ⟨S8320x2048, .f32⟩
  | .hbm, ⟨56, _⟩ => ⟨S8320x2048, .f32⟩
  | .hbm, ⟨57, _⟩ => ⟨S8320x2048, .f32⟩
  | .hbm, ⟨58, _⟩ => ⟨S1x2048x2048, .bf16⟩
  | .hbm, ⟨59, _⟩ => ⟨S2048x2048, .bf16⟩
  | .hbm, ⟨60, _⟩ => ⟨S2048x2048, .f32⟩
  | .hbm, ⟨61, _⟩ => ⟨S8320x2048, .f32⟩
  | .hbm, ⟨62, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== ConvA.lean ====
abbrev S8320x2048 : Shape := ⟨2, ![8320, 2048]⟩
abbrev S2x2048x17408 : Shape := ⟨3, ![2, 2048, 17408]⟩
abbrev S8320x1024 : Shape := ⟨2, ![8320, 1024]⟩
abbrev S1040x2048 : Shape := ⟨2, ![1040, 2048]⟩
abbrev S1x2048x512 : Shape := ⟨3, ![1, 2048, 512]⟩
abbrev S1040x512 : Shape := ⟨2, ![1040, 512]⟩
abbrev S2048x512 : Shape := ⟨2, ![2048, 512]⟩

abbrev nBuf : Space → Nat
  | .hbm => 4
  | .vmem => 12
  | .smem => 0
  | _ => 0

abbrev bufTy : (tb : Table) → Fin (tcTables nBuf tb) → BufTy
  | .hbm, ⟨0, _⟩ => ⟨S8320x2048, .bf16⟩
  | .hbm, ⟨1, _⟩ => ⟨S2x2048x17408, .bf16⟩
  | .hbm, ⟨2, _⟩ => ⟨S8320x1024, .f32⟩
  | .hbm, ⟨3, _⟩ => ⟨S8320x1024, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1040x512, .f32⟩
  | .local _ .vmem, ⟨9, _⟩ => ⟨S1040x512, .f32⟩
  | .local _ .vmem, ⟨10, _⟩ => ⟨S1040x512, .f32⟩
  | .local _ .vmem, ⟨11, _⟩ => ⟨S1040x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1040x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1040x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvARefIdeal.lean ====
abbrev S8320x2048 : Shape := ⟨2, ![8320, 2048]⟩
abbrev S2x2048x17408 : Shape := ⟨3, ![2, 2048, 17408]⟩
abbrev S1x2048x17408 : Shape := ⟨3, ![1, 2048, 17408]⟩
abbrev S2048x17408 : Shape := ⟨2, ![2048, 17408]⟩
abbrev S8320x17408 : Shape := ⟨2, ![8320, 17408]⟩
abbrev S8320x1024 : Shape := ⟨2, ![8320, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x17408, .bf16⟩
  | .hbm, ⟨2, _⟩ => ⟨S8320x2048, .f32⟩
  | .hbm, ⟨3, _⟩ => ⟨S1x2048x17408, .bf16⟩
  | .hbm, ⟨4, _⟩ => ⟨S2048x17408, .bf16⟩
  | .hbm, ⟨5, _⟩ => ⟨S2048x17408, .f32⟩
  | .hbm, ⟨6, _⟩ => ⟨S8320x17408, .f32⟩
  | .hbm, ⟨7, _⟩ => ⟨S8320x1024, .f32⟩
  | .hbm, ⟨8, _⟩ => ⟨S8320x2048, .f32⟩
  | .hbm, ⟨9, _⟩ => ⟨S1x2048x17408, .bf16⟩
  | .hbm, ⟨10, _⟩ => ⟨S2048x17408, .bf16⟩
  | .hbm, ⟨11, _⟩ => ⟨S2048x17408, .f32⟩
  | .hbm, ⟨12, _⟩ => ⟨S8320x17408, .f32⟩
  | .hbm, ⟨13, _⟩ => ⟨S8320x1024, .f32⟩
  | .hbm, ⟨14, _⟩ => ⟨S8320x2048, .f32⟩
  | .hbm, ⟨15, _⟩ => ⟨S1x2048x17408, .bf16⟩
  | .hbm, ⟨16, _⟩ => ⟨S2048x17408, .bf16⟩
  | .hbm, ⟨17, _⟩ => ⟨S2048x17408, .f32⟩
  | .hbm, ⟨18, _⟩ => ⟨S8320x17408, .f32⟩
  | .hbm, ⟨19, _⟩ => ⟨S8320x1024, .f32⟩
  | .hbm, ⟨20, _⟩ => ⟨S8320x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]
-- ==== Glu.lean ====
abbrev S8320x2048 : Shape := ⟨2, ![8320, 2048]⟩
abbrev S2x2048x17408 : Shape := ⟨3, ![2, 2048, 17408]⟩
abbrev S32x30x1024 : Shape := ⟨3, ![32, 30, 1024]⟩
abbrev S8320x1024 : Shape := ⟨2, ![8320, 1024]⟩
abbrev S1040x2048 : Shape := ⟨2, ![1040, 2048]⟩
abbrev S1x2048x512 : Shape := ⟨3, ![1, 2048, 512]⟩
abbrev S1040x512 : Shape := ⟨2, ![1040, 512]⟩
abbrev S2048x512 : Shape := ⟨2, ![2048, 512]⟩
abbrev S128x1024 : Shape := ⟨2, ![128, 1024]⟩
abbrev S32x4x1024 : Shape := ⟨3, ![32, 4, 1024]⟩
abbrev S32x34x1024 : Shape := ⟨3, ![32, 34, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8320x2048, .bf16⟩
  | .hbm, ⟨1, _⟩ => ⟨S2x2048x17408, .bf16⟩
  | .hbm, ⟨2, _⟩ => ⟨S32x30x1024, .f32⟩
  | .hbm, ⟨3, _⟩ => ⟨S8320x1024, .f32⟩
  | .hbm, ⟨4, _⟩ => ⟨S128x1024, .f32⟩
  | .hbm, ⟨5, _⟩ => ⟨S32x4x1024, .f32⟩
  | .hbm, ⟨6, _⟩ => ⟨S32x34x1024, .f32⟩
  | .hbm, ⟨7, _⟩ => ⟨S32x30x1024, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1040x512, .f32⟩
  | .local _ .vmem, ⟨7, _⟩ => ⟨S1040x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1040x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluRefIdeal.lean ====
abbrev S8320x2048 : Shape := ⟨2, ![8320, 2048]⟩
abbrev S2x2048x17408 : Shape := ⟨3, ![2, 2048, 17408]⟩
abbrev S32x30x1024 : Shape := ⟨3, ![32, 30, 1024]⟩
abbrev S1x2048x17408 : Shape := ⟨3, ![1, 2048, 17408]⟩
abbrev S2048x17408 : Shape := ⟨2, ![2048, 17408]⟩
abbrev S8320x17408 : Shape := ⟨2, ![8320, 17408]⟩
abbrev S8320x1024 : Shape := ⟨2, ![8320, 1024]⟩
abbrev S_ : Shape := ⟨0, ![]⟩
abbrev S128x1024 : Shape := ⟨2, ![128, 1024]⟩
abbrev S32x4x1024 : Shape := ⟨3, ![32, 4, 1024]⟩
abbrev S32x34x1024 : Shape := ⟨3, ![32, 34, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x17408, .bf16⟩
  | .hbm, ⟨2, _⟩ => ⟨S32x30x1024, .f32⟩
  | .hbm, ⟨3, _⟩ => ⟨S8320x2048, .f32⟩
  | .hbm, ⟨4, _⟩ => ⟨S1x2048x17408, .bf16⟩
  | .hbm, ⟨5, _⟩ => ⟨S2048x17408, .bf16⟩
  | .hbm, ⟨6, _⟩ => ⟨S2048x17408, .f32⟩
  | .hbm, ⟨7, _⟩ => ⟨S8320x17408, .f32⟩
  | .hbm, ⟨8, _⟩ => ⟨S8320x1024, .f32⟩
  | .hbm, ⟨9, _⟩ => ⟨S8320x2048, .f32⟩
  | .hbm, ⟨10, _⟩ => ⟨S1x2048x17408, .bf16⟩
  | .hbm, ⟨11, _⟩ => ⟨S2048x17408, .bf16⟩
  | .hbm, ⟨12, _⟩ => ⟨S2048x17408, .f32⟩
  | .hbm, ⟨13, _⟩ => ⟨S8320x17408, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S_, .f32⟩
  | .hbm, ⟨18, _⟩ => ⟨S8320x1024, .f32⟩
  | .hbm, ⟨19, _⟩ => ⟨S8320x1024, .f32⟩
  | .hbm, ⟨20, _⟩ => ⟨S_, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S128x1024, .f32⟩
  | .hbm, ⟨25, _⟩ => ⟨S32x4x1024, .f32⟩
  | .hbm, ⟨26, _⟩ => ⟨S32x34x1024, .f32⟩
  | .hbm, ⟨27, _⟩ => ⟨S32x30x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== QMem.lean ====
abbrev S8320x2048 : Shape := ⟨2, ![8320, 2048]⟩
abbrev S2x2048x17408 : Shape := ⟨3, ![2, 2048, 17408]⟩
abbrev S1x256 : Shape := ⟨2, ![1, 256]⟩
abbrev S8320x1024 : Shape := ⟨2, ![8320, 1024]⟩
abbrev S1040x2048 : Shape := ⟨2, ![1040, 2048]⟩
abbrev S1x2048x512 : Shape := ⟨3, ![1, 2048, 512]⟩
abbrev S1040x512 : Shape := ⟨2, ![1040, 512]⟩
abbrev S2048x512 : Shape := ⟨2, ![2048, 512]⟩
abbrev S1040x256 : Shape := ⟨2, ![1040, 256]⟩
abbrev S1040 : Shape := ⟨1, ![1040]⟩
abbrev S1040x1 : Shape := ⟨2, ![1040, 1]⟩

abbrev nBuf : Space → Nat
  | .hbm => 4
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S2x2048x17408, .bf16⟩
  | .hbm, ⟨2, _⟩ => ⟨S1x256, .f32⟩
  | .hbm, ⟨3, _⟩ => ⟨S8320x1024, .bf16⟩
  | .local _ .vmem, ⟨0, _⟩ => ⟨S1040x2048, .bf16⟩
  | .local _ .vmem, ⟨1, _⟩ => ⟨S1040x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x256, .f32⟩
  | .local _ .vmem, ⟨5, _⟩ => ⟨S1040x512, .bf16⟩
  | .local _ .vmem, ⟨6, _⟩ => ⟨S1040x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1040x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QMemRefIdeal.lean ====
abbrev S8320x2048 : Shape := ⟨2, ![8320, 2048]⟩
abbrev S2x2048x17408 : Shape := ⟨3, ![2, 2048, 17408]⟩
abbrev S1x256 : Shape := ⟨2, ![1, 256]⟩
abbrev S1x2048x17408 : Shape := ⟨3, ![1, 2048, 17408]⟩
abbrev S2048x17408 : Shape := ⟨2, ![2048, 17408]⟩
abbrev S8320x17408 : Shape := ⟨2, ![8320, 17408]⟩
abbrev S8320x1024 : Shape := ⟨2, ![8320, 1024]⟩
abbrev S8320x4x256 : Shape := ⟨3, ![8320, 4, 256]⟩
abbrev S256 : Shape := ⟨1, ![256]⟩
abbrev S_ : Shape := ⟨0, ![]⟩
abbrev S8320x4 : Shape := ⟨2, ![8320, 4]⟩
abbrev S8320x4x1 : Shape := ⟨3, ![8320, 4, 1]⟩
abbrev S1x1x256 : Shape := ⟨3, ![1, 1, 256]⟩

abbrev nBuf : Space → Nat
  | .hbm => 29
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x17408, .bf16⟩
  | .hbm, ⟨2, _⟩ => ⟨S1x256, .f32⟩
  | .hbm, ⟨3, _⟩ => ⟨S8320x2048, .f32⟩
  | .hbm, ⟨4, _⟩ => ⟨S1x2048x17408, .bf16⟩
  | .hbm, ⟨5, _⟩ => ⟨S2048x17408, .bf16⟩
  | .hbm, ⟨6, _⟩ => ⟨S2048x17408, .f32⟩
  | .hbm, ⟨7, _⟩ => ⟨S8320x17408, .f32⟩
  | .hbm, ⟨8, _⟩ => ⟨S8320x1024, .f32⟩
  | .hbm, ⟨9, _⟩ => ⟨S8320x4x256, .f32⟩
  | .hbm, ⟨10, _⟩ => ⟨S256, .f32⟩
  | .hbm, ⟨11, _⟩ => ⟨S8320x4x256, .f32⟩
  | .hbm, ⟨12, _⟩ => ⟨S_, .f32⟩
  | .hbm, ⟨13, _⟩ => ⟨S8320x4, .f32⟩
  | .hbm, ⟨14, _⟩ => ⟨S8320x4x1, .f32⟩
  | .hbm, ⟨15, _⟩ => ⟨S_, .f32⟩
  | .hbm, ⟨16, _⟩ => ⟨S8320x4x1, .f32⟩
  | .hbm, ⟨17, _⟩ => ⟨S8320x4x1, .f32⟩
  | .hbm, ⟨18, _⟩ => ⟨S_, .f32⟩
  | .hbm, ⟨19, _⟩ => ⟨S8320x4x1, .f32⟩
  | .hbm, ⟨20, _⟩ => ⟨S8320x4x1, .f32⟩
  | .hbm, ⟨21, _⟩ => ⟨S8320x4x1, .f32⟩
  | .hbm, ⟨22, _⟩ => ⟨S8320x4x256, .f32⟩
  | .hbm, ⟨23, _⟩ => ⟨S8320x4x256, .f32⟩
  | .hbm, ⟨24, _⟩ => ⟨S1x1x256, .f32⟩
  | .hbm, ⟨25, _⟩ => ⟨S8320x4x256, .f32⟩
  | .hbm, ⟨26, _⟩ => ⟨S8320x4x256, .f32⟩
  | .hbm, ⟨27, _⟩ => ⟨S8320x1024, .f32⟩
  | .hbm, ⟨28, _⟩ => ⟨S8320x1024, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Qkv.lean ====
abbrev S8320x2048 : Shape := ⟨2, ![8320, 2048]⟩
abbrev S2x2048x17408 : Shape := ⟨3, ![2, 2048, 17408]⟩
abbrev S1x128 : Shape := ⟨2, ![1, 128]⟩
abbrev S8192x1024 : Shape := ⟨2, ![8192, 1024]⟩
abbrev S8192x8x128 : Shape := ⟨3, ![8192, 8, 128]⟩
abbrev S512x2048 : Shape := ⟨2, ![512, 2048]⟩
abbrev S1x2048x1024 : Shape := ⟨3, ![1, 2048, 1024]⟩
abbrev S512x1024 : Shape := ⟨2, ![512, 1024]⟩
abbrev S512x8x128 : Shape := ⟨3, ![512, 8, 128]⟩
abbrev S2048x1024 : Shape := ⟨2, ![2048, 1024]⟩
abbrev S512x128 : Shape := ⟨2, ![512, 128]⟩
abbrev S512 : Shape := ⟨1, ![512]⟩
abbrev S512x1 : Shape := ⟨2, ![512, 1]⟩
abbrev S512x1x128 : Shape := ⟨3, ![512, 1, 128]⟩

abbrev nBuf : Space → Nat
  | .hbm => 9
  | .vmem => 17
  | .smem => 0
  | _ => 0

abbrev bufTy : (tb : Table) → Fin (tcTables nBuf tb) → BufTy
  | .hbm, ⟨0, _⟩ => ⟨S8320x2048, .bf16⟩
  | .hbm, ⟨1, _⟩ => ⟨S2x2048x17408, .bf16⟩
  | .hbm, ⟨2, _⟩ => ⟨S1x128, .f32⟩
  | .hbm, ⟨3, _⟩ => ⟨S1x128, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x8x128, .f32⟩
  | .hbm, ⟨8, _⟩ => ⟨S8192x8x128, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x128, .f32⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x8x128, .f32⟩
  | .local _ .vmem, ⟨14, _⟩ => ⟨S512x8x128, .f32⟩
  | .local _ .vmem, ⟨15, _⟩ => ⟨S512x8x128, .f32⟩
  | .local _ .vmem, ⟨16, _⟩ => ⟨S512x8x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c6_i32 : BitVec 32 := 6#32
  let c0_i32_1 : BitVec 32 := 0#32
  ![c0_i32.toNat, c0_i32_0.toNat, c6_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c7_i32 : BitVec 32 := 7#32
  let c0_i32_1 : BitVec 32 := 0#32
  ![c0_i32.toNat, c0_i32_0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QkvRefIdeal.lean ====
abbrev S8320x2048 : Shape := ⟨2, ![8320, 2048]⟩
abbrev S2x2048x17408 : Shape := ⟨3, ![2, 2048, 17408]⟩
abbrev S1x128 : Shape := ⟨2, ![1, 128]⟩
abbrev S8192x2048 : Shape := ⟨2, ![8192, 2048]⟩
abbrev S1x2048x17408 : Shape := ⟨3, ![1, 2048, 17408]⟩
abbrev S2048x17408 : Shape := ⟨2, ![2048, 17408]⟩
abbrev S8192x17408 : Shape := ⟨2, ![8192, 17408]⟩
abbrev S8192x1024 : Shape := ⟨2, ![8192, 1024]⟩
abbrev S8192x8x128 : Shape := ⟨3, ![8192, 8, 128]⟩
abbrev S128 : Shape := ⟨1, ![128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 66
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x17408, .bf16⟩
  | .hbm, ⟨2, _⟩ => ⟨S1x128, .f32⟩
  | .hbm, ⟨3, _⟩ => ⟨S1x128, .f32⟩
  | .hbm, ⟨4, _⟩ => ⟨S8192x2048, .bf16⟩
  | .hbm, ⟨5, _⟩ => ⟨S8192x2048, .f32⟩
  | .hbm, ⟨6, _⟩ => ⟨S1x2048x17408, .bf16⟩
  | .hbm, ⟨7, _⟩ => ⟨S2048x17408, .bf16⟩
  | .hbm, ⟨8, _⟩ => ⟨S2048x17408, .f32⟩
  | .hbm, ⟨9, _⟩ => ⟨S8192x17408, .f32⟩
  | .hbm, ⟨10, _⟩ => ⟨S8192x1024, .f32⟩
  | .hbm, ⟨11, _⟩ => ⟨S8192x8x128, .f32⟩
  | .hbm, ⟨12, _⟩ => ⟨S128, .f32⟩
  | .hbm, ⟨13, _⟩ => ⟨S8192x8x128, .f32⟩
  | .hbm, ⟨14, _⟩ => ⟨S_, .f32⟩
  | .hbm, ⟨15, _⟩ => ⟨S8192x8, .f32⟩
  | .hbm, ⟨16, _⟩ => ⟨S8192x8x1, .f32⟩
  | .hbm, ⟨17, _⟩ => ⟨S_, .f32⟩
  | .hbm, ⟨18, _⟩ => ⟨S8192x8x1, .f32⟩
  | .hbm, ⟨19, _⟩ => ⟨S8192x8x1, .f32⟩
  | .hbm, ⟨20, _⟩ => ⟨S_, .f32⟩
  | .hbm, ⟨21, _⟩ => ⟨S8192x8x1, .f32⟩
  | .hbm, ⟨22, _⟩ => ⟨S8192x8x1, .f32⟩
  | .hbm, ⟨23, _⟩ => ⟨S8192x8x1, .f32⟩
  | .hbm, ⟨24, _⟩ => ⟨S8192x8x128, .f32⟩
  | .hbm, ⟨25, _⟩ => ⟨S8192x8x128, .f32⟩
  | .hbm, ⟨26, _⟩ => ⟨S1x1x128, .f32⟩
  | .hbm, ⟨27, _⟩ => ⟨S8192x8x128, .f32⟩
  | .hbm, ⟨28, _⟩ => ⟨S8192x8x128, .f32⟩
  | .hbm, ⟨29, _⟩ => ⟨S8192x2048, .f32⟩
  | .hbm, ⟨30, _⟩ => ⟨S1x2048x17408, .bf16⟩
  | .hbm, ⟨31, _⟩ => ⟨S2048x17408, .bf16⟩
  | .hbm, ⟨32, _⟩ => ⟨S2048x17408, .f32⟩
  | .hbm, ⟨33, _⟩ => ⟨S8192x17408, .f32⟩
  | .hbm, ⟨34, _⟩ => ⟨S8192x1024, .f32⟩
  | .hbm, ⟨35, _⟩ => ⟨S8192x8x128, .f32⟩
  | .hbm, ⟨36, _⟩ => ⟨S128, .f32⟩
  | .hbm, ⟨37, _⟩ => ⟨S8192x8x128, .f32⟩
  | .hbm, ⟨38, _⟩ => ⟨S_, .f32⟩
  | .hbm, ⟨39, _⟩ => ⟨S8192x8, .f32⟩
  | .hbm, ⟨40, _⟩ => ⟨S8192x8x1, .f32⟩
  | .hbm, ⟨41, _⟩ => ⟨S_, .f32⟩
  | .hbm, ⟨42, _⟩ => ⟨S8192x8x1, .f32⟩
  | .hbm, ⟨43, _⟩ => ⟨S8192x8x1, .f32⟩
  | .hbm, ⟨44, _⟩ => ⟨S_, .f32⟩
  | .hbm, ⟨45, _⟩ => ⟨S8192x8x1, .f32⟩
  | .hbm, ⟨46, _⟩ => ⟨S8192x8x1, .f32⟩
  | .hbm, ⟨47, _⟩ => ⟨S8192x8x1, .f32⟩
  | .hbm, ⟨48, _⟩ => ⟨S8192x8x128, .f32⟩
  | .hbm, ⟨49, _⟩ => ⟨S8192x8x128, .f32⟩
  | .hbm, ⟨50, _⟩ => ⟨S1x1x128, .f32⟩
  | .hbm, ⟨51, _⟩ => ⟨S8192x8x128, .f32⟩
  | .hbm, ⟨52, _⟩ => ⟨S8192x8x128, .f32⟩
  | .hbm, ⟨53, _⟩ => ⟨S8192x2048, .f32⟩
  | .hbm, ⟨54, _⟩ => ⟨S1x2048x17408, .bf16⟩
  | .hbm, ⟨55, _⟩ => ⟨S2048x17408, .bf16⟩
  | .hbm, ⟨56, _⟩ => ⟨S2048x17408, .f32⟩
  | .hbm, ⟨57, _⟩ => ⟨S8192x17408, .f32⟩
  | .hbm, ⟨58, _⟩ => ⟨S8192x1024, .f32⟩
  | .hbm, ⟨59, _⟩ => ⟨S8192x8x128, .f32⟩
  | .hbm, ⟨60, _⟩ => ⟨S8192x1024, .f32⟩
  | .hbm, ⟨61, _⟩ => ⟨S8192x1024, .bf16⟩
  | .hbm, ⟨62, _⟩ => ⟨S8192x1024, .f32⟩
  | .hbm, ⟨63, _⟩ => ⟨S8192x1024, .bf16⟩
  | .hbm, ⟨64, _⟩ => ⟨S8192x1024, .f32⟩
  | .hbm, ⟨65, _⟩ => ⟨S8192x1024, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== Sample.lean ====
abbrev S8320x2048 : Shape := ⟨2, ![8320, 2048]⟩
abbrev S2x2048x17408 : Shape := ⟨3, ![2, 2048, 17408]⟩
abbrev S1x128 : Shape := ⟨2, ![1, 128]⟩
abbrev S128x1024 : Shape := ⟨2, ![128, 1024]⟩
abbrev S128x2048 : Shape := ⟨2, ![128, 2048]⟩
abbrev S1x2048x512 : Shape := ⟨3, ![1, 2048, 512]⟩
abbrev S128x512 : Shape := ⟨2, ![128, 512]⟩
abbrev S2048x512 : Shape := ⟨2, ![2048, 512]⟩
abbrev S128x128 : Shape := ⟨2, ![128, 128]⟩
abbrev S128 : Shape := ⟨1, ![128]⟩
abbrev S128x1 : Shape := ⟨2, ![128, 1]⟩

abbrev nBuf : Space → Nat
  | .hbm => 9
  | .vmem => 19
  | .smem => 0
  | _ => 0

abbrev bufTy : (tb : Table) → Fin (tcTables nBuf tb) → BufTy
  | .hbm, ⟨0, _⟩ => ⟨S8320x2048, .bf16⟩
  | .hbm, ⟨1, _⟩ => ⟨S2x2048x17408, .bf16⟩
  | .hbm, ⟨2, _⟩ => ⟨S1x128, .f32⟩
  | .hbm, ⟨3, _⟩ => ⟨S1x128, .f32⟩
  | .hbm, ⟨4, _⟩ => ⟨S128x1024, .bf16⟩
  | .hbm, ⟨5, _⟩ => ⟨S128x1024, .f32⟩
  | .hbm, ⟨6, _⟩ => ⟨S128x1024, .bf16⟩
  | .hbm, ⟨7, _⟩ => ⟨S128x1024, .f32⟩
  | .hbm, ⟨8, _⟩ => ⟨S128x1024, .bf16⟩
  | .local _ .vmem, ⟨0, _⟩ => ⟨S128x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x128, .f32⟩
  | .local _ .vmem, ⟨8, _⟩ => ⟨S1x128, .f32⟩
  | .local _ .vmem, ⟨9, _⟩ => ⟨S128x512, .bf16⟩
  | .local _ .vmem, ⟨10, _⟩ => ⟨S128x512, .bf16⟩
  | .local _ .vmem, ⟨11, _⟩ => ⟨S128x512, .f32⟩
  | .local _ .vmem, ⟨12, _⟩ => ⟨S128x512, .f32⟩
  | .local _ .vmem, ⟨13, _⟩ => ⟨S128x512, .bf16⟩
  | .local _ .vmem, ⟨14, _⟩ => ⟨S128x512, .bf16⟩
  | .local _ .vmem, ⟨15, _⟩ => ⟨S128x512, .f32⟩
  | .local _ .vmem, ⟨16, _⟩ => ⟨S128x512, .f32⟩
  | .local _ .vmem, ⟨17, _⟩ => ⟨S128x512, .bf16⟩
  | .local _ .vmem, ⟨18, _⟩ => ⟨S128x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== SampleRefIdeal.lean ====
abbrev S8320x2048 : Shape := ⟨2, ![8320, 2048]⟩
abbrev S2x2048x17408 : Shape := ⟨3, ![2, 2048, 17408]⟩
abbrev S1x128 : Shape := ⟨2, ![1, 128]⟩
abbrev S128x2048 : Shape := ⟨2, ![128, 2048]⟩
abbrev S1x2048x17408 : Shape := ⟨3, ![1, 2048, 17408]⟩
abbrev S2048x17408 : Shape := ⟨2, ![2048, 17408]⟩
abbrev S128x17408 : Shape := ⟨2, ![128, 17408]⟩
abbrev S128x1024 : Shape := ⟨2, ![128, 1024]⟩
abbrev S128x8x128 : Shape := ⟨3, ![128, 8, 128]⟩
abbrev S128 : Shape := ⟨1, ![128]⟩
abbrev S_ : Shape := ⟨0, ![]⟩
abbrev S128x8 : Shape := ⟨2, ![128, 8]⟩
abbrev S128x8x1 : Shape := ⟨3, ![128, 8, 1]⟩
abbrev S1x1x128 : Shape := ⟨3, ![1, 1, 128]⟩

abbrev nBuf : Space → Nat
  | .hbm => 64
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x17408, .bf16⟩
  | .hbm, ⟨2, _⟩ => ⟨S1x128, .f32⟩
  | .hbm, ⟨3, _⟩ => ⟨S1x128, .f32⟩
  | .hbm, ⟨4, _⟩ => ⟨S128x2048, .bf16⟩
  | .hbm, ⟨5, _⟩ => ⟨S128x2048, .f32⟩
  | .hbm, ⟨6, _⟩ => ⟨S1x2048x17408, .bf16⟩
  | .hbm, ⟨7, _⟩ => ⟨S2048x17408, .bf16⟩
  | .hbm, ⟨8, _⟩ => ⟨S2048x17408, .f32⟩
  | .hbm, ⟨9, _⟩ => ⟨S128x17408, .f32⟩
  | .hbm, ⟨10, _⟩ => ⟨S128x1024, .f32⟩
  | .hbm, ⟨11, _⟩ => ⟨S128x8x128, .f32⟩
  | .hbm, ⟨12, _⟩ => ⟨S128, .f32⟩
  | .hbm, ⟨13, _⟩ => ⟨S128x8x128, .f32⟩
  | .hbm, ⟨14, _⟩ => ⟨S_, .f32⟩
  | .hbm, ⟨15, _⟩ => ⟨S128x8, .f32⟩
  | .hbm, ⟨16, _⟩ => ⟨S128x8x1, .f32⟩
  | .hbm, ⟨17, _⟩ => ⟨S_, .f32⟩
  | .hbm, ⟨18, _⟩ => ⟨S128x8x1, .f32⟩
  | .hbm, ⟨19, _⟩ => ⟨S128x8x1, .f32⟩
  | .hbm, ⟨20, _⟩ => ⟨S_, .f32⟩
  | .hbm, ⟨21, _⟩ => ⟨S128x8x1, .f32⟩
  | .hbm, ⟨22, _⟩ => ⟨S128x8x1, .f32⟩
  | .hbm, ⟨23, _⟩ => ⟨S128x8x1, .f32⟩
  | .hbm, ⟨24, _⟩ => ⟨S128x8x128, .f32⟩
  | .hbm, ⟨25, _⟩ => ⟨S128x8x128, .f32⟩
  | .hbm, ⟨26, _⟩ => ⟨S1x1x128, .f32⟩
  | .hbm, ⟨27, _⟩ => ⟨S128x8x128, .f32⟩
  | .hbm, ⟨28, _⟩ => ⟨S128x8x128, .f32⟩
  | .hbm, ⟨29, _⟩ => ⟨S128x1024, .f32⟩
  | .hbm, ⟨30, _⟩ => ⟨S128x2048, .f32⟩
  | .hbm, ⟨31, _⟩ => ⟨S1x2048x17408, .bf16⟩
  | .hbm, ⟨32, _⟩ => ⟨S2048x17408, .bf16⟩
  | .hbm, ⟨33, _⟩ => ⟨S2048x17408, .f32⟩
  | .hbm, ⟨34, _⟩ => ⟨S128x17408, .f32⟩
  | .hbm, ⟨35, _⟩ => ⟨S128x1024, .f32⟩
  | .hbm, ⟨36, _⟩ => ⟨S128x8x128, .f32⟩
  | .hbm, ⟨37, _⟩ => ⟨S128, .f32⟩
  | .hbm, ⟨38, _⟩ => ⟨S128x8x128, .f32⟩
  | .hbm, ⟨39, _⟩ => ⟨S_, .f32⟩
  | .hbm, ⟨40, _⟩ => ⟨S128x8, .f32⟩
  | .hbm, ⟨41, _⟩ => ⟨S128x8x1, .f32⟩
  | .hbm, ⟨42, _⟩ => ⟨S_, .f32⟩
  | .hbm, ⟨43, _⟩ => ⟨S128x8x1, .f32⟩
  | .hbm, ⟨44, _⟩ => ⟨S128x8x1, .f32⟩
  | .hbm, ⟨45, _⟩ => ⟨S_, .f32⟩
  | .hbm, ⟨46, _⟩ => ⟨S128x8x1, .f32⟩
  | .hbm, ⟨47, _⟩ => ⟨S128x8x1, .f32⟩
  | .hbm, ⟨48, _⟩ => ⟨S128x8x1, .f32⟩
  | .hbm, ⟨49, _⟩ => ⟨S128x8x128, .f32⟩
  | .hbm, ⟨50, _⟩ => ⟨S128x8x128, .f32⟩
  | .hbm, ⟨51, _⟩ => ⟨S1x1x128, .f32⟩
  | .hbm, ⟨52, _⟩ => ⟨S128x8x128, .f32⟩
  | .hbm, ⟨53, _⟩ => ⟨S128x8x128, .f32⟩
  | .hbm, ⟨54, _⟩ => ⟨S128x1024, .f32⟩
  | .hbm, ⟨55, _⟩ => ⟨S128x2048, .f32⟩
  | .hbm, ⟨56, _⟩ => ⟨S1x2048x17408, .bf16⟩
  | .hbm, ⟨57, _⟩ => ⟨S2048x17408, .bf16⟩
  | .hbm, ⟨58, _⟩ => ⟨S2048x17408, .f32⟩
  | .hbm, ⟨59, _⟩ => ⟨S128x17408, .f32⟩
  | .hbm, ⟨60, _⟩ => ⟨S128x1024, .f32⟩
  | .hbm, ⟨61, _⟩ => ⟨S128x1024, .bf16⟩
  | .hbm, ⟨62, _⟩ => ⟨S128x1024, .bf16⟩
  | .hbm, ⟨63, _⟩ => ⟨S128x1024, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩

abbrev nD : Nat := 1
abbrev τ : Topo := Topo.v7x

variable {F : FTy → Type} [FloatOps F]
-- ==== Forget.lean ====
abbrev S8320x2048 : Shape := ⟨2, ![8320, 2048]⟩
abbrev S2x17416x2048 : Shape := ⟨3, ![2, 17416, 2048]⟩
abbrev S1x128 : Shape := ⟨2, ![1, 128]⟩
abbrev S8320x128 : Shape := ⟨2, ![8320, 128]⟩
abbrev S1040x2048 : Shape := ⟨2, ![1040, 2048]⟩
abbrev S1x128x2048 : Shape := ⟨3, ![1, 128, 2048]⟩
abbrev S1040x128 : Shape := ⟨2, ![1040, 128]⟩
abbrev S128x2048 : Shape := ⟨2, ![128, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2x17416x2048, .f32⟩
  | .hbm, ⟨2, _⟩ => ⟨S1x128, .f32⟩
  | .hbm, ⟨3, _⟩ => ⟨S8320x128, .f32⟩
  | .local _ .vmem, ⟨0, _⟩ => ⟨S1040x2048, .bf16⟩
  | .local _ .vmem, ⟨1, _⟩ => ⟨S1040x2048, .bf16⟩
  | .local _ .vmem, ⟨2, _⟩ => ⟨S1x128x2048, .f32⟩
  | .local _ .vmem, ⟨3, _⟩ => ⟨S1x128, .f32⟩
  | .local _ .vmem, ⟨4, _⟩ => ⟨S1040x128, .f32⟩
  | .local _ .vmem, ⟨5, _⟩ => ⟨S1040x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1040x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ForgetRefIdeal.lean ====
abbrev S8320x2048 : Shape := ⟨2, ![8320, 2048]⟩
abbrev S2x17416x2048 : Shape := ⟨3, ![2, 17416, 2048]⟩
abbrev S1x128 : Shape := ⟨2, ![1, 128]⟩
abbrev S1x17416x2048 : Shape := ⟨3, ![1, 17416, 2048]⟩
abbrev S17416x2048 : Shape := ⟨2, ![17416, 2048]⟩
abbrev S2048x17416 : Shape := ⟨2, ![2048, 17416]⟩
abbrev S2048x128 : Shape := ⟨2, ![2048, 128]⟩
abbrev S8320x128 : Shape := ⟨2, ![8320, 128]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x17416x2048, .f32⟩
  | .hbm, ⟨2, _⟩ => ⟨S1x128, .f32⟩
  | .hbm, ⟨3, _⟩ => ⟨S1x17416x2048, .f32⟩
  | .hbm, ⟨4, _⟩ => ⟨S17416x2048, .f32⟩
  | .hbm, ⟨5, _⟩ => ⟨S2048x17416, .f32⟩
  | .hbm, ⟨6, _⟩ => ⟨S2048x128, .f32⟩
  | .hbm, ⟨7, _⟩ => ⟨S8320x2048, .f32⟩
  | .hbm, ⟨8, _⟩ => ⟨S8320x128, .f32⟩
  | .hbm, ⟨9, _⟩ => ⟨S8320x128, .f32⟩
  | .hbm, ⟨10, _⟩ => ⟨S8320x128, .f32⟩
  | .hbm, ⟨11, _⟩ => ⟨S8320x128, .f32⟩
  | .hbm, ⟨12, _⟩ => ⟨S_, .f32⟩
  | .hbm, ⟨13, _⟩ => ⟨S8320x128, .f32⟩
  | .hbm, ⟨14, _⟩ => ⟨S8320x128, .f32⟩
  | .hbm, ⟨15, _⟩ => ⟨S8320x128, .f32⟩
  | .hbm, ⟨16, _⟩ => ⟨S8320x128, .f32⟩
  | .hbm, ⟨17, _⟩ => ⟨S8320x128, .i1⟩
  | .hbm, ⟨18, _⟩ => ⟨S8320x128, .f32⟩
  | .hbm, ⟨19, _⟩ => ⟨S8320x128, .f32⟩
  | .hbm, ⟨20, _⟩ => ⟨S8320x128, .f32⟩
  | .hbm, ⟨21, _⟩ => ⟨S8320x128, .f32⟩
  | .hbm, ⟨22, _⟩ => ⟨S8320x128, .f32⟩
  | .hbm, ⟨23, _⟩ => ⟨S8320x128, .f32⟩
  | .hbm, ⟨24, _⟩ => ⟨S8320x128, .f32⟩
  | .hbm, ⟨25, _⟩ => ⟨S8320x128, .f32⟩
  | .hbm, ⟨26, _⟩ => ⟨S8320x128, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_v1 : Ref sig .tc := ⟨.hbm, 25, rfl⟩
abbrev main_v8 : Ref sig .tc := ⟨.hbm, 26, rfl⟩

abbrev nD : Nat := 1
abbrev τ : Topo := Topo.v7x

variable {F : FTy → Type} [FloatOps F]
-- ==== Memory.lean ====
abbrev S512x2048 : Shape := ⟨2, ![512, 2048]⟩
abbrev S2x2048 : Shape := ⟨2, ![2, 2048]⟩
abbrev S2x2048x2048 : Shape := ⟨3, ![2, 2048, 2048]⟩
abbrev S1x256 : Shape := ⟨2, ![1, 256]⟩
abbrev S1x2048 : Shape := ⟨2, ![1, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩
abbrev S512x1024 : Shape := ⟨2, ![512, 1024]⟩
abbrev S1x2048x512 : Shape := ⟨3, ![1, 2048, 512]⟩
abbrev S256x512 : Shape := ⟨2, ![256, 512]⟩
abbrev S2048x512 : Shape := ⟨2, ![2048, 512]⟩
abbrev S256x256 : Shape := ⟨2, ![256, 256]⟩

abbrev nBuf : Space → Nat
  | .hbm => 10
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S2x2048, .f32⟩
  | .hbm, ⟨2, _⟩ => ⟨S2x2048x2048, .bf16⟩
  | .hbm, ⟨3, _⟩ => ⟨S1x256, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S512x2048, .bf16⟩
  | .hbm, ⟨8, _⟩ => ⟨S512x1024, .f32⟩
  | .hbm, ⟨9, _⟩ => ⟨S512x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x256, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc1_transform_2 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![c0_i32.toNat, c0_i32_0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== MemoryRefIdeal.lean ====
abbrev S512x2048 : Shape := ⟨2, ![512, 2048]⟩
abbrev S2x2048 : Shape := ⟨2, ![2, 2048]⟩
abbrev S2x2048x2048 : Shape := ⟨3, ![2, 2048, 2048]⟩
abbrev S1x256 : Shape := ⟨2, ![1, 256]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S512x4x256 : Shape := ⟨3, ![512, 4, 256]⟩
abbrev S256 : Shape := ⟨1, ![256]⟩
abbrev S512x4 : Shape := ⟨2, ![512, 4]⟩
abbrev S512x4x1 : Shape := ⟨3, ![512, 4, 1]⟩
abbrev S1x1x256 : Shape := ⟨3, ![1, 1, 256]⟩

abbrev nBuf : Space → Nat
  | .hbm => 48
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2x2048, .f32⟩
  | .hbm, ⟨2, _⟩ => ⟨S2x2048x2048, .bf16⟩
  | .hbm, ⟨3, _⟩ => ⟨S1x256, .f32⟩
  | .hbm, ⟨4, _⟩ => ⟨S1x2048x2048, .bf16⟩
  | .hbm, ⟨5, _⟩ => ⟨S2048x2048, .bf16⟩
  | .hbm, ⟨6, _⟩ => ⟨S2048x2048, .f32⟩
  | .hbm, ⟨7, _⟩ => ⟨S1x2048, .f32⟩
  | .hbm, ⟨8, _⟩ => ⟨S2048, .f32⟩
  | .hbm, ⟨9, _⟩ => ⟨S512x2048, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x2048, .f32⟩
  | .hbm, ⟨21, _⟩ => ⟨S512x2048, .f32⟩
  | .hbm, ⟨22, _⟩ => ⟨S1x2048, .f32⟩
  | .hbm, ⟨23, _⟩ => ⟨S512x2048, .f32⟩
  | .hbm, ⟨24, _⟩ => ⟨S512x2048, .f32⟩
  | .hbm, ⟨25, _⟩ => ⟨S2048x1024, .f32⟩
  | .hbm, ⟨26, _⟩ => ⟨S512x1024, .f32⟩
  | .hbm, ⟨27, _⟩ => ⟨S512x4x256, .f32⟩
  | .hbm, ⟨28, _⟩ => ⟨S256, .f32⟩
  | .hbm, ⟨29, _⟩ => ⟨S512x4x256, .f32⟩
  | .hbm, ⟨30, _⟩ => ⟨S_, .f32⟩
  | .hbm, ⟨31, _⟩ => ⟨S512x4, .f32⟩
  | .hbm, ⟨32, _⟩ => ⟨S512x4x1, .f32⟩
  | .hbm, ⟨33, _⟩ => ⟨S_, .f32⟩
  | .hbm, ⟨34, _⟩ => ⟨S512x4x1, .f32⟩
  | .hbm, ⟨35, _⟩ => ⟨S512x4x1, .f32⟩
  | .hbm, ⟨36, _⟩ => ⟨S_, .f32⟩
  | .hbm, ⟨37, _⟩ => ⟨S512x4x1, .f32⟩
  | .hbm, ⟨38, _⟩ => ⟨S512x4x1, .f32⟩
  | .hbm, ⟨39, _⟩ => ⟨S512x4x1, .f32⟩
  | .hbm, ⟨40, _⟩ => ⟨S512x4x256, .f32⟩
  | .hbm, ⟨41, _⟩ => ⟨S512x4x256, .f32⟩
  | .hbm, ⟨42, _⟩ => ⟨S1x1x256, .f32⟩
  | .hbm, ⟨43, _⟩ => ⟨S512x4x256, .f32⟩
  | .hbm, ⟨44, _⟩ => ⟨S512x4x256, .f32⟩
  | .hbm, ⟨45, _⟩ => ⟨S512x1024, .f32⟩
  | .hbm, ⟨46, _⟩ => ⟨S2048x1024, .f32⟩
  | .hbm, ⟨47, _⟩ => ⟨S512x1024, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== MemAttn.lean ====
abbrev S8320x1024 : Shape := ⟨2, ![8320, 1024]⟩
abbrev S1x2x256x1024 : Shape := ⟨4, ![1, 2, 256, 1024]⟩
abbrev S8192x1024 : Shape := ⟨2, ![8192, 1024]⟩
abbrev S512x1024 : Shape := ⟨2, ![512, 1024]⟩
abbrev S1x1x256x1024 : Shape := ⟨4, ![1, 1, 256, 1024]⟩
abbrev S512x256 : Shape := ⟨2, ![512, 256]⟩
abbrev S1x1x256x256 : Shape := ⟨4, ![1, 1, 256, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8320x1024, .bf16⟩
  | .hbm, ⟨1, _⟩ => ⟨S1x2x256x1024, .f32⟩
  | .hbm, ⟨2, _⟩ => ⟨S1x2x256x1024, .f32⟩
  | .hbm, ⟨3, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x256x1024, .f32⟩
  | .local _ .vmem, ⟨3, _⟩ => ⟨S1x1x256x1024, .f32⟩
  | .local _ .vmem, ⟨4, _⟩ => ⟨S1x1x256x1024, .f32⟩
  | .local _ .vmem, ⟨5, _⟩ => ⟨S1x1x256x1024, .f32⟩
  | .local _ .vmem, ⟨6, _⟩ => ⟨S512x1024, .bf16⟩
  | .local _ .vmem, ⟨7, _⟩ => ⟨S512x1024, .bf16⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemAttnRefIdeal.lean ====
abbrev S8320x1024 : Shape := ⟨2, ![8320, 1024]⟩
abbrev S1x2x256x1024 : Shape := ⟨4, ![1, 2, 256, 1024]⟩
abbrev S8192x1024 : Shape := ⟨2, ![8192, 1024]⟩
abbrev S2x4096x4x256 : Shape := ⟨4, ![2, 4096, 4, 256]⟩
abbrev S2x256x1024 : Shape := ⟨3, ![2, 256, 1024]⟩
abbrev S2x256x4x256 : Shape := ⟨4, ![2, 256, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1x2x256x1024, .f32⟩
  | .hbm, ⟨2, _⟩ => ⟨S1x2x256x1024, .f32⟩
  | .hbm, ⟨3, _⟩ => ⟨S8192x1024, .bf16⟩
  | .hbm, ⟨4, _⟩ => ⟨S8192x1024, .f32⟩
  | .hbm, ⟨5, _⟩ => ⟨S2x4096x4x256, .f32⟩
  | .hbm, ⟨6, _⟩ => ⟨S2x256x1024, .f32⟩
  | .hbm, ⟨7, _⟩ => ⟨S2x256x4x256, .f32⟩
  | .hbm, ⟨8, _⟩ => ⟨S2x4x4096x256, .f32⟩
  | .hbm, ⟨9, _⟩ => ⟨S_, .f32⟩
  | .hbm, ⟨10, _⟩ => ⟨S2x4x4096x256, .f32⟩
  | .hbm, ⟨11, _⟩ => ⟨S2x4x4096x256, .f32⟩
  | .hbm, ⟨12, _⟩ => ⟨S_, .f32⟩
  | .hbm, ⟨13, _⟩ => ⟨S2x4x4096, .f32⟩
  | .hbm, ⟨14, _⟩ => ⟨S_, .f32⟩
  | .hbm, ⟨15, _⟩ => ⟨S2x4x4096, .f32⟩
  | .hbm, ⟨16, _⟩ => ⟨S2x4x4096, .f32⟩
  | .hbm, ⟨17, _⟩ => ⟨S2x4x4096x1, .f32⟩
  | .hbm, ⟨18, _⟩ => ⟨S2x4x4096x256, .f32⟩
  | .hbm, ⟨19, _⟩ => ⟨S2x4x4096x256, .f32⟩
  | .hbm, ⟨20, _⟩ => ⟨S2x4x4096x256, .f32⟩
  | .hbm, ⟨21, _⟩ => ⟨S_, .f32⟩
  | .hbm, ⟨22, _⟩ => ⟨S2x4x4096, .f32⟩
  | .hbm, ⟨23, _⟩ => ⟨S2x4x4096x1, .f32⟩
  | .hbm, ⟨24, _⟩ => ⟨S2x4x4096x256, .f32⟩
  | .hbm, ⟨25, _⟩ => ⟨S2x4x4096x256, .f32⟩
  | .hbm, ⟨26, _⟩ => ⟨S2x256x1024, .f32⟩
  | .hbm, ⟨27, _⟩ => ⟨S2x256x4x256, .f32⟩
  | .hbm, ⟨28, _⟩ => ⟨S2x4x256x4096, .f32⟩
  | .hbm, ⟨29, _⟩ => ⟨S2x4096x4x256, .f32⟩
  | .hbm, ⟨30, _⟩ => ⟨S8192x1024, .f32⟩
  | .hbm, ⟨31, _⟩ => ⟨S8192x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Proof.Layer.lean ====
/- One row of the layer's feed-forward part and of its merge, as plain sums. -/
module

public import Idealize.ShloMosaic.Lib.Pointwise
public import Idealize.ShloMosaic.Lib.Pipeline.ValueKit

@[expose] public section

noncomputable section

namespace Cert.Layer

open Idealize.ShloMosaic
open scoped BigOperators

/-- The constant 0.5 of the feed-forward's residual step. -/
abbrev half : EReal := Ideal.ofBits FTy.f32 0x3F000000#32

theorem half_eq : half = ((1 / 2 : ℝ) : EReal) := by
  simp [Ideal.ofBits, Ideal.ieee, -EReal.coe_mul]; norm_num

/-- A row divided by its root mean square, scaled entry by entry. -/
def rms (x g : Fin 2048 → EReal) (k : Fin 2048) : EReal :=
  x k * Ideal.rsqrt (Ideal.div (∑ j, x j * x j) (Ideal.ofBits FTy.f32 0x45000000#32) + Ideal.ofBits FTy.f32 0x358637BD#32) * g k

/-- One hidden unit: the gate's product times its logistic, times the linear product. -/
def act (h wg wu : Fin 2048 → EReal) : EReal :=
  (∑ j, h j * wg j) * Ideal.logistic (∑ j, h j * wg j) * ∑ j, h j * wu j

/-- Half the sum of block `s` of 256 entries, nothing past the last block. -/
def chunk (f : Fin 5632 → EReal) (s : ℕ) : EReal :=
  if h : s < 22 then half * ∑ k : Fin 256, f ⟨s * 256 + k.val, by have := k.isLt; omega⟩ else 0

theorem chunk_of_lt (f : Fin 5632 → EReal) (s : ℕ) (h : s < 22) :
    chunk f s = half * ∑ k : Fin 256, f ⟨s * 256 + k.val, by have := k.isLt; omega⟩ := dif_pos h

/-- A nonnegative real factor goes into a sum of extended reals, whatever the summands. -/
theorem mul_sum {ι : Type} (s : Finset ι) (f : ι → EReal) : half * ∑ i ∈ s, f i = ∑ i ∈ s, half * f i := by
  classical
  induction s using Finset.induction_on with
  | empty => simp
  | insert a s ha ih =>
    rw [Finset.sum_insert ha, Finset.sum_insert ha, ← ih, half_eq]
    exact EReal.left_distrib_of_nonneg_of_ne_top (by exact_mod_cast (by norm_num : (0:ℝ) ≤ 1/2)) (EReal.coe_ne_top _) _ _

/-- The 22 blocks are the whole sum. -/
theorem sum_chunk (f : Fin 5632 → EReal) : ∑ s ∈ Finset.range 22, chunk f s = half * ∑ k, f k := by
  rw [Finset.sum_range]
  have e : ∑ k, f k = ∑ s : Fin 22, ∑ k : Fin 256, f ⟨s.val * 256 + k.val, by have := k.isLt; omega⟩ :=
    (Fin.sum_mul_add_fin 22 256 f).symm
  rw [e, mul_sum]
  exact Finset.sum_congr rfl fun s _ => chunk_of_lt f s.val s.isLt

/-- The feed-forward part's arrays: rows, a row of scales, two stacked projections in, one out. -/
abbrev Rows := (⟨2, ![8320, 2048]⟩ : Shape).Idx → EReal
abbrev Scales := (⟨2, ![1, 2048]⟩ : Shape).Idx → EReal
abbrev Into := (⟨3, ![2, 2048, 5632]⟩ : Shape).Idx → EReal
abbrev Out := (⟨3, ![2, 5632, 2048]⟩ : Shape).Idx → EReal

/-- Row `R` of an array, normalised. -/
def rmsRow (x : Rows) (g : Scales) (R : Fin 8320) : Fin 2048 → EReal :=
  rms (fun j => x (ix2 R j)) (fun j => g (ix2 0 j))

/-- One hidden unit's share of output `d` of row `R`. -/
def share (x : Rows) (g : Scales) (wg wu : Into) (wd : Out) (R : Fin 8320) (d : Fin 2048) : Fin 5632 → EReal := fun k =>
  act (rmsRow x g R) (fun j => wg (ix3 0 j k)) (fun j => wu (ix3 0 j k)) * wd (ix3 0 k d)

/-- Output `d` of row `R` when the first `n` blocks of hidden units have been added. -/
def part (x : Rows) (g : Scales) (wg wu : Into) (wd : Out) (n : ℕ) (R : Fin 8320) (d : Fin 2048) : EReal :=
  x (ix2 R d) + ∑ s ∈ Finset.range n, chunk (share x g wg wu wd R d) s

/-- Output `d` of row `R`. -/
def ffn (x : Rows) (g : Scales) (wg wu : Into) (wd : Out) (R : Fin 8320) (d : Fin 2048) : EReal :=
  x (ix2 R d) + half * ∑ k, share x g wg wu wd R d k

/-- Output `d` of row `R`, once more normalised. -/
def ffnRms (x : Rows) (g : Scales) (wg wu : Into) (wd : Out) (n : Scales) (R : Fin 8320) (d : Fin 2048) : EReal :=
  rms (fun d => ffn x g wg wu wd R d) (fun j => n (ix2 0 j)) d

theorem part_all (x : Rows) (g : Scales) (wg wu : Into) (wd : Out) (R : Fin 8320) (d : Fin 2048) :
    part x g wg wu wd 22 R d = ffn x g wg wu wd R d := by
  unfold part ffn
  rw [sum_chunk]

theorem part_one (x : Rows) (g : Scales) (wg wu : Into) (wd : Out) (R : Fin 8320) (d : Fin 2048) :
    part x g wg wu wd 1 R d = x (ix2 R d) + chunk (share x g wg wu wd R d) 0 := by
  unfold part
  rw [Finset.sum_range_one]

theorem part_succ (x : Rows) (g : Scales) (wg wu : Into) (wd : Out) (n : ℕ) (R : Fin 8320) (d : Fin 2048) :
    part x g wg wu wd (n + 1) R d = part x g wg wu wd n R d + chunk (share x g wg wu wd R d) n := by
  unfold part
  rw [Finset.sum_range_succ, add_assoc]

/-- The merge's arrays: the branches' rows, the projections with the gates' columns, the branches' projections, the last one. -/
abbrev Branch := (⟨2, ![8320, 1024]⟩ : Shape).Idx → EReal
abbrev Gates := (⟨3, ![2, 2048, 17408]⟩ : Shape).Idx → EReal
abbrev Outs := (⟨4, ![2, 4, 1024, 2048]⟩ : Shape).Idx → EReal
abbrev Last := (⟨3, ![2, 2048, 2048]⟩ : Shape).Idx → EReal

/-- One branch's contribution to a merged column: its gate times its projection. -/
def gated (h g : Fin 2048 → EReal) (z w : Fin 1024 → EReal) : EReal :=
  Ideal.logistic (∑ j, h j * g j) * ∑ j, z j * w j

/-- Column `C` of branch `b` of row `R`. -/
def column (h : Rows) (z : Branch) (wa : Gates) (ws : Outs) (b : Fin 4) (R : Fin 8320) (C : Fin 2048) : EReal :=
  gated (fun j => h (ix2 R j)) (fun j => wa (ix3 0 j ⟨9216 + b.val * 2048 + C.val, by have := b.isLt; have := C.isLt; omega⟩))
    (fun j => z (ix2 R j)) (fun j => ws (ix4 0 b j C))

/-- Column `C` of the merge of row `R`, times its weight for output `d`. -/
def merged (h : Rows) (za zb zc zm : Branch) (wa : Gates) (ws : Outs) (wo : Last) (R : Fin 8320) (d : Fin 2048) (C : Fin 2048) : EReal :=
  (column h za wa ws 0 R C + column h zb wa ws 1 R C + column h zc wa ws 2 R C + column h zm wa ws 3 R C) * wo (ix3 0 C d)

/-- The sum of block `s` of 256 entries, nothing past the last block. -/
def block (f : Fin 2048 → EReal) (s : ℕ) : EReal :=
  if h : s < 8 then ∑ k : Fin 256, f ⟨s * 256 + k.val, by have := k.isLt; omega⟩ else 0

theorem block_of_lt (f : Fin 2048 → EReal) (s : ℕ) (h : s < 8) :
    block f s = ∑ k : Fin 256, f ⟨s * 256 + k.val, by have := k.isLt; omega⟩ := dif_pos h

/-- The eight blocks are the whole sum. -/
theorem sum_block (f : Fin 2048 → EReal) : ∑ s ∈ Finset.range 8, block f s = ∑ k, f k := by
  rw [Finset.sum_range]
  refine Eq.trans ?_ (Fin.sum_mul_add_fin 8 256 f)
  exact Finset.sum_congr rfl fun s _ => block_of_lt f s.val s.isLt

/-- Output `d` of row `R` of the merge. -/
def merge (x h : Rows) (za zb zc zm : Branch) (wa : Gates) (ws : Outs) (wo : Last) (R : Fin 8320) (d : Fin 2048) : EReal :=
  x (ix2 R d) + ∑ C, merged h za zb zc zm wa ws wo R d C

/-- The row's entry with the first `n` blocks of the summands `f` added. -/
def part8 (x : Rows) (f : Fin 2048 → EReal) (n : ℕ) (R : Fin 8320) (d : Fin 2048) : EReal :=
  x (ix2 R d) + ∑ s ∈ Finset.range n, block f s

theorem part8_all (x h : Rows) (za zb zc zm : Branch) (wa : Gates) (ws : Outs) (wo : Last) (R : Fin 8320) (d : Fin 2048) :
    part8 x (merged h za zb zc zm wa ws wo R d) 8 R d = merge x h za zb zc zm wa ws wo R d := by
  unfold part8 merge
  rw [sum_block]

theorem part8_one (x : Rows) (f : Fin 2048 → EReal) (R : Fin 8320) (d : Fin 2048) : part8 x f 1 R d = x (ix2 R d) + block f 0 := by
  unfold part8
  rw [Finset.sum_range_one]

theorem part8_succ (x : Rows) (f : Fin 2048 → EReal) (n : ℕ) (R : Fin 8320) (d : Fin 2048) :
    part8 x f (n + 1) R d = part8 x f n R d + block f n := by
  unfold part8
  rw [Finset.sum_range_succ, add_assoc]

/-- A block of 512 columns of a block of rows: where its entries lie. -/
theorem emb_at {n : ℕ} (o : ℕ) (inb) (x : (Rect.unit (s := (⟨2, ![n, 2048]⟩ : Shape)) ![0, o] ![n, 512] inb).shape.Idx)
    (h : o + (x 1).val < 2048) :
    (Rect.unit (s := (⟨2, ![n, 2048]⟩ : Shape)) ![0, o] ![n, 512] inb).emb x = ix2 (show Fin n from x 0) ⟨o + (x 1).val, h⟩ := by
  funext a
  apply Fin.ext
  refine (Rect.idx_unit_val _ _ _ _ a).trans ?_
  match a with
  | ⟨0, _⟩ => exact Nat.zero_add _
  | ⟨1, _⟩ => rfl

end Cert.Layer

end
-- ==== Proof.FfnValue.lean ====
/- The feed-forward part of the layer: each row of the result is the row plus half its gated projection. -/
module

public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal.Read
public import proofs.«01_k».proof.Proof.Layer
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.FfnValue

open Cert.Layer

section
open Cert.FfnIdeal Cert.FfnIdeal.Gen

variable (m : (ℓ : Loc nD τ sig) → Buf (Elt Ideal) ℓ)

theorem index : ∀ t : Fin cfg0.N, win0_0.index t = ![t.val / 22, 0]
    ∧ win0_1.index t = ![0, 0]
    ∧ win0_2.index t = ![0, 0, t.val % 22]
    ∧ win0_3.index t = ![0, 0, t.val % 22]
    ∧ win0_4.index t = ![0, t.val % 22, 0]
    ∧ win0_5.index t = ![t.val / 22, 0] :=
  (by decide +kernel : ∀ t : Fin grid0.N, _)

/-- The normalised rows a run of points starts with. -/
theorem rows (x : FVec Ideal S1040x2048 .f32) (g : FVec Ideal S1x2048 .f32) (r : Fin 1040) (k : Fin 2048) :
    (k0_pay4 x g (ix2 r k) : Ideal .bf16) = rms (fun j => x (ix2 r j)) (fun j => g (ix2 0 j)) k := by
  pointwise [k0_pay4]
  rfl

theorem units (h : FVec Ideal S1040x2048 .bf16) (g u : FVec Ideal S1x2048x256 .f32) (r : Fin 1040) (k : Fin 256) :
    (k0_pay5 h g u (ix2 r k) : Ideal .bf16) = act (fun j => h (ix2 r j)) (fun j => g (ix3 0 j k)) (fun j => u (ix3 0 j k)) := by
  pointwise [k0_pay5]
  rfl

/-- What one point adds to the block it accumulates in. -/
def step (o : FVec Ideal S1040x2048 .f32) (h : FVec Ideal S1040x2048 .bf16) (g u : FVec Ideal S1x2048x256 .f32)
    (w : FVec Ideal S1x256x2048 .f32) (y : S1040x2048.Idx) : EReal :=
  o y + half * ∑ k : Fin 256, (k0_pay5 h g u (ix2 (y 0) k) : Ideal .bf16) * w (ix3 0 k (y 1))

theorem first (c : Dev nD) (t : Fin cfg0.N) (h : t.val % 22 = 0) (r : Fin 1040) (d : Fin 2048) :
    (outsAt0 m c t.val t.isLt).1 (ix2 r d)
      = step (iblk m c 0 t) (k0_pay4 (iblk m c 0 t) (iblk m c 1 t)) (iblk m c 2 t) (iblk m c 3 t) (iblk m c 4 t) (ix2 r d) := by
  rw [outsAt0_A m c t h]; frame_out
  simp (disch := (first | decide | rfl)) only [↓View.readCov_skip, ↓View.readCov_fill]
  refine View.canon_append_of_piecesOf (Val := Elt Ideal) (e := .f32) (step (iblk m c 0 t) (k0_pay4 (iblk m c 0 t) (iblk m c 1 t)) (iblk m c 2 t) (iblk m c 3 t) (iblk m c 4 t))
    [_] [_, _, _, _] ⟨?_, ?_, ?_, ?_, trivial⟩ (ix2 r d) ?_
  · intro x; rw [emb_at 1536 _ x (by have : (x 1).val < 512 := (x 1).isLt; omega)]; pointwise [k0_pay3, step]
  · intro x; rw [emb_at 1024 _ x (by have : (x 1).val < 512 := (x 1).isLt; omega)]; pointwise [k0_pay2, step]
  · intro x; rw [emb_at 512 _ x (by have : (x 1).val < 512 := (x 1).isLt; omega)]; pointwise [k0_pay1, k0_pay7, k0_pay8, step]
  · intro x; rw [emb_at 0 _ x (by have : (x 1).val < 512 := (x 1).isLt; omega)]; pointwise [k0_pay6, step]
  · exact View.cover_of_tiled_head _ _ _ rfl _

theorem next (c : Dev nD) (t : Fin cfg0.N) (h : ¬t.val % 22 = 0) (r : Fin 1040) (d : Fin 2048) :
    (outsAt0 m c t.val t.isLt).1 (ix2 r d)
      = step (outsAt0 m c (t.val - 1) (Nat.lt_of_le_of_lt (Nat.sub_le _ _) t.isLt)).1 (outsAt0 m c (t.val - 1) (Nat.lt_of_le_of_lt (Nat.sub_le _ _) t.isLt)).2
        (iblk m c 2 t) (iblk m c 3 t) (iblk m c 4 t) (ix2 r d) := by
  rw [outsAt0_B m c t h]
  generalize outsAt0 m c (t.val - 1) (Nat.lt_of_le_of_lt (Nat.sub_le _ _) t.isLt) = P
  frame_out
  simp only [read_unread_whole]
  refine View.canon_append_of_piecesOf (Val := Elt Ideal) (e := .f32) (step P.1 P.2 (iblk m c 2 t) (iblk m c 3 t) (iblk m c 4 t))
    [] [_, _, _, _] ⟨?_, ?_, ?_, ?_, trivial⟩ (ix2 r d) ?_
  · intro x; rw [emb_at 1536 _ x (by have : (x 1).val < 512 := (x 1).isLt; omega)]; pointwise [k0_pay3, step]
  · intro x; rw [emb_at 1024 _ x (by have : (x 1).val < 512 := (x 1).isLt; omega)]; pointwise [k0_pay2, step]
  · intro x; rw [emb_at 512 _ x (by have : (x 1).val < 512 := (x 1).isLt; omega)]; pointwise [k0_pay1, k0_pay7, k0_pay8, step]
  · intro x; rw [emb_at 0 _ x (by have : (x 1).val < 512 := (x 1).isLt; omega)]; pointwise [k0_pay6, step]
  · exact View.cover_of_tiled_head _ _ _ rfl _

theorem first_rows (c : Dev nD) (t : Fin cfg0.N) (h : t.val % 22 = 0) (r : Fin 1040) (d : Fin 2048) :
    (outsAt0 m c t.val t.isLt).2 (ix2 r d) = k0_pay4 (iblk m c 0 t) (iblk m c 1 t) (ix2 r d) := by
  rw [outsAt0_A m c t h]; frame_out

theorem next_rows (c : Dev nD) (t : Fin cfg0.N) (h : ¬t.val % 22 = 0) (r : Fin 1040) (d : Fin 2048) :
    (outsAt0 m c t.val t.isLt).2 (ix2 r d) = (outsAt0 m c (t.val - 1) (Nat.lt_of_le_of_lt (Nat.sub_le _ _) t.isLt)).2 (ix2 r d) := by
  rw [outsAt0_B m c t h]; rfl

theorem block_x (c : Dev nD) (t : Fin cfg0.N) (R : Fin 8320) (r : Fin 1040) (hR : R.val = t.val / 22 * 1040 + r.val) (d : Fin 2048) :
    iblk m c 0 t (ix2 r d) = m ((c : Thread nD τ).loc main_arg0) (ix2 R d) := by
  blk_ext [iblk, V, index t]

theorem block_g (c : Dev nD) (t : Fin cfg0.N) (d : Fin 2048) :
    iblk m c 1 t (ix2 0 d) = m ((c : Thread nD τ).loc main_arg1) (ix2 0 d) := by
  blk_ext [iblk, V, index t]

theorem block_wg (c : Dev nD) (t : Fin cfg0.N) (j : Fin 2048) (k : Fin 256) (K : Fin 5632) (hK : K.val = t.val % 22 * 256 + k.val) :
    iblk m c 2 t (ix3 0 j k) = m ((c : Thread nD τ).loc main_arg2) (ix3 0 j K) := by
  blk_ext [iblk, V, index t]

theorem block_wu (c : Dev nD) (t : Fin cfg0.N) (j : Fin 2048) (k : Fin 256) (K : Fin 5632) (hK : K.val = t.val % 22 * 256 + k.val) :
    iblk m c 3 t (ix3 0 j k) = m ((c : Thread nD τ).loc main_arg3) (ix3 0 j K) := by
  blk_ext [iblk, V, index t]

theorem block_wd (c : Dev nD) (t : Fin cfg0.N) (d : Fin 2048) (k : Fin 256) (K : Fin 5632) (hK : K.val = t.val % 22 * 256 + k.val) :
    iblk m c 4 t (ix3 0 k d) = m ((c : Thread nD τ).loc main_arg4) (ix3 0 K d) := by
  blk_ext [iblk, V, index t]

/-- One point's addition, of the arrays themselves. -/
theorem step_eq (c : Dev nD) (t : Fin cfg0.N) (R : Fin 8320) (r : Fin 1040) (d : Fin 2048) (o : FVec Ideal S1040x2048 .f32)
    (h : FVec Ideal S1040x2048 .bf16)
    (hh : ∀ k, (h (ix2 r k) : Ideal .bf16) = rmsRow (m ((c : Thread nD τ).loc main_arg0)) (m ((c : Thread nD τ).loc main_arg1)) R k) :
    step o h (iblk m c 2 t) (iblk m c 3 t) (iblk m c 4 t) (ix2 r d) = o (ix2 r d) + chunk (share (m ((c : Thread nD τ).loc main_arg0))
      (m ((c : Thread nD τ).loc main_arg1)) (m ((c : Thread nD τ).loc main_arg2)) (m ((c : Thread nD τ).loc main_arg3))
      (m ((c : Thread nD τ).loc main_arg4)) R d) (t.val % 22) := by
  rw [chunk_of_lt _ _ (Nat.mod_lt _ (by decide))]
  unfold step
  refine congrArg (fun z => o (ix2 r d) + half * z) (Finset.sum_congr rfl fun k _ => ?_)
  show (k0_pay5 h _ _ (ix2 r k) : Ideal .bf16) * _ = _
  rw [units]
  unfold share
  refine congrArg₂ (· * ·) ?_ (block_wd m c t d k _ rfl)
  rw [show (fun j => h (ix2 r j)) = _ from funext hh]
  exact congrArg₂ (act _) (funext fun j => block_wg m c t j k _ rfl) (funext fun j => block_wu m c t j k _ rfl)

/-- The block and the normalised rows after each point of a run. -/
theorem state (c : Dev nD) (q : ℕ) (R : Fin 8320) (r : Fin 1040) (hR : R.val = q * 1040 + r.val) : ∀ (s : ℕ) (hs : s < 22) (hn : 22 * q + s < cfg0.N),
    (∀ k, ((outsAt0 m c (22 * q + s) hn).2 (ix2 r k) : Ideal .bf16) = rmsRow (m ((c : Thread nD τ).loc main_arg0)) (m ((c : Thread nD τ).loc main_arg1)) R k)
    ∧ ∀ d, ((outsAt0 m c (22 * q + s) hn).1 (ix2 r d) : Ideal .f32) = part (m ((c : Thread nD τ).loc main_arg0)) (m ((c : Thread nD τ).loc main_arg1))
      (m ((c : Thread nD τ).loc main_arg2)) (m ((c : Thread nD τ).loc main_arg3)) (m ((c : Thread nD τ).loc main_arg4)) (s + 1) R d
  | 0, hs, hn => by
    have hq : (22 * q + 0) / 22 = q := by omega
    have hz : (22 * q + 0) % 22 = 0 := by omega
    have hr : ∀ k, (k0_pay4 (iblk m c 0 ⟨22 * q + 0, hn⟩) (iblk m c 1 ⟨22 * q + 0, hn⟩) (ix2 r k) : Ideal .bf16)
        = rmsRow (m ((c : Thread nD τ).loc main_arg0)) (m ((c : Thread nD τ).loc main_arg1)) R k := fun k => by
      rw [rows]
      exact congrArg₂ (rms · · k) (funext fun j => block_x m c _ R r (by dsimp only; rw [hq, hR]) j) (funext fun j => block_g m c _ j)
    refine ⟨fun k => (first_rows m c ⟨22 * q + 0, hn⟩ hz r k).trans (hr k), fun d => (first m c ⟨22 * q + 0, hn⟩ hz r d).trans ?_⟩
    refine (step_eq m c ⟨22 * q + 0, hn⟩ R r d _ _ hr).trans ?_
    rw [part_one, block_x m c ⟨22 * q + 0, hn⟩ R r (by dsimp only; rw [hq, hR]) d]
    dsimp only
    rw [hz]
  | s + 1, hs, hn => by
    have hz : (22 * q + (s + 1)) % 22 = s + 1 := by omega
    have hne : ¬(22 * q + (s + 1)) % 22 = 0 := by omega
    obtain ⟨ih, io⟩ := state c q R r hR s (by omega) (by omega)
    refine ⟨fun k => (next_rows m c ⟨22 * q + (s + 1), hn⟩ hne r k).trans (ih k), fun d => (next m c ⟨22 * q + (s + 1), hn⟩ hne r d).trans ?_⟩
    refine (step_eq m c ⟨22 * q + (s + 1), hn⟩ R r d _ _ ih).trans ?_
    rw [part_succ, ← io d]
    dsimp only
    rw [hz]
    rfl

/-- The result array after the run. -/
theorem final (c : Dev nD) (R : Fin 8320) (d : Fin 2048) : ((dats m 0 c).arrAt 5 (cfgs 0).N (ix2 R d) : Ideal .f32)
    = ffn (m ((c : Thread nD τ).loc main_arg0)) (m ((c : Thread nD τ).loc main_arg1)) (m ((c : Thread nD τ).loc main_arg2))
      (m ((c : Thread nD τ).loc main_arg3)) (m ((c : Thread nD τ).loc main_arg4)) R d := by
  refine congrFun ((dats m 0 c).arrAt_eq_of_covers 5 (fun y : S8320x2048.Idx => ffn (m ((c : Thread nD τ).loc main_arg0)) (m ((c : Thread nD τ).loc main_arg1))
    (m ((c : Thread nD τ).loc main_arg2)) (m ((c : Thread nD τ).loc main_arg3)) (m ((c : Thread nD τ).loc main_arg4)) (y 0) (y 1))
    (by decide +kernel) fun t hf (y : S1040x2048.Idx) => ?_) (ix2 R d)
  have ht := (flush0_5 t).mp hf
  have hN : t.val < 176 := lt_of_lt_of_eq t.isLt N_0
  obtain ⟨r, e, rfl⟩ : ∃ (r : Fin 1040) (e : Fin 2048), y = ix2 r e := ⟨y 0, y 1, eq_ix2 y⟩
  obtain ⟨_, hs⟩ := state m c (t.val / 22) ⟨t.val / 22 * 1040 + r.val, by have := r.isLt; omega⟩ r rfl 21 (by decide) (by omega)
  blk_simp
  rw [after0_5]
  have same : ∀ (n n' : ℕ) (hn hn'), n = n' → outsAt0 m c n hn = outsAt0 m c n' hn' := fun n n' _ _ h => by subst h; rfl
  rw [same t.val (22 * (t.val / 22) + 21) t.isLt (by omega) (by omega)]
  refine (hs e).trans ((part_all _ _ _ _ _ _ _).trans (congrArg₂ (ffn _ _ _ _ _) ?_ ?_))
  · apply Fin.ext
    blk_simp [index t]
  · apply Fin.ext
    blk_simp [index t]

end

section
open Cert.FfnRefIdeal Cert.FfnRefIdeal.Read

variable (x0 : (⟨S8320x2048, .f32⟩ : BufTy).Contents (Elt Ideal)) (x1 : (⟨S1x2048, .f32⟩ : BufTy).Contents (Elt Ideal))
  (x2 x3 : (⟨S2x2048x5632, .f32⟩ : BufTy).Contents (Elt Ideal)) (x4 : (⟨S2x5632x2048, .f32⟩ : BufTy).Contents (Elt Ideal))

theorem ref_rows (r : Fin 8320) (d : Fin 2048) : (val_main_v11 (F := Ideal) x0 x1 (ix2 r d) : Ideal .f32) = rmsRow x0 x1 r d := by
  pointwise [val_main_v11, val_main_v10, val_main_v9, val_main_v8, val_main_v7, val_main_v6, val_main_v5, val_main_v4, val_main_v3,
    val_main_v2, val_main_v1, val_main_v0, val_main_cst, val_main_cst_0, val_main_cst_1]
  rfl

theorem ref_out (r : Fin 8320) (d : Fin 2048) : (val_main_v25 (F := Ideal) x0 x1 x2 x3 x4 (ix2 r d) : Ideal .f32) = ffn x0 x1 x2 x3 x4 r d := by
  pointwise [val_main_v25, val_main_v24, val_main_v23, val_main_v22, val_main_v21, val_main_v20, val_main_v19, val_main_v18,
    val_main_v17, val_main_v16, val_main_v15, val_main_v14, val_main_v13, val_main_v12, val_main_call0_v0, val_main_call0_v1,
    val_main_call0_v2, val_main_call0_v3, val_main_call0_v4, val_main_call0_v5, val_main_call0_cst, val_main_call0_cst_0, val_main_cst_2]
  unfold ffn share act
  simp only [← ref_rows x0 x1]
  rfl

end

end Cert.FfnValue

end
-- ==== Proof.FfnHValue.lean ====
/- The feed-forward part of the layer that also leaves the normalised rows of its result. -/
module

public import proofs.«01_k».proof.Proof.Gen.FfnHIdeal
public import proofs.«01_k».proof.Proof.Gen.FfnHIdeal.Skeleton
public import proofs.«01_k».proof.Proof.Gen.FfnHIdeal.Launch
public import proofs.«01_k».proof.Proof.Gen.FfnHIdeal.Points
public import proofs.«01_k».proof.Proof.Gen.FfnHIdeal.Frame
public import proofs.«01_k».proof.Proof.Gen.FfnHRefIdeal.Read
public import proofs.«01_k».proof.Proof.Layer
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.FfnHValue

open Cert.Layer

section
open Cert.FfnHIdeal Cert.FfnHIdeal.Gen

variable (m : (ℓ : Loc nD τ sig) → Buf (Elt Ideal) ℓ)

theorem index : ∀ t : Fin cfg0.N, win0_0.index t = ![0, 0]
    ∧ win0_1.index t = ![0, 0, t.val % 22]
    ∧ win0_2.index t = ![0, 0, t.val % 22]
    ∧ win0_3.index t = ![0, t.val % 22, 0]
    ∧ win0_4.index t = ![0, 0]
    ∧ win0_5.index t = ![t.val / 22, 0]
    ∧ win0_6.index t = ![t.val / 22, 0]
    ∧ win0_7.index t = ![t.val / 22, 0] :=
  (by decide +kernel : ∀ t : Fin grid0.N, _)

/-- The normalised rows a run of points starts with. -/
theorem rows (x : FVec Ideal S1040x2048 .f32) (g : FVec Ideal S1x2048 .f32) (r : Fin 1040) (k : Fin 2048) :
    (k0_pay5 x g (ix2 r k) : Ideal .bf16) = rms (fun j => x (ix2 r j)) (fun j => g (ix2 0 j)) k := by
  pointwise [k0_pay5]
  rfl

theorem units (h : FVec Ideal S1040x2048 .bf16) (g u : FVec Ideal S1x2048x256 .f32) (r : Fin 1040) (k : Fin 256) :
    (k0_pay6 h g u (ix2 r k) : Ideal .bf16) = act (fun j => h (ix2 r j)) (fun j => g (ix3 0 j k)) (fun j => u (ix3 0 j k)) := by
  pointwise [k0_pay6]
  rfl

/-- What one point adds to the block it accumulates in. -/
def step (o : FVec Ideal S1040x2048 .f32) (h : FVec Ideal S1040x2048 .bf16) (g u : FVec Ideal S1x2048x256 .f32)
    (w : FVec Ideal S1x256x2048 .f32) (y : S1040x2048.Idx) : EReal :=
  o y + half * ∑ k : Fin 256, (k0_pay6 h g u (ix2 (y 0) k) : Ideal .bf16) * w (ix3 0 k (y 1))

theorem first (c : Dev nD) (t : Fin cfg0.N) (h : t.val % 22 = 0) (r : Fin 1040) (d : Fin 2048) :
    (outsAt0 m c t.val t.isLt).1 (ix2 r d)
      = step (iblk m c 5 t) (k0_pay5 (iblk m c 5 t) (iblk m c 0 t)) (iblk m c 1 t) (iblk m c 2 t) (iblk m c 3 t) (ix2 r d) := by
  rw [outsAt0_A m c t h (by omega)]; frame_out
  simp (disch := (first | decide | rfl)) only [↓View.readCov_skip, ↓View.readCov_fill]
  refine View.canon_append_of_piecesOf (Val := Elt Ideal) (e := .f32) (step (iblk m c 5 t) (k0_pay5 (iblk m c 5 t) (iblk m c 0 t)) (iblk m c 1 t) (iblk m c 2 t) (iblk m c 3 t))
    [_] [_, _, _, _] ⟨?_, ?_, ?_, ?_, trivial⟩ (ix2 r d) ?_
  · intro x; rw [emb_at 1536 _ x (by have : (x 1).val < 512 := (x 1).isLt; omega)]; pointwise [k0_pay3, step]
  · intro x; rw [emb_at 1024 _ x (by have : (x 1).val < 512 := (x 1).isLt; omega)]; pointwise [k0_pay2, step]
  · intro x; rw [emb_at 512 _ x (by have : (x 1).val < 512 := (x 1).isLt; omega)]; pointwise [k0_pay1, k0_pay8, k0_pay9, step]
  · intro x; rw [emb_at 0 _ x (by have : (x 1).val < 512 := (x 1).isLt; omega)]; pointwise [k0_pay7, step]
  · exact View.cover_of_tiled_head _ _ _ rfl _

theorem next (c : Dev nD) (t : Fin cfg0.N) (h : ¬t.val % 22 = 0) (r : Fin 1040) (d : Fin 2048) :
    (outsAt0 m c t.val t.isLt).1 (ix2 r d)
      = step (outsAt0 m c (t.val - 1) (Nat.lt_of_le_of_lt (Nat.sub_le _ _) t.isLt)).1 (outsAt0 m c (t.val - 1) (Nat.lt_of_le_of_lt (Nat.sub_le _ _) t.isLt)).2.2
        (iblk m c 1 t) (iblk m c 2 t) (iblk m c 3 t) (ix2 r d) := by
  by_cases hl : t.val % 22 = 21
  · rw [outsAt0_C m c t h hl]
    generalize outsAt0 m c (t.val - 1) (Nat.lt_of_le_of_lt (Nat.sub_le _ _) t.isLt) = P
    frame_out
    simp only [read_unread_whole]
    refine View.canon_append_of_piecesOf (Val := Elt Ideal) (e := .f32) (step P.1 P.2.2 (iblk m c 1 t) (iblk m c 2 t) (iblk m c 3 t))
      [] [_, _, _, _] ⟨?_, ?_, ?_, ?_, trivial⟩ (ix2 r d) ?_
    · intro x; rw [emb_at 1536 _ x (by have : (x 1).val < 512 := (x 1).isLt; omega)]; pointwise [k0_pay3, step]
    · intro x; rw [emb_at 1024 _ x (by have : (x 1).val < 512 := (x 1).isLt; omega)]; pointwise [k0_pay2, step]
    · intro x; rw [emb_at 512 _ x (by have : (x 1).val < 512 := (x 1).isLt; omega)]; pointwise [k0_pay1, k0_pay8, k0_pay9, step]
    · intro x; rw [emb_at 0 _ x (by have : (x 1).val < 512 := (x 1).isLt; omega)]; pointwise [k0_pay7, step]
    · exact View.cover_of_tiled_head _ _ _ rfl _
  · rw [outsAt0_B m c t h hl]
    generalize outsAt0 m c (t.val - 1) (Nat.lt_of_le_of_lt (Nat.sub_le _ _) t.isLt) = P
    frame_out
    simp only [read_unread_whole]
    refine View.canon_append_of_piecesOf (Val := Elt Ideal) (e := .f32) (step P.1 P.2.2 (iblk m c 1 t) (iblk m c 2 t) (iblk m c 3 t))
      [] [_, _, _, _] ⟨?_, ?_, ?_, ?_, trivial⟩ (ix2 r d) ?_
    · intro x; rw [emb_at 1536 _ x (by have : (x 1).val < 512 := (x 1).isLt; omega)]; pointwise [k0_pay3, step]
    · intro x; rw [emb_at 1024 _ x (by have : (x 1).val < 512 := (x 1).isLt; omega)]; pointwise [k0_pay2, step]
    · intro x; rw [emb_at 512 _ x (by have : (x 1).val < 512 := (x 1).isLt; omega)]; pointwise [k0_pay1, k0_pay8, k0_pay9, step]
    · intro x; rw [emb_at 0 _ x (by have : (x 1).val < 512 := (x 1).isLt; omega)]; pointwise [k0_pay7, step]
    · exact View.cover_of_tiled_head _ _ _ rfl _

/-- The normalised result, of the block the last point of a run leaves. -/
theorem last (c : Dev nD) (t : Fin cfg0.N) (h : ¬t.val % 22 = 0) (hl : t.val % 22 = 21) (r : Fin 1040) (d : Fin 2048) :
    (outsAt0 m c t.val t.isLt).2.1 (ix2 r d) = k0_pay4 (outsAt0 m c t.val t.isLt).1 (iblk m c 4 t) (ix2 r d) := by
  rw [outsAt0_C m c t h hl]
  generalize outsAt0 m c (t.val - 1) (Nat.lt_of_le_of_lt (Nat.sub_le _ _) t.isLt) = P
  frame_out
  refine congrFun (congrArg (k0_pay4 · _) ?_) _
  rw [View.readCov_eq_canon']
  funext j
  refine congrArg _ (funext fun a => Fin.ext ?_)
  refine (Rect.idx_unit_val _ _ _ _ a).trans ?_
  match a with
  | ⟨0, _⟩ => exact Nat.zero_add _
  | ⟨1, _⟩ => exact Nat.zero_add _

theorem first_rows (c : Dev nD) (t : Fin cfg0.N) (h : t.val % 22 = 0) (r : Fin 1040) (d : Fin 2048) :
    (outsAt0 m c t.val t.isLt).2.2 (ix2 r d) = k0_pay5 (iblk m c 5 t) (iblk m c 0 t) (ix2 r d) := by
  rw [outsAt0_A m c t h (by omega)]; frame_out

theorem next_rows (c : Dev nD) (t : Fin cfg0.N) (h : ¬t.val % 22 = 0) (r : Fin 1040) (d : Fin 2048) :
    (outsAt0 m c t.val t.isLt).2.2 (ix2 r d) = (outsAt0 m c (t.val - 1) (Nat.lt_of_le_of_lt (Nat.sub_le _ _) t.isLt)).2.2 (ix2 r d) := by
  by_cases hl : t.val % 22 = 21
  · rw [outsAt0_C m c t h hl]; rfl
  · rw [outsAt0_B m c t h hl]; rfl

theorem block_x (c : Dev nD) (t : Fin cfg0.N) (R : Fin 8320) (r : Fin 1040) (hR : R.val = t.val / 22 * 1040 + r.val) (d : Fin 2048) :
    iblk m c 5 t (ix2 r d) = m ((c : Thread nD τ).loc main_arg0) (ix2 R d) := by
  blk_ext [iblk, V, index t]

theorem block_g (c : Dev nD) (t : Fin cfg0.N) (d : Fin 2048) :
    iblk m c 0 t (ix2 0 d) = m ((c : Thread nD τ).loc main_arg1) (ix2 0 d) := by
  blk_ext [iblk, V, index t]

theorem block_wg (c : Dev nD) (t : Fin cfg0.N) (j : Fin 2048) (k : Fin 256) (K : Fin 5632) (hK : K.val = t.val % 22 * 256 + k.val) :
    iblk m c 1 t (ix3 0 j k) = m ((c : Thread nD τ).loc main_arg2) (ix3 0 j K) := by
  blk_ext [iblk, V, index t]

theorem block_wu (c : Dev nD) (t : Fin cfg0.N) (j : Fin 2048) (k : Fin 256) (K : Fin 5632) (hK : K.val = t.val % 22 * 256 + k.val) :
    iblk m c 2 t (ix3 0 j k) = m ((c : Thread nD τ).loc main_arg3) (ix3 0 j K) := by
  blk_ext [iblk, V, index t]

theorem block_wd (c : Dev nD) (t : Fin cfg0.N) (d : Fin 2048) (k : Fin 256) (K : Fin 5632) (hK : K.val = t.val % 22 * 256 + k.val) :
    iblk m c 3 t (ix3 0 k d) = m ((c : Thread nD τ).loc main_arg4) (ix3 0 K d) := by
  blk_ext [iblk, V, index t]

/-- One point's addition, of the arrays themselves. -/
theorem step_eq (c : Dev nD) (t : Fin cfg0.N) (R : Fin 8320) (r : Fin 1040) (d : Fin 2048) (o : FVec Ideal S1040x2048 .f32)
    (h : FVec Ideal S1040x2048 .bf16)
    (hh : ∀ k, (h (ix2 r k) : Ideal .bf16) = rmsRow (m ((c : Thread nD τ).loc main_arg0)) (m ((c : Thread nD τ).loc main_arg1)) R k) :
    step o h (iblk m c 1 t) (iblk m c 2 t) (iblk m c 3 t) (ix2 r d) = o (ix2 r d) + chunk (share (m ((c : Thread nD τ).loc main_arg0))
      (m ((c : Thread nD τ).loc main_arg1)) (m ((c : Thread nD τ).loc main_arg2)) (m ((c : Thread nD τ).loc main_arg3))
      (m ((c : Thread nD τ).loc main_arg4)) R d) (t.val % 22) := by
  rw [chunk_of_lt _ _ (Nat.mod_lt _ (by decide))]
  unfold step
  refine congrArg (fun z => o (ix2 r d) + half * z) (Finset.sum_congr rfl fun k _ => ?_)
  show (k0_pay6 h _ _ (ix2 r k) : Ideal .bf16) * _ = _
  rw [units]
  unfold share
  refine congrArg₂ (· * ·) ?_ (block_wd m c t d k _ rfl)
  rw [show (fun j => h (ix2 r j)) = _ from funext hh]
  exact congrArg₂ (act _) (funext fun j => block_wg m c t j k _ rfl) (funext fun j => block_wu m c t j k _ rfl)

/-- The block and the normalised rows after each point of a run. -/
theorem state (c : Dev nD) (q : ℕ) (R : Fin 8320) (r : Fin 1040) (hR : R.val = q * 1040 + r.val) : ∀ (s : ℕ) (hs : s < 22) (hn : 22 * q + s < cfg0.N),
    (∀ k, ((outsAt0 m c (22 * q + s) hn).2.2 (ix2 r k) : Ideal .bf16) = rmsRow (m ((c : Thread nD τ).loc main_arg0)) (m ((c : Thread nD τ).loc main_arg1)) R k)
    ∧ ∀ d, ((outsAt0 m c (22 * q + s) hn).1 (ix2 r d) : Ideal .f32) = part (m ((c : Thread nD τ).loc main_arg0)) (m ((c : Thread nD τ).loc main_arg1))
      (m ((c : Thread nD τ).loc main_arg2)) (m ((c : Thread nD τ).loc main_arg3)) (m ((c : Thread nD τ).loc main_arg4)) (s + 1) R d
  | 0, hs, hn => by
    have hq : (22 * q + 0) / 22 = q := by omega
    have hz : (22 * q + 0) % 22 = 0 := by omega
    have hr : ∀ k, (k0_pay5 (iblk m c 5 ⟨22 * q + 0, hn⟩) (iblk m c 0 ⟨22 * q + 0, hn⟩) (ix2 r k) : Ideal .bf16)
        = rmsRow (m ((c : Thread nD τ).loc main_arg0)) (m ((c : Thread nD τ).loc main_arg1)) R k := fun k => by
      rw [rows]
      exact congrArg₂ (rms · · k) (funext fun j => block_x m c _ R r (by dsimp only; rw [hq, hR]) j) (funext fun j => block_g m c _ j)
    refine ⟨fun k => (first_rows m c ⟨22 * q + 0, hn⟩ hz r k).trans (hr k), fun d => (first m c ⟨22 * q + 0, hn⟩ hz r d).trans ?_⟩
    refine (step_eq m c ⟨22 * q + 0, hn⟩ R r d _ _ hr).trans ?_
    rw [part_one, block_x m c ⟨22 * q + 0, hn⟩ R r (by dsimp only; rw [hq, hR]) d]
    dsimp only
    rw [hz]
  | s + 1, hs, hn => by
    have hz : (22 * q + (s + 1)) % 22 = s + 1 := by omega
    have hne : ¬(22 * q + (s + 1)) % 22 = 0 := by omega
    obtain ⟨ih, io⟩ := state c q R r hR s (by omega) (by omega)
    refine ⟨fun k => (next_rows m c ⟨22 * q + (s + 1), hn⟩ hne r k).trans (ih k), fun d => (next m c ⟨22 * q + (s + 1), hn⟩ hne r d).trans ?_⟩
    refine (step_eq m c ⟨22 * q + (s + 1), hn⟩ R r d _ _ ih).trans ?_
    rw [part_succ, ← io d]
    dsimp only
    rw [hz]
    rfl

/-- The result array after the run. -/
theorem final (c : Dev nD) (R : Fin 8320) (d : Fin 2048) : ((dats m 0 c).arrAt 6 (cfgs 0).N (ix2 R d) : Ideal .f32)
    = ffn (m ((c : Thread nD τ).loc main_arg0)) (m ((c : Thread nD τ).loc main_arg1)) (m ((c : Thread nD τ).loc main_arg2))
      (m ((c : Thread nD τ).loc main_arg3)) (m ((c : Thread nD τ).loc main_arg4)) R d := by
  refine congrFun ((dats m 0 c).arrAt_eq_of_covers 6 (fun y : S8320x2048.Idx => ffn (m ((c : Thread nD τ).loc main_arg0)) (m ((c : Thread nD τ).loc main_arg1))
    (m ((c : Thread nD τ).loc main_arg2)) (m ((c : Thread nD τ).loc main_arg3)) (m ((c : Thread nD τ).loc main_arg4)) (y 0) (y 1))
    (by decide +kernel) fun t hf (y : S1040x2048.Idx) => ?_) (ix2 R d)
  have ht := (flush0_6 t).mp hf
  have hN : t.val < 176 := lt_of_lt_of_eq t.isLt N_0
  obtain ⟨r, e, rfl⟩ : ∃ (r : Fin 1040) (e : Fin 2048), y = ix2 r e := ⟨y 0, y 1, eq_ix2 y⟩
  obtain ⟨_, hs⟩ := state m c (t.val / 22) ⟨t.val / 22 * 1040 + r.val, by have := r.isLt; omega⟩ r rfl 21 (by decide) (by omega)
  blk_simp
  rw [after0_6]
  have same : ∀ (n n' : ℕ) (hn hn'), n = n' → outsAt0 m c n hn = outsAt0 m c n' hn' := fun n n' _ _ h => by subst h; rfl
  rw [same t.val (22 * (t.val / 22) + 21) t.isLt (by omega) (by omega)]
  refine (hs e).trans ((part_all _ _ _ _ _ _ _).trans (congrArg₂ (ffn _ _ _ _ _) ?_ ?_))
  · apply Fin.ext
    blk_simp [index t]
  · apply Fin.ext
    blk_simp [index t]

/-- The normalised rows of the result. -/
theorem normal (x : FVec Ideal S1040x2048 .f32) (g : FVec Ideal S1x2048 .f32) (r : Fin 1040) (k : Fin 2048) :
    (k0_pay4 x g (ix2 r k) : Ideal .bf16) = rms (fun j => x (ix2 r j)) (fun j => g (ix2 0 j)) k := by
  pointwise [k0_pay4]
  rfl

theorem block_n (c : Dev nD) (t : Fin cfg0.N) (d : Fin 2048) :
    iblk m c 4 t (ix2 0 d) = m ((c : Thread nD τ).loc main_arg5) (ix2 0 d) := by
  blk_ext [iblk, V, index t]

/-- The second result array after the run. -/
theorem final_rows (c : Dev nD) (R : Fin 8320) (d : Fin 2048) : ((dats m 0 c).arrAt 7 (cfgs 0).N (ix2 R d) : Ideal .bf16)
    = ffnRms (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) R d := by
  refine congrFun ((dats m 0 c).arrAt_eq_of_covers 7 (fun y : S8320x2048.Idx => ffnRms (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) (y 0) (y 1))
    (by decide +kernel) fun t hf (y : S1040x2048.Idx) => ?_) (ix2 R d)
  have ht := (flush0_7 t).mp hf
  have hN : t.val < 176 := lt_of_lt_of_eq t.isLt N_0
  obtain ⟨r, e, rfl⟩ : ∃ (r : Fin 1040) (e : Fin 2048), y = ix2 r e := ⟨y 0, y 1, eq_ix2 y⟩
  obtain ⟨_, hs⟩ := state m c (t.val / 22) ⟨t.val / 22 * 1040 + r.val, by have := r.isLt; omega⟩ r rfl 21 (by decide) (by omega)
  have same : ∀ (n n' : ℕ) (hn hn'), n = n' → outsAt0 m c n hn = outsAt0 m c n' hn' := fun n n' _ _ h => by subst h; rfl
  blk_simp
  rw [after0_7]
  refine (last m c t (by omega) ht r e).trans ((normal _ _ r e).trans ?_)
  rw [same t.val (22 * (t.val / 22) + 21) t.isLt (by omega) (by omega)]
  unfold ffnRms
  refine congr (congrArg₂ rms (funext fun d => (hs d).trans ((part_all _ _ _ _ _ _ _).trans (congrArg (ffn _ _ _ _ _ · d) ?_)))
    (funext fun j => block_n m c t j)) ?_
  · apply Fin.ext
    blk_simp [index t]
  · apply Fin.ext
    blk_simp [index t]

end

section
open Cert.FfnHRefIdeal Cert.FfnHRefIdeal.Read

variable (x0 : (⟨S8320x2048, .f32⟩ : BufTy).Contents (Elt Ideal)) (x1 : (⟨S1x2048, .f32⟩ : BufTy).Contents (Elt Ideal))
  (x2 x3 : (⟨S2x2048x5632, .f32⟩ : BufTy).Contents (Elt Ideal)) (x4 : (⟨S2x5632x2048, .f32⟩ : BufTy).Contents (Elt Ideal))

theorem ref_rows (r : Fin 8320) (d : Fin 2048) : (val_main_v11 (F := Ideal) x0 x1 (ix2 r d) : Ideal .f32) = rmsRow x0 x1 r d := by
  pointwise [val_main_v11, val_main_v10, val_main_v9, val_main_v8, val_main_v7, val_main_v6, val_main_v5, val_main_v4, val_main_v3,
    val_main_v2, val_main_v1, val_main_v0, val_main_cst, val_main_cst_0, val_main_cst_1]
  rfl

theorem ref_out (r : Fin 8320) (d : Fin 2048) : (val_main_v25 (F := Ideal) x0 x1 x2 x3 x4 (ix2 r d) : Ideal .f32) = ffn x0 x1 x2 x3 x4 r d := by
  pointwise [val_main_v25, val_main_v24, val_main_v23, val_main_v22, val_main_v21, val_main_v20, val_main_v19, val_main_v18,
    val_main_v17, val_main_v16, val_main_v15, val_main_v14, val_main_v13, val_main_v12, val_main_call0_v0, val_main_call0_v1,
    val_main_call0_v2, val_main_call0_v3, val_main_call0_v4, val_main_call0_v5, val_main_call0_cst, val_main_call0_cst_0, val_main_cst_2]
  unfold ffn share act
  simp only [← ref_rows x0 x1]
  rfl

theorem ref_out_rows (x5 : (⟨S1x2048, .f32⟩ : BufTy).Contents (Elt Ideal)) (r : Fin 8320) (d : Fin 2048) :
    (val_main_v38 (F := Ideal) x0 x1 x2 x3 x4 x5 (ix2 r d) : Ideal .bf16) = ffnRms x0 x1 x2 x3 x4 x5 r d := by
  pointwise [val_main_v38, val_main_v37, val_main_v36, val_main_v35, val_main_v34, val_main_v33, val_main_v32, val_main_v31,
    val_main_v30, val_main_v29, val_main_v28, val_main_v27, val_main_v26, val_main_cst_3, val_main_cst_4, val_main_cst_5]
  unfold ffnRms rms
  simp only [← ref_out x0 x1 x2 x3 x4]

end

end Cert.FfnHValue

end
-- ==== Proof.MergeValue.lean ====
/- The merge of the layer's four branches: each row of the result is the row plus the projection of its gated columns. -/
module

public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal.Read
public import proofs.«01_k».proof.Proof.Layer
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.MergeValue

open Cert.Layer

section
open Cert.MergeIdeal Cert.MergeIdeal.Gen

variable (m : (ℓ : Loc nD τ sig) → Buf (Elt Ideal) ℓ)

theorem index : ∀ t : Fin cfg0.N, win0_0.index t = ![t.val / 8, 0]
    ∧ win0_1.index t = ![0, 0, 36 + t.val % 8]
    ∧ win0_2.index t = ![0, 0, 44 + t.val % 8]
    ∧ win0_3.index t = ![0, 0, 52 + t.val % 8]
    ∧ win0_4.index t = ![0, 0, 60 + t.val % 8]
    ∧ win0_5.index t = ![0, 0, 0, t.val % 8]
    ∧ win0_6.index t = ![0, t.val % 8, 0]
    ∧ win0_7.index t = ![t.val / 8, 0]
    ∧ win0_8.index t = ![t.val / 8, 0]
    ∧ win0_9.index t = ![t.val / 8, 0]
    ∧ win0_10.index t = ![t.val / 8, 0]
    ∧ win0_11.index t = ![t.val / 8, 0]
    ∧ win0_12.index t = ![t.val / 8, 0] :=
  (by decide +kernel : ∀ t : Fin grid0.N, _)

/-- One branch's part of the projections' block. -/
def part4 (w : FVec Ideal S1x4x1024x256 .bf16) (b : Fin 4) : FVec Ideal S1x1x1024x256 .bf16 := fun y => w (ix4 0 b (y 2) (y 3))

/-- A branch's part of the block, as a box of it. -/
theorem ld_part (w : FVec Ideal S1x4x1024x256 .bf16) (b : Fin 4) (o : ℕ) (ho : o = b.val) (inb) :
    View.ld (Val := Elt Ideal) (e' := .bf16) w (Rect.unit (s := S1x4x1024x256) ![0, o, 0, 0] ![1, 1, 1024, 256] inb) = part4 w b := by
  subst ho
  funext y
  refine congrArg w (funext fun a => Fin.ext ((Rect.idx_unit_val _ _ _ _ a).trans ?_))
  match a with
  | ⟨0, _⟩ => exact (Nat.zero_add _).trans (Nat.lt_one_iff.mp (y 0).isLt)
  | ⟨1, _⟩ => exact congrArg (b.val + ·) (Nat.lt_one_iff.mp (y 1).isLt)
  | ⟨2, _⟩ => exact Nat.zero_add _
  | ⟨3, _⟩ => exact Nat.zero_add _

/-- The merged columns one point computes. -/
def mid (h : FVec Ideal S640x2048 .bf16) (g0 g1 g2 g3 : FVec Ideal S1x2048x256 .bf16) (z0 z1 z2 z3 : FVec Ideal S640x1024 .bf16)
    (w : FVec Ideal S1x4x1024x256 .bf16) : FVec Ideal S640x256 .bf16 :=
  k0_pay6 h (k0_pay4 h g0 z0 (part4 w 0) g1 z1 (part4 w 1)) (k0_pay5 h g2) z2 (part4 w 2) g3 z3 (part4 w 3)

theorem mid_eq (h : FVec Ideal S640x2048 .bf16) (g0 g1 g2 g3 : FVec Ideal S1x2048x256 .bf16) (z0 z1 z2 z3 : FVec Ideal S640x1024 .bf16)
    (w : FVec Ideal S1x4x1024x256 .bf16) (r : Fin 640) (k : Fin 256) :
    (mid h g0 g1 g2 g3 z0 z1 z2 z3 w (ix2 r k) : Ideal .bf16)
      = gated (fun j => h (ix2 r j)) (fun j => g0 (ix3 0 j k)) (fun j => z0 (ix2 r j)) (fun j => w (ix4 0 0 j k))
        + gated (fun j => h (ix2 r j)) (fun j => g1 (ix3 0 j k)) (fun j => z1 (ix2 r j)) (fun j => w (ix4 0 1 j k))
        + gated (fun j => h (ix2 r j)) (fun j => g2 (ix3 0 j k)) (fun j => z2 (ix2 r j)) (fun j => w (ix4 0 2 j k))
        + gated (fun j => h (ix2 r j)) (fun j => g3 (ix3 0 j k)) (fun j => z3 (ix2 r j)) (fun j => w (ix4 0 3 j k)) := by
  pointwise [mid, k0_pay6, k0_pay5, k0_pay4, part4]
  rfl

/-- What one point adds to the block it accumulates in. -/
def step (o : FVec Ideal S640x2048 .f32) (v : FVec Ideal S640x256 .bf16) (w : FVec Ideal S1x256x2048 .bf16) (y : S640x2048.Idx) : EReal :=
  o y + ∑ k : Fin 256, (v (ix2 (y 0) k) : Ideal .bf16) * w (ix3 0 k (y 1))

theorem first (c : Dev nD) (t : Fin cfg0.N) (h : t.val % 8 = 0) (r : Fin 640) (d : Fin 2048) :
    outsAt0 m c t.val t.isLt (ix2 r d)
      = step (iblk m c 7 t) (mid (iblk m c 0 t) (iblk m c 1 t) (iblk m c 2 t) (iblk m c 3 t) (iblk m c 4 t) (iblk m c 8 t) (iblk m c 9 t) (iblk m c 10 t) (iblk m c 11 t) (iblk m c 5 t)) (iblk m c 6 t) (ix2 r d) := by
  rw [outsAt0_A m c t h]; frame_out
  simp (disch := (first | decide | rfl)) only [↓View.readCov_skip, ↓View.readCov_fill]
  rw [ld_part (iblk m c 5 t) 0 0 rfl, ld_part (iblk m c 5 t) 1 1 rfl, ld_part (iblk m c 5 t) 2 2 rfl, ld_part (iblk m c 5 t) 3 3 rfl]
  refine View.canon_append_of_piecesOf (Val := Elt Ideal) (e := .f32) (step (iblk m c 7 t) (mid (iblk m c 0 t) (iblk m c 1 t) (iblk m c 2 t) (iblk m c 3 t) (iblk m c 4 t) (iblk m c 8 t) (iblk m c 9 t) (iblk m c 10 t) (iblk m c 11 t) (iblk m c 5 t)) (iblk m c 6 t))
    [_] [_, _, _, _] ⟨?_, ?_, ?_, ?_, trivial⟩ (ix2 r d) ?_
  · intro x; rw [emb_at 1536 _ x (by have : (x 1).val < 512 := (x 1).isLt; omega)]; pointwise [k0_pay3, step, mid]
  · intro x; rw [emb_at 1024 _ x (by have : (x 1).val < 512 := (x 1).isLt; omega)]; pointwise [k0_pay2, step, mid]
  · intro x; rw [emb_at 512 _ x (by have : (x 1).val < 512 := (x 1).isLt; omega)]; pointwise [k0_pay1, k0_pay8, k0_pay9, step, mid]
  · intro x; rw [emb_at 0 _ x (by have : (x 1).val < 512 := (x 1).isLt; omega)]; pointwise [k0_pay7, step, mid]
  · exact View.cover_of_tiled_head _ _ _ rfl _

theorem next (c : Dev nD) (t : Fin cfg0.N) (h : ¬t.val % 8 = 0) (r : Fin 640) (d : Fin 2048) :
    outsAt0 m c t.val t.isLt (ix2 r d)
      = step (outsAt0 m c (t.val - 1) (Nat.lt_of_le_of_lt (Nat.sub_le _ _) t.isLt)) (mid (iblk m c 0 t) (iblk m c 1 t) (iblk m c 2 t) (iblk m c 3 t) (iblk m c 4 t) (iblk m c 8 t) (iblk m c 9 t) (iblk m c 10 t) (iblk m c 11 t) (iblk m c 5 t)) (iblk m c 6 t) (ix2 r d) := by
  rw [outsAt0_B m c t h]
  generalize outsAt0 m c (t.val - 1) (Nat.lt_of_le_of_lt (Nat.sub_le _ _) t.isLt) = P
  frame_out
  rw [ld_part (iblk m c 5 t) 0 0 rfl, ld_part (iblk m c 5 t) 1 1 rfl, ld_part (iblk m c 5 t) 2 2 rfl, ld_part (iblk m c 5 t) 3 3 rfl]
  refine View.canon_append_of_piecesOf (Val := Elt Ideal) (e := .f32) (step P (mid (iblk m c 0 t) (iblk m c 1 t) (iblk m c 2 t) (iblk m c 3 t) (iblk m c 4 t) (iblk m c 8 t) (iblk m c 9 t) (iblk m c 10 t) (iblk m c 11 t) (iblk m c 5 t)) (iblk m c 6 t))
    [] [_, _, _, _] ⟨?_, ?_, ?_, ?_, trivial⟩ (ix2 r d) ?_
  · intro x; rw [emb_at 1536 _ x (by have : (x 1).val < 512 := (x 1).isLt; omega)]; pointwise [k0_pay3, step, mid]
  · intro x; rw [emb_at 1024 _ x (by have : (x 1).val < 512 := (x 1).isLt; omega)]; pointwise [k0_pay2, step, mid]
  · intro x; rw [emb_at 512 _ x (by have : (x 1).val < 512 := (x 1).isLt; omega)]; pointwise [k0_pay1, k0_pay8, k0_pay9, step, mid]
  · intro x; rw [emb_at 0 _ x (by have : (x 1).val < 512 := (x 1).isLt; omega)]; pointwise [k0_pay7, step, mid]
  · exact View.cover_of_tiled_head _ _ _ rfl _

theorem block_h (c : Dev nD) (t : Fin cfg0.N) (R : Fin 8320) (r : Fin 640) (hR : R.val = t.val / 8 * 640 + r.val) (d : Fin 2048) :
    iblk m c 0 t (ix2 r d) = m ((c : Thread nD τ).loc main_arg1) (ix2 R d) := by
  blk_ext [iblk, V, index t]

theorem block_x (c : Dev nD) (t : Fin cfg0.N) (R : Fin 8320) (r : Fin 640) (hR : R.val = t.val / 8 * 640 + r.val) (d : Fin 2048) :
    iblk m c 7 t (ix2 r d) = m ((c : Thread nD τ).loc main_arg0) (ix2 R d) := by
  blk_ext [iblk, V, index t]

theorem block_z0 (c : Dev nD) (t : Fin cfg0.N) (R : Fin 8320) (r : Fin 640) (hR : R.val = t.val / 8 * 640 + r.val) (d : Fin 1024) :
    iblk m c 8 t (ix2 r d) = m ((c : Thread nD τ).loc main_arg2) (ix2 R d) := by
  blk_ext [iblk, V, index t]

theorem block_z1 (c : Dev nD) (t : Fin cfg0.N) (R : Fin 8320) (r : Fin 640) (hR : R.val = t.val / 8 * 640 + r.val) (d : Fin 1024) :
    iblk m c 9 t (ix2 r d) = m ((c : Thread nD τ).loc main_arg3) (ix2 R d) := by
  blk_ext [iblk, V, index t]

theorem block_z2 (c : Dev nD) (t : Fin cfg0.N) (R : Fin 8320) (r : Fin 640) (hR : R.val = t.val / 8 * 640 + r.val) (d : Fin 1024) :
    iblk m c 10 t (ix2 r d) = m ((c : Thread nD τ).loc main_arg4) (ix2 R d) := by
  blk_ext [iblk, V, index t]

theorem block_z3 (c : Dev nD) (t : Fin cfg0.N) (R : Fin 8320) (r : Fin 640) (hR : R.val = t.val / 8 * 640 + r.val) (d : Fin 1024) :
    iblk m c 11 t (ix2 r d) = m ((c : Thread nD τ).loc main_arg5) (ix2 R d) := by
  blk_ext [iblk, V, index t]

theorem block_g0 (c : Dev nD) (t : Fin cfg0.N) (j : Fin 2048) (k : Fin 256) (K : Fin 17408) (hK : K.val = 9216 + 0 * 2048 + (t.val % 8 * 256 + k.val)) :
    iblk m c 1 t (ix3 0 j k) = m ((c : Thread nD τ).loc main_arg6) (ix3 0 j K) := by
  blk_ext [iblk, V, index t]

theorem block_g1 (c : Dev nD) (t : Fin cfg0.N) (j : Fin 2048) (k : Fin 256) (K : Fin 17408) (hK : K.val = 9216 + 1 * 2048 + (t.val % 8 * 256 + k.val)) :
    iblk m c 2 t (ix3 0 j k) = m ((c : Thread nD τ).loc main_arg6) (ix3 0 j K) := by
  blk_ext [iblk, V, index t]

theorem block_g2 (c : Dev nD) (t : Fin cfg0.N) (j : Fin 2048) (k : Fin 256) (K : Fin 17408) (hK : K.val = 9216 + 2 * 2048 + (t.val % 8 * 256 + k.val)) :
    iblk m c 3 t (ix3 0 j k) = m ((c : Thread nD τ).loc main_arg6) (ix3 0 j K) := by
  blk_ext [iblk, V, index t]

theorem block_g3 (c : Dev nD) (t : Fin cfg0.N) (j : Fin 2048) (k : Fin 256) (K : Fin 17408) (hK : K.val = 9216 + 3 * 2048 + (t.val % 8 * 256 + k.val)) :
    iblk m c 4 t (ix3 0 j k) = m ((c : Thread nD τ).loc main_arg6) (ix3 0 j K) := by
  blk_ext [iblk, V, index t]

theorem block_w (c : Dev nD) (t : Fin cfg0.N) (b : Fin 4) (j : Fin 1024) (k : Fin 256) (K : Fin 2048) (hK : K.val = t.val % 8 * 256 + k.val) :
    iblk m c 5 t (ix4 0 b j k) = m ((c : Thread nD τ).loc main_arg7) (ix4 0 b j K) := by
  blk_ext [iblk, V, index t]

theorem block_o (c : Dev nD) (t : Fin cfg0.N) (d : Fin 2048) (k : Fin 256) (K : Fin 2048) (hK : K.val = t.val % 8 * 256 + k.val) :
    iblk m c 6 t (ix3 0 k d) = m ((c : Thread nD τ).loc main_arg8) (ix3 0 K d) := by
  blk_ext [iblk, V, index t]

/-- One point's addition, of the arrays themselves. -/
theorem step_eq (c : Dev nD) (t : Fin cfg0.N) (R : Fin 8320) (r : Fin 640) (d : Fin 2048) (o : FVec Ideal S640x2048 .f32)
    (hR : R.val = t.val / 8 * 640 + r.val) :
    step o (mid (iblk m c 0 t) (iblk m c 1 t) (iblk m c 2 t) (iblk m c 3 t) (iblk m c 4 t) (iblk m c 8 t) (iblk m c 9 t) (iblk m c 10 t) (iblk m c 11 t) (iblk m c 5 t)) (iblk m c 6 t) (ix2 r d)
      = o (ix2 r d) + block (merged (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R d) (t.val % 8) := by
  rw [block_of_lt _ _ (Nat.mod_lt _ (by decide))]
  unfold step
  refine congrArg (fun z => o (ix2 r d) + z) (Finset.sum_congr rfl fun k _ => ?_)
  show (mid _ _ _ _ _ _ _ _ _ _ (ix2 r k) : Ideal .bf16) * _ = _
  rw [mid_eq]
  unfold merged column
  have hh := funext fun j => block_h m c t R r hR j
  refine congrArg₂ (· * ·) ?_ (block_o m c t d k _ rfl)
  refine congrArg₂ (· + ·) (congrArg₂ (· + ·) (congrArg₂ (· + ·) ?_ ?_) ?_) ?_
  · exact congr (congr (congrArg₂ gated hh (funext fun j => block_g0 m c t j k _ rfl)) (funext fun j => block_z0 m c t R r hR j))
      (funext fun j => block_w m c t 0 j k _ rfl)
  · exact congr (congr (congrArg₂ gated hh (funext fun j => block_g1 m c t j k _ rfl)) (funext fun j => block_z1 m c t R r hR j))
      (funext fun j => block_w m c t 1 j k _ rfl)
  · exact congr (congr (congrArg₂ gated hh (funext fun j => block_g2 m c t j k _ rfl)) (funext fun j => block_z2 m c t R r hR j))
      (funext fun j => block_w m c t 2 j k _ rfl)
  · exact congr (congr (congrArg₂ gated hh (funext fun j => block_g3 m c t j k _ rfl)) (funext fun j => block_z3 m c t R r hR j))
      (funext fun j => block_w m c t 3 j k _ rfl)

/-- The block after each point of a run. -/
theorem state (c : Dev nD) (q : ℕ) (R : Fin 8320) (r : Fin 640) (hR : R.val = q * 640 + r.val) (d : Fin 2048) : ∀ (s : ℕ) (hs : s < 8) (hn : 8 * q + s < cfg0.N),
    (outsAt0 m c (8 * q + s) hn (ix2 r d) : Ideal .f32) = part8 (m ((c : Thread nD τ).loc main_arg0))
      (merged (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R d) (s + 1) R d
  | 0, hs, hn => by
    have hq : (8 * q + 0) / 8 = q := by omega
    have hz : (8 * q + 0) % 8 = 0 := by omega
    have hr : R.val = (8 * q + 0) / 8 * 640 + r.val := by rw [hq, hR]
    refine (first m c ⟨8 * q + 0, hn⟩ hz r d).trans ((step_eq m c ⟨8 * q + 0, hn⟩ R r d _ hr).trans ?_)
    rw [part8_one, block_x m c ⟨8 * q + 0, hn⟩ R r hr d]
    dsimp only
    rw [hz]
  | s + 1, hs, hn => by
    have hq : (8 * q + (s + 1)) / 8 = q := by omega
    have hz : (8 * q + (s + 1)) % 8 = s + 1 := by omega
    have hne : ¬(8 * q + (s + 1)) % 8 = 0 := by omega
    have ih := state c q R r hR d s (by omega) (by omega)
    refine (next m c ⟨8 * q + (s + 1), hn⟩ hne r d).trans ((step_eq m c ⟨8 * q + (s + 1), hn⟩ R r d _ (by dsimp only; rw [hq, hR])).trans ?_)
    rw [part8_succ, ← ih]
    dsimp only
    rw [hz]
    rfl

/-- The result array after the run. -/
theorem final (c : Dev nD) (R : Fin 8320) (d : Fin 2048) : ((dats m 0 c).arrAt 12 (cfgs 0).N (ix2 R d) : Ideal .f32)
    = merge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R d := by
  refine congrFun ((dats m 0 c).arrAt_eq_of_covers 12 (fun y : S8320x2048.Idx =>
    merge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (y 0) (y 1))
    (by decide +kernel) fun t hf (y : S640x2048.Idx) => ?_) (ix2 R d)
  have ht := (flush0_12 t).mp hf
  have hN : t.val < 104 := lt_of_lt_of_eq t.isLt N_0
  obtain ⟨r, e, rfl⟩ : ∃ (r : Fin 640) (e : Fin 2048), y = ix2 r e := ⟨y 0, y 1, eq_ix2 y⟩
  have hs := state m c (t.val / 8) ⟨t.val / 8 * 640 + r.val, by have := r.isLt; omega⟩ r rfl e 7 (by decide) (by omega)
  have same : ∀ (n n' : ℕ) (hn hn'), n = n' → outsAt0 m c n hn = outsAt0 m c n' hn' := fun n n' _ _ h => by subst h; rfl
  blk_simp
  rw [after0_12]
  rw [same t.val (8 * (t.val / 8) + 7) t.isLt (by omega) (by omega)]
  refine hs.trans ((part8_all _ _ _ _ _ _ _ _ _ _ _).trans (congrArg₂ (merge _ _ _ _ _ _ _ _ _) ?_ ?_))
  · apply Fin.ext
    blk_simp [index t]
  · apply Fin.ext
    blk_simp [index t]

end

section
open Cert.MergeRefIdeal Cert.MergeRefIdeal.Read

variable (x0 : (⟨S8320x2048, .f32⟩ : BufTy).Contents (Elt Ideal)) (x1 : (⟨S8320x2048, .bf16⟩ : BufTy).Contents (Elt Ideal))
  (x2 x3 x4 x5 : (⟨S8320x1024, .bf16⟩ : BufTy).Contents (Elt Ideal)) (x6 : (⟨S2x2048x17408, .bf16⟩ : BufTy).Contents (Elt Ideal))
  (x7 : (⟨S2x4x1024x2048, .bf16⟩ : BufTy).Contents (Elt Ideal)) (x8 : (⟨S2x2048x2048, .bf16⟩ : BufTy).Contents (Elt Ideal))

/-- Every gate, before and after it is cut into the branches' columns. -/
theorem ref_gate (r : Fin 8320) (b : Fin 4) (C : Fin 2048) : (val_main_v12 (F := Ideal) x1 x6 (ix3 r b C) : Ideal .f32)
    = Ideal.logistic (∑ j : Fin 2048, (x1 (ix2 r j) : Ideal .bf16) * x6 (ix3 0 j ⟨9216 + b.val * 2048 + C.val, by have := b.isLt; have := C.isLt; omega⟩)) := by
  pointwise [val_main_v12, val_main_v11, val_main_v10, val_main_v9, val_main_v8, val_main_v7, val_main_v6, val_main_v5, val_main_v4,
    val_main_v3, val_main_v2, val_main_v1, val_main_v0, val_main_cst, val_main_cst_0]
  simp only [add_assoc]
  rfl

theorem ref_out (r : Fin 8320) (d : Fin 2048) : (val_main_v51 (F := Ideal) x0 x1 x2 x3 x4 x5 x6 x7 x8 (ix2 r d) : Ideal .f32)
    = merge x0 x1 x2 x3 x4 x5 x6 x7 x8 r d := by
  pointwise [val_main_v51, val_main_v50, val_main_v49, val_main_v48, val_main_v47, val_main_v46, val_main_v45, val_main_v44, val_main_v43,
    val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_v15, val_main_v14, val_main_v13]
  simp only [ref_gate]
  rfl

/-- Equal arguments have equal results. -/
theorem ref_congr {x0 y0 : (⟨S8320x2048, .f32⟩ : BufTy).Contents (Elt Ideal)} {x1 y1 : (⟨S8320x2048, .bf16⟩ : BufTy).Contents (Elt Ideal)}
    {x2 y2 x3 y3 x4 y4 x5 y5 : (⟨S8320x1024, .bf16⟩ : BufTy).Contents (Elt Ideal)}
    {x6 y6 : (⟨S2x2048x17408, .bf16⟩ : BufTy).Contents (Elt Ideal)} {x7 y7 : (⟨S2x4x1024x2048, .bf16⟩ : BufTy).Contents (Elt Ideal)}
    {x8 y8 : (⟨S2x2048x2048, .bf16⟩ : BufTy).Contents (Elt Ideal)} (h0 : x0 = y0) (h1 : x1 = y1) (h2 : x2 = y2) (h3 : x3 = y3)
    (h4 : x4 = y4) (h5 : x5 = y5) (h6 : x6 = y6) (h7 : x7 = y7) (h8 : x8 = y8) :
    val_main_v51 (F := Ideal) x0 x1 x2 x3 x4 x5 x6 x7 x8 = val_main_v51 (F := Ideal) y0 y1 y2 y3 y4 y5 y6 y7 y8 := by
  subst h0 h1 h2 h3 h4 h5 h6 h7 h8
  rfl

end

end Cert.MergeValue

end
-- ==== Proof.Columns.lean ====
/- Columns of the layer's combined projection, as plain sums, and the norm of each head of such columns. -/
module

public import proofs.«01_k».proof.Proof.Layer

@[expose] public section

noncomputable section

namespace Cert.Layer

open Idealize.ShloMosaic
open scoped BigOperators

/-- Column `k` of the 1024 columns that begin at `o`, of row `R`. -/
def product (x : Rows) (w : Gates) (o : ℕ) (ho : o + 1024 ≤ 17408) (R : Fin 8320) (k : Fin 1024) : EReal :=
  ∑ j : Fin 2048, x (ix2 R j) * w (ix3 0 j ⟨o + k.val, by have := k.isLt; omega⟩)

/-- Entry `k` of `f` divided by the root of the mean square of `f`'s entries, times `g`'s entry; `c` is the bit pattern of their number. -/
def norm {n : ℕ} (c : BitVec 32) (f g : Fin n → EReal) (k : Fin n) : EReal :=
  f k * Ideal.rsqrt (Ideal.div (∑ j, f j * f j) (Ideal.ofBits FTy.f32 c) + Ideal.ofBits FTy.f32 0x358637BD#32) * g k

theorem norm_congr {n : ℕ} (c : BitVec 32) {f f' g g' : Fin n → EReal} (k : Fin n) (hf : ∀ j, f j = f' j) (hg : ∀ j, g j = g' j) :
    norm c f g k = norm c f' g' k := by
  rw [funext hf, funext hg]

theorem in_head {n d j : ℕ} (hn : n ∣ 1024) (hd : d < 1024) (hj : j < n) : d / n * n + j < 1024 := by
  obtain ⟨q, hq⟩ := hn
  have h : d / n < q := Nat.div_lt_of_lt_mul (hq ▸ hd)
  have h' : (d / n + 1) * n ≤ q * n := Nat.mul_le_mul_right n h
  rw [Nat.add_mul, Nat.one_mul, Nat.mul_comm q n, ← hq] at h'
  omega

/-- 1024 columns taken in heads of `n`, each head normalised on its own. -/
def heads (n : ℕ) (hn : 0 < n) (hd : n ∣ 1024) (c : BitVec 32) (f : Fin 1024 → EReal) (g : Fin n → EReal) (d : Fin 1024) : EReal :=
  norm c (fun j : Fin n => f ⟨d.val / n * n + j.val, in_head hd d.isLt j.isLt⟩) g ⟨d.val % n, Nat.mod_lt _ hn⟩

theorem heads_at (n : ℕ) (hn : 0 < n) (hd : n ∣ 1024) (c : BitVec 32) (f : Fin 1024 → EReal) (g : Fin n → EReal) (d : Fin 1024)
    (b : ℕ) (e : Fin n) (h : d.val = b * n + e.val) (f' : Fin n → EReal)
    (hf : ∀ (j : Fin n) (k : Fin 1024), k.val = b * n + j.val → f' j = f k) :
    norm c f' g e = heads n hn hd c f g d := by
  have hb : d.val / n = b := by
    rw [h, Nat.mul_comm, Nat.mul_add_div hn, Nat.div_eq_of_lt e.isLt, Nat.add_zero]
  have he : d.val % n = e.val := by
    rw [h, Nat.mul_comm, Nat.mul_add_mod, Nat.mod_eq_of_lt e.isLt]
  unfold heads
  rw [show (⟨d.val % n, Nat.mod_lt _ hn⟩ : Fin n) = e from Fin.ext he]
  exact norm_congr c e (fun j => hf j _ (by show d.val / n * n + j.val = _; rw [hb])) fun _ => rfl

/-- Some columns of a block of rows: where their entries lie. -/
theorem emb_cols {n N k : ℕ} (o : ℕ) (inb) (x : (Rect.unit (s := (⟨2, ![n, N]⟩ : Shape)) ![0, o] ![n, k] inb).shape.Idx)
    (h : o + (x 1).val < N) :
    (Rect.unit (s := (⟨2, ![n, N]⟩ : Shape)) ![0, o] ![n, k] inb).emb x = ix2 (show Fin n from x 0) ⟨o + (x 1).val, h⟩ := by
  funext a
  apply Fin.ext
  refine (Rect.idx_unit_val _ _ _ _ a).trans ?_
  match a with
  | ⟨0, _⟩ => exact Nat.zero_add _
  | ⟨1, _⟩ => rfl

/-- One head of a block of rows: where its entries lie. -/
theorem emb_head {n H k : ℕ} (o : ℕ) (inb) (x : (Rect.unit (s := (⟨3, ![n, H, k]⟩ : Shape)) ![0, o, 0] ![n, 1, k] inb).shape.Idx)
    (h : o < H) :
    (Rect.unit (s := (⟨3, ![n, H, k]⟩ : Shape)) ![0, o, 0] ![n, 1, k] inb).emb x = ix3 (show Fin n from x 0) ⟨o, h⟩ (show Fin k from x 2) := by
  funext a
  apply Fin.ext
  refine (Rect.idx_unit_val _ _ _ _ a).trans ?_
  match a with
  | ⟨0, _⟩ => exact Nat.zero_add _
  | ⟨1, _⟩ =>
    have h1 : (x 1).val < 1 := (x 1).isLt
    show o + (x 1).val = o
    omega
  | ⟨2, _⟩ => exact Nat.zero_add _

end Cert.Layer

end
-- ==== Proof.ConvAValue.lean ====
/- The three parts of the combined projection that the short convolution reads. -/
module

public import proofs.«01_k».proof.Proof.Gen.ConvAIdeal
public import proofs.«01_k».proof.Proof.Gen.ConvAIdeal.Skeleton
public import proofs.«01_k».proof.Proof.Gen.ConvAIdeal.Launch
public import proofs.«01_k».proof.Proof.Gen.ConvAIdeal.Points
public import proofs.«01_k».proof.Proof.Gen.ConvAIdeal.Frame
public import proofs.«01_k».proof.Proof.Gen.ConvARefIdeal.Read
public import proofs.«01_k».proof.Proof.Columns
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.ConvAValue

open Cert.Layer

section
open Cert.ConvAIdeal Cert.ConvAIdeal.Gen

variable (m : (ℓ : Loc nD τ sig) → Buf (Elt Ideal) ℓ)

theorem index : ∀ t : Fin cfg0.N, win0_0.index t = ![t.val / 2, 0]
    ∧ win0_1.index t = ![0, 0, 0 + t.val % 2]
    ∧ win0_2.index t = ![0, 0, 2 + t.val % 2]
    ∧ win0_3.index t = ![0, 0, 4 + t.val % 2]
    ∧ win0_4.index t = ![t.val / 2, t.val % 2]
    ∧ win0_5.index t = ![t.val / 2, t.val % 2] :=
  (by decide +kernel : ∀ t : Fin grid0.N, _)

theorem pay4 (h : FVec Ideal S1040x2048 .bf16) (w : FVec Ideal S1x2048x512 .bf16) (r : Fin 1040) (k : Fin 512) :
    (k0_pay1 h w (ix2 r k) : Ideal .f32) = ∑ j : Fin 2048, (h (ix2 r j) : Ideal .bf16) * w (ix3 0 j k) := by
  pointwise [k0_pay1]

theorem pay5 (h : FVec Ideal S1040x2048 .bf16) (u w : FVec Ideal S1x2048x512 .bf16) (r : Fin 1040) (k : Fin 512) :
    (k0_pay2 h u w (ix2 r k) : Ideal .f32)
      = (∑ j : Fin 2048, (h (ix2 r j) : Ideal .bf16) * u (ix3 0 j k)) * ∑ j : Fin 2048, (h (ix2 r j) : Ideal .bf16) * w (ix3 0 j k) := by
  pointwise [k0_pay2]

theorem block_h (c : Dev nD) (t : Fin cfg0.N) (R : Fin 8320) (r : Fin 1040) (hR : R.val = t.val / 2 * 1040 + r.val) (d : Fin 2048) :
    iblk m c 0 t (ix2 r d) = m ((c : Thread nD τ).loc main_arg0) (ix2 R d) := by
  blk_ext [iblk, V, index t]

theorem block_w1 (c : Dev nD) (t : Fin cfg0.N) (j : Fin 2048) (k : Fin 512) (K : Fin 17408) (hK : K.val = 0 + (t.val % 2 * 512 + k.val)) :
    iblk m c 1 t (ix3 0 j k) = m ((c : Thread nD τ).loc main_arg1) (ix3 0 j K) := by
  blk_ext [iblk, V, index t]

theorem block_w2 (c : Dev nD) (t : Fin cfg0.N) (j : Fin 2048) (k : Fin 512) (K : Fin 17408) (hK : K.val = 1024 + (t.val % 2 * 512 + k.val)) :
    iblk m c 2 t (ix3 0 j k) = m ((c : Thread nD τ).loc main_arg1) (ix3 0 j K) := by
  blk_ext [iblk, V, index t]

theorem block_w3 (c : Dev nD) (t : Fin cfg0.N) (j : Fin 2048) (k : Fin 512) (K : Fin 17408) (hK : K.val = 2048 + (t.val % 2 * 512 + k.val)) :
    iblk m c 3 t (ix3 0 j k) = m ((c : Thread nD τ).loc main_arg1) (ix3 0 j K) := by
  blk_ext [iblk, V, index t]

/-- The gate's columns after the run. -/
theorem final (c : Dev nD) (R : Fin 8320) (d : Fin 1024) : ((dats m 0 c).arrAt 4 (cfgs 0).N (ix2 R d) : Ideal .f32)
    = product (m ((c : Thread nD τ).loc main_arg0)) (m ((c : Thread nD τ).loc main_arg1)) 0 (by decide) R d := by
  refine congrFun ((dats m 0 c).arrAt_eq_of_covers 4 (fun y : S8320x1024.Idx => product (m ((c : Thread nD τ).loc main_arg0)) (m ((c : Thread nD τ).loc main_arg1)) 0 (by decide) (y 0) (y 1))
    (by decide +kernel) fun t hf (y : S1040x512.Idx) => ?_) (ix2 R d)
  have hN : t.val < 16 := lt_of_lt_of_eq t.isLt N_0
  obtain ⟨r, e, rfl⟩ : ∃ (r : Fin 1040) (e : Fin 512), y = ix2 r e := ⟨y 0, y 1, eq_ix2 y⟩
  blk_simp
  rw [after0_4]; frame_out
  refine (pay4 _ _ r e).trans ?_
  refine Eq.trans (b := product (m ((c : Thread nD τ).loc main_arg0)) (m ((c : Thread nD τ).loc main_arg1)) 0 (by decide) ⟨t.val / 2 * 1040 + r.val, by have := r.isLt; omega⟩ ⟨t.val % 2 * 512 + e.val, by have := e.isLt; omega⟩) ?_ ?_
  · unfold product
    exact Finset.sum_congr rfl fun j _ => congrArg₂ (· * ·) (block_h m c t _ r rfl j) (block_w1 m c t j e _ rfl)
  · refine congrArg₂ (fun (R : Fin 8320) (d : Fin 1024) => (product (m ((c : Thread nD τ).loc main_arg0)) (m ((c : Thread nD τ).loc main_arg1)) 0 (by decide) R d : EReal)) ?_ ?_
    · apply Fin.ext
      blk_simp [index t]
    · apply Fin.ext
      blk_simp [index t]

/-- The products of the other two parts after the run. -/
theorem final_mul (c : Dev nD) (R : Fin 8320) (d : Fin 1024) : ((dats m 0 c).arrAt 5 (cfgs 0).N (ix2 R d) : Ideal .f32)
    = product (m ((c : Thread nD τ).loc main_arg0)) (m ((c : Thread nD τ).loc main_arg1)) 1024 (by decide) R d * product (m ((c : Thread nD τ).loc main_arg0)) (m ((c : Thread nD τ).loc main_arg1)) 2048 (by decide) R d := by
  refine congrFun ((dats m 0 c).arrAt_eq_of_covers 5 (fun y : S8320x1024.Idx => product (m ((c : Thread nD τ).loc main_arg0)) (m ((c : Thread nD τ).loc main_arg1)) 1024 (by decide) (y 0) (y 1) * product (m ((c : Thread nD τ).loc main_arg0)) (m ((c : Thread nD τ).loc main_arg1)) 2048 (by decide) (y 0) (y 1))
    (by decide +kernel) fun t hf (y : S1040x512.Idx) => ?_) (ix2 R d)
  have hN : t.val < 16 := lt_of_lt_of_eq t.isLt N_0
  obtain ⟨r, e, rfl⟩ : ∃ (r : Fin 1040) (e : Fin 512), y = ix2 r e := ⟨y 0, y 1, eq_ix2 y⟩
  blk_simp
  rw [after0_5]; frame_out
  refine (pay5 _ _ _ r e).trans ?_
  refine Eq.trans (b := product (m ((c : Thread nD τ).loc main_arg0)) (m ((c : Thread nD τ).loc main_arg1)) 1024 (by decide) ⟨t.val / 2 * 1040 + r.val, by have := r.isLt; omega⟩ ⟨t.val % 2 * 512 + e.val, by have := e.isLt; omega⟩ * product (m ((c : Thread nD τ).loc main_arg0)) (m ((c : Thread nD τ).loc main_arg1)) 2048 (by decide) ⟨t.val / 2 * 1040 + r.val, by have := r.isLt; omega⟩ ⟨t.val % 2 * 512 + e.val, by have := e.isLt; omega⟩) ?_ ?_
  · unfold product
    exact congrArg₂ (· * ·) (Finset.sum_congr rfl fun j _ => congrArg₂ (· * ·) (block_h m c t _ r rfl j) (block_w2 m c t j e _ rfl))
      (Finset.sum_congr rfl fun j _ => congrArg₂ (· * ·) (block_h m c t _ r rfl j) (block_w3 m c t j e _ rfl))
  · refine congrArg₂ (fun (R : Fin 8320) (d : Fin 1024) => (product (m ((c : Thread nD τ).loc main_arg0)) (m ((c : Thread nD τ).loc main_arg1)) 1024 (by decide) R d * product (m ((c : Thread nD τ).loc main_arg0)) (m ((c : Thread nD τ).loc main_arg1)) 2048 (by decide) R d : EReal)) ?_ ?_
    · apply Fin.ext
      blk_simp [index t]
    · apply Fin.ext
      blk_simp [index t]

end

section
open Cert.ConvARefIdeal Cert.ConvARefIdeal.Read

variable (x0 : (⟨S8320x2048, .bf16⟩ : BufTy).Contents (Elt Ideal)) (x1 : (⟨S2x2048x17408, .bf16⟩ : BufTy).Contents (Elt Ideal))

theorem ref_out (r : Fin 8320) (d : Fin 1024) : (val_main_v5 (F := Ideal) x0 x1 (ix2 r d) : Ideal .f32)
    = product x0 x1 0 (by decide) r d := by
  pointwise [val_main_v5, val_main_v4, val_main_v3, val_main_v2, val_main_v1, val_main_v0]
  unfold product
  simp only [Nat.zero_add]

theorem ref_out_mul (r : Fin 8320) (d : Fin 1024) : (val_main_v18 (F := Ideal) x0 x1 (ix2 r d) : Ideal .f32)
    = product x0 x1 1024 (by decide) r d * product x0 x1 2048 (by decide) r d := by
  pointwise [val_main_v18, val_main_v17, val_main_v16, val_main_v15, val_main_v14, val_main_v13, val_main_v12, val_main_v11, val_main_v10,
    val_main_v9, val_main_v8, val_main_v7, val_main_v6]
  unfold product
  rfl

end

end Cert.ConvAValue

end
-- ==== Proof.GluValue.lean ====
/- The two parts of the combined projection that the longer convolution reads: one times the logistic of the other; and the
   state the sample leaves, made of the old one and these rows. -/
module

public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal.Read
public import proofs.«01_k».proof.Proof.Columns
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.GluValue

open Cert.Layer

section
open Cert.GluIdeal Cert.GluIdeal.Gen

variable (m : (ℓ : Loc nD τ sig) → Buf (Elt Ideal) ℓ)

theorem index : ∀ t : Fin cfg0.N, win0_0.index t = ![t.val / 2, 0]
    ∧ win0_1.index t = ![0, 0, 6 + t.val % 2]
    ∧ win0_2.index t = ![0, 0, 8 + t.val % 2]
    ∧ win0_3.index t = ![t.val / 2, t.val % 2] :=
  (by decide +kernel : ∀ t : Fin grid0.N, _)

theorem pay3 (h : FVec Ideal S1040x2048 .bf16) (u w : FVec Ideal S1x2048x512 .bf16) (r : Fin 1040) (k : Fin 512) :
    (k0_pay1 h u w (ix2 r k) : Ideal .f32)
      = (∑ j : Fin 2048, (h (ix2 r j) : Ideal .bf16) * u (ix3 0 j k)) * Ideal.logistic (∑ j : Fin 2048, (h (ix2 r j) : Ideal .bf16) * w (ix3 0 j k)) := by
  pointwise [k0_pay1]

theorem block_h (c : Dev nD) (t : Fin cfg0.N) (R : Fin 8320) (r : Fin 1040) (hR : R.val = t.val / 2 * 1040 + r.val) (d : Fin 2048) :
    iblk m c 0 t (ix2 r d) = m ((c : Thread nD τ).loc main_arg0) (ix2 R d) := by
  blk_ext [iblk, V, index t]

theorem block_w1 (c : Dev nD) (t : Fin cfg0.N) (j : Fin 2048) (k : Fin 512) (K : Fin 17408) (hK : K.val = 3072 + (t.val % 2 * 512 + k.val)) :
    iblk m c 1 t (ix3 0 j k) = m ((c : Thread nD τ).loc main_arg1) (ix3 0 j K) := by
  blk_ext [iblk, V, index t]

theorem block_w2 (c : Dev nD) (t : Fin cfg0.N) (j : Fin 2048) (k : Fin 512) (K : Fin 17408) (hK : K.val = 4096 + (t.val % 2 * 512 + k.val)) :
    iblk m c 2 t (ix3 0 j k) = m ((c : Thread nD τ).loc main_arg1) (ix3 0 j K) := by
  blk_ext [iblk, V, index t]

/-- The result array after the run. -/
theorem final (c : Dev nD) (R : Fin 8320) (d : Fin 1024) : ((dats m 0 c).arrAt 3 (cfgs 0).N (ix2 R d) : Ideal .f32)
    = product (m ((c : Thread nD τ).loc main_arg0)) (m ((c : Thread nD τ).loc main_arg1)) 3072 (by decide) R d * Ideal.logistic (product (m ((c : Thread nD τ).loc main_arg0)) (m ((c : Thread nD τ).loc main_arg1)) 4096 (by decide) R d) := by
  refine congrFun ((dats m 0 c).arrAt_eq_of_covers 3 (fun y : S8320x1024.Idx => product (m ((c : Thread nD τ).loc main_arg0)) (m ((c : Thread nD τ).loc main_arg1)) 3072 (by decide) (y 0) (y 1) * Ideal.logistic (product (m ((c : Thread nD τ).loc main_arg0)) (m ((c : Thread nD τ).loc main_arg1)) 4096 (by decide) (y 0) (y 1)))
    (by decide +kernel) fun t hf (y : S1040x512.Idx) => ?_) (ix2 R d)
  have hN : t.val < 16 := lt_of_lt_of_eq t.isLt N_0
  obtain ⟨r, e, rfl⟩ : ∃ (r : Fin 1040) (e : Fin 512), y = ix2 r e := ⟨y 0, y 1, eq_ix2 y⟩
  blk_simp
  rw [after0_3]; frame_out
  refine (pay3 _ _ _ r e).trans ?_
  refine Eq.trans (b := product (m ((c : Thread nD τ).loc main_arg0)) (m ((c : Thread nD τ).loc main_arg1)) 3072 (by decide) ⟨t.val / 2 * 1040 + r.val, by have := r.isLt; omega⟩ ⟨t.val % 2 * 512 + e.val, by have := e.isLt; omega⟩ * Ideal.logistic (product (m ((c : Thread nD τ).loc main_arg0)) (m ((c : Thread nD τ).loc main_arg1)) 4096 (by decide) ⟨t.val / 2 * 1040 + r.val, by have := r.isLt; omega⟩ ⟨t.val % 2 * 512 + e.val, by have := e.isLt; omega⟩)) ?_ ?_
  · unfold product
    exact congrArg₂ (fun a b => a * Ideal.logistic b) (Finset.sum_congr rfl fun j _ => congrArg₂ (· * ·) (block_h m c t _ r rfl j) (block_w1 m c t j e _ rfl))
      (Finset.sum_congr rfl fun j _ => congrArg₂ (· * ·) (block_h m c t _ r rfl j) (block_w2 m c t j e _ rfl))
  · refine congrArg₂ (fun (R : Fin 8320) (d : Fin 1024) => (product (m ((c : Thread nD τ).loc main_arg0)) (m ((c : Thread nD τ).loc main_arg1)) 3072 (by decide) R d * Ideal.logistic (product (m ((c : Thread nD τ).loc main_arg0)) (m ((c : Thread nD τ).loc main_arg1)) 4096 (by decide) R d) : EReal)) ?_ ?_
    · apply Fin.ext
      blk_simp [index t]
    · apply Fin.ext
      blk_simp [index t]

/-- The state a later step starts from: the old rows `x` followed by the last rows of the array `g`, four rows for each
    sequence, without the first four. -/
def state (g : FVec Ideal S8320x1024 .f32) (x : FVec Ideal S32x30x1024 .f32) : FVec Ideal S32x30x1024 .f32 :=
  extractStridedSlice S32x30x1024 ![0, 4, 0]
    (concatenate S32x34x1024 1 [⟨S32x30x1024, x⟩,
      ⟨S32x4x1024, shapeCast _ (extractStridedSlice S128x1024 ![8192, 0] g slices_S8320x1024_S128x1024_8192_0) shapeCasts_S128x1024_S32x4x1024⟩]
      concatenates_S32x30x1024_S32x4x1024_S32x34x1024_d1)
    slices_S32x34x1024_S32x30x1024_0_4_0

/-- The second result is the state after the result array and the old state. -/
theorem final_state (c : Dev nD) : Pipeline.afterTail₀ cfgs (dats m) 0 (V0 m) [hostOps1] c main_v4
    = state ((dats m 0 c).arrAt 3 (cfgs 0).N) (m ((c : Thread nD τ).loc main_arg2)) := by
  unfold Pipeline.afterTail₀
  have h0 : Pipeline.withArrays (cfgs 0).spec c (V0 m c) (fun w => (dats m 0 c).arrAt w (cfgs 0).N) (Proc.devRef .tc main_v0)
      = (dats m 0 c).arrAt 3 (cfgs 0).N :=
    Pipeline.withArrays_arr_shared (cfgs 0).spec c (V0 m c) _
      ((dats m 0 c).arrAt_sharedIn (by decide +kernel) (V0 m c) (fun _ => rfl) _) 3
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  rw [← h0, ← h2]
  generalize Pipeline.withArrays (cfgs 0).spec c (V0 m c) (fun w => (dats m 0 c).arrAt w (cfgs 0).N) = v
  simp only [hostOps1, List.flatten_cons, List.flatten_nil, List.append_nil]
  after_results
  rfl

end

section
open Cert.GluRefIdeal Cert.GluRefIdeal.Read

variable (x0 : (⟨S8320x2048, .bf16⟩ : BufTy).Contents (Elt Ideal)) (x1 : (⟨S2x2048x17408, .bf16⟩ : BufTy).Contents (Elt Ideal))

theorem ref_out (r : Fin 8320) (d : Fin 1024) : (val_main_v18 (F := Ideal) x0 x1 (ix2 r d) : Ideal .f32)
    = product x0 x1 3072 (by decide) r d * Ideal.logistic (product x0 x1 4096 (by decide) r d) := by
  pointwise [val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0]
  unfold product
  rfl

/-- The reference's second result is the same state after its first one. -/
theorem ref_state (x2 : (⟨S32x30x1024, .f32⟩ : BufTy).Contents (Elt Ideal)) :
    val_main_v22 (F := Ideal) x0 x1 x2 = state (val_main_v18 (F := Ideal) x0 x1) x2 := rfl

end

/-- The result array holds the reference's first result. -/
theorem array (m : (ℓ : Loc Cert.GluIdeal.nD Cert.GluIdeal.τ Cert.GluIdeal.sig) → Buf (Elt Ideal) ℓ) (c : Dev Cert.GluIdeal.nD) :
    ((Cert.GluIdeal.Gen.dats m 0 c).arrAt 3 (Cert.GluIdeal.cfgs 0).N : FVec Ideal Cert.GluIdeal.S8320x1024 .f32)
      = Cert.GluRefIdeal.Read.val_main_v18 (F := Ideal) (m ((c : Thread Cert.GluIdeal.nD Cert.GluIdeal.τ).loc Cert.GluIdeal.main_arg0)) (m ((c : Thread Cert.GluIdeal.nD Cert.GluIdeal.τ).loc Cert.GluIdeal.main_arg1)) := by
  refine funext fun (i : Cert.GluIdeal.S8320x1024.Idx) => ?_
  obtain ⟨r, d, rfl⟩ : ∃ (r : Fin 8320) (d : Fin 1024), i = ix2 r d := ⟨i 0, i 1, eq_ix2 i⟩
  exact (final m c r d).trans (ref_out (m ((c : Thread Cert.GluIdeal.nD Cert.GluIdeal.τ).loc Cert.GluIdeal.main_arg0)) (m ((c : Thread Cert.GluIdeal.nD Cert.GluIdeal.τ).loc Cert.GluIdeal.main_arg1)) r d).symm

end Cert.GluValue

end
-- ==== Proof.QMemValue.lean ====
/- The queries of the attention over the memory: a part of the combined projection, each head of it normalised. -/
module

public import proofs.«01_k».proof.Proof.Gen.QMemIdeal
public import proofs.«01_k».proof.Proof.Gen.QMemIdeal.Skeleton
public import proofs.«01_k».proof.Proof.Gen.QMemIdeal.Launch
public import proofs.«01_k».proof.Proof.Gen.QMemIdeal.Points
public import proofs.«01_k».proof.Proof.Gen.QMemIdeal.Frame
public import proofs.«01_k».proof.Proof.Gen.QMemRefIdeal.Read
public import proofs.«01_k».proof.Proof.Columns
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.QMemValue

open Cert.Layer

section
open Cert.QMemIdeal Cert.QMemIdeal.Gen

variable (m : (ℓ : Loc nD τ sig) → Buf (Elt Ideal) ℓ)

theorem index : ∀ t : Fin cfg0.N, win0_0.index t = ![t.val / 2, 0]
    ∧ win0_1.index t = ![0, 0, 16 + t.val % 2]
    ∧ win0_2.index t = ![0, 0]
    ∧ win0_3.index t = ![t.val / 2, t.val % 2] :=
  (by decide +kernel : ∀ t : Fin grid0.N, _)

theorem acc (h : FVec Ideal S1040x2048 .bf16) (w : FVec Ideal S1x2048x512 .bf16) (r : Fin 1040) (k : Fin 512) :
    (k0_pay1 h w (ix2 r k) : Ideal .f32) = ∑ j : Fin 2048, (h (ix2 r j) : Ideal .bf16) * w (ix3 0 j k) := by
  pointwise [k0_pay1]

theorem left (h : FVec Ideal S1040x2048 .bf16) (w : FVec Ideal S1x2048x512 .bf16) (g : FVec Ideal S1x256 .f32) (r : Fin 1040) (e : Fin 256) :
    (k0_pay2 h w g (ix2 r e) : Ideal .bf16)
      = norm 0x43800000#32 (fun k : Fin 256 => (k0_pay1 h w (ix2 r ⟨k.val, by have := k.isLt; omega⟩) : Ideal .f32)) (fun j => g (ix2 0 j)) e := by
  pointwise [k0_pay2]
  rfl

theorem right (h : FVec Ideal S1040x2048 .bf16) (w : FVec Ideal S1x2048x512 .bf16) (g : FVec Ideal S1x256 .f32) (r : Fin 1040) (e : Fin 256) :
    (k0_pay3 h w g (ix2 r e) : Ideal .bf16)
      = norm 0x43800000#32 (fun k : Fin 256 => (k0_pay1 h w (ix2 r ⟨256 + k.val, by have := k.isLt; omega⟩) : Ideal .f32)) (fun j => g (ix2 0 j)) e := by
  pointwise [k0_pay3]
  rfl

theorem block_h (c : Dev nD) (t : Fin cfg0.N) (R : Fin 8320) (r : Fin 1040) (hR : R.val = t.val / 2 * 1040 + r.val) (d : Fin 2048) :
    iblk m c 0 t (ix2 r d) = m ((c : Thread nD τ).loc main_arg0) (ix2 R d) := by
  blk_ext [iblk, V, index t]

theorem block_w1 (c : Dev nD) (t : Fin cfg0.N) (j : Fin 2048) (k : Fin 512) (K : Fin 17408) (hK : K.val = 8192 + (t.val % 2 * 512 + k.val)) :
    iblk m c 1 t (ix3 0 j k) = m ((c : Thread nD τ).loc main_arg1) (ix3 0 j K) := by
  blk_ext [iblk, V, index t]

theorem block_g (c : Dev nD) (t : Fin cfg0.N) (j : Fin 256) :
    iblk m c 2 t (ix2 0 j) = m ((c : Thread nD τ).loc main_arg2) (ix2 0 j) := by
  blk_ext [iblk, V, index t]

/-- The queries. -/
def query (c : Dev nD) (R : Fin 8320) (d : Fin 1024) : EReal :=
  heads 256 (by decide) (by decide) 0x43800000#32 (fun k => product (m ((c : Thread nD τ).loc main_arg0)) (m ((c : Thread nD τ).loc main_arg1)) 8192 (by decide) R k) (fun j => m ((c : Thread nD τ).loc main_arg2) (ix2 0 j)) d

theorem col (c : Dev nD) (t : Fin cfg0.N) (R : Fin 8320) (r : Fin 1040) (hR : R.val = t.val / 2 * 1040 + r.val) (k : Fin 512) (K : Fin 1024)
    (hK : K.val = t.val % 2 * 512 + k.val) :
    (k0_pay1 (iblk m c 0 t) (iblk m c 1 t) (ix2 r k) : Ideal .f32) = product (m ((c : Thread nD τ).loc main_arg0)) (m ((c : Thread nD τ).loc main_arg1)) 8192 (by decide) R K := by
  refine (acc _ _ r k).trans ?_
  unfold product
  exact Finset.sum_congr rfl fun j _ => congrArg₂ (· * ·) (block_h m c t R r hR j) (block_w1 m c t j k _ (congrArg (8192 + ·) hK))

theorem out (c : Dev nD) (t : Fin cfg0.N) (y : S1040x512.Idx) (R : Fin 8320) (hR : R.val = t.val / 2 * 1040 + (y 0).val) (d : Fin 1024)
    (hd : d.val = t.val % 2 * 512 + (y 1).val) :
    (dats m 0 c).after 3 t y = query m c R d := by
  have hN : t.val < 16 := lt_of_lt_of_eq t.isLt N_0
  rw [after0_3]; frame_out
  obtain ⟨r, e, rfl⟩ : ∃ (r : Fin 1040) (e : Fin 512), y = ix2 r e := ⟨y 0, y 1, eq_ix2 y⟩
  refine (View.canon_append_of_piecesOf (Val := Elt Ideal) (e := .bf16)
    (fun y : S1040x512.Idx => query m c ⟨t.val / 2 * 1040 + (y 0).val, by have : (y 0).val < 1040 := (y 0).isLt; omega⟩
      ⟨t.val % 2 * 512 + (y 1).val, by have : (y 1).val < 512 := (y 1).isLt; omega⟩)
    [] [_, _] ⟨?_, ?_, trivial⟩ (ix2 r e) ?_).trans (congrArg₂ (query m c) (Fin.ext hR.symm) (Fin.ext hd.symm))
  · intro x; rw [emb_cols 256 _ x (by have : (x 1).val < 256 := (x 1).isLt; omega)]
    obtain ⟨r, e, rfl⟩ : ∃ (r : Fin 1040) (e : Fin 256), x = ix2 r e := ⟨x 0, x 1, eq_ix2 x⟩
    refine (right _ _ _ r e).trans ((norm_congr _ e (fun _ => rfl) fun j => block_g m c t j).trans ?_)
    exact heads_at 256 _ _ _ _ _ _ (t.val % 2 * 2 + 1) e (by show t.val % 2 * 512 + (256 + e.val) = _; omega) _
      fun j k hk => col m c t _ r rfl _ k (by rw [hk]; show _ = t.val % 2 * 512 + (256 + j.val); omega)
  · intro x; rw [emb_cols 0 _ x (by have : (x 1).val < 256 := (x 1).isLt; omega)]
    obtain ⟨r, e, rfl⟩ : ∃ (r : Fin 1040) (e : Fin 256), x = ix2 r e := ⟨x 0, x 1, eq_ix2 x⟩
    refine (left _ _ _ r e).trans ((norm_congr _ e (fun _ => rfl) fun j => block_g m c t j).trans ?_)
    exact heads_at 256 _ _ _ _ _ _ (t.val % 2 * 2) e (by show t.val % 2 * 512 + (0 + e.val) = _; omega) _
      fun j k hk => col m c t _ r rfl _ k (by rw [hk]; show _ = t.val % 2 * 512 + j.val; omega)
  · exact View.cover_of_tiled_head _ _ _ rfl _

/-- The result array after the run. -/
theorem final (c : Dev nD) (R : Fin 8320) (d : Fin 1024) : ((dats m 0 c).arrAt 3 (cfgs 0).N (ix2 R d) : Ideal .bf16) = query m c R d := by
  refine congrFun ((dats m 0 c).arrAt_eq_of_covers 3 (fun y : S8320x1024.Idx => query m c (y 0) (y 1))
    (by decide +kernel) fun t hf (y : S1040x512.Idx) => ?_) (ix2 R d)
  blk_simp
  refine out m c t y _ ?_ _ ?_
  · blk_simp [index t]
  · blk_simp [index t]

end

section
open Cert.QMemRefIdeal Cert.QMemRefIdeal.Read

variable (x0 : (⟨S8320x2048, .bf16⟩ : BufTy).Contents (Elt Ideal)) (x1 : (⟨S2x2048x17408, .bf16⟩ : BufTy).Contents (Elt Ideal))
  (x2 : (⟨S1x256, .f32⟩ : BufTy).Contents (Elt Ideal))

theorem ref_acc (r : Fin 8320) (d : Fin 1024) : (val_main_v5 (F := Ideal) x0 x1 (ix2 r d) : Ideal .f32)
    = product x0 x1 8192 (by decide) r d := by
  pointwise [val_main_v5, val_main_v4, val_main_v3, val_main_v2, val_main_v1, val_main_v0]
  unfold product
  rfl

theorem ref_head (r : Fin 8320) (b : Fin 4) (e : Fin 256) : (val_main_v20 (F := Ideal) x0 x1 x2 (ix3 r b e) : Ideal .f32)
    = norm 0x43800000#32 (fun j : Fin 256 => (val_main_v6 (F := Ideal) x0 x1 (ix3 r b j) : Ideal .f32)) (fun j => x2 (ix2 0 j)) e := by
  pointwise [val_main_v20, val_main_v19, val_main_v18, val_main_v17, val_main_v16, val_main_v15, val_main_v14, val_main_v13, val_main_v12,
    val_main_v11, val_main_v10, val_main_v9, val_main_v8, val_main_v7, val_main_cst, val_main_cst_0, val_main_cst_1]
  rfl

theorem ref_col (r : Fin 8320) (b : Fin 4) (e : Fin 256) (k : Fin 1024) (hk : k.val = b.val * 256 + e.val) :
    (val_main_v6 (F := Ideal) x0 x1 (ix3 r b e) : Ideal .f32) = product x0 x1 8192 (by decide) r k := by
  rw [← ref_acc, val_main_v6_apply]
  refine congrArg _ (funext fun a => Fin.ext ?_)
  have := r.isLt; have := b.isLt; have := e.isLt
  match a with
  | ⟨0, _⟩ => show ((r.val * 4 + b.val) * 256 + e.val) / 1024 = r.val; omega
  | ⟨1, _⟩ => show ((r.val * 4 + b.val) * 256 + e.val) % 1024 = k.val; omega

theorem ref_out (r : Fin 8320) (d : Fin 1024) : (val_main_v22 (F := Ideal) x0 x1 x2 (ix2 r d) : Ideal .bf16)
    = heads 256 (by decide) (by decide) 0x43800000#32 (fun k => product x0 x1 8192 (by decide) r k) (fun j => x2 (ix2 0 j)) d := by
  have hd := d.isLt
  refine (val_main_v21_apply (F := Ideal) x0 x1 x2 (ix2 r d)).trans ?_
  refine (congrArg (val_main_v20 (F := Ideal) x0 x1 x2) (show _ = ix3 r ⟨d.val / 256, by omega⟩ ⟨d.val % 256, by omega⟩ from
    funext fun a => Fin.ext ?_)).trans ?_
  · match a with
    | ⟨0, _⟩ => show (r.val * 1024 + d.val) / 1024 = r.val; omega
    | ⟨1, _⟩ => show (r.val * 1024 + d.val) / 256 % 4 = d.val / 256; omega
    | ⟨2, _⟩ => show (r.val * 1024 + d.val) % 256 = d.val % 256; omega
  · rw [ref_head]
    exact heads_at 256 _ _ _ _ _ d (d.val / 256) ⟨d.val % 256, by omega⟩ (by show d.val = _ + d.val % 256; omega) _
      fun j k hk => ref_col x0 x1 r _ j k hk

end

end Cert.QMemValue

end
-- ==== Proof.QkvValue.lean ====
/- The prompt's queries, keys and values: three parts of the combined projection, each head of the first two normalised. -/
module

public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal.Read
public import proofs.«01_k».proof.Proof.Columns
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.QkvValue

open Cert.Layer

section
open Cert.QkvIdeal Cert.QkvIdeal.Gen

/-- A row of the prompt among all rows. -/
def row (R : Fin 8192) : Fin 8320 := ⟨R.val, by have := R.isLt; omega⟩

variable (m : (ℓ : Loc nD τ sig) → Buf (Elt Ideal) ℓ)

theorem index : ∀ t : Fin cfg0.N, win0_0.index t = ![t.val, 0]
    ∧ win0_1.index t = ![0, 0, 5]
    ∧ win0_2.index t = ![0, 0, 6]
    ∧ win0_3.index t = ![0, 0, 7]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0, 0]
    ∧ win0_10.index t = ![t.val, 0, 0] :=
  (by decide +kernel : ∀ t : Fin grid0.N, _)

theorem acc_v (h : FVec Ideal S512x2048 .bf16) (w : FVec Ideal S1x2048x1024 .bf16) (r : Fin 512) (k : Fin 1024) :
    (k0_pay3 h w (ix2 r k) : Ideal .f32) = ∑ j : Fin 2048, (h (ix2 r j) : Ideal .bf16) * w (ix3 0 j k) := by
  pointwise [k0_pay3]

theorem acc_q (h : FVec Ideal S512x2048 .bf16) (w : FVec Ideal S1x2048x1024 .bf16) (r : Fin 512) (k : Fin 1024) :
    (k0_pay4 h w (ix2 r k) : Ideal .f32) = ∑ j : Fin 2048, (h (ix2 r j) : Ideal .bf16) * w (ix3 0 j k) := by
  pointwise [k0_pay4]

theorem acc_k (h : FVec Ideal S512x2048 .bf16) (w : FVec Ideal S1x2048x1024 .bf16) (r : Fin 512) (k : Fin 1024) :
    (k0_pay25 h w (ix2 r k) : Ideal .f32) = ∑ j : Fin 2048, (h (ix2 r j) : Ideal .bf16) * w (ix3 0 j k) := by
  pointwise [k0_pay25]

theorem block_h (c : Dev nD) (t : Fin cfg0.N) (R : Fin 8320) (r : Fin 512) (hR : R.val = t.val * 512 + r.val) (d : Fin 2048) :
    X0_0 m c t (ix2 r d) = m ((c : Thread nD τ).loc main_arg0) (ix2 R d) := by
  unfold X0_0 Pipeline.Window.fill
  rw [dif_pos (moved0_0 t (ix2 r d))]
  blk_ext [iblk, V, index t]

theorem block_q (c : Dev nD) (t : Fin cfg0.N) (j : Fin 2048) (k : Fin 1024) (K : Fin 17408) (hK : K.val = 5120 + k.val) :
    iblk m c 1 t (ix3 0 j k) = m ((c : Thread nD τ).loc main_arg1) (ix3 0 j K) := by
  blk_ext [iblk, V, index t]

theorem block_k (c : Dev nD) (t : Fin cfg0.N) (j : Fin 2048) (k : Fin 1024) (K : Fin 17408) (hK : K.val = 6144 + k.val) :
    iblk m c 2 t (ix3 0 j k) = m ((c : Thread nD τ).loc main_arg1) (ix3 0 j K) := by
  blk_ext [iblk, V, index t]

theorem block_v (c : Dev nD) (t : Fin cfg0.N) (j : Fin 2048) (k : Fin 1024) (K : Fin 17408) (hK : K.val = 7168 + k.val) :
    iblk m c 3 t (ix3 0 j k) = m ((c : Thread nD τ).loc main_arg1) (ix3 0 j K) := by
  blk_ext [iblk, V, index t]

theorem block_qn (c : Dev nD) (t : Fin cfg0.N) (j : Fin 128) :
    iblk m c 4 t (ix2 0 j) = m ((c : Thread nD τ).loc main_arg2) (ix2 0 j) := by
  blk_ext [iblk, V, index t]

theorem block_kn (c : Dev nD) (t : Fin cfg0.N) (j : Fin 128) :
    iblk m c 5 t (ix2 0 j) = m ((c : Thread nD τ).loc main_arg3) (ix2 0 j) := by
  blk_ext [iblk, V, index t]

theorem q0 (h : FVec Ideal S512x2048 .bf16) (w : FVec Ideal S1x2048x1024 .bf16) (g : FVec Ideal S1x128 .f32) (r : Fin 512) (e : Fin 128) :
    (k0_pay17 (k0_pay5 h w g) (ix2 r e) : Ideal .bf16) = norm 0x43000000#32 (fun k : Fin 128 => (k0_pay4 h w (ix2 r ⟨k.val, by have := k.isLt; omega⟩) : Ideal .f32)) (fun j => g (ix2 0 j)) e := by
  pointwise [k0_pay17, k0_pay5]
  rfl

theorem q1 (h : FVec Ideal S512x2048 .bf16) (w : FVec Ideal S1x2048x1024 .bf16) (g : FVec Ideal S1x128 .f32) (r : Fin 512) (e : Fin 128) :
    (k0_pay18 (k0_pay6 h w g) (ix2 r e) : Ideal .bf16) = norm 0x43000000#32 (fun k : Fin 128 => (k0_pay4 h w (ix2 r ⟨128 + k.val, by have := k.isLt; omega⟩) : Ideal .f32)) (fun j => g (ix2 0 j)) e := by
  pointwise [k0_pay18, k0_pay6]
  rfl

theorem q2 (h : FVec Ideal S512x2048 .bf16) (w : FVec Ideal S1x2048x1024 .bf16) (g : FVec Ideal S1x128 .f32) (r : Fin 512) (e : Fin 128) :
    (k0_pay19 (k0_pay10 g (k0_pay7 h w) (k0_pay8 h w) k0_pay9) (ix2 r e) : Ideal .bf16) = norm 0x43000000#32 (fun k : Fin 128 => (k0_pay4 h w (ix2 r ⟨256 + k.val, by have := k.isLt; omega⟩) : Ideal .f32)) (fun j => g (ix2 0 j)) e := by
  pointwise [k0_pay19, k0_pay10, k0_pay8, k0_pay7, k0_pay9]
  rfl

theorem q3 (h : FVec Ideal S512x2048 .bf16) (w : FVec Ideal S1x2048x1024 .bf16) (g : FVec Ideal S1x128 .f32) (r : Fin 512) (e : Fin 128) :
    (k0_pay20 (k0_pay11 (k0_pay4 h w) g) (ix2 r e) : Ideal .bf16) = norm 0x43000000#32 (fun k : Fin 128 => (k0_pay4 h w (ix2 r ⟨384 + k.val, by have := k.isLt; omega⟩) : Ideal .f32)) (fun j => g (ix2 0 j)) e := by
  pointwise [k0_pay20, k0_pay11]
  rfl

theorem q4 (h : FVec Ideal S512x2048 .bf16) (w : FVec Ideal S1x2048x1024 .bf16) (g : FVec Ideal S1x128 .f32) (r : Fin 512) (e : Fin 128) :
    (k0_pay21 (k0_pay12 (k0_pay4 h w) g) (ix2 r e) : Ideal .bf16) = norm 0x43000000#32 (fun k : Fin 128 => (k0_pay4 h w (ix2 r ⟨512 + k.val, by have := k.isLt; omega⟩) : Ideal .f32)) (fun j => g (ix2 0 j)) e := by
  pointwise [k0_pay21, k0_pay12]
  rfl

theorem q5 (h : FVec Ideal S512x2048 .bf16) (w : FVec Ideal S1x2048x1024 .bf16) (g : FVec Ideal S1x128 .f32) (r : Fin 512) (e : Fin 128) :
    (k0_pay22 (k0_pay13 (k0_pay4 h w) g) (ix2 r e) : Ideal .bf16) = norm 0x43000000#32 (fun k : Fin 128 => (k0_pay4 h w (ix2 r ⟨640 + k.val, by have := k.isLt; omega⟩) : Ideal .f32)) (fun j => g (ix2 0 j)) e := by
  pointwise [k0_pay22, k0_pay13]
  rfl

theorem q6 (h : FVec Ideal S512x2048 .bf16) (w : FVec Ideal S1x2048x1024 .bf16) (g : FVec Ideal S1x128 .f32) (r : Fin 512) (e : Fin 128) :
    (k0_pay23 g (k0_pay14 (k0_pay4 h w)) (k0_pay15 (k0_pay4 h w)) (ix2 r e) : Ideal .bf16) = norm 0x43000000#32 (fun k : Fin 128 => (k0_pay4 h w (ix2 r ⟨768 + k.val, by have := k.isLt; omega⟩) : Ideal .f32)) (fun j => g (ix2 0 j)) e := by
  pointwise [k0_pay23, k0_pay15, k0_pay14]
  rfl

theorem q7 (h : FVec Ideal S512x2048 .bf16) (w : FVec Ideal S1x2048x1024 .bf16) (g : FVec Ideal S1x128 .f32) (r : Fin 512) (e : Fin 128) :
    (k0_pay24 (k0_pay16 (k0_pay4 h w) g) (ix2 r e) : Ideal .bf16) = norm 0x43000000#32 (fun k : Fin 128 => (k0_pay4 h w (ix2 r ⟨896 + k.val, by have := k.isLt; omega⟩) : Ideal .f32)) (fun j => g (ix2 0 j)) e := by
  pointwise [k0_pay24, k0_pay16]
  rfl

theorem k0 (h : FVec Ideal S512x2048 .bf16) (w : FVec Ideal S1x2048x1024 .bf16) (g : FVec Ideal S1x128 .f32) (r : Fin 512) (e : Fin 128) :
    (k0_pay39 (k0_pay26 h w g) (ix2 r e) : Ideal .bf16) = norm 0x43000000#32 (fun k : Fin 128 => (k0_pay25 h w (ix2 r ⟨k.val, by have := k.isLt; omega⟩) : Ideal .f32)) (fun j => g (ix2 0 j)) e := by
  pointwise [k0_pay39, k0_pay26]
  rfl

theorem kh0 (h : FVec Ideal S512x2048 .bf16) (w : FVec Ideal S1x2048x1024 .bf16) (g : FVec Ideal S1x128 .f32) (r : Fin 512) (u : Fin 1) (e : Fin 128) :
    (k0_pay38 (k0_pay26 h w g) (ix3 r u e) : Ideal .f32) = norm 0x43000000#32 (fun k : Fin 128 => (k0_pay25 h w (ix2 r ⟨k.val, by have := k.isLt; omega⟩) : Ideal .f32)) (fun j => g (ix2 0 j)) e := by
  obtain rfl : u = 0 := Subsingleton.elim _ _
  pointwise [k0_pay38, k0_pay26]
  rfl

theorem k1 (h : FVec Ideal S512x2048 .bf16) (w : FVec Ideal S1x2048x1024 .bf16) (g : FVec Ideal S1x128 .f32) (r : Fin 512) (e : Fin 128) :
    (k0_pay41 (k0_pay27 h w g) (ix2 r e) : Ideal .bf16) = norm 0x43000000#32 (fun k : Fin 128 => (k0_pay25 h w (ix2 r ⟨128 + k.val, by have := k.isLt; omega⟩) : Ideal .f32)) (fun j => g (ix2 0 j)) e := by
  pointwise [k0_pay41, k0_pay27]
  rfl

theorem kh1 (h : FVec Ideal S512x2048 .bf16) (w : FVec Ideal S1x2048x1024 .bf16) (g : FVec Ideal S1x128 .f32) (r : Fin 512) (u : Fin 1) (e : Fin 128) :
    (k0_pay40 (k0_pay27 h w g) (ix3 r u e) : Ideal .f32) = norm 0x43000000#32 (fun k : Fin 128 => (k0_pay25 h w (ix2 r ⟨128 + k.val, by have := k.isLt; omega⟩) : Ideal .f32)) (fun j => g (ix2 0 j)) e := by
  obtain rfl : u = 0 := Subsingleton.elim _ _
  pointwise [k0_pay40, k0_pay27]
  rfl

theorem k2 (h : FVec Ideal S512x2048 .bf16) (w : FVec Ideal S1x2048x1024 .bf16) (g : FVec Ideal S1x128 .f32) (r : Fin 512) (e : Fin 128) :
    (k0_pay43 (k0_pay30 g (k0_pay28 h w) (k0_pay29 h w) (FloatOps.ofBits FTy.f32 897988541#32)) (ix2 r e) : Ideal .bf16) = norm 0x43000000#32 (fun k : Fin 128 => (k0_pay25 h w (ix2 r ⟨256 + k.val, by have := k.isLt; omega⟩) : Ideal .f32)) (fun j => g (ix2 0 j)) e := by
  pointwise [k0_pay43, k0_pay30, k0_pay29, k0_pay28]
  rfl

theorem kh2 (h : FVec Ideal S512x2048 .bf16) (w : FVec Ideal S1x2048x1024 .bf16) (g : FVec Ideal S1x128 .f32) (r : Fin 512) (u : Fin 1) (e : Fin 128) :
    (k0_pay42 (k0_pay30 g (k0_pay28 h w) (k0_pay29 h w) (FloatOps.ofBits FTy.f32 897988541#32)) (ix3 r u e) : Ideal .f32) = norm 0x43000000#32 (fun k : Fin 128 => (k0_pay25 h w (ix2 r ⟨256 + k.val, by have := k.isLt; omega⟩) : Ideal .f32)) (fun j => g (ix2 0 j)) e := by
  obtain rfl : u = 0 := Subsingleton.elim _ _
  pointwise [k0_pay42, k0_pay30, k0_pay29, k0_pay28]
  rfl

theorem k3 (h : FVec Ideal S512x2048 .bf16) (w : FVec Ideal S1x2048x1024 .bf16) (g : FVec Ideal S1x128 .f32) (r : Fin 512) (e : Fin 128) :
    (k0_pay45 (k0_pay31 (k0_pay25 h w) g) (ix2 r e) : Ideal .bf16) = norm 0x43000000#32 (fun k : Fin 128 => (k0_pay25 h w (ix2 r ⟨384 + k.val, by have := k.isLt; omega⟩) : Ideal .f32)) (fun j => g (ix2 0 j)) e := by
  pointwise [k0_pay45, k0_pay31]
  rfl

theorem kh3 (h : FVec Ideal S512x2048 .bf16) (w : FVec Ideal S1x2048x1024 .bf16) (g : FVec Ideal S1x128 .f32) (r : Fin 512) (u : Fin 1) (e : Fin 128) :
    (k0_pay44 (k0_pay31 (k0_pay25 h w) g) (ix3 r u e) : Ideal .f32) = norm 0x43000000#32 (fun k : Fin 128 => (k0_pay25 h w (ix2 r ⟨384 + k.val, by have := k.isLt; omega⟩) : Ideal .f32)) (fun j => g (ix2 0 j)) e := by
  obtain rfl : u = 0 := Subsingleton.elim _ _
  pointwise [k0_pay44, k0_pay31]
  rfl

theorem k4 (h : FVec Ideal S512x2048 .bf16) (w : FVec Ideal S1x2048x1024 .bf16) (g : FVec Ideal S1x128 .f32) (r : Fin 512) (e : Fin 128) :
    (k0_pay47 (k0_pay32 (k0_pay25 h w) g) (ix2 r e) : Ideal .bf16) = norm 0x43000000#32 (fun k : Fin 128 => (k0_pay25 h w (ix2 r ⟨512 + k.val, by have := k.isLt; omega⟩) : Ideal .f32)) (fun j => g (ix2 0 j)) e := by
  pointwise [k0_pay47, k0_pay32]
  rfl

theorem kh4 (h : FVec Ideal S512x2048 .bf16) (w : FVec Ideal S1x2048x1024 .bf16) (g : FVec Ideal S1x128 .f32) (r : Fin 512) (u : Fin 1) (e : Fin 128) :
    (k0_pay46 (k0_pay32 (k0_pay25 h w) g) (ix3 r u e) : Ideal .f32) = norm 0x43000000#32 (fun k : Fin 128 => (k0_pay25 h w (ix2 r ⟨512 + k.val, by have := k.isLt; omega⟩) : Ideal .f32)) (fun j => g (ix2 0 j)) e := by
  obtain rfl : u = 0 := Subsingleton.elim _ _
  pointwise [k0_pay46, k0_pay32]
  rfl

theorem k5 (h : FVec Ideal S512x2048 .bf16) (w : FVec Ideal S1x2048x1024 .bf16) (g : FVec Ideal S1x128 .f32) (r : Fin 512) (e : Fin 128) :
    (k0_pay49 (k0_pay33 (k0_pay25 h w) g) (ix2 r e) : Ideal .bf16) = norm 0x43000000#32 (fun k : Fin 128 => (k0_pay25 h w (ix2 r ⟨640 + k.val, by have := k.isLt; omega⟩) : Ideal .f32)) (fun j => g (ix2 0 j)) e := by
  pointwise [k0_pay49, k0_pay33]
  rfl

theorem kh5 (h : FVec Ideal S512x2048 .bf16) (w : FVec Ideal S1x2048x1024 .bf16) (g : FVec Ideal S1x128 .f32) (r : Fin 512) (u : Fin 1) (e : Fin 128) :
    (k0_pay48 (k0_pay33 (k0_pay25 h w) g) (ix3 r u e) : Ideal .f32) = norm 0x43000000#32 (fun k : Fin 128 => (k0_pay25 h w (ix2 r ⟨640 + k.val, by have := k.isLt; omega⟩) : Ideal .f32)) (fun j => g (ix2 0 j)) e := by
  obtain rfl : u = 0 := Subsingleton.elim _ _
  pointwise [k0_pay48, k0_pay33]
  rfl

theorem k6 (h : FVec Ideal S512x2048 .bf16) (w : FVec Ideal S1x2048x1024 .bf16) (g : FVec Ideal S1x128 .f32) (r : Fin 512) (e : Fin 128) :
    (k0_pay51 (k0_pay36 g (k0_pay34 (k0_pay25 h w)) (k0_pay35 (k0_pay25 h w))) (ix2 r e) : Ideal .bf16) = norm 0x43000000#32 (fun k : Fin 128 => (k0_pay25 h w (ix2 r ⟨768 + k.val, by have := k.isLt; omega⟩) : Ideal .f32)) (fun j => g (ix2 0 j)) e := by
  pointwise [k0_pay51, k0_pay36, k0_pay35, k0_pay34]
  rfl

theorem kh6 (h : FVec Ideal S512x2048 .bf16) (w : FVec Ideal S1x2048x1024 .bf16) (g : FVec Ideal S1x128 .f32) (r : Fin 512) (u : Fin 1) (e : Fin 128) :
    (k0_pay50 (k0_pay36 g (k0_pay34 (k0_pay25 h w)) (k0_pay35 (k0_pay25 h w))) (ix3 r u e) : Ideal .f32) = norm 0x43000000#32 (fun k : Fin 128 => (k0_pay25 h w (ix2 r ⟨768 + k.val, by have := k.isLt; omega⟩) : Ideal .f32)) (fun j => g (ix2 0 j)) e := by
  obtain rfl : u = 0 := Subsingleton.elim _ _
  pointwise [k0_pay50, k0_pay36, k0_pay35, k0_pay34]
  rfl

theorem k7 (h : FVec Ideal S512x2048 .bf16) (w : FVec Ideal S1x2048x1024 .bf16) (g : FVec Ideal S1x128 .f32) (r : Fin 512) (e : Fin 128) :
    (k0_pay53 (k0_pay37 (k0_pay25 h w) g) (ix2 r e) : Ideal .bf16) = norm 0x43000000#32 (fun k : Fin 128 => (k0_pay25 h w (ix2 r ⟨896 + k.val, by have := k.isLt; omega⟩) : Ideal .f32)) (fun j => g (ix2 0 j)) e := by
  pointwise [k0_pay53, k0_pay37]
  rfl

theorem kh7 (h : FVec Ideal S512x2048 .bf16) (w : FVec Ideal S1x2048x1024 .bf16) (g : FVec Ideal S1x128 .f32) (r : Fin 512) (u : Fin 1) (e : Fin 128) :
    (k0_pay52 (k0_pay37 (k0_pay25 h w) g) (ix3 r u e) : Ideal .f32) = norm 0x43000000#32 (fun k : Fin 128 => (k0_pay25 h w (ix2 r ⟨896 + k.val, by have := k.isLt; omega⟩) : Ideal .f32)) (fun j => g (ix2 0 j)) e := by
  obtain rfl : u = 0 := Subsingleton.elim _ _
  pointwise [k0_pay52, k0_pay37]
  rfl

theorem vh0 (a : FVec Ideal S512x1024 .f32) (r : Fin 512) (u : Fin 1) (k : Fin 128) :
    (k0_pay55 a (ix3 r u k) : Ideal .f32) = (a (ix2 r ⟨k.val, by have := k.isLt; omega⟩) : Ideal .f32) := by
  obtain rfl : u = 0 := Subsingleton.elim _ _
  pointwise [k0_pay55]

theorem vh1 (a : FVec Ideal S512x1024 .f32) (r : Fin 512) (u : Fin 1) (k : Fin 128) :
    (k0_pay56 a (ix3 r u k) : Ideal .f32) = (a (ix2 r ⟨128 + k.val, by have := k.isLt; omega⟩) : Ideal .f32) := by
  obtain rfl : u = 0 := Subsingleton.elim _ _
  pointwise [k0_pay56]

theorem vh2 (a : FVec Ideal S512x1024 .f32) (r : Fin 512) (u : Fin 1) (k : Fin 128) :
    (k0_pay57 a (ix3 r u k) : Ideal .f32) = (a (ix2 r ⟨256 + k.val, by have := k.isLt; omega⟩) : Ideal .f32) := by
  obtain rfl : u = 0 := Subsingleton.elim _ _
  pointwise [k0_pay57]

theorem vh3 (a : FVec Ideal S512x1024 .f32) (r : Fin 512) (u : Fin 1) (k : Fin 128) :
    (k0_pay58 a (ix3 r u k) : Ideal .f32) = (a (ix2 r ⟨384 + k.val, by have := k.isLt; omega⟩) : Ideal .f32) := by
  obtain rfl : u = 0 := Subsingleton.elim _ _
  pointwise [k0_pay58]

theorem vh4 (a : FVec Ideal S512x1024 .f32) (r : Fin 512) (u : Fin 1) (k : Fin 128) :
    (k0_pay59 a (ix3 r u k) : Ideal .f32) = (a (ix2 r ⟨512 + k.val, by have := k.isLt; omega⟩) : Ideal .f32) := by
  obtain rfl : u = 0 := Subsingleton.elim _ _
  pointwise [k0_pay59]

theorem vh5 (a : FVec Ideal S512x1024 .f32) (r : Fin 512) (u : Fin 1) (k : Fin 128) :
    (k0_pay60 a (ix3 r u k) : Ideal .f32) = (a (ix2 r ⟨640 + k.val, by have := k.isLt; omega⟩) : Ideal .f32) := by
  obtain rfl : u = 0 := Subsingleton.elim _ _
  pointwise [k0_pay60]

theorem vh6 (a : FVec Ideal S512x1024 .f32) (r : Fin 512) (u : Fin 1) (k : Fin 128) :
    (k0_pay1 (k0_pay61 a) (ix3 r u k) : Ideal .f32) = (a (ix2 r ⟨768 + k.val, by have := k.isLt; omega⟩) : Ideal .f32) := by
  obtain rfl : u = 0 := Subsingleton.elim _ _
  pointwise [k0_pay1, k0_pay61]

theorem vh7 (a : FVec Ideal S512x1024 .f32) (r : Fin 512) (u : Fin 1) (k : Fin 128) :
    (k0_pay2 a (ix3 r u k) : Ideal .f32) = (a (ix2 r ⟨896 + k.val, by have := k.isLt; omega⟩) : Ideal .f32) := by
  obtain rfl : u = 0 := Subsingleton.elim _ _
  pointwise [k0_pay2]

/-- The queries. -/
def query (c : Dev nD) (R : Fin 8192) (d : Fin 1024) : EReal :=
  heads 128 (by decide) (by decide) 0x43000000#32 (fun k => product (m ((c : Thread nD τ).loc main_arg0)) (m ((c : Thread nD τ).loc main_arg1)) 5120 (by decide) (row R) k) (fun j => m ((c : Thread nD τ).loc main_arg2) (ix2 0 j)) d

/-- The keys. -/
def key (c : Dev nD) (R : Fin 8192) (d : Fin 1024) : EReal :=
  heads 128 (by decide) (by decide) 0x43000000#32 (fun k => product (m ((c : Thread nD τ).loc main_arg0)) (m ((c : Thread nD τ).loc main_arg1)) 6144 (by decide) (row R) k) (fun j => m ((c : Thread nD τ).loc main_arg3) (ix2 0 j)) d

/-- The values. -/
def worth (c : Dev nD) (R : Fin 8192) (d : Fin 1024) : EReal :=
  product (m ((c : Thread nD τ).loc main_arg0)) (m ((c : Thread nD τ).loc main_arg1)) 7168 (by decide) (row R) d

theorem col_q (c : Dev nD) (t : Fin cfg0.N) (R : Fin 8192) (r : Fin 512) (hR : R.val = t.val * 512 + r.val) (k K : Fin 1024) (hK : K.val = k.val) :
    (k0_pay4 (X0_0 m c t) (iblk m c 1 t) (ix2 r k) : Ideal .f32) = product (m ((c : Thread nD τ).loc main_arg0)) (m ((c : Thread nD τ).loc main_arg1)) 5120 (by decide) (row R) K := by
  refine (acc_q _ _ r k).trans ?_
  unfold product
  exact Finset.sum_congr rfl fun j _ => congrArg₂ (· * ·) (block_h m c t (row R) r hR j) (block_q m c t j k _ (congrArg (5120 + ·) hK))

theorem col_k (c : Dev nD) (t : Fin cfg0.N) (R : Fin 8192) (r : Fin 512) (hR : R.val = t.val * 512 + r.val) (k K : Fin 1024) (hK : K.val = k.val) :
    (k0_pay25 (X0_0 m c t) (iblk m c 2 t) (ix2 r k) : Ideal .f32) = product (m ((c : Thread nD τ).loc main_arg0)) (m ((c : Thread nD τ).loc main_arg1)) 6144 (by decide) (row R) K := by
  refine (acc_k _ _ r k).trans ?_
  unfold product
  exact Finset.sum_congr rfl fun j _ => congrArg₂ (· * ·) (block_h m c t (row R) r hR j) (block_k m c t j k _ (congrArg (6144 + ·) hK))

theorem col_v (c : Dev nD) (t : Fin cfg0.N) (R : Fin 8192) (r : Fin 512) (hR : R.val = t.val * 512 + r.val) (k K : Fin 1024) (hK : K.val = k.val) :
    (k0_pay3 (X0_0 m c t) (iblk m c 3 t) (ix2 r k) : Ideal .f32) = product (m ((c : Thread nD τ).loc main_arg0)) (m ((c : Thread nD τ).loc main_arg1)) 7168 (by decide) (row R) K := by
  refine (acc_v _ _ r k).trans ?_
  unfold product
  exact Finset.sum_congr rfl fun j _ => congrArg₂ (· * ·) (block_h m c t (row R) r hR j) (block_v m c t j k _ (congrArg (7168 + ·) hK))

theorem out_q (c : Dev nD) (t : Fin cfg0.N) (y : S512x1024.Idx) (R : Fin 8192) (hR : R.val = t.val * 512 + (y 0).val) (d : Fin 1024)
    (hd : d.val = (y 1).val) :
    (dats m 0 c).after 6 t y = query m c R d := by
  have hN : t.val < 16 := lt_of_lt_of_eq t.isLt N_0
  rw [after0_6]; unfold outsAt0; frame_out
  obtain ⟨r, e, rfl⟩ : ∃ (r : Fin 512) (e : Fin 1024), y = ix2 r e := ⟨y 0, y 1, eq_ix2 y⟩
  refine (View.canon_append_of_piecesOf (Val := Elt Ideal) (e := .bf16)
    (fun y : S512x1024.Idx => query m c ⟨t.val * 512 + (y 0).val, by have : (y 0).val < 512 := (y 0).isLt; omega⟩ (y 1))
    [] [_, _, _, _, _, _, _, _] ⟨?_, ?_, ?_, ?_, ?_, ?_, ?_, ?_, trivial⟩ (ix2 r e) ?_).trans (congrArg₂ (query m c) (Fin.ext hR.symm) (Fin.ext hd.symm))
  · intro x; rw [emb_cols 896 _ x (by have : (x 1).val < 128 := (x 1).isLt; omega)]
    obtain ⟨r, e, rfl⟩ : ∃ (r : Fin 512) (e : Fin 128), x = ix2 r e := ⟨x 0, x 1, eq_ix2 x⟩
    refine (q7 _ _ _ r e).trans ((norm_congr _ e (fun _ => rfl) fun j => block_qn m c t j).trans ?_)
    exact heads_at 128 _ _ _ _ _ _ 7 e rfl _ fun j k hk => col_q m c t _ r rfl _ k hk
  · intro x; rw [emb_cols 768 _ x (by have : (x 1).val < 128 := (x 1).isLt; omega)]
    obtain ⟨r, e, rfl⟩ : ∃ (r : Fin 512) (e : Fin 128), x = ix2 r e := ⟨x 0, x 1, eq_ix2 x⟩
    refine (q6 _ _ _ r e).trans ((norm_congr _ e (fun _ => rfl) fun j => block_qn m c t j).trans ?_)
    exact heads_at 128 _ _ _ _ _ _ 6 e rfl _ fun j k hk => col_q m c t _ r rfl _ k hk
  · intro x; rw [emb_cols 640 _ x (by have : (x 1).val < 128 := (x 1).isLt; omega)]
    obtain ⟨r, e, rfl⟩ : ∃ (r : Fin 512) (e : Fin 128), x = ix2 r e := ⟨x 0, x 1, eq_ix2 x⟩
    refine (q5 _ _ _ r e).trans ((norm_congr _ e (fun _ => rfl) fun j => block_qn m c t j).trans ?_)
    exact heads_at 128 _ _ _ _ _ _ 5 e rfl _ fun j k hk => col_q m c t _ r rfl _ k hk
  · intro x; rw [emb_cols 512 _ x (by have : (x 1).val < 128 := (x 1).isLt; omega)]
    obtain ⟨r, e, rfl⟩ : ∃ (r : Fin 512) (e : Fin 128), x = ix2 r e := ⟨x 0, x 1, eq_ix2 x⟩
    refine (q4 _ _ _ r e).trans ((norm_congr _ e (fun _ => rfl) fun j => block_qn m c t j).trans ?_)
    exact heads_at 128 _ _ _ _ _ _ 4 e rfl _ fun j k hk => col_q m c t _ r rfl _ k hk
  · intro x; rw [emb_cols 384 _ x (by have : (x 1).val < 128 := (x 1).isLt; omega)]
    obtain ⟨r, e, rfl⟩ : ∃ (r : Fin 512) (e : Fin 128), x = ix2 r e := ⟨x 0, x 1, eq_ix2 x⟩
    refine (q3 _ _ _ r e).trans ((norm_congr _ e (fun _ => rfl) fun j => block_qn m c t j).trans ?_)
    exact heads_at 128 _ _ _ _ _ _ 3 e rfl _ fun j k hk => col_q m c t _ r rfl _ k hk
  · intro x; rw [emb_cols 256 _ x (by have : (x 1).val < 128 := (x 1).isLt; omega)]
    obtain ⟨r, e, rfl⟩ : ∃ (r : Fin 512) (e : Fin 128), x = ix2 r e := ⟨x 0, x 1, eq_ix2 x⟩
    refine (q2 _ _ _ r e).trans ((norm_congr _ e (fun _ => rfl) fun j => block_qn m c t j).trans ?_)
    exact heads_at 128 _ _ _ _ _ _ 2 e rfl _ fun j k hk => col_q m c t _ r rfl _ k hk
  · intro x; rw [emb_cols 128 _ x (by have : (x 1).val < 128 := (x 1).isLt; omega)]
    obtain ⟨r, e, rfl⟩ : ∃ (r : Fin 512) (e : Fin 128), x = ix2 r e := ⟨x 0, x 1, eq_ix2 x⟩
    refine (q1 _ _ _ r e).trans ((norm_congr _ e (fun _ => rfl) fun j => block_qn m c t j).trans ?_)
    exact heads_at 128 _ _ _ _ _ _ 1 e rfl _ fun j k hk => col_q m c t _ r rfl _ k hk
  · intro x; rw [emb_cols 0 _ x (by have : (x 1).val < 128 := (x 1).isLt; omega)]
    obtain ⟨r, e, rfl⟩ : ∃ (r : Fin 512) (e : Fin 128), x = ix2 r e := ⟨x 0, x 1, eq_ix2 x⟩
    refine (q0 _ _ _ r e).trans ((norm_congr _ e (fun _ => rfl) fun j => block_qn m c t j).trans ?_)
    exact heads_at 128 _ _ _ _ _ _ 0 e rfl _ fun j k hk => col_q m c t _ r rfl _ k (hk.trans (show 0 * 128 + j.val = j.val by omega))
  · exact View.cover_of_tiled_head _ _ _ rfl _

theorem out_k (c : Dev nD) (t : Fin cfg0.N) (y : S512x1024.Idx) (R : Fin 8192) (hR : R.val = t.val * 512 + (y 0).val) (d : Fin 1024)
    (hd : d.val = (y 1).val) :
    (dats m 0 c).after 7 t y = key m c R d := by
  have hN : t.val < 16 := lt_of_lt_of_eq t.isLt N_0
  rw [after0_7]; unfold outsAt0; frame_out
  obtain ⟨r, e, rfl⟩ : ∃ (r : Fin 512) (e : Fin 1024), y = ix2 r e := ⟨y 0, y 1, eq_ix2 y⟩
  refine (View.canon_append_of_piecesOf (Val := Elt Ideal) (e := .bf16)
    (fun y : S512x1024.Idx => key m c ⟨t.val * 512 + (y 0).val, by have : (y 0).val < 512 := (y 0).isLt; omega⟩ (y 1))
    [] [_, _, _, _, _, _, _, _] ⟨?_, ?_, ?_, ?_, ?_, ?_, ?_, ?_, trivial⟩ (ix2 r e) ?_).trans (congrArg₂ (key m c) (Fin.ext hR.symm) (Fin.ext hd.symm))
  · intro x; rw [emb_cols 896 _ x (by have : (x 1).val < 128 := (x 1).isLt; omega)]
    obtain ⟨r, e, rfl⟩ : ∃ (r : Fin 512) (e : Fin 128), x = ix2 r e := ⟨x 0, x 1, eq_ix2 x⟩
    refine (k7 _ _ _ r e).trans ((norm_congr _ e (fun _ => rfl) fun j => block_kn m c t j).trans ?_)
    exact heads_at 128 _ _ _ _ _ _ 7 e rfl _ fun j k hk => col_k m c t _ r rfl _ k hk
  · intro x; rw [emb_cols 768 _ x (by have : (x 1).val < 128 := (x 1).isLt; omega)]
    obtain ⟨r, e, rfl⟩ : ∃ (r : Fin 512) (e : Fin 128), x = ix2 r e := ⟨x 0, x 1, eq_ix2 x⟩
    refine (k6 _ _ _ r e).trans ((norm_congr _ e (fun _ => rfl) fun j => block_kn m c t j).trans ?_)
    exact heads_at 128 _ _ _ _ _ _ 6 e rfl _ fun j k hk => col_k m c t _ r rfl _ k hk
  · intro x; rw [emb_cols 640 _ x (by have : (x 1).val < 128 := (x 1).isLt; omega)]
    obtain ⟨r, e, rfl⟩ : ∃ (r : Fin 512) (e : Fin 128), x = ix2 r e := ⟨x 0, x 1, eq_ix2 x⟩
    refine (k5 _ _ _ r e).trans ((norm_congr _ e (fun _ => rfl) fun j => block_kn m c t j).trans ?_)
    exact heads_at 128 _ _ _ _ _ _ 5 e rfl _ fun j k hk => col_k m c t _ r rfl _ k hk
  · intro x; rw [emb_cols 512 _ x (by have : (x 1).val < 128 := (x 1).isLt; omega)]
    obtain ⟨r, e, rfl⟩ : ∃ (r : Fin 512) (e : Fin 128), x = ix2 r e := ⟨x 0, x 1, eq_ix2 x⟩
    refine (k4 _ _ _ r e).trans ((norm_congr _ e (fun _ => rfl) fun j => block_kn m c t j).trans ?_)
    exact heads_at 128 _ _ _ _ _ _ 4 e rfl _ fun j k hk => col_k m c t _ r rfl _ k hk
  · intro x; rw [emb_cols 384 _ x (by have : (x 1).val < 128 := (x 1).isLt; omega)]
    obtain ⟨r, e, rfl⟩ : ∃ (r : Fin 512) (e : Fin 128), x = ix2 r e := ⟨x 0, x 1, eq_ix2 x⟩
    refine (k3 _ _ _ r e).trans ((norm_congr _ e (fun _ => rfl) fun j => block_kn m c t j).trans ?_)
    exact heads_at 128 _ _ _ _ _ _ 3 e rfl _ fun j k hk => col_k m c t _ r rfl _ k hk
  · intro x; rw [emb_cols 256 _ x (by have : (x 1).val < 128 := (x 1).isLt; omega)]
    obtain ⟨r, e, rfl⟩ : ∃ (r : Fin 512) (e : Fin 128), x = ix2 r e := ⟨x 0, x 1, eq_ix2 x⟩
    refine (k2 _ _ _ r e).trans ((norm_congr _ e (fun _ => rfl) fun j => block_kn m c t j).trans ?_)
    exact heads_at 128 _ _ _ _ _ _ 2 e rfl _ fun j k hk => col_k m c t _ r rfl _ k hk
  · intro x; rw [emb_cols 128 _ x (by have : (x 1).val < 128 := (x 1).isLt; omega)]
    obtain ⟨r, e, rfl⟩ : ∃ (r : Fin 512) (e : Fin 128), x = ix2 r e := ⟨x 0, x 1, eq_ix2 x⟩
    refine (k1 _ _ _ r e).trans ((norm_congr _ e (fun _ => rfl) fun j => block_kn m c t j).trans ?_)
    exact heads_at 128 _ _ _ _ _ _ 1 e rfl _ fun j k hk => col_k m c t _ r rfl _ k hk
  · intro x; rw [emb_cols 0 _ x (by have : (x 1).val < 128 := (x 1).isLt; omega)]
    obtain ⟨r, e, rfl⟩ : ∃ (r : Fin 512) (e : Fin 128), x = ix2 r e := ⟨x 0, x 1, eq_ix2 x⟩
    refine (k0 _ _ _ r e).trans ((norm_congr _ e (fun _ => rfl) fun j => block_kn m c t j).trans ?_)
    exact heads_at 128 _ _ _ _ _ _ 0 e rfl _ fun j k hk => col_k m c t _ r rfl _ k (hk.trans (show 0 * 128 + j.val = j.val by omega))
  · exact View.cover_of_tiled_head _ _ _ rfl _

theorem out_v (c : Dev nD) (t : Fin cfg0.N) (y : S512x1024.Idx) (R : Fin 8192) (hR : R.val = t.val * 512 + (y 0).val) (d : Fin 1024)
    (hd : d.val = (y 1).val) :
    (dats m 0 c).after 8 t y = worth m c R d := by
  rw [after0_8]; unfold outsAt0; frame_out
  obtain ⟨r, e, rfl⟩ : ∃ (r : Fin 512) (e : Fin 1024), y = ix2 r e := ⟨y 0, y 1, eq_ix2 y⟩
  exact col_v m c t R r hR e d hd

theorem out_kh (c : Dev nD) (t : Fin cfg0.N) (y : S512x8x128.Idx) (R : Fin 8192) (hR : R.val = t.val * 512 + (y 0).val) (d : Fin 1024)
    (hd : d.val = (y 1).val * 128 + (y 2).val) :
    (dats m 0 c).after 9 t y = key m c R d := by
  have hN : t.val < 16 := lt_of_lt_of_eq t.isLt N_0
  rw [after0_9]; unfold outsAt0; frame_out
  obtain ⟨r, b, e, rfl⟩ : ∃ (r : Fin 512) (b : Fin 8) (e : Fin 128), y = ix3 r b e := ⟨y 0, y 1, y 2, eq_ix3 y⟩
  refine (View.canon_append_of_piecesOf (Val := Elt Ideal) (e := .f32)
    (fun y : S512x8x128.Idx => key m c ⟨t.val * 512 + (y 0).val, by have : (y 0).val < 512 := (y 0).isLt; omega⟩
      ⟨(y 1).val * 128 + (y 2).val, by have : (y 1).val < 8 := (y 1).isLt; have : (y 2).val < 128 := (y 2).isLt; omega⟩)
    [] [_, _, _, _, _, _, _, _] ⟨?_, ?_, ?_, ?_, ?_, ?_, ?_, ?_, trivial⟩ (ix3 r b e) ?_).trans (congrArg₂ (key m c) (Fin.ext hR.symm) (Fin.ext hd.symm))
  · intro x; rw [emb_head 7 _ x (by decide)]
    obtain ⟨r, u, e, rfl⟩ : ∃ (r : Fin 512) (u : Fin 1) (e : Fin 128), x = ix3 r u e := ⟨x 0, x 1, x 2, eq_ix3 x⟩
    refine (kh7 _ _ _ r u e).trans ((norm_congr _ e (fun _ => rfl) fun j => block_kn m c t j).trans ?_)
    exact heads_at 128 _ _ _ _ _ _ 7 e rfl _ fun j k hk => col_k m c t _ r rfl _ k hk
  · intro x; rw [emb_head 6 _ x (by decide)]
    obtain ⟨r, u, e, rfl⟩ : ∃ (r : Fin 512) (u : Fin 1) (e : Fin 128), x = ix3 r u e := ⟨x 0, x 1, x 2, eq_ix3 x⟩
    refine (kh6 _ _ _ r u e).trans ((norm_congr _ e (fun _ => rfl) fun j => block_kn m c t j).trans ?_)
    exact heads_at 128 _ _ _ _ _ _ 6 e rfl _ fun j k hk => col_k m c t _ r rfl _ k hk
  · intro x; rw [emb_head 5 _ x (by decide)]
    obtain ⟨r, u, e, rfl⟩ : ∃ (r : Fin 512) (u : Fin 1) (e : Fin 128), x = ix3 r u e := ⟨x 0, x 1, x 2, eq_ix3 x⟩
    refine (kh5 _ _ _ r u e).trans ((norm_congr _ e (fun _ => rfl) fun j => block_kn m c t j).trans ?_)
    exact heads_at 128 _ _ _ _ _ _ 5 e rfl _ fun j k hk => col_k m c t _ r rfl _ k hk
  · intro x; rw [emb_head 4 _ x (by decide)]
    obtain ⟨r, u, e, rfl⟩ : ∃ (r : Fin 512) (u : Fin 1) (e : Fin 128), x = ix3 r u e := ⟨x 0, x 1, x 2, eq_ix3 x⟩
    refine (kh4 _ _ _ r u e).trans ((norm_congr _ e (fun _ => rfl) fun j => block_kn m c t j).trans ?_)
    exact heads_at 128 _ _ _ _ _ _ 4 e rfl _ fun j k hk => col_k m c t _ r rfl _ k hk
  · intro x; rw [emb_head 3 _ x (by decide)]
    obtain ⟨r, u, e, rfl⟩ : ∃ (r : Fin 512) (u : Fin 1) (e : Fin 128), x = ix3 r u e := ⟨x 0, x 1, x 2, eq_ix3 x⟩
    refine (kh3 _ _ _ r u e).trans ((norm_congr _ e (fun _ => rfl) fun j => block_kn m c t j).trans ?_)
    exact heads_at 128 _ _ _ _ _ _ 3 e rfl _ fun j k hk => col_k m c t _ r rfl _ k hk
  · intro x; rw [emb_head 2 _ x (by decide)]
    obtain ⟨r, u, e, rfl⟩ : ∃ (r : Fin 512) (u : Fin 1) (e : Fin 128), x = ix3 r u e := ⟨x 0, x 1, x 2, eq_ix3 x⟩
    refine (kh2 _ _ _ r u e).trans ((norm_congr _ e (fun _ => rfl) fun j => block_kn m c t j).trans ?_)
    exact heads_at 128 _ _ _ _ _ _ 2 e rfl _ fun j k hk => col_k m c t _ r rfl _ k hk
  · intro x; rw [emb_head 1 _ x (by decide)]
    obtain ⟨r, u, e, rfl⟩ : ∃ (r : Fin 512) (u : Fin 1) (e : Fin 128), x = ix3 r u e := ⟨x 0, x 1, x 2, eq_ix3 x⟩
    refine (kh1 _ _ _ r u e).trans ((norm_congr _ e (fun _ => rfl) fun j => block_kn m c t j).trans ?_)
    exact heads_at 128 _ _ _ _ _ _ 1 e rfl _ fun j k hk => col_k m c t _ r rfl _ k hk
  · intro x; rw [emb_head 0 _ x (by decide)]
    obtain ⟨r, u, e, rfl⟩ : ∃ (r : Fin 512) (u : Fin 1) (e : Fin 128), x = ix3 r u e := ⟨x 0, x 1, x 2, eq_ix3 x⟩
    refine (kh0 _ _ _ r u e).trans ((norm_congr _ e (fun _ => rfl) fun j => block_kn m c t j).trans ?_)
    exact heads_at 128 _ _ _ _ _ _ 0 e rfl _ fun j k hk => col_k m c t _ r rfl _ k (hk.trans (show 0 * 128 + j.val = j.val by omega))
  · exact View.cover_of_tiled_head _ _ _ rfl _

theorem out_vh (c : Dev nD) (t : Fin cfg0.N) (y : S512x8x128.Idx) (R : Fin 8192) (hR : R.val = t.val * 512 + (y 0).val) (d : Fin 1024)
    (hd : d.val = (y 1).val * 128 + (y 2).val) :
    (dats m 0 c).after 10 t y = worth m c R d := by
  have hN : t.val < 16 := lt_of_lt_of_eq t.isLt N_0
  rw [after0_10]; unfold outsAt0; frame_out
  obtain ⟨r, b, e, rfl⟩ : ∃ (r : Fin 512) (b : Fin 8) (e : Fin 128), y = ix3 r b e := ⟨y 0, y 1, y 2, eq_ix3 y⟩
  refine (View.canon_append_of_piecesOf (Val := Elt Ideal) (e := .f32)
    (fun y : S512x8x128.Idx => worth m c ⟨t.val * 512 + (y 0).val, by have : (y 0).val < 512 := (y 0).isLt; omega⟩
      ⟨(y 1).val * 128 + (y 2).val, by have : (y 1).val < 8 := (y 1).isLt; have : (y 2).val < 128 := (y 2).isLt; omega⟩)
    [] [_, _, _, _, _, _, _, _] ⟨?_, ?_, ?_, ?_, ?_, ?_, ?_, ?_, trivial⟩ (ix3 r b e) ?_).trans (congrArg₂ (worth m c) (Fin.ext hR.symm) (Fin.ext hd.symm))
  · intro x; rw [emb_head 7 _ x (by decide)]
    obtain ⟨r, u, e, rfl⟩ : ∃ (r : Fin 512) (u : Fin 1) (e : Fin 128), x = ix3 r u e := ⟨x 0, x 1, x 2, eq_ix3 x⟩
    exact (vh7 _ r u e).trans (col_v m c t _ r rfl _ _ rfl)
  · intro x; rw [emb_head 6 _ x (by decide)]
    obtain ⟨r, u, e, rfl⟩ : ∃ (r : Fin 512) (u : Fin 1) (e : Fin 128), x = ix3 r u e := ⟨x 0, x 1, x 2, eq_ix3 x⟩
    exact (vh6 _ r u e).trans (col_v m c t _ r rfl _ _ rfl)
  · intro x; rw [emb_head 5 _ x (by decide)]
    obtain ⟨r, u, e, rfl⟩ : ∃ (r : Fin 512) (u : Fin 1) (e : Fin 128), x = ix3 r u e := ⟨x 0, x 1, x 2, eq_ix3 x⟩
    exact (vh5 _ r u e).trans (col_v m c t _ r rfl _ _ rfl)
  · intro x; rw [emb_head 4 _ x (by decide)]
    obtain ⟨r, u, e, rfl⟩ : ∃ (r : Fin 512) (u : Fin 1) (e : Fin 128), x = ix3 r u e := ⟨x 0, x 1, x 2, eq_ix3 x⟩
    exact (vh4 _ r u e).trans (col_v m c t _ r rfl _ _ rfl)
  · intro x; rw [emb_head 3 _ x (by decide)]
    obtain ⟨r, u, e, rfl⟩ : ∃ (r : Fin 512) (u : Fin 1) (e : Fin 128), x = ix3 r u e := ⟨x 0, x 1, x 2, eq_ix3 x⟩
    exact (vh3 _ r u e).trans (col_v m c t _ r rfl _ _ rfl)
  · intro x; rw [emb_head 2 _ x (by decide)]
    obtain ⟨r, u, e, rfl⟩ : ∃ (r : Fin 512) (u : Fin 1) (e : Fin 128), x = ix3 r u e := ⟨x 0, x 1, x 2, eq_ix3 x⟩
    exact (vh2 _ r u e).trans (col_v m c t _ r rfl _ _ rfl)
  · intro x; rw [emb_head 1 _ x (by decide)]
    obtain ⟨r, u, e, rfl⟩ : ∃ (r : Fin 512) (u : Fin 1) (e : Fin 128), x = ix3 r u e := ⟨x 0, x 1, x 2, eq_ix3 x⟩
    exact (vh1 _ r u e).trans (col_v m c t _ r rfl _ _ rfl)
  · intro x; rw [emb_head 0 _ x (by decide)]
    obtain ⟨r, u, e, rfl⟩ : ∃ (r : Fin 512) (u : Fin 1) (e : Fin 128), x = ix3 r u e := ⟨x 0, x 1, x 2, eq_ix3 x⟩
    exact (vh0 _ r u e).trans (col_v m c t _ r rfl _ _ (show 0 * 128 + e.val = e.val by omega))
  · exact View.cover_of_tiled_head _ _ _ rfl _

theorem final_q (c : Dev nD) (R : Fin 8192) (d : Fin 1024) : ((dats m 0 c).arrAt 6 (cfgs 0).N (ix2 R d) : Ideal .bf16) = query m c R d := by
  refine congrFun ((dats m 0 c).arrAt_eq_of_covers 6 (fun y : S8192x1024.Idx => query m c (y 0) (y 1))
    (by decide +kernel) fun t hf (y : S512x1024.Idx) => ?_) (ix2 R d)
  blk_simp
  refine out_q m c t y _ ?_ _ ?_
  · blk_simp [index t]
  · blk_simp [index t]

theorem final_k (c : Dev nD) (R : Fin 8192) (d : Fin 1024) : ((dats m 0 c).arrAt 7 (cfgs 0).N (ix2 R d) : Ideal .bf16) = key m c R d := by
  refine congrFun ((dats m 0 c).arrAt_eq_of_covers 7 (fun y : S8192x1024.Idx => key m c (y 0) (y 1))
    (by decide +kernel) fun t hf (y : S512x1024.Idx) => ?_) (ix2 R d)
  blk_simp
  refine out_k m c t y _ ?_ _ ?_
  · blk_simp [index t]
  · blk_simp [index t]

theorem final_v (c : Dev nD) (R : Fin 8192) (d : Fin 1024) : ((dats m 0 c).arrAt 8 (cfgs 0).N (ix2 R d) : Ideal .bf16) = worth m c R d := by
  refine congrFun ((dats m 0 c).arrAt_eq_of_covers 8 (fun y : S8192x1024.Idx => worth m c (y 0) (y 1))
    (by decide +kernel) fun t hf (y : S512x1024.Idx) => ?_) (ix2 R d)
  blk_simp
  refine out_v m c t y _ ?_ _ ?_
  · blk_simp [index t]
  · blk_simp [index t]

theorem final_kh (c : Dev nD) (R : Fin 8192) (b : Fin 8) (e : Fin 128) : ((dats m 0 c).arrAt 9 (cfgs 0).N (ix3 R b e) : Ideal .f32)
    = key m c R ⟨b.val * 128 + e.val, by have : b.val < 8 := b.isLt; have : e.val < 128 := e.isLt; omega⟩ := by
  refine congrFun ((dats m 0 c).arrAt_eq_of_covers 9 (fun y : S8192x8x128.Idx => key m c (y 0)
    ⟨(y 1).val * 128 + (y 2).val, by have : (y 1).val < 8 := (y 1).isLt; have : (y 2).val < 128 := (y 2).isLt; omega⟩)
    (by decide +kernel) fun t hf (y : S512x8x128.Idx) => ?_) (ix3 R b e)
  blk_simp
  refine out_kh m c t y _ ?_ _ ?_
  · blk_simp [index t]
  · blk_simp [index t]

theorem final_vh (c : Dev nD) (R : Fin 8192) (b : Fin 8) (e : Fin 128) : ((dats m 0 c).arrAt 10 (cfgs 0).N (ix3 R b e) : Ideal .f32)
    = worth m c R ⟨b.val * 128 + e.val, by have : b.val < 8 := b.isLt; have : e.val < 128 := e.isLt; omega⟩ := by
  refine congrFun ((dats m 0 c).arrAt_eq_of_covers 10 (fun y : S8192x8x128.Idx => worth m c (y 0)
    ⟨(y 1).val * 128 + (y 2).val, by have : (y 1).val < 8 := (y 1).isLt; have : (y 2).val < 128 := (y 2).isLt; omega⟩)
    (by decide +kernel) fun t hf (y : S512x8x128.Idx) => ?_) (ix3 R b e)
  blk_simp
  refine out_vh m c t y _ ?_ _ ?_
  · blk_simp [index t]
  · blk_simp [index t]

end

section
open Cert.QkvRefIdeal Cert.QkvRefIdeal.Read

variable (x0 : (⟨S8320x2048, .bf16⟩ : BufTy).Contents (Elt Ideal)) (x1 : (⟨S2x2048x17408, .bf16⟩ : BufTy).Contents (Elt Ideal))
  (x2 x3 : (⟨S1x128, .f32⟩ : BufTy).Contents (Elt Ideal))

theorem ref_acc_q (r : Fin 8192) (d : Fin 1024) : (val_main_v6 (F := Ideal) x0 x1 (ix2 r d) : Ideal .f32)
    = product x0 x1 5120 (by decide) (row r) d := by
  pointwise [val_main_v6, val_main_v5, val_main_v4, val_main_v3, val_main_v2, val_main_v1, val_main_v0]
  unfold product
  rfl

theorem ref_col_q (r : Fin 8192) (b : Fin 8) (e : Fin 128) (k : Fin 1024) (hk : k.val = b.val * 128 + e.val) :
    (val_main_v7 (F := Ideal) x0 x1 (ix3 r b e) : Ideal .f32) = product x0 x1 5120 (by decide) (row r) k := by
  rw [← ref_acc_q, val_main_v7_apply]
  refine congrArg _ (funext fun a => Fin.ext ?_)
  have := r.isLt; have := b.isLt; have := e.isLt
  match a with
  | ⟨0, _⟩ => show ((r.val * 8 + b.val) * 128 + e.val) / 1024 = r.val; omega
  | ⟨1, _⟩ => show ((r.val * 8 + b.val) * 128 + e.val) % 1024 = k.val; omega

theorem ref_acc_k (r : Fin 8192) (d : Fin 1024) : (val_main_v27 (F := Ideal) x0 x1 (ix2 r d) : Ideal .f32)
    = product x0 x1 6144 (by decide) (row r) d := by
  pointwise [val_main_v27, val_main_v26, val_main_v25, val_main_v24, val_main_v23, val_main_v22, val_main_v0]
  unfold product
  rfl

theorem ref_col_k (r : Fin 8192) (b : Fin 8) (e : Fin 128) (k : Fin 1024) (hk : k.val = b.val * 128 + e.val) :
    (val_main_v28 (F := Ideal) x0 x1 (ix3 r b e) : Ideal .f32) = product x0 x1 6144 (by decide) (row r) k := by
  rw [← ref_acc_k, val_main_v28_apply]
  refine congrArg _ (funext fun a => Fin.ext ?_)
  have := r.isLt; have := b.isLt; have := e.isLt
  match a with
  | ⟨0, _⟩ => show ((r.val * 8 + b.val) * 128 + e.val) / 1024 = r.val; omega
  | ⟨1, _⟩ => show ((r.val * 8 + b.val) * 128 + e.val) % 1024 = k.val; omega

theorem ref_acc_v (r : Fin 8192) (d : Fin 1024) : (val_main_v48 (F := Ideal) x0 x1 (ix2 r d) : Ideal .f32)
    = product x0 x1 7168 (by decide) (row r) d := by
  pointwise [val_main_v48, val_main_v47, val_main_v46, val_main_v45, val_main_v44, val_main_v43, val_main_v0]
  unfold product
  rfl

theorem ref_col_v (r : Fin 8192) (b : Fin 8) (e : Fin 128) (k : Fin 1024) (hk : k.val = b.val * 128 + e.val) :
    (val_main_v49 (F := Ideal) x0 x1 (ix3 r b e) : Ideal .f32) = product x0 x1 7168 (by decide) (row r) k := by
  rw [← ref_acc_v, val_main_v49_apply]
  refine congrArg _ (funext fun a => Fin.ext ?_)
  have := r.isLt; have := b.isLt; have := e.isLt
  match a with
  | ⟨0, _⟩ => show ((r.val * 8 + b.val) * 128 + e.val) / 1024 = r.val; omega
  | ⟨1, _⟩ => show ((r.val * 8 + b.val) * 128 + e.val) % 1024 = k.val; omega

theorem ref_head_q (r : Fin 8192) (b : Fin 8) (e : Fin 128) : (val_main_v21 (F := Ideal) x0 x1 x2 (ix3 r b e) : Ideal .f32)
    = norm 0x43000000#32 (fun j : Fin 128 => (val_main_v7 (F := Ideal) x0 x1 (ix3 r b j) : Ideal .f32)) (fun j => x2 (ix2 0 j)) e := by
  pointwise [val_main_v21, val_main_v20, val_main_v19, val_main_v18, val_main_v17, val_main_v16, val_main_v15, val_main_v14, val_main_v13, val_main_v12, val_main_v11, val_main_v10, val_main_v9, val_main_v8, val_main_cst, val_main_cst_0, val_main_cst_1]
  rfl

theorem ref_qh (r : Fin 8192) (b : Fin 8) (e : Fin 128) (d : Fin 1024) (hd : d.val = b.val * 128 + e.val) :
    (val_main_v21 (F := Ideal) x0 x1 x2 (ix3 r b e) : Ideal .f32)
      = heads 128 (by decide) (by decide) 0x43000000#32 (fun k => product x0 x1 5120 (by decide) (row r) k) (fun j => x2 (ix2 0 j)) d := by
  rw [ref_head_q]
  exact heads_at 128 _ _ _ _ _ d b.val e hd _ fun j k hk => ref_col_q x0 x1 r _ j k hk

theorem ref_head_k (r : Fin 8192) (b : Fin 8) (e : Fin 128) : (val_main_v42 (F := Ideal) x0 x1 x3 (ix3 r b e) : Ideal .f32)
    = norm 0x43000000#32 (fun j : Fin 128 => (val_main_v28 (F := Ideal) x0 x1 (ix3 r b j) : Ideal .f32)) (fun j => x3 (ix2 0 j)) e := by
  pointwise [val_main_v42, val_main_v41, val_main_v40, val_main_v39, val_main_v38, val_main_v37, val_main_v36, val_main_v35, val_main_v34, val_main_v33, val_main_v32, val_main_v31, val_main_v30, val_main_v29, val_main_cst_2, val_main_cst_3, val_main_cst_4]
  rfl

theorem ref_kh (r : Fin 8192) (b : Fin 8) (e : Fin 128) (d : Fin 1024) (hd : d.val = b.val * 128 + e.val) :
    (val_main_v42 (F := Ideal) x0 x1 x3 (ix3 r b e) : Ideal .f32)
      = heads 128 (by decide) (by decide) 0x43000000#32 (fun k => product x0 x1 6144 (by decide) (row r) k) (fun j => x3 (ix2 0 j)) d := by
  rw [ref_head_k]
  exact heads_at 128 _ _ _ _ _ d b.val e hd _ fun j k hk => ref_col_k x0 x1 r _ j k hk

theorem split (r : Fin 8192) (d : Fin 1024) (i : S8192x8x128.Idx) (h0 : (i 0).val = (r.val * 1024 + d.val) / 1024)
    (h1 : (i 1).val = (r.val * 1024 + d.val) / 128 % 8) (h2 : (i 2).val = (r.val * 1024 + d.val) % 128) :
    i = ix3 r ⟨d.val / 128, by have := d.isLt; omega⟩ ⟨d.val % 128, by omega⟩ := by
  have := d.isLt
  funext a
  apply Fin.ext
  match a with
  | ⟨0, _⟩ => show (i 0).val = r.val; omega
  | ⟨1, _⟩ => show (i 1).val = d.val / 128; omega
  | ⟨2, _⟩ => show (i 2).val = d.val % 128; omega

theorem ref_q (r : Fin 8192) (d : Fin 1024) : (val_main_v51 (F := Ideal) x0 x1 x2 (ix2 r d) : Ideal .bf16)
    = heads 128 (by decide) (by decide) 0x43000000#32 (fun k => product x0 x1 5120 (by decide) (row r) k) (fun j => x2 (ix2 0 j)) d := by
  refine (val_main_v50_apply (F := Ideal) x0 x1 x2 (ix2 r d)).trans ?_
  refine (congrArg (val_main_v21 (F := Ideal) x0 x1 x2) (split r d _ rfl rfl rfl)).trans ?_
  exact ref_qh x0 x1 x2 r _ _ d (show d.val = d.val / 128 * 128 + d.val % 128 by omega)

theorem ref_k (r : Fin 8192) (d : Fin 1024) : (val_main_v53 (F := Ideal) x0 x1 x3 (ix2 r d) : Ideal .bf16)
    = heads 128 (by decide) (by decide) 0x43000000#32 (fun k => product x0 x1 6144 (by decide) (row r) k) (fun j => x3 (ix2 0 j)) d := by
  refine (val_main_v52_apply (F := Ideal) x0 x1 x3 (ix2 r d)).trans ?_
  refine (congrArg (val_main_v42 (F := Ideal) x0 x1 x3) (split r d _ rfl rfl rfl)).trans ?_
  exact ref_kh x0 x1 x3 r _ _ d (show d.val = d.val / 128 * 128 + d.val % 128 by omega)

theorem ref_v (r : Fin 8192) (d : Fin 1024) : (val_main_v55 (F := Ideal) x0 x1 (ix2 r d) : Ideal .bf16)
    = product x0 x1 7168 (by decide) (row r) d := by
  refine (val_main_v54_apply (F := Ideal) x0 x1 (ix2 r d)).trans ?_
  refine (congrArg (val_main_v49 (F := Ideal) x0 x1) (split r d _ rfl rfl rfl)).trans ?_
  exact ref_col_v x0 x1 r _ _ d (show d.val = d.val / 128 * 128 + d.val % 128 by omega)

end

end Cert.QkvValue

end
-- ==== Proof.SampleValue.lean ====
/- The sample's queries, keys and values: three parts of the combined projection on the last rows, each head of the first two normalised. -/
module

public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleRefIdeal.Read
public import proofs.«01_k».proof.Proof.Columns
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.SampleValue

open Cert.Layer

section
open Cert.SampleIdeal Cert.SampleIdeal.Gen

/-- A row of the sample among all rows. -/
def row (R : Fin 128) : Fin 8320 := ⟨8192 + R.val, by have := R.isLt; omega⟩

variable (m : (ℓ : Loc nD τ sig) → Buf (Elt Ideal) ℓ)

theorem index : ∀ t : Fin cfg0.N, win0_0.index t = ![64, 0]
    ∧ win0_1.index t = ![0, 0, 10 + t.val]
    ∧ win0_2.index t = ![0, 0, 12 + t.val]
    ∧ win0_3.index t = ![0, 0, 14 + t.val]
    ∧ win0_4.index t = ![0, 0]
    ∧ win0_5.index t = ![0, 0]
    ∧ win0_6.index t = ![0, t.val]
    ∧ win0_7.index t = ![0, t.val]
    ∧ win0_8.index t = ![0, t.val]
    ∧ win0_9.index t = ![0, t.val]
    ∧ win0_10.index t = ![0, t.val] :=
  (by decide +kernel : ∀ t : Fin grid0.N, _)

theorem acc_q (h : FVec Ideal S128x2048 .bf16) (w : FVec Ideal S1x2048x512 .bf16) (r : Fin 128) (k : Fin 512) :
    (k0_pay6 h w (ix2 r k) : Ideal .f32) = ∑ j : Fin 2048, (h (ix2 r j) : Ideal .bf16) * w (ix3 0 j k) := by
  pointwise [k0_pay6]

theorem acc_k (h : FVec Ideal S128x2048 .bf16) (w : FVec Ideal S1x2048x512 .bf16) (r : Fin 128) (k : Fin 512) :
    (k0_pay7 h w (ix2 r k) : Ideal .f32) = ∑ j : Fin 2048, (h (ix2 r j) : Ideal .bf16) * w (ix3 0 j k) := by
  pointwise [k0_pay7]

theorem acc_v (h : FVec Ideal S128x2048 .bf16) (w : FVec Ideal S1x2048x512 .bf16) (r : Fin 128) (k : Fin 512) :
    (k0_pay8 h w (ix2 r k) : Ideal .f32) = ∑ j : Fin 2048, (h (ix2 r j) : Ideal .bf16) * w (ix3 0 j k) := by
  pointwise [k0_pay8]

theorem block_h (c : Dev nD) (t : Fin cfg0.N) (r : Fin 128) (d : Fin 2048) :
    iblk m c 0 t (ix2 r d) = m ((c : Thread nD τ).loc main_arg0) (ix2 (row r) d) := by
  blk_ext [iblk, V, index t, row]

theorem block_q (c : Dev nD) (t : Fin cfg0.N) (j : Fin 2048) (k : Fin 512) (K : Fin 17408) (hK : K.val = 5120 + (t.val * 512 + k.val)) :
    iblk m c 1 t (ix3 0 j k) = m ((c : Thread nD τ).loc main_arg1) (ix3 0 j K) := by
  blk_ext [iblk, V, index t]

theorem block_k (c : Dev nD) (t : Fin cfg0.N) (j : Fin 2048) (k : Fin 512) (K : Fin 17408) (hK : K.val = 6144 + (t.val * 512 + k.val)) :
    iblk m c 2 t (ix3 0 j k) = m ((c : Thread nD τ).loc main_arg1) (ix3 0 j K) := by
  blk_ext [iblk, V, index t]

theorem block_v (c : Dev nD) (t : Fin cfg0.N) (j : Fin 2048) (k : Fin 512) (K : Fin 17408) (hK : K.val = 7168 + (t.val * 512 + k.val)) :
    iblk m c 3 t (ix3 0 j k) = m ((c : Thread nD τ).loc main_arg1) (ix3 0 j K) := by
  blk_ext [iblk, V, index t]

theorem block_qn (c : Dev nD) (t : Fin cfg0.N) (j : Fin 128) :
    iblk m c 4 t (ix2 0 j) = m ((c : Thread nD τ).loc main_arg2) (ix2 0 j) := by
  blk_ext [iblk, V, index t]

theorem block_kn (c : Dev nD) (t : Fin cfg0.N) (j : Fin 128) :
    iblk m c 5 t (ix2 0 j) = m ((c : Thread nD τ).loc main_arg3) (ix2 0 j) := by
  blk_ext [iblk, V, index t]

theorem q0 (h : FVec Ideal S128x2048 .bf16) (w : FVec Ideal S1x2048x512 .bf16) (g : FVec Ideal S1x128 .f32) (r : Fin 128) (e : Fin 128) :
    (k0_pay12 (k0_pay9 h w g) (ix2 r e) : Ideal .bf16) = norm 0x43000000#32 (fun k : Fin 128 => (k0_pay6 h w (ix2 r ⟨k.val, by have := k.isLt; omega⟩) : Ideal .f32)) (fun j => g (ix2 0 j)) e := by
  pointwise [k0_pay12, k0_pay9]
  rfl

theorem k0 (h : FVec Ideal S128x2048 .bf16) (w : FVec Ideal S1x2048x512 .bf16) (g : FVec Ideal S1x128 .f32) (r : Fin 128) (e : Fin 128) :
    (k0_pay18 g (k0_pay16 (k0_pay7 h w)) (k0_pay17 (k0_pay7 h w)) (ix2 r e) : Ideal .f32) = norm 0x43000000#32 (fun k : Fin 128 => (k0_pay7 h w (ix2 r ⟨k.val, by have := k.isLt; omega⟩) : Ideal .f32)) (fun j => g (ix2 0 j)) e := by
  pointwise [k0_pay18, k0_pay17, k0_pay16]
  rfl

theorem kb0 (h : FVec Ideal S128x2048 .bf16) (w : FVec Ideal S1x2048x512 .bf16) (g : FVec Ideal S1x128 .f32) (r : Fin 128) (e : Fin 128) :
    (k0_pay1 (k0_pay18 g (k0_pay16 (k0_pay7 h w)) (k0_pay17 (k0_pay7 h w))) (ix2 r e) : Ideal .bf16) = norm 0x43000000#32 (fun k : Fin 128 => (k0_pay7 h w (ix2 r ⟨k.val, by have := k.isLt; omega⟩) : Ideal .f32)) (fun j => g (ix2 0 j)) e := by
  pointwise [k0_pay1, k0_pay18, k0_pay17, k0_pay16]
  rfl

theorem q1 (h : FVec Ideal S128x2048 .bf16) (w : FVec Ideal S1x2048x512 .bf16) (g : FVec Ideal S1x128 .f32) (r : Fin 128) (e : Fin 128) :
    (k0_pay13 (k0_pay10 h w) (k0_pay11 g) (ix2 r e) : Ideal .bf16) = norm 0x43000000#32 (fun k : Fin 128 => (k0_pay6 h w (ix2 r ⟨128 + k.val, by have := k.isLt; omega⟩) : Ideal .f32)) (fun j => g (ix2 0 j)) e := by
  pointwise [k0_pay13, k0_pay10, k0_pay11]
  rfl

theorem k1 (h : FVec Ideal S128x2048 .bf16) (w : FVec Ideal S1x2048x512 .bf16) (g : FVec Ideal S1x128 .f32) (r : Fin 128) (e : Fin 128) :
    (k0_pay19 (k0_pay7 h w) g (ix2 r e) : Ideal .f32) = norm 0x43000000#32 (fun k : Fin 128 => (k0_pay7 h w (ix2 r ⟨128 + k.val, by have := k.isLt; omega⟩) : Ideal .f32)) (fun j => g (ix2 0 j)) e := by
  pointwise [k0_pay19]
  rfl

theorem kb1 (h : FVec Ideal S128x2048 .bf16) (w : FVec Ideal S1x2048x512 .bf16) (g : FVec Ideal S1x128 .f32) (r : Fin 128) (e : Fin 128) :
    (k0_pay2 (k0_pay19 (k0_pay7 h w) g) (ix2 r e) : Ideal .bf16) = norm 0x43000000#32 (fun k : Fin 128 => (k0_pay7 h w (ix2 r ⟨128 + k.val, by have := k.isLt; omega⟩) : Ideal .f32)) (fun j => g (ix2 0 j)) e := by
  pointwise [k0_pay2, k0_pay19]
  rfl

theorem q2 (h : FVec Ideal S128x2048 .bf16) (w : FVec Ideal S1x2048x512 .bf16) (g : FVec Ideal S1x128 .f32) (r : Fin 128) (e : Fin 128) :
    (k0_pay14 (k0_pay6 h w) g (ix2 r e) : Ideal .bf16) = norm 0x43000000#32 (fun k : Fin 128 => (k0_pay6 h w (ix2 r ⟨256 + k.val, by have := k.isLt; omega⟩) : Ideal .f32)) (fun j => g (ix2 0 j)) e := by
  pointwise [k0_pay14]
  rfl

theorem k2 (h : FVec Ideal S128x2048 .bf16) (w : FVec Ideal S1x2048x512 .bf16) (g : FVec Ideal S1x128 .f32) (r : Fin 128) (e : Fin 128) :
    (k0_pay20 (k0_pay7 h w) g (ix2 r e) : Ideal .f32) = norm 0x43000000#32 (fun k : Fin 128 => (k0_pay7 h w (ix2 r ⟨256 + k.val, by have := k.isLt; omega⟩) : Ideal .f32)) (fun j => g (ix2 0 j)) e := by
  pointwise [k0_pay20]
  rfl

theorem kb2 (h : FVec Ideal S128x2048 .bf16) (w : FVec Ideal S1x2048x512 .bf16) (g : FVec Ideal S1x128 .f32) (r : Fin 128) (e : Fin 128) :
    (k0_pay3 (k0_pay20 (k0_pay7 h w) g) (ix2 r e) : Ideal .bf16) = norm 0x43000000#32 (fun k : Fin 128 => (k0_pay7 h w (ix2 r ⟨256 + k.val, by have := k.isLt; omega⟩) : Ideal .f32)) (fun j => g (ix2 0 j)) e := by
  pointwise [k0_pay3, k0_pay20]
  rfl

theorem q3 (h : FVec Ideal S128x2048 .bf16) (w : FVec Ideal S1x2048x512 .bf16) (g : FVec Ideal S1x128 .f32) (r : Fin 128) (e : Fin 128) :
    (k0_pay15 (k0_pay6 h w) g (ix2 r e) : Ideal .bf16) = norm 0x43000000#32 (fun k : Fin 128 => (k0_pay6 h w (ix2 r ⟨384 + k.val, by have := k.isLt; omega⟩) : Ideal .f32)) (fun j => g (ix2 0 j)) e := by
  pointwise [k0_pay15]
  rfl

theorem k3 (h : FVec Ideal S128x2048 .bf16) (w : FVec Ideal S1x2048x512 .bf16) (g : FVec Ideal S1x128 .f32) (r : Fin 128) (e : Fin 128) :
    (k0_pay21 (k0_pay7 h w) g (ix2 r e) : Ideal .f32) = norm 0x43000000#32 (fun k : Fin 128 => (k0_pay7 h w (ix2 r ⟨384 + k.val, by have := k.isLt; omega⟩) : Ideal .f32)) (fun j => g (ix2 0 j)) e := by
  pointwise [k0_pay21]
  rfl

theorem kb3 (h : FVec Ideal S128x2048 .bf16) (w : FVec Ideal S1x2048x512 .bf16) (g : FVec Ideal S1x128 .f32) (r : Fin 128) (e : Fin 128) :
    (k0_pay4 (k0_pay21 (k0_pay7 h w) g) (ix2 r e) : Ideal .bf16) = norm 0x43000000#32 (fun k : Fin 128 => (k0_pay7 h w (ix2 r ⟨384 + k.val, by have := k.isLt; omega⟩) : Ideal .f32)) (fun j => g (ix2 0 j)) e := by
  pointwise [k0_pay4, k0_pay21]
  rfl

/-- The queries. -/
def query (c : Dev nD) (R : Fin 128) (d : Fin 1024) : EReal :=
  heads 128 (by decide) (by decide) 0x43000000#32 (fun k => product (m ((c : Thread nD τ).loc main_arg0)) (m ((c : Thread nD τ).loc main_arg1)) 5120 (by decide) (row R) k) (fun j => m ((c : Thread nD τ).loc main_arg2) (ix2 0 j)) d

/-- The keys. -/
def key (c : Dev nD) (R : Fin 128) (d : Fin 1024) : EReal :=
  heads 128 (by decide) (by decide) 0x43000000#32 (fun k => product (m ((c : Thread nD τ).loc main_arg0)) (m ((c : Thread nD τ).loc main_arg1)) 6144 (by decide) (row R) k) (fun j => m ((c : Thread nD τ).loc main_arg3) (ix2 0 j)) d

/-- The values. -/
def worth (c : Dev nD) (R : Fin 128) (d : Fin 1024) : EReal :=
  product (m ((c : Thread nD τ).loc main_arg0)) (m ((c : Thread nD τ).loc main_arg1)) 7168 (by decide) (row R) d

theorem col_q (c : Dev nD) (t : Fin cfg0.N) (r : Fin 128) (k : Fin 512) (K : Fin 1024) (hK : K.val = t.val * 512 + k.val) :
    (k0_pay6 (iblk m c 0 t) (iblk m c 1 t) (ix2 r k) : Ideal .f32) = product (m ((c : Thread nD τ).loc main_arg0)) (m ((c : Thread nD τ).loc main_arg1)) 5120 (by decide) (row r) K := by
  refine (acc_q _ _ r k).trans ?_
  unfold product
  exact Finset.sum_congr rfl fun j _ => congrArg₂ (· * ·) (block_h m c t r j) (block_q m c t j k _ (congrArg (5120 + ·) hK))

theorem col_k (c : Dev nD) (t : Fin cfg0.N) (r : Fin 128) (k : Fin 512) (K : Fin 1024) (hK : K.val = t.val * 512 + k.val) :
    (k0_pay7 (iblk m c 0 t) (iblk m c 2 t) (ix2 r k) : Ideal .f32) = product (m ((c : Thread nD τ).loc main_arg0)) (m ((c : Thread nD τ).loc main_arg1)) 6144 (by decide) (row r) K := by
  refine (acc_k _ _ r k).trans ?_
  unfold product
  exact Finset.sum_congr rfl fun j _ => congrArg₂ (· * ·) (block_h m c t r j) (block_k m c t j k _ (congrArg (6144 + ·) hK))

theorem col_v (c : Dev nD) (t : Fin cfg0.N) (r : Fin 128) (k : Fin 512) (K : Fin 1024) (hK : K.val = t.val * 512 + k.val) :
    (k0_pay8 (iblk m c 0 t) (iblk m c 3 t) (ix2 r k) : Ideal .f32) = product (m ((c : Thread nD τ).loc main_arg0)) (m ((c : Thread nD τ).loc main_arg1)) 7168 (by decide) (row r) K := by
  refine (acc_v _ _ r k).trans ?_
  unfold product
  exact Finset.sum_congr rfl fun j _ => congrArg₂ (· * ·) (block_h m c t r j) (block_v m c t j k _ (congrArg (7168 + ·) hK))

theorem out_q (c : Dev nD) (t : Fin cfg0.N) (y : S128x512.Idx) (R : Fin 128) (hR : R.val = (y 0).val) (d : Fin 1024)
    (hd : d.val = t.val * 512 + (y 1).val) :
    (dats m 0 c).after 6 t y = query m c R d := by
  have hN : t.val < 2 := lt_of_lt_of_eq t.isLt N_0
  rw [after0_6]; unfold_out out0_6; frame_out
  obtain ⟨r, e, rfl⟩ : ∃ (r : Fin 128) (e : Fin 512), y = ix2 r e := ⟨y 0, y 1, eq_ix2 y⟩
  refine (View.canon_append_of_piecesOf (Val := Elt Ideal) (e := .bf16)
    (fun y : S128x512.Idx => query m c (y 0) ⟨t.val * 512 + (y 1).val, by have : (y 1).val < 512 := (y 1).isLt; omega⟩)
    [] [_, _, _, _] ⟨?_, ?_, ?_, ?_, trivial⟩ (ix2 r e) ?_).trans (congrArg₂ (query m c) (Fin.ext hR.symm) (Fin.ext hd.symm))
  · intro x; rw [emb_cols 384 _ x (by have : (x 1).val < 128 := (x 1).isLt; omega)]
    obtain ⟨r, e, rfl⟩ : ∃ (r : Fin 128) (e : Fin 128), x = ix2 r e := ⟨x 0, x 1, eq_ix2 x⟩
    refine (q3 _ _ _ r e).trans ((norm_congr _ e (fun _ => rfl) fun j => block_qn m c t j).trans ?_)
    exact heads_at 128 _ _ _ _ _ _ (t.val * 4 + 3) e (by show t.val * 512 + (384 + e.val) = _; omega) _
      fun j k hk => col_q m c t r _ k (by rw [hk]; show _ = t.val * 512 + (384 + j.val); omega)
  · intro x; rw [emb_cols 256 _ x (by have : (x 1).val < 128 := (x 1).isLt; omega)]
    obtain ⟨r, e, rfl⟩ : ∃ (r : Fin 128) (e : Fin 128), x = ix2 r e := ⟨x 0, x 1, eq_ix2 x⟩
    refine (q2 _ _ _ r e).trans ((norm_congr _ e (fun _ => rfl) fun j => block_qn m c t j).trans ?_)
    exact heads_at 128 _ _ _ _ _ _ (t.val * 4 + 2) e (by show t.val * 512 + (256 + e.val) = _; omega) _
      fun j k hk => col_q m c t r _ k (by rw [hk]; show _ = t.val * 512 + (256 + j.val); omega)
  · intro x; rw [emb_cols 128 _ x (by have : (x 1).val < 128 := (x 1).isLt; omega)]
    obtain ⟨r, e, rfl⟩ : ∃ (r : Fin 128) (e : Fin 128), x = ix2 r e := ⟨x 0, x 1, eq_ix2 x⟩
    refine (q1 _ _ _ r e).trans ((norm_congr _ e (fun _ => rfl) fun j => block_qn m c t j).trans ?_)
    exact heads_at 128 _ _ _ _ _ _ (t.val * 4 + 1) e (by show t.val * 512 + (128 + e.val) = _; omega) _
      fun j k hk => col_q m c t r _ k (by rw [hk]; show _ = t.val * 512 + (128 + j.val); omega)
  · intro x; rw [emb_cols 0 _ x (by have : (x 1).val < 128 := (x 1).isLt; omega)]
    obtain ⟨r, e, rfl⟩ : ∃ (r : Fin 128) (e : Fin 128), x = ix2 r e := ⟨x 0, x 1, eq_ix2 x⟩
    refine (q0 _ _ _ r e).trans ((norm_congr _ e (fun _ => rfl) fun j => block_qn m c t j).trans ?_)
    exact heads_at 128 _ _ _ _ _ _ (t.val * 4 + 0) e (by show t.val * 512 + (0 + e.val) = _; omega) _
      fun j k hk => col_q m c t r _ k (by rw [hk]; show _ = t.val * 512 + (j.val); omega)
  · exact View.cover_of_tiled_head _ _ _ rfl _

theorem out_k (c : Dev nD) (t : Fin cfg0.N) (y : S128x512.Idx) (R : Fin 128) (hR : R.val = (y 0).val) (d : Fin 1024)
    (hd : d.val = t.val * 512 + (y 1).val) :
    (dats m 0 c).after 7 t y = key m c R d := by
  have hN : t.val < 2 := lt_of_lt_of_eq t.isLt N_0
  rw [after0_7]; unfold_out out0_7; frame_out
  obtain ⟨r, e, rfl⟩ : ∃ (r : Fin 128) (e : Fin 512), y = ix2 r e := ⟨y 0, y 1, eq_ix2 y⟩
  refine (View.canon_append_of_piecesOf (Val := Elt Ideal) (e := .f32)
    (fun y : S128x512.Idx => key m c (y 0) ⟨t.val * 512 + (y 1).val, by have : (y 1).val < 512 := (y 1).isLt; omega⟩)
    [] [_, _, _, _] ⟨?_, ?_, ?_, ?_, trivial⟩ (ix2 r e) ?_).trans (congrArg₂ (key m c) (Fin.ext hR.symm) (Fin.ext hd.symm))
  · intro x; rw [emb_cols 384 _ x (by have : (x 1).val < 128 := (x 1).isLt; omega)]
    obtain ⟨r, e, rfl⟩ : ∃ (r : Fin 128) (e : Fin 128), x = ix2 r e := ⟨x 0, x 1, eq_ix2 x⟩
    refine (k3 _ _ _ r e).trans ((norm_congr _ e (fun _ => rfl) fun j => block_kn m c t j).trans ?_)
    exact heads_at 128 _ _ _ _ _ _ (t.val * 4 + 3) e (by show t.val * 512 + (384 + e.val) = _; omega) _
      fun j k hk => col_k m c t r _ k (by rw [hk]; show _ = t.val * 512 + (384 + j.val); omega)
  · intro x; rw [emb_cols 256 _ x (by have : (x 1).val < 128 := (x 1).isLt; omega)]
    obtain ⟨r, e, rfl⟩ : ∃ (r : Fin 128) (e : Fin 128), x = ix2 r e := ⟨x 0, x 1, eq_ix2 x⟩
    refine (k2 _ _ _ r e).trans ((norm_congr _ e (fun _ => rfl) fun j => block_kn m c t j).trans ?_)
    exact heads_at 128 _ _ _ _ _ _ (t.val * 4 + 2) e (by show t.val * 512 + (256 + e.val) = _; omega) _
      fun j k hk => col_k m c t r _ k (by rw [hk]; show _ = t.val * 512 + (256 + j.val); omega)
  · intro x; rw [emb_cols 128 _ x (by have : (x 1).val < 128 := (x 1).isLt; omega)]
    obtain ⟨r, e, rfl⟩ : ∃ (r : Fin 128) (e : Fin 128), x = ix2 r e := ⟨x 0, x 1, eq_ix2 x⟩
    refine (k1 _ _ _ r e).trans ((norm_congr _ e (fun _ => rfl) fun j => block_kn m c t j).trans ?_)
    exact heads_at 128 _ _ _ _ _ _ (t.val * 4 + 1) e (by show t.val * 512 + (128 + e.val) = _; omega) _
      fun j k hk => col_k m c t r _ k (by rw [hk]; show _ = t.val * 512 + (128 + j.val); omega)
  · intro x; rw [emb_cols 0 _ x (by have : (x 1).val < 128 := (x 1).isLt; omega)]
    obtain ⟨r, e, rfl⟩ : ∃ (r : Fin 128) (e : Fin 128), x = ix2 r e := ⟨x 0, x 1, eq_ix2 x⟩
    refine (k0 _ _ _ r e).trans ((norm_congr _ e (fun _ => rfl) fun j => block_kn m c t j).trans ?_)
    exact heads_at 128 _ _ _ _ _ _ (t.val * 4 + 0) e (by show t.val * 512 + (0 + e.val) = _; omega) _
      fun j k hk => col_k m c t r _ k (by rw [hk]; show _ = t.val * 512 + (j.val); omega)
  · exact View.cover_of_tiled_head _ _ _ rfl _

theorem out_kb (c : Dev nD) (t : Fin cfg0.N) (y : S128x512.Idx) (R : Fin 128) (hR : R.val = (y 0).val) (d : Fin 1024)
    (hd : d.val = t.val * 512 + (y 1).val) :
    (dats m 0 c).after 8 t y = key m c R d := by
  have hN : t.val < 2 := lt_of_lt_of_eq t.isLt N_0
  rw [after0_8]; unfold_out out0_8; frame_out
  obtain ⟨r, e, rfl⟩ : ∃ (r : Fin 128) (e : Fin 512), y = ix2 r e := ⟨y 0, y 1, eq_ix2 y⟩
  refine (View.canon_append_of_piecesOf (Val := Elt Ideal) (e := .bf16)
    (fun y : S128x512.Idx => key m c (y 0) ⟨t.val * 512 + (y 1).val, by have : (y 1).val < 512 := (y 1).isLt; omega⟩)
    [] [_, _, _, _] ⟨?_, ?_, ?_, ?_, trivial⟩ (ix2 r e) ?_).trans (congrArg₂ (key m c) (Fin.ext hR.symm) (Fin.ext hd.symm))
  · intro x; rw [emb_cols 384 _ x (by have : (x 1).val < 128 := (x 1).isLt; omega)]
    obtain ⟨r, e, rfl⟩ : ∃ (r : Fin 128) (e : Fin 128), x = ix2 r e := ⟨x 0, x 1, eq_ix2 x⟩
    refine (kb3 _ _ _ r e).trans ((norm_congr _ e (fun _ => rfl) fun j => block_kn m c t j).trans ?_)
    exact heads_at 128 _ _ _ _ _ _ (t.val * 4 + 3) e (by show t.val * 512 + (384 + e.val) = _; omega) _
      fun j k hk => col_k m c t r _ k (by rw [hk]; show _ = t.val * 512 + (384 + j.val); omega)
  · intro x; rw [emb_cols 256 _ x (by have : (x 1).val < 128 := (x 1).isLt; omega)]
    obtain ⟨r, e, rfl⟩ : ∃ (r : Fin 128) (e : Fin 128), x = ix2 r e := ⟨x 0, x 1, eq_ix2 x⟩
    refine (kb2 _ _ _ r e).trans ((norm_congr _ e (fun _ => rfl) fun j => block_kn m c t j).trans ?_)
    exact heads_at 128 _ _ _ _ _ _ (t.val * 4 + 2) e (by show t.val * 512 + (256 + e.val) = _; omega) _
      fun j k hk => col_k m c t r _ k (by rw [hk]; show _ = t.val * 512 + (256 + j.val); omega)
  · intro x; rw [emb_cols 128 _ x (by have : (x 1).val < 128 := (x 1).isLt; omega)]
    obtain ⟨r, e, rfl⟩ : ∃ (r : Fin 128) (e : Fin 128), x = ix2 r e := ⟨x 0, x 1, eq_ix2 x⟩
    refine (kb1 _ _ _ r e).trans ((norm_congr _ e (fun _ => rfl) fun j => block_kn m c t j).trans ?_)
    exact heads_at 128 _ _ _ _ _ _ (t.val * 4 + 1) e (by show t.val * 512 + (128 + e.val) = _; omega) _
      fun j k hk => col_k m c t r _ k (by rw [hk]; show _ = t.val * 512 + (128 + j.val); omega)
  · intro x; rw [emb_cols 0 _ x (by have : (x 1).val < 128 := (x 1).isLt; omega)]
    obtain ⟨r, e, rfl⟩ : ∃ (r : Fin 128) (e : Fin 128), x = ix2 r e := ⟨x 0, x 1, eq_ix2 x⟩
    refine (kb0 _ _ _ r e).trans ((norm_congr _ e (fun _ => rfl) fun j => block_kn m c t j).trans ?_)
    exact heads_at 128 _ _ _ _ _ _ (t.val * 4 + 0) e (by show t.val * 512 + (0 + e.val) = _; omega) _
      fun j k hk => col_k m c t r _ k (by rw [hk]; show _ = t.val * 512 + (j.val); omega)
  · exact View.cover_of_tiled_head _ _ _ rfl _

theorem out_v (c : Dev nD) (t : Fin cfg0.N) (y : S128x512.Idx) (R : Fin 128) (hR : R.val = (y 0).val) (d : Fin 1024)
    (hd : d.val = t.val * 512 + (y 1).val) :
    (dats m 0 c).after 9 t y = worth m c R d := by
  rw [after0_9]; unfold_out out0_9; frame_out
  obtain ⟨r, e, rfl⟩ : ∃ (r : Fin 128) (e : Fin 512), y = ix2 r e := ⟨y 0, y 1, eq_ix2 y⟩
  obtain rfl : R = r := Fin.ext hR
  exact col_v m c t R e d hd

theorem out_vb (c : Dev nD) (t : Fin cfg0.N) (y : S128x512.Idx) (R : Fin 128) (hR : R.val = (y 0).val) (d : Fin 1024)
    (hd : d.val = t.val * 512 + (y 1).val) :
    (dats m 0 c).after 10 t y = worth m c R d := by
  rw [after0_10]; unfold_out out0_10; frame_out
  obtain ⟨r, e, rfl⟩ : ∃ (r : Fin 128) (e : Fin 512), y = ix2 r e := ⟨y 0, y 1, eq_ix2 y⟩
  obtain rfl : R = r := Fin.ext hR
  exact col_v m c t R e d hd

theorem final_q (c : Dev nD) (R : Fin 128) (d : Fin 1024) : ((dats m 0 c).arrAt 6 (cfgs 0).N (ix2 R d) : Ideal .bf16) = query m c R d := by
  refine congrFun ((dats m 0 c).arrAt_eq_of_covers 6 (fun y : S128x1024.Idx => query m c (y 0) (y 1))
    (by decide +kernel) fun t hf (y : S128x512.Idx) => ?_) (ix2 R d)
  blk_simp
  refine out_q m c t y _ ?_ _ ?_
  · blk_simp [index t]
  · blk_simp [index t]

theorem final_k (c : Dev nD) (R : Fin 128) (d : Fin 1024) : ((dats m 0 c).arrAt 7 (cfgs 0).N (ix2 R d) : Ideal .f32) = key m c R d := by
  refine congrFun ((dats m 0 c).arrAt_eq_of_covers 7 (fun y : S128x1024.Idx => key m c (y 0) (y 1))
    (by decide +kernel) fun t hf (y : S128x512.Idx) => ?_) (ix2 R d)
  blk_simp
  refine out_k m c t y _ ?_ _ ?_
  · blk_simp [index t]
  · blk_simp [index t]

theorem final_kb (c : Dev nD) (R : Fin 128) (d : Fin 1024) : ((dats m 0 c).arrAt 8 (cfgs 0).N (ix2 R d) : Ideal .bf16) = key m c R d := by
  refine congrFun ((dats m 0 c).arrAt_eq_of_covers 8 (fun y : S128x1024.Idx => key m c (y 0) (y 1))
    (by decide +kernel) fun t hf (y : S128x512.Idx) => ?_) (ix2 R d)
  blk_simp
  refine out_kb m c t y _ ?_ _ ?_
  · blk_simp [index t]
  · blk_simp [index t]

theorem final_v (c : Dev nD) (R : Fin 128) (d : Fin 1024) : ((dats m 0 c).arrAt 9 (cfgs 0).N (ix2 R d) : Ideal .f32) = worth m c R d := by
  refine congrFun ((dats m 0 c).arrAt_eq_of_covers 9 (fun y : S128x1024.Idx => worth m c (y 0) (y 1))
    (by decide +kernel) fun t hf (y : S128x512.Idx) => ?_) (ix2 R d)
  blk_simp
  refine out_v m c t y _ ?_ _ ?_
  · blk_simp [index t]
  · blk_simp [index t]

theorem final_vb (c : Dev nD) (R : Fin 128) (d : Fin 1024) : ((dats m 0 c).arrAt 10 (cfgs 0).N (ix2 R d) : Ideal .bf16) = worth m c R d := by
  refine congrFun ((dats m 0 c).arrAt_eq_of_covers 10 (fun y : S128x1024.Idx => worth m c (y 0) (y 1))
    (by decide +kernel) fun t hf (y : S128x512.Idx) => ?_) (ix2 R d)
  blk_simp
  refine out_vb m c t y _ ?_ _ ?_
  · blk_simp [index t]
  · blk_simp [index t]

end

section
open Cert.SampleRefIdeal Cert.SampleRefIdeal.Read

variable (x0 : (⟨S8320x2048, .bf16⟩ : BufTy).Contents (Elt Ideal)) (x1 : (⟨S2x2048x17408, .bf16⟩ : BufTy).Contents (Elt Ideal))
  (x2 x3 : (⟨S1x128, .f32⟩ : BufTy).Contents (Elt Ideal))

theorem ref_acc_q (r : Fin 128) (d : Fin 1024) : (val_main_v6 (F := Ideal) x0 x1 (ix2 r d) : Ideal .f32)
    = product x0 x1 5120 (by decide) (row r) d := by
  pointwise [val_main_v6, val_main_v5, val_main_v4, val_main_v3, val_main_v2, val_main_v1, val_main_v0]
  unfold product
  rfl

theorem ref_col_q (r : Fin 128) (b : Fin 8) (e : Fin 128) (k : Fin 1024) (hk : k.val = b.val * 128 + e.val) :
    (val_main_v7 (F := Ideal) x0 x1 (ix3 r b e) : Ideal .f32) = product x0 x1 5120 (by decide) (row r) k := by
  rw [← ref_acc_q, val_main_v7_apply]
  refine congrArg _ (funext fun a => Fin.ext ?_)
  have := r.isLt; have := b.isLt; have := e.isLt
  match a with
  | ⟨0, _⟩ => show ((r.val * 8 + b.val) * 128 + e.val) / 1024 = r.val; omega
  | ⟨1, _⟩ => show ((r.val * 8 + b.val) * 128 + e.val) % 1024 = k.val; omega

theorem ref_acc_k (r : Fin 128) (d : Fin 1024) : (val_main_v28 (F := Ideal) x0 x1 (ix2 r d) : Ideal .f32)
    = product x0 x1 6144 (by decide) (row r) d := by
  pointwise [val_main_v28, val_main_v27, val_main_v26, val_main_v25, val_main_v24, val_main_v23, val_main_v0]
  unfold product
  rfl

theorem ref_col_k (r : Fin 128) (b : Fin 8) (e : Fin 128) (k : Fin 1024) (hk : k.val = b.val * 128 + e.val) :
    (val_main_v29 (F := Ideal) x0 x1 (ix3 r b e) : Ideal .f32) = product x0 x1 6144 (by decide) (row r) k := by
  rw [← ref_acc_k, val_main_v29_apply]
  refine congrArg _ (funext fun a => Fin.ext ?_)
  have := r.isLt; have := b.isLt; have := e.isLt
  match a with
  | ⟨0, _⟩ => show ((r.val * 8 + b.val) * 128 + e.val) / 1024 = r.val; omega
  | ⟨1, _⟩ => show ((r.val * 8 + b.val) * 128 + e.val) % 1024 = k.val; omega

theorem ref_acc_v (r : Fin 128) (d : Fin 1024) : (val_main_v50 (F := Ideal) x0 x1 (ix2 r d) : Ideal .f32)
    = product x0 x1 7168 (by decide) (row r) d := by
  pointwise [val_main_v50, val_main_v49, val_main_v48, val_main_v47, val_main_v46, val_main_v45, val_main_v0]
  unfold product
  rfl

theorem split (r : Fin 128) (d : Fin 1024) (i : S128x8x128.Idx) (h0 : (i 0).val = (r.val * 1024 + d.val) / 1024)
    (h1 : (i 1).val = (r.val * 1024 + d.val) / 128 % 8) (h2 : (i 2).val = (r.val * 1024 + d.val) % 128) :
    i = ix3 r ⟨d.val / 128, by have := d.isLt; omega⟩ ⟨d.val % 128, by omega⟩ := by
  have := d.isLt
  funext a
  apply Fin.ext
  match a with
  | ⟨0, _⟩ => show (i 0).val = r.val; omega
  | ⟨1, _⟩ => show (i 1).val = d.val / 128; omega
  | ⟨2, _⟩ => show (i 2).val = d.val % 128; omega

theorem ref_head_q (r : Fin 128) (b : Fin 8) (e : Fin 128) : (val_main_v21 (F := Ideal) x0 x1 x2 (ix3 r b e) : Ideal .f32)
    = norm 0x43000000#32 (fun j : Fin 128 => (val_main_v7 (F := Ideal) x0 x1 (ix3 r b j) : Ideal .f32)) (fun j => x2 (ix2 0 j)) e := by
  pointwise [val_main_v21, val_main_v20, val_main_v19, val_main_v18, val_main_v17, val_main_v16, val_main_v15, val_main_v14, val_main_v13, val_main_v12, val_main_v11, val_main_v10, val_main_v9, val_main_v8, val_main_cst, val_main_cst_0, val_main_cst_1]
  rfl

theorem ref_q (r : Fin 128) (d : Fin 1024) : (val_main_v22 (F := Ideal) x0 x1 x2 (ix2 r d) : Ideal .f32)
    = heads 128 (by decide) (by decide) 0x43000000#32 (fun k => product x0 x1 5120 (by decide) (row r) k) (fun j => x2 (ix2 0 j)) d := by
  refine (val_main_v22_apply (F := Ideal) x0 x1 x2 (ix2 r d)).trans ?_
  refine (congrArg (val_main_v21 (F := Ideal) x0 x1 x2) (split r d _ rfl rfl rfl)).trans ?_
  rw [ref_head_q]
  exact heads_at 128 _ _ _ _ _ d (d.val / 128) _ (show d.val = d.val / 128 * 128 + d.val % 128 by omega) _
    fun j k hk => ref_col_q x0 x1 r _ j k hk

theorem ref_qb (r : Fin 128) (d : Fin 1024) : (val_main_v51 (F := Ideal) x0 x1 x2 (ix2 r d) : Ideal .bf16)
    = heads 128 (by decide) (by decide) 0x43000000#32 (fun k => product x0 x1 5120 (by decide) (row r) k) (fun j => x2 (ix2 0 j)) d :=
  ref_q x0 x1 x2 r d

theorem ref_head_k (r : Fin 128) (b : Fin 8) (e : Fin 128) : (val_main_v43 (F := Ideal) x0 x1 x3 (ix3 r b e) : Ideal .f32)
    = norm 0x43000000#32 (fun j : Fin 128 => (val_main_v29 (F := Ideal) x0 x1 (ix3 r b j) : Ideal .f32)) (fun j => x3 (ix2 0 j)) e := by
  pointwise [val_main_v43, val_main_v42, val_main_v41, val_main_v40, val_main_v39, val_main_v38, val_main_v37, val_main_v36, val_main_v35, val_main_v34, val_main_v33, val_main_v32, val_main_v31, val_main_v30, val_main_cst_2, val_main_cst_3, val_main_cst_4]
  rfl

theorem ref_k (r : Fin 128) (d : Fin 1024) : (val_main_v44 (F := Ideal) x0 x1 x3 (ix2 r d) : Ideal .f32)
    = heads 128 (by decide) (by decide) 0x43000000#32 (fun k => product x0 x1 6144 (by decide) (row r) k) (fun j => x3 (ix2 0 j)) d := by
  refine (val_main_v44_apply (F := Ideal) x0 x1 x3 (ix2 r d)).trans ?_
  refine (congrArg (val_main_v43 (F := Ideal) x0 x1 x3) (split r d _ rfl rfl rfl)).trans ?_
  rw [ref_head_k]
  exact heads_at 128 _ _ _ _ _ d (d.val / 128) _ (show d.val = d.val / 128 * 128 + d.val % 128 by omega) _
    fun j k hk => ref_col_k x0 x1 r _ j k hk

theorem ref_kb (r : Fin 128) (d : Fin 1024) : (val_main_v52 (F := Ideal) x0 x1 x3 (ix2 r d) : Ideal .bf16)
    = heads 128 (by decide) (by decide) 0x43000000#32 (fun k => product x0 x1 6144 (by decide) (row r) k) (fun j => x3 (ix2 0 j)) d :=
  ref_k x0 x1 x3 r d

theorem ref_vb (r : Fin 128) (d : Fin 1024) : (val_main_v53 (F := Ideal) x0 x1 (ix2 r d) : Ideal .bf16)
    = product x0 x1 7168 (by decide) (row r) d :=
  ref_acc_v x0 x1 r d

end

end Cert.SampleValue

end
-- ==== Proof.ForgetValue.lean ====
/- The logarithm of the forgetting factor: a part of the projection plus a bias, and the logarithm of the logistic of the sum. -/
module

public import proofs.«01_k».proof.Proof.Gen.ForgetIdeal
public import proofs.«01_k».proof.Proof.Gen.ForgetIdeal.Skeleton
public import proofs.«01_k».proof.Proof.Gen.ForgetIdeal.Launch
public import proofs.«01_k».proof.Proof.Gen.ForgetIdeal.Points
public import proofs.«01_k».proof.Proof.Gen.ForgetIdeal.Frame
public import proofs.«01_k».proof.Proof.Gen.ForgetRefIdeal.Read
public import proofs.«01_k».proof.Proof.Columns
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.ForgetValue

open Cert.Layer

/-- The logarithm of the logistic of a number, as the kernel computes it. -/
def logLogistic (x : EReal) : EReal := min x 0 - Ideal.log1p (Ideal.exp (0 - max x (-x)))

theorem coe_max (a b : ℝ) : ((max a b : ℝ) : EReal) = max (a : EReal) b := EReal.coe_strictMono.monotone.map_max

theorem coe_min (a b : ℝ) : ((min a b : ℝ) : EReal) = min (a : EReal) b := EReal.coe_strictMono.monotone.map_min

theorem log1p_exp (r : ℝ) : Ideal.log1p ((Real.exp r : ℝ) : EReal) = ((Real.log (1 + Real.exp r) : ℝ) : EReal) := by
  unfold Ideal.log1p
  have h : (1 : EReal) + ((Real.exp r : ℝ) : EReal) = ((1 + Real.exp r : ℝ) : EReal) := by norm_cast
  have hp : ¬ (1 + Real.exp r ≤ 0) := not_le.mpr (by positivity)
  rw [h, Ideal.log_coe, if_neg hp]

theorem log1p_zero : Ideal.log1p 0 = 0 := by
  have h : (1 : EReal) + 0 = ((1 : ℝ) : EReal) := by norm_num
  unfold Ideal.log1p
  rw [h, Ideal.log_coe, if_neg (by norm_num), Real.log_one]
  rfl

/-- It is what one gets from the other way to write it, minus the logarithm of one plus an exponential. -/
theorem logLogistic_eq (x : EReal) :
    -(max (-x) 0 + Ideal.log1p (Ideal.exp (-(max (-x) (- -x))))) = logLogistic x := by
  unfold logLogistic
  induction x using EReal.rec with
  | bot => simp [log1p_zero]
  | top => simp [log1p_zero]
  | coe r =>
    have h1 : Ideal.exp (-(max (-(r : EReal)) (- -(r : EReal)))) = ((Real.exp (-(max (-r) r)) : ℝ) : EReal) := by
      rw [neg_neg, ← EReal.coe_neg, ← coe_max, ← EReal.coe_neg, Ideal.exp_coe]
    have h2 : Ideal.exp (0 - max (r : EReal) (-(r : EReal))) = ((Real.exp (-(max (-r) r)) : ℝ) : EReal) := by
      rw [zero_sub, ← EReal.coe_neg, ← coe_max, ← EReal.coe_neg, Ideal.exp_coe, max_comm]
    rw [h1, h2, log1p_exp]
    have h3 : -max (-r) 0 = min r 0 := by
      rcases le_total r 0 with h | h
      · rw [max_eq_left (by linarith), min_eq_left h, neg_neg]
      · rw [max_eq_right (by linarith), min_eq_right h, neg_zero]
    have h4 : -(max (-r) 0 + Real.log (1 + Real.exp (-(max (-r) r)))) = min r 0 - Real.log (1 + Real.exp (-(max (-r) r))) := by
      rw [neg_add, h3]; rfl
    rw [← EReal.coe_neg, ← EReal.coe_zero, ← coe_max, ← coe_min, ← EReal.coe_add, ← EReal.coe_neg, ← EReal.coe_sub, h4]

section
open Cert.ForgetIdeal Cert.ForgetIdeal.Gen

variable (m : (ℓ : Loc nD τ sig) → Buf (Elt Ideal) ℓ)

theorem index : ∀ t : Fin cfg0.N, win0_0.index t = ![t.val, 0]
    ∧ win0_1.index t = ![0, 64, 0]
    ∧ win0_2.index t = ![0, 0]
    ∧ win0_3.index t = ![t.val, 0] :=
  (by decide +kernel : ∀ t : Fin grid0.N, _)

theorem pay (h : FVec Ideal S1040x2048 .bf16) (w : FVec Ideal S1x128x2048 .f32) (b : FVec Ideal S1x128 .f32) (r : Fin 1040) (k : Fin 128) :
    (k0_pay1 h w b (ix2 r k) : Ideal .f32)
      = logLogistic ((∑ j : Fin 2048, (h (ix2 r j) : Ideal .bf16) * w (ix3 0 k j)) + b (ix2 0 k)) := by
  pointwise [k0_pay1]
  rfl

theorem block_h (c : Dev nD) (t : Fin cfg0.N) (R : Fin 8320) (r : Fin 1040) (hR : R.val = t.val * 1040 + r.val) (d : Fin 2048) :
    iblk m c 0 t (ix2 r d) = m ((c : Thread nD τ).loc main_arg0) (ix2 R d) := by
  blk_ext [iblk, V, index t]

theorem block_w (c : Dev nD) (t : Fin cfg0.N) (k : Fin 128) (d : Fin 2048) :
    X0_1 m c t (ix3 0 k d) = m ((c : Thread nD τ).loc main_arg1) (ix3 0 ⟨8192 + k.val, by have := k.isLt; omega⟩ d) := by
  unfold X0_1 Pipeline.Window.fill
  rw [dif_pos (moved0_1 t (ix3 0 k d))]
  blk_ext [iblk, V, index t]

theorem block_b (c : Dev nD) (t : Fin cfg0.N) (k : Fin 128) :
    iblk m c 2 t (ix2 0 k) = m ((c : Thread nD τ).loc main_arg2) (ix2 0 k) := by
  blk_ext [iblk, V, index t]

/-- A row times a row of the weights, plus the bias. -/
def gate (h : (⟨S8320x2048, .bf16⟩ : BufTy).Contents (Elt Ideal)) (w : (⟨S2x17416x2048, .f32⟩ : BufTy).Contents (Elt Ideal))
    (b : (⟨S1x128, .f32⟩ : BufTy).Contents (Elt Ideal)) (R : Fin 8320) (k : Fin 128) : EReal :=
  (∑ j : Fin 2048, (h (ix2 R j) : EReal) * w (ix3 0 ⟨8192 + k.val, by have := k.isLt; omega⟩ j)) + b (ix2 0 k)

theorem out (c : Dev nD) (t : Fin cfg0.N) (y : S1040x128.Idx) (R : Fin 8320) (hR : R.val = t.val * 1040 + (y 0).val) (k : Fin 128) (hk : k.val = (y 1).val) :
    (dats m 0 c).after 3 t y = logLogistic (gate (m ((c : Thread nD τ).loc main_arg0)) (m ((c : Thread nD τ).loc main_arg1)) (m ((c : Thread nD τ).loc main_arg2)) R k) := by
  rw [after0_3]; unfold outsAt0; frame_out
  obtain ⟨r, e, rfl⟩ : ∃ (r : Fin 1040) (e : Fin 128), y = ix2 r e := ⟨y 0, y 1, eq_ix2 y⟩
  obtain rfl : k = e := Fin.ext hk
  refine (pay _ _ _ r k).trans ?_
  unfold gate
  exact congrArg logLogistic (congrArg₂ (· + ·) (Finset.sum_congr rfl fun j _ => congrArg₂ (· * ·) (block_h m c t R r hR j) (block_w m c t k j)) (block_b m c t k))

/-- The result array after the run. -/
theorem final (c : Dev nD) (R : Fin 8320) (k : Fin 128) : ((dats m 0 c).arrAt 3 (cfgs 0).N (ix2 R k) : Ideal .f32)
    = logLogistic (gate (m ((c : Thread nD τ).loc main_arg0)) (m ((c : Thread nD τ).loc main_arg1)) (m ((c : Thread nD τ).loc main_arg2)) R k) := by
  refine congrFun ((dats m 0 c).arrAt_eq_of_covers 3 (fun y : S8320x128.Idx => logLogistic (gate (m ((c : Thread nD τ).loc main_arg0)) (m ((c : Thread nD τ).loc main_arg1)) (m ((c : Thread nD τ).loc main_arg2)) (y 0) (y 1)))
    (by decide +kernel) fun t hf (y : S1040x128.Idx) => ?_) (ix2 R k)
  blk_simp
  refine out m c t y _ ?_ _ ?_
  · blk_simp [index t]
  · blk_simp [index t]

end

section
open Cert.ForgetRefIdeal Cert.ForgetRefIdeal.Read

variable (x0 : (⟨S8320x2048, .bf16⟩ : BufTy).Contents (Elt Ideal)) (x1 : (⟨S2x17416x2048, .f32⟩ : BufTy).Contents (Elt Ideal))
  (x2 : (⟨S1x128, .f32⟩ : BufTy).Contents (Elt Ideal))

theorem ref_acc (r : Fin 8320) (d : Fin 128) : (val_main_v7 (F := Ideal) x0 x1 x2 (ix2 r d) : Ideal .f32) = gate x0 x1 x2 r d := by
  pointwise [val_main_v7, val_main_v6, val_main_v5, val_main_v4, val_main_v3, val_main_v2, val_main_v1, val_main_v0]
  rfl

theorem ref_out (r : Fin 8320) (d : Fin 128) : (val_main_v8 (F := Ideal) x0 x1 x2 (ix2 r d) : Ideal .f32) = logLogistic (gate x0 x1 x2 r d) := by
  rw [← logLogistic_eq, ← ref_acc]
  pointwise [val_main_v8, val_main_call0_v1, val_main_call0_v0, val_main_call0_call0_cst, val_main_call0_call0_v0, val_main_call0_call0_v1, val_main_call0_call0_v2,
    val_main_call0_call0_v3, val_main_call0_call0_v4, val_main_call0_call0_v5, val_main_call0_call0_v6, val_main_call0_call0_v7, val_main_call0_call0_v8,
    val_main_call0_call0_v9, val_main_call0_call0_v10, val_main_call0_call0_v11]
  rw [if_neg (fun h => h rfl)]
  rfl

end

end Cert.ForgetValue

end
-- ==== Proof.MemoryRun.lean ====
/- The run of the memory's two calls: what each of its result arrays holds at the end. -/
module

public import proofs.«01_k».proof.Proof.Gen.MemoryIdeal.Frame

@[expose] public section

set_option maxRecDepth 16384

noncomputable section

namespace Cert.MemoryRun

open Cert.MemoryIdeal Cert.MemoryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that outlives the calls ends with what the last of them leaves in it. -/
theorem ends : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-- The two result arrays at the end of the run, and the arguments, which stay. -/
theorem run : θ_run defs (onTc (τ := τ) (main (F := F))) ⟨m, fun _ => 0, ρ⟩ (fun r => ∀ c : Dev nD,
      r.2.mem ((c.tc : Thread nD τ).loc main_v4_0) = (dat1 (V2 m ρ) c).arrAt 4 cfg1.N
      ∧ r.2.mem ((c.tc : Thread nD τ).loc main_v4_1) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4_0 (by decide))).trans (W3_arr m ρ c 4),
     (h c _ (mem_uc main_v4_1 (by decide))).trans (W3_arr m ρ c 5),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (ends m ρ)

end Cert.MemoryRun

end
-- ==== Proof.MemoryValue.lean ====
/- The keys and values of the memory: its rows normalised, then multiplied by the weights, the keys normalised per head. -/
module

public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryRefIdeal.Read
public import proofs.«01_k».proof.Proof.Columns
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.MemoryValue

open Cert.Layer

section
open Cert.MemoryIdeal Cert.MemoryIdeal.Gen

variable (m : (ℓ : Loc nD τ sig) → Buf (Elt Ideal) ℓ)

/-- A row of the memory, normalised. -/
def normed (x : Fin 512 → Fin 2048 → EReal) (g : Fin 2048 → EReal) (R : Fin 512) (d : Fin 2048) : EReal :=
  norm 0x45000000#32 (x R) g d

/-- Column `k` of the 1024 columns of the weights that begin at `o`, of row `R`. -/
def column (x : Fin 512 → Fin 2048 → EReal) (w : (⟨S2x2048x2048, .bf16⟩ : BufTy).Contents (Elt Ideal)) (o : ℕ) (ho : o + 1024 ≤ 2048)
    (R : Fin 512) (k : Fin 1024) : EReal :=
  ∑ j : Fin 2048, x R j * w (ix3 0 j ⟨o + k.val, by have := k.isLt; omega⟩)

/-- A key. -/
def key (x : Fin 512 → Fin 2048 → EReal) (w : (⟨S2x2048x2048, .bf16⟩ : BufTy).Contents (Elt Ideal)) (g : Fin 256 → EReal) (R : Fin 512) (d : Fin 1024) : EReal :=
  heads 256 (by decide) (by decide) 0x43800000#32 (fun k => column x w 0 (by decide) R k) g d

section first

variable (V : (c : Dev nD) → (b : Ref sig .tc) → Buf (Elt Ideal) ((c : Thread nD τ).loc b))

theorem index_0 : ∀ t : Fin cfg0.N, win0_0.index t = ![t.val, 0]
    ∧ win0_1.index t = ![0, 0]
    ∧ win0_2.index t = ![t.val, 0] :=
  (by decide +kernel : ∀ t : Fin grid0.N, _)

theorem pay_0 (x : FVec Ideal S256x2048 .f32) (g : FVec Ideal S1x2048 .f32) (r : Fin 256) (d : Fin 2048) :
    (k0_pay1 x g (ix2 r d) : Ideal .bf16) = norm 0x45000000#32 (fun j : Fin 2048 => (x (ix2 r j) : Ideal .f32)) (fun j => g (ix2 0 j)) d := by
  pointwise [k0_pay1]
  rfl

theorem block_x (c : Dev nD) (t : Fin cfg0.N) (R : Fin 512) (r : Fin 256) (hR : R.val = t.val * 256 + r.val) (d : Fin 2048) :
    iblk0 V c 0 t (ix2 r d) = V c main_arg0 (ix2 R d) := by
  blk_ext [iblk0, index_0 t]

theorem block_n (c : Dev nD) (t : Fin cfg0.N) (d : Fin 2048) :
    iblk0 V c 1 t (ix2 0 d) = V c main_v2 (ix2 0 d) := by
  blk_ext [iblk0, index_0 t]

theorem out_0 (c : Dev nD) (t : Fin cfg0.N) (y : S256x2048.Idx) (R : Fin 512) (hR : R.val = t.val * 256 + (y 0).val) (d : Fin 2048) (hd : d.val = (y 1).val) :
    (dat0 V c).after 2 t y = normed (fun R j => V c main_arg0 (ix2 R j)) (fun j => V c main_v2 (ix2 0 j)) R d := by
  rw [after0_2]; unfold out0_2; frame_out
  obtain ⟨r, e, rfl⟩ : ∃ (r : Fin 256) (e : Fin 2048), y = ix2 r e := ⟨y 0, y 1, eq_ix2 y⟩
  obtain rfl : d = e := Fin.ext hd
  exact (pay_0 _ _ r d).trans (norm_congr _ d (fun j => block_x V c t R r hR j) fun j => block_n V c t j)

/-- What the first part leaves: the memory's rows, normalised. -/
theorem final_0 (c : Dev nD) (R : Fin 512) (d : Fin 2048) : ((dat0 V c).arrAt 2 cfg0.N (ix2 R d) : Ideal .bf16)
    = normed (fun R j => V c main_arg0 (ix2 R j)) (fun j => V c main_v2 (ix2 0 j)) R d := by
  refine congrFun ((dat0 V c).arrAt_eq_of_covers 2 (fun y : S512x2048.Idx => normed (fun R j => V c main_arg0 (ix2 R j)) (fun j => V c main_v2 (ix2 0 j)) (y 0) (y 1))
    (by decide +kernel) fun t hf (y : S256x2048.Idx) => ?_) (ix2 R d)
  blk_simp
  refine out_0 V c t y _ ?_ _ ?_
  · blk_simp [index_0 t]
  · blk_simp [index_0 t]

end first

section second

variable (V : (c : Dev nD) → (b : Ref sig .tc) → Buf (Elt Ideal) ((c : Thread nD τ).loc b))

theorem index_1 : ∀ t : Fin cfg1.N, win1_0.index t = ![t.val / 2, 0]
    ∧ win1_1.index t = ![0, 0, t.val % 2]
    ∧ win1_2.index t = ![0, 0, 2 + t.val % 2]
    ∧ win1_3.index t = ![0, 0]
    ∧ win1_4.index t = ![t.val / 2, t.val % 2]
    ∧ win1_5.index t = ![t.val / 2, t.val % 2] :=
  (by decide +kernel : ∀ t : Fin grid1.N, _)

theorem acc_k (h : FVec Ideal S256x2048 .bf16) (w : FVec Ideal S1x2048x512 .bf16) (r : Fin 256) (k : Fin 512) :
    (k1_pay2 h w (ix2 r k) : Ideal .f32) = ∑ j : Fin 2048, (h (ix2 r j) : Ideal .bf16) * w (ix3 0 j k) := by
  pointwise [k1_pay2, k1_pay1]

theorem acc_v (h : FVec Ideal S256x2048 .bf16) (w : FVec Ideal S1x2048x512 .bf16) (r : Fin 256) (k : Fin 512) :
    (k1_pay3 h w (ix2 r k) : Ideal .f32) = ∑ j : Fin 2048, (h (ix2 r j) : Ideal .bf16) * w (ix3 0 j k) := by
  pointwise [k1_pay3, k1_pay1]

theorem left (h : FVec Ideal S256x2048 .bf16) (w : FVec Ideal S1x2048x512 .bf16) (g : FVec Ideal S1x256 .f32) (r : Fin 256) (e : Fin 256) :
    (k1_pay4 h w g (ix2 r e) : Ideal .f32)
      = norm 0x43800000#32 (fun k : Fin 256 => (k1_pay2 h w (ix2 r ⟨k.val, by have := k.isLt; omega⟩) : Ideal .f32)) (fun j => g (ix2 0 j)) e := by
  pointwise [k1_pay4]
  rfl

theorem right (h : FVec Ideal S256x2048 .bf16) (w : FVec Ideal S1x2048x512 .bf16) (g : FVec Ideal S1x256 .f32) (r : Fin 256) (e : Fin 256) :
    (k1_pay5 h w g (ix2 r e) : Ideal .f32)
      = norm 0x43800000#32 (fun k : Fin 256 => (k1_pay2 h w (ix2 r ⟨256 + k.val, by have := k.isLt; omega⟩) : Ideal .f32)) (fun j => g (ix2 0 j)) e := by
  pointwise [k1_pay5]
  rfl

theorem block_h (c : Dev nD) (t : Fin cfg1.N) (R : Fin 512) (r : Fin 256) (hR : R.val = t.val / 2 * 256 + r.val) (d : Fin 2048) :
    iblk1 V c 0 t (ix2 r d) = V c main_v3 (ix2 R d) := by
  blk_ext [iblk1, index_1 t]

theorem block_wk (c : Dev nD) (t : Fin cfg1.N) (j : Fin 2048) (k : Fin 512) (K : Fin 2048) (hK : K.val = 0 + (t.val % 2 * 512 + k.val)) :
    iblk1 V c 1 t (ix3 0 j k) = V c main_arg2 (ix3 0 j K) := by
  blk_ext [iblk1, index_1 t]

theorem block_wv (c : Dev nD) (t : Fin cfg1.N) (j : Fin 2048) (k : Fin 512) (K : Fin 2048) (hK : K.val = 1024 + (t.val % 2 * 512 + k.val)) :
    iblk1 V c 2 t (ix3 0 j k) = V c main_arg2 (ix3 0 j K) := by
  blk_ext [iblk1, index_1 t]

theorem block_g (c : Dev nD) (t : Fin cfg1.N) (j : Fin 256) :
    iblk1 V c 3 t (ix2 0 j) = V c main_arg3 (ix2 0 j) := by
  blk_ext [iblk1, index_1 t]

theorem col_k (c : Dev nD) (t : Fin cfg1.N) (R : Fin 512) (r : Fin 256) (hR : R.val = t.val / 2 * 256 + r.val) (k : Fin 512) (K : Fin 1024)
    (hK : K.val = t.val % 2 * 512 + k.val) :
    (k1_pay2 (iblk1 V c 0 t) (iblk1 V c 1 t) (ix2 r k) : Ideal .f32) = column (fun R j => V c main_v3 (ix2 R j)) (V c main_arg2) 0 (by decide) R K := by
  refine (acc_k _ _ r k).trans ?_
  unfold column
  exact Finset.sum_congr rfl fun j _ => congrArg₂ (· * ·) (block_h V c t R r hR j) (block_wk V c t j k _ (congrArg (0 + ·) hK))

theorem col_v (c : Dev nD) (t : Fin cfg1.N) (R : Fin 512) (r : Fin 256) (hR : R.val = t.val / 2 * 256 + r.val) (k : Fin 512) (K : Fin 1024)
    (hK : K.val = t.val % 2 * 512 + k.val) :
    (k1_pay3 (iblk1 V c 0 t) (iblk1 V c 2 t) (ix2 r k) : Ideal .f32) = column (fun R j => V c main_v3 (ix2 R j)) (V c main_arg2) 1024 (by decide) R K := by
  refine (acc_v _ _ r k).trans ?_
  unfold column
  exact Finset.sum_congr rfl fun j _ => congrArg₂ (· * ·) (block_h V c t R r hR j) (block_wv V c t j k _ (congrArg (1024 + ·) hK))

/-- A key, from what the second part finds. -/
def key_at (c : Dev nD) (R : Fin 512) (d : Fin 1024) : EReal :=
  key (fun R j => V c main_v3 (ix2 R j)) (V c main_arg2) (fun j => V c main_arg3 (ix2 0 j)) R d

theorem out_k (c : Dev nD) (t : Fin cfg1.N) (y : S256x512.Idx) (R : Fin 512) (hR : R.val = t.val / 2 * 256 + (y 0).val) (d : Fin 1024)
    (hd : d.val = t.val % 2 * 512 + (y 1).val) :
    (dat1 V c).after 4 t y = key_at V c R d := by
  have hN : t.val < 4 := lt_of_lt_of_eq t.isLt N_1
  rw [after1_4]; unfold out1_4; frame_out
  obtain ⟨r, e, rfl⟩ : ∃ (r : Fin 256) (e : Fin 512), y = ix2 r e := ⟨y 0, y 1, eq_ix2 y⟩
  refine (View.canon_append_of_piecesOf (Val := Elt Ideal) (e := .f32)
    (fun y : S256x512.Idx => key_at V c ⟨t.val / 2 * 256 + (y 0).val, by have : (y 0).val < 256 := (y 0).isLt; omega⟩
      ⟨t.val % 2 * 512 + (y 1).val, by have : (y 1).val < 512 := (y 1).isLt; omega⟩)
    [] [_, _] ⟨?_, ?_, trivial⟩ (ix2 r e) ?_).trans (congrArg₂ (key_at V c) (Fin.ext hR.symm) (Fin.ext hd.symm))
  · intro x; rw [emb_cols 256 _ x (by have : (x 1).val < 256 := (x 1).isLt; omega)]
    obtain ⟨r, e, rfl⟩ : ∃ (r : Fin 256) (e : Fin 256), x = ix2 r e := ⟨x 0, x 1, eq_ix2 x⟩
    refine (right _ _ _ r e).trans ((norm_congr _ e (fun _ => rfl) fun j => block_g V c t j).trans ?_)
    exact heads_at 256 (by decide) (by decide) _ _ _ _ (t.val % 2 * 2 + 1) e (by show t.val % 2 * 512 + (256 + e.val) = _; omega) _
      fun j k hk => col_k V c t _ r rfl _ k (by rw [hk]; show _ = t.val % 2 * 512 + (256 + j.val); omega)
  · intro x; rw [emb_cols 0 _ x (by have : (x 1).val < 256 := (x 1).isLt; omega)]
    obtain ⟨r, e, rfl⟩ : ∃ (r : Fin 256) (e : Fin 256), x = ix2 r e := ⟨x 0, x 1, eq_ix2 x⟩
    refine (left _ _ _ r e).trans ((norm_congr _ e (fun _ => rfl) fun j => block_g V c t j).trans ?_)
    exact heads_at 256 (by decide) (by decide) _ _ _ _ (t.val % 2 * 2) e (by show t.val % 2 * 512 + (0 + e.val) = _; omega) _
      fun j k hk => col_k V c t _ r rfl _ k (by rw [hk]; show _ = t.val % 2 * 512 + j.val; omega)
  · exact View.cover_of_tiled_head _ _ _ rfl _

theorem final_1k (c : Dev nD) (R : Fin 512) (d : Fin 1024) : ((dat1 V c).arrAt 4 cfg1.N (ix2 R d) : Ideal .f32) = key_at V c R d := by
  refine congrFun ((dat1 V c).arrAt_eq_of_covers 4 (fun y : S512x1024.Idx => key_at V c (y 0) (y 1))
    (by decide +kernel) fun t hf (y : S256x512.Idx) => ?_) (ix2 R d)
  blk_simp
  refine out_k V c t y _ ?_ _ ?_
  · blk_simp [index_1 t]
  · blk_simp [index_1 t]

theorem out_v (c : Dev nD) (t : Fin cfg1.N) (y : S256x512.Idx) (R : Fin 512) (hR : R.val = t.val / 2 * 256 + (y 0).val) (d : Fin 1024)
    (hd : d.val = t.val % 2 * 512 + (y 1).val) :
    (dat1 V c).after 5 t y = column (fun R j => V c main_v3 (ix2 R j)) (V c main_arg2) 1024 (by decide) R d := by
  rw [after1_5]; unfold out1_5; frame_out
  obtain ⟨r, e, rfl⟩ : ∃ (r : Fin 256) (e : Fin 512), y = ix2 r e := ⟨y 0, y 1, eq_ix2 y⟩
  exact col_v V c t R r hR e d hd

theorem final_1v (c : Dev nD) (R : Fin 512) (d : Fin 1024) : ((dat1 V c).arrAt 5 cfg1.N (ix2 R d) : Ideal .f32)
    = column (fun R j => V c main_v3 (ix2 R j)) (V c main_arg2) 1024 (by decide) R d := by
  refine congrFun ((dat1 V c).arrAt_eq_of_covers 5 (fun y : S512x1024.Idx => column (fun R j => V c main_v3 (ix2 R j)) (V c main_arg2) 1024 (by decide) (y 0) (y 1))
    (by decide +kernel) fun t hf (y : S256x512.Idx) => ?_) (ix2 R d)
  blk_simp
  refine out_v V c t y _ ?_ _ ?_
  · blk_simp [index_1 t]
  · blk_simp [index_1 t]

end second

variable (ρ : Dev nD → PrngReg)

/-- The weights of the first norm, as the first part finds them. -/
theorem weights (c : Dev nD) (j : Fin 2048) : V1 m ρ c main_v2 (ix2 0 j) = m ((c : Thread nD τ).loc main_arg1) (ix2 0 j) := by
  have h : W1 m ρ c (Proc.devRef .tc main_v2) = (shapeCast S1x2048 (shapeCast S2048 (extractStridedSlice S1x2048 ![0, 0] (m ((c : Thread nD τ).loc main_arg1)) slices_S2x2048_S1x2048_0_0) shapeCasts_S1x2048_S2048) shapeCasts_S2048_S1x2048 : (⟨S1x2048, .f32⟩ : BufTy).Contents (Elt Ideal)) := by
    after_results; rfl
  refine (congrFun h (ix2 0 j)).trans ?_
  pointwise []

/-- The normalised rows, as the second part finds them. -/
theorem rows (c : Dev nD) (R : Fin 512) (d : Fin 2048) : V2 m ρ c main_v3 (ix2 R d)
    = normed (fun R j => m ((c : Thread nD τ).loc main_arg0) (ix2 R j)) (fun j => m ((c : Thread nD τ).loc main_arg1) (ix2 0 j)) R d := by
  refine (congrFun (W2_arr m ρ c 2) (ix2 R d)).trans ((final_0 (V1 m ρ) c R d).trans ?_)
  exact norm_congr _ d (fun j => congrFun (W1_args m ρ c main_arg0 (by decide)) (ix2 R j)) fun j => weights m ρ c j

/-- The keys after the run. -/
theorem final_k (c : Dev nD) (R : Fin 512) (d : Fin 1024) : ((dat1 (V2 m ρ) c).arrAt 4 cfg1.N (ix2 R d) : Ideal .f32)
    = key (normed (fun R j => m ((c : Thread nD τ).loc main_arg0) (ix2 R j)) (fun j => m ((c : Thread nD τ).loc main_arg1) (ix2 0 j)))
        (m ((c : Thread nD τ).loc main_arg2)) (fun j => m ((c : Thread nD τ).loc main_arg3) (ix2 0 j)) R d := by
  refine (final_1k (V2 m ρ) c R d).trans ?_
  have h1 : (fun (R : Fin 512) (j : Fin 2048) => V2 m ρ c main_v3 (ix2 R j)) = _ := funext fun R => funext fun j => rows m ρ c R j
  have h2 : V2 m ρ c main_arg2 = m ((c : Thread nD τ).loc main_arg2) := W2_args m ρ c main_arg2 (by decide)
  have h3 : V2 m ρ c main_arg3 = m ((c : Thread nD τ).loc main_arg3) := W2_args m ρ c main_arg3 (by decide)
  unfold key_at
  rw [h1, h2, h3]

/-- The values after the run. -/
theorem final_v (c : Dev nD) (R : Fin 512) (d : Fin 1024) : ((dat1 (V2 m ρ) c).arrAt 5 cfg1.N (ix2 R d) : Ideal .f32)
    = column (normed (fun R j => m ((c : Thread nD τ).loc main_arg0) (ix2 R j)) (fun j => m ((c : Thread nD τ).loc main_arg1) (ix2 0 j)))
        (m ((c : Thread nD τ).loc main_arg2)) 1024 (by decide) R d := by
  refine (final_1v (V2 m ρ) c R d).trans ?_
  have h1 : (fun (R : Fin 512) (j : Fin 2048) => V2 m ρ c main_v3 (ix2 R j)) = _ := funext fun R => funext fun j => rows m ρ c R j
  have h2 : V2 m ρ c main_arg2 = m ((c : Thread nD τ).loc main_arg2) := W2_args m ρ c main_arg2 (by decide)
  rw [h1, h2]

end

section
open Cert.MemoryRefIdeal Cert.MemoryRefIdeal.Read

variable (x0 : (⟨S512x2048, .f32⟩ : BufTy).Contents (Elt Ideal)) (x1 : (⟨S2x2048, .f32⟩ : BufTy).Contents (Elt Ideal))
  (x2 : (⟨S2x2048x2048, .bf16⟩ : BufTy).Contents (Elt Ideal)) (x3 : (⟨S1x256, .f32⟩ : BufTy).Contents (Elt Ideal))

theorem ref_rows (r : Fin 512) (d : Fin 2048) : (val_main_v17 (F := Ideal) x0 x1 (ix2 r d) : Ideal .f32)
    = normed (fun R j => x0 (ix2 R j)) (fun j => x1 (ix2 0 j)) r d := by
  pointwise [val_main_v17, val_main_v16, val_main_v15, val_main_v14, val_main_v13, val_main_v12, val_main_v11, val_main_v10, val_main_v9,
    val_main_v8, val_main_v7, val_main_v6, val_main_v5, val_main_v4, val_main_v3, val_main_cst, val_main_cst_0, val_main_cst_1]
  rfl

theorem ref_acc (r : Fin 512) (d : Fin 1024) : (val_main_v19 (F := Ideal) x0 x1 x2 (ix2 r d) : Ideal .f32)
    = column (normed (fun R j => x0 (ix2 R j)) (fun j => x1 (ix2 0 j))) x2 0 (by decide) r d := by
  unfold column
  simp only [← ref_rows]
  pointwise [val_main_v19, val_main_v18, val_main_v2, val_main_v1, val_main_v0]

/-- The values the reference gives. -/
theorem ref_v (r : Fin 512) (d : Fin 1024) : (val_main_v37 (F := Ideal) x0 x1 x2 (ix2 r d) : Ideal .f32)
    = column (normed (fun R j => x0 (ix2 R j)) (fun j => x1 (ix2 0 j))) x2 1024 (by decide) r d := by
  unfold column
  simp only [← ref_rows]
  pointwise [val_main_v37, val_main_v36, val_main_v2, val_main_v1, val_main_v0]

theorem ref_head (r : Fin 512) (b : Fin 4) (e : Fin 256) : (val_main_v34 (F := Ideal) x0 x1 x2 x3 (ix3 r b e) : Ideal .f32)
    = norm 0x43800000#32 (fun j : Fin 256 => (val_main_v20 (F := Ideal) x0 x1 x2 (ix3 r b j) : Ideal .f32)) (fun j => x3 (ix2 0 j)) e := by
  pointwise [val_main_v34, val_main_v33, val_main_v32, val_main_v31, val_main_v30, val_main_v29, val_main_v28, val_main_v27, val_main_v26,
    val_main_v25, val_main_v24, val_main_v23, val_main_v22, val_main_v21, val_main_cst_2, val_main_cst_3, val_main_cst_4]
  rfl

theorem ref_col (r : Fin 512) (b : Fin 4) (e : Fin 256) (k : Fin 1024) (hk : k.val = b.val * 256 + e.val) :
    (val_main_v20 (F := Ideal) x0 x1 x2 (ix3 r b e) : Ideal .f32)
      = column (normed (fun R j => x0 (ix2 R j)) (fun j => x1 (ix2 0 j))) x2 0 (by decide) r k := by
  rw [← ref_acc, val_main_v20_apply]
  refine congrArg _ (funext fun a => Fin.ext ?_)
  have := r.isLt; have := b.isLt; have := e.isLt
  match a with
  | ⟨0, _⟩ => show ((r.val * 4 + b.val) * 256 + e.val) / 1024 = r.val; omega
  | ⟨1, _⟩ => show ((r.val * 4 + b.val) * 256 + e.val) % 1024 = k.val; omega

/-- The keys the reference gives. -/
theorem ref_k (r : Fin 512) (d : Fin 1024) : (val_main_v35 (F := Ideal) x0 x1 x2 x3 (ix2 r d) : Ideal .f32)
    = key (normed (fun R j => x0 (ix2 R j)) (fun j => x1 (ix2 0 j))) x2 (fun j => x3 (ix2 0 j)) r d := by
  have hd := d.isLt
  refine (val_main_v35_apply (F := Ideal) x0 x1 x2 x3 (ix2 r d)).trans ?_
  refine (congrArg (val_main_v34 (F := Ideal) x0 x1 x2 x3) (show _ = ix3 r ⟨d.val / 256, by omega⟩ ⟨d.val % 256, by omega⟩ from
    funext fun a => Fin.ext ?_)).trans ?_
  · match a with
    | ⟨0, _⟩ => show (r.val * 1024 + d.val) / 1024 = r.val; omega
    | ⟨1, _⟩ => show (r.val * 1024 + d.val) / 256 % 4 = d.val / 256; omega
    | ⟨2, _⟩ => show (r.val * 1024 + d.val) % 256 = d.val % 256; omega
  · rw [ref_head]
    exact heads_at 256 _ _ _ _ _ d (d.val / 256) ⟨d.val % 256, by omega⟩ (by show d.val = _ + d.val % 256; omega) _
      fun j k hk => ref_col x0 x1 x2 r _ j k hk

end

end Cert.MemoryValue

end
-- ==== Proof.Online.lean ====
/- The softmax of one query, taken in blocks of keys: what one block does to the running maximum, the running sum of
   weights and the running weighted sum of values, and what their quotient is at the end. -/
module

public import Idealize.ShloMosaic.PureOps.Ideal.Laws

@[expose] public section

noncomputable section

namespace Cert.Online

open Idealize.ShloMosaic
open scoped BigOperators

/-! ## Sums of extended reals -/

/-- A nonnegative real factor goes into a sum of extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr hc) (EReal.coe_ne_top c)]

/-- A sum of reals, read in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient by a real that is not zero. -/
theorem div_coe (x : EReal) (y : ℝ) (hy : y ≠ 0) : Ideal.div x (y : EReal) = x * ((y⁻¹ : ℝ) : EReal) := by
  unfold Ideal.div
  rw [if_neg (by exact_mod_cast hy), EReal.coe_inv]

/-! ## The greatest of some scores -/

/-- The greatest of values below a bound, none of them the bound. -/
theorem fold_max_lt {ι : Type} (s : Finset ι) (f : ι → EReal) (b x : EReal) (hb : b < x) (h : ∀ i ∈ s, f i < x) :
    s.fold max b f < x := by
  classical
  induction s using Finset.induction_on with
  | empty => simpa using hb
  | insert a s ha ih =>
    rw [Finset.fold_insert ha]
    exact max_lt (h a (Finset.mem_insert_self a s)) (ih fun i hi => h i (Finset.mem_insert_of_mem hi))

/-- Each of the values is at most the greatest. -/
theorem le_fold_max {ι : Type} (s : Finset ι) (f : ι → EReal) (b : EReal) (i : ι) (hi : i ∈ s) : f i ≤ s.fold max b f := by
  classical
  induction s using Finset.induction_on with
  | empty => simp at hi
  | insert a s ha ih =>
    rw [Finset.fold_insert ha]
    rcases Finset.mem_insert.mp hi with rfl | hi
    · exact le_max_left _ _
    · exact (ih hi).trans (le_max_right _ _)

/-! ## Scores and weights

A score is a real number, or the least element where the key is hidden. Its weight is two to the score, or zero. -/

/-- A score: absent, or a real number. -/
def score : Option ℝ → EReal
  | none => ⊥
  | some x => (x : EReal)

/-- Its weight. -/
def weight : Option ℝ → ℝ
  | none => 0
  | some x => (2 : ℝ) ^ x

theorem score_lt_top (o : Option ℝ) : score o < ⊤ := by
  cases o with
  | none => exact bot_lt_top
  | some x => exact EReal.coe_lt_top x

theorem weight_nonneg (o : Option ℝ) : 0 ≤ weight o := by
  cases o with
  | none => exact le_rfl
  | some x => exact (Real.rpow_pos_of_pos two_pos x).le

theorem exp2_bot : Ideal.exp2 (⊥ : EReal) = 0 := rfl
theorem exp_bot : Ideal.exp (⊥ : EReal) = 0 := rfl
theorem exp2_coe (x : ℝ) : Ideal.exp2 (x : EReal) = (((2 : ℝ) ^ x : ℝ) : EReal) := rfl
theorem exp_coe (x : ℝ) : Ideal.exp (x : EReal) = ((Real.exp x : ℝ) : EReal) := rfl

/-- The score less the reference point: the weight, scaled. -/
theorem exp2_score_sub (o : Option ℝ) (μ cq : ℝ) :
    Ideal.exp2 (score o - ((μ : EReal) - (cq : EReal))) = (((2 : ℝ) ^ (-μ) * weight (o.map (· + cq)) : ℝ) : EReal) := by
  cases o with
  | none =>
    have : score none - ((μ : EReal) - (cq : EReal)) = ⊥ := by
      show (⊥ : EReal) - _ = ⊥
      rw [sub_eq_add_neg, EReal.bot_add]
    rw [this, exp2_bot]
    simp [weight]
  | some x =>
    have : score (some x) - ((μ : EReal) - (cq : EReal)) = ((x - (μ - cq) : ℝ) : EReal) := by
      show (x : EReal) - _ = _
      rw [← EReal.coe_sub, ← EReal.coe_sub]
    rw [this, exp2_coe]
    congr 1
    show (2 : ℝ) ^ (x - (μ - cq)) = (2 : ℝ) ^ (-μ) * (2 : ℝ) ^ (x + cq)
    rw [← Real.rpow_add two_pos]
    congr 1
    ring

/-! ## One block -/

/-- What a query's running values say after the keys below `B`: the maximum `m` is some real number `μ`; the running
    sum is the sum of the weights and each column of the accumulator the weighted sum of that column of the values, both
    scaled by two to the `-μ`. -/
def Inv {δ : Type} (W : ℕ → ℝ) (V : ℕ → δ → EReal) (m l : EReal) (acc : δ → EReal) (B : ℕ) : Prop :=
  ∃ μ : ℝ, m = (μ : EReal) ∧ l = (((2 : ℝ) ^ (-μ) * ∑ s ∈ Finset.range B, W s : ℝ) : EReal)
    ∧ ∀ d, acc d = (((2 : ℝ) ^ (-μ) : ℝ) : EReal) * ∑ s ∈ Finset.range B, (W s : EReal) * V s d

/-- Before the first block: any real maximum, and zeros. -/
theorem Inv.init {δ : Type} (W : ℕ → ℝ) (V : ℕ → δ → EReal) (μ : ℝ) : Inv W V (μ : EReal) 0 (fun _ => 0) 0 :=
  ⟨μ, rfl, by simp, fun d => by simp⟩

/-- ONE BLOCK of `n` keys: the new maximum, the old values scaled to it, the block's weights and weighted values added. -/
theorem Inv.step {δ : Type} {W : ℕ → ℝ} {V : ℕ → δ → EReal} {m l : EReal} {acc : δ → EReal} {B n : ℕ}
    (h : Inv W V m l acc B) (o : Fin n → Option ℝ) (cq : ℝ) (v : Fin n → δ → EReal)
    (hW : ∀ s : Fin n, W (B + s) = weight ((o s).map (· + cq))) (hV : ∀ (s : Fin n) d, V (B + s) d = v s d)
    {m' l' : EReal} {acc' : δ → EReal}
    (hm : m' = max m ((Finset.univ.fold max ⊥ fun s => score (o s)) + (cq : EReal)))
    (hl : l' = Ideal.exp2 (m - m') * l + ∑ s, Ideal.exp2 (score (o s) - (m' - (cq : EReal))))
    (ha : ∀ d, acc' d = Ideal.exp2 (m - m') * acc d + ∑ s, Ideal.exp2 (score (o s) - (m' - (cq : EReal))) * v s d) :
    Inv W V m' l' acc' (B + n) := by
  obtain ⟨μ, rfl, rfl, hacc⟩ := h
  have hlt : (Finset.univ.fold max ⊥ fun s => score (o s)) + (cq : EReal) < ⊤ :=
    EReal.add_lt_top (fold_max_lt _ _ _ _ bot_lt_top fun s _ => score_lt_top (o s)).ne (EReal.coe_ne_top cq)
  have hr : ∃ μ' : ℝ, m' = (μ' : EReal) := by
    refine ⟨m'.toReal, (EReal.coe_toReal ?_ ?_).symm⟩
    · rw [hm]; exact (max_lt (EReal.coe_lt_top μ) hlt).ne
    · rw [hm]; exact ((EReal.bot_lt_coe μ).trans_le (le_max_left _ _)).ne'
  obtain ⟨μ', rfl⟩ := hr
  have hα : Ideal.exp2 ((μ : EReal) - (μ' : EReal)) = (((2 : ℝ) ^ (μ - μ') : ℝ) : EReal) := by
    rw [← EReal.coe_sub]; exact exp2_coe _
  have hc : (2 : ℝ) ^ (μ - μ') * (2 : ℝ) ^ (-μ) = (2 : ℝ) ^ (-μ') := by
    rw [← Real.rpow_add two_pos]; congr 1; ring
  have hc0 : (0 : ℝ) ≤ (2 : ℝ) ^ (-μ') := (Real.rpow_pos_of_pos two_pos _).le
  refine ⟨μ', rfl, ?_, fun d => ?_⟩
  · rw [hl, hα]
    simp only [exp2_score_sub]
    rw [coe_sum, ← EReal.coe_mul, ← EReal.coe_add, Finset.sum_range_add, ← mul_assoc, hc, mul_add,
      ← Finset.mul_sum, Finset.sum_range (fun s => W (B + s))]
    simp only [hW]
  · rw [ha, hα, hacc]
    simp only [exp2_score_sub]
    rw [← mul_assoc, ← EReal.coe_mul, hc, Finset.sum_range_add,
      EReal.left_distrib_of_nonneg_of_ne_top (EReal.coe_nonneg.mpr hc0) (EReal.coe_ne_top _),
      Finset.sum_range (fun s => (W (B + s) : EReal) * V (B + s) d)]
    congr 1
    rw [coe_mul_sum _ _ hc0]
    refine Finset.sum_congr rfl fun s _ => ?_
    rw [hW, hV, EReal.coe_mul, mul_assoc]

/-- Keys of weight zero may be counted or not. -/
theorem Inv.extend {δ : Type} {W : ℕ → ℝ} {V : ℕ → δ → EReal} {m l : EReal} {acc : δ → EReal} {B B' : ℕ}
    (h : Inv W V m l acc B) (hB : B ≤ B') (h0 : ∀ s, B ≤ s → W s = 0) : Inv W V m l acc B' := by
  obtain ⟨μ, hm, hl, ha⟩ := h
  have hsub : Finset.range B ⊆ Finset.range B' := Finset.range_mono hB
  refine ⟨μ, hm, ?_, fun d => ?_⟩
  · rw [hl, Finset.sum_subset hsub fun s _ hs => h0 s (by simpa using hs)]
  · rw [ha d, Finset.sum_subset hsub fun s _ hs => by rw [h0 s (by simpa using hs), EReal.coe_zero, zero_mul]]

/-- At the end: the quotient is the weighted mean of the values. -/
theorem Inv.quotient {δ : Type} {W : ℕ → ℝ} {V : ℕ → δ → EReal} {m l : EReal} {acc : δ → EReal} {B : ℕ}
    (h : Inv W V m l acc B) (hpos : 0 < ∑ s ∈ Finset.range B, W s) (d : δ) :
    Ideal.div (acc d) l = (((∑ s ∈ Finset.range B, W s)⁻¹ : ℝ) : EReal) * ∑ s ∈ Finset.range B, (W s : EReal) * V s d := by
  obtain ⟨μ, -, rfl, ha⟩ := h
  have hc : (0 : ℝ) < (2 : ℝ) ^ (-μ) := Real.rpow_pos_of_pos two_pos _
  rw [ha, div_coe _ _ (mul_pos hc hpos).ne', mul_comm, ← mul_assoc, ← EReal.coe_mul]
  congr 2
  field_simp

/-! ## The softmax in one piece -/

/-- The natural score of a key: the real number whose exponential is the weight. -/
def nscore : Option ℝ → EReal
  | none => ⊥
  | some x => ((x * Real.log 2 : ℝ) : EReal)

theorem exp_nscore_sub (o : Option ℝ) (M : ℝ) :
    Ideal.exp (nscore o - (M : EReal)) = ((Real.exp (-M) * weight o : ℝ) : EReal) := by
  cases o with
  | none =>
    have : nscore none - (M : EReal) = ⊥ := by
      show (⊥ : EReal) - _ = ⊥
      rw [sub_eq_add_neg, EReal.bot_add]
    rw [this, exp_bot]
    simp [weight]
  | some x =>
    have : nscore (some x) - (M : EReal) = ((x * Real.log 2 - M : ℝ) : EReal) := by
      show ((x * Real.log 2 : ℝ) : EReal) - _ = _
      rw [← EReal.coe_sub]
    rw [this, exp_coe]
    congr 1
    show Real.exp (x * Real.log 2 - M) = Real.exp (-M) * (2 : ℝ) ^ x
    rw [Real.rpow_def_of_pos two_pos, ← Real.exp_add]
    congr 1
    ring

/-- THE SOFTMAX over `N` keys, at least one of them seen, weighs the values by their weights over the weights' sum. -/
theorem softmax_sum {N : ℕ} (o : Fin N → Option ℝ) (s₀ : Fin N) (x₀ : ℝ) (h₀ : o s₀ = some x₀) (v : Fin N → EReal)
    {M : EReal} (hM : M = Finset.univ.fold max ⊥ fun s => nscore (o s)) :
    ∑ s, v s * Ideal.div (Ideal.exp (nscore (o s) - M)) (∑ s', Ideal.exp (nscore (o s') - M))
      = (((∑ s, weight (o s))⁻¹ : ℝ) : EReal) * ∑ s, (weight (o s) : EReal) * v s := by
  have hlt : ∀ s, nscore (o s) < ⊤ := fun s => by
    cases o s with
    | none => exact bot_lt_top
    | some x => exact EReal.coe_lt_top _
  have hr : ∃ M' : ℝ, M = (M' : EReal) := by
    refine ⟨M.toReal, (EReal.coe_toReal ?_ ?_).symm⟩
    · rw [hM]; exact (fold_max_lt _ _ _ _ bot_lt_top fun s _ => hlt s).ne
    · rw [hM]
      refine ((EReal.bot_lt_coe (x₀ * Real.log 2)).trans_le ?_).ne'
      have := le_fold_max Finset.univ (fun s => nscore (o s)) ⊥ s₀ (Finset.mem_univ _)
      simpa only [h₀, nscore] using this
  obtain ⟨M', rfl⟩ := hr
  have hpos : 0 < ∑ s, weight (o s) :=
    Finset.sum_pos' (fun s _ => weight_nonneg _) ⟨s₀, Finset.mem_univ _, by rw [h₀]; exact Real.rpow_pos_of_pos two_pos _⟩
  have he : (0 : ℝ) < Real.exp (-M') := Real.exp_pos _
  simp only [exp_nscore_sub]
  rw [coe_sum, ← Finset.mul_sum, coe_mul_sum _ _ (inv_nonneg.mpr hpos.le)]
  refine Finset.sum_congr rfl fun s _ => ?_
  rw [div_coe _ _ (mul_pos he hpos).ne', ← EReal.coe_mul, mul_comm, ← mul_assoc, ← EReal.coe_mul]
  congr 2
  field_simp

end Cert.Online

end
-- ==== Proof.Consts.lean ====
/- The float constants the programs spell, as the extended reals they denote. -/
module

public import Idealize.ShloMosaic.PureOps.Ideal

@[expose] public section

noncomputable section

namespace Cert.Consts

open Idealize.ShloMosaic

theorem zero : Ideal.ofBits .f32 0x00000000#32 = 0 := by
  simp [Ideal.ofBits, Ideal.ieee]

theorem top : Ideal.ofBits .f32 0x7F800000#32 = ⊤ := by
  simp [Ideal.ofBits, Ideal.ieee]

theorem bot : Ideal.ofBits .f32 0xFF800000#32 = ⊥ := by
  simp [Ideal.ofBits, Ideal.ieee]

/-- The kernel's first maximum is a real number. -/
theorem start : ∃ μ : ℝ, Ideal.ofBits .f32 0xF149F2CA#32 = (μ : EReal) := by
  refine ⟨-(13234890 * 2 ^ 76 : ℝ), ?_⟩
  simp [Ideal.ofBits, Ideal.ieee, -EReal.coe_mul]

/-- The reference's scale. -/
theorem scale : Ideal.ofBits .f32 0x3DB504F3#32 = ((11863283 / 134217728 : ℝ) : EReal) := by
  simp [Ideal.ofBits, Ideal.ieee, -EReal.coe_mul]; norm_num

end Cert.Consts

end
-- ==== Proof.Pre.lean ====
/- What the two preconditions say: the two tables are the pairs (query block, key block) of the lower triangle in row order,
   and the entries the scores are made of are real numbers. -/
module

public import proofs.«01_k».proof.Defs
public import proofs.«01_k».proof.Proof.Consts
public import proofs.«01_k».proof.Proof.Gen.Pre_tables
public import proofs.«01_k».proof.Proof.Gen.Pre_regular
public import Idealize.ShloMosaic.Lib.Pipeline.ValueKit

@[expose] public section

set_option maxRecDepth 16384

noncomputable section

open Idealize.ShloMosaic Idealize.ShloMosaic.TcCoe Idealize.SL.Sem

namespace Cert.Pre

/-- The query block of each pair, and its key block. -/
def rows : (⟨1, ![10]⟩ : Shape).Idx → BitVec 32 := fun x =>
  ([0#32, 1#32, 1#32, 2#32, 2#32, 2#32, 3#32, 3#32, 3#32, 3#32] : List (BitVec 32)).getD (x 0).val 0#32
def cols : (⟨1, ![10]⟩ : Shape).Idx → BitVec 32 := fun x =>
  ([0#32, 0#32, 1#32, 0#32, 1#32, 2#32, 0#32, 1#32, 2#32, 3#32] : List (BitVec 32)).getD (x 0).val 0#32

/-- Two one-bit words both one. -/
theorem and_one : ∀ a b : Bool, IntOp.andi (BitVec.ofBool a) (BitVec.ofBool b) = 1#1 → a = true ∧ b = true := by decide

theorem tables_of {F : FTy → Type} [FloatOps F] (T0 T1 : (⟨1, ![10]⟩ : Shape).Idx → BitVec 32) (q k v ct cr)
    (h : Cert.Pre_tables.fn (F := F) T0 T1 q k v ct cr = fun _ => 1#1) : T0 = rows ∧ T1 = cols := by
  have key : ∀ y, T0 y = rows y ∧ T1 y = cols y := fun y => by
    have e := congrFun h y
    simp only [Cert.Pre_tables.fn, Cert.Pre_tables.fn_part1, Cert.Pre_tables.fn_where, Cert.Pre_tables.fn_where_0, andi, cmpi,
      IntOp.cmpi, id] at e
    obtain ⟨e0, e1⟩ := and_one _ _ e
    rw [beq_iff_eq] at e0 e1
    exact ⟨e0.trans (by clear e h e0 e1; revert y; decide +kernel), e1.trans (by clear e h e0 e1; revert y; decide +kernel)⟩
  exact ⟨funext fun y => (key y).1, funext fun y => (key y).2⟩

end Cert.Pre

end
-- ==== Proof.Terms.lean ====
/- The result, a query at a time, in real numbers: the exponents of base two, the weights (zero beyond the query's own
   position), and the weighted mean of the values. Both programs are shown to leave this. -/
module

public import proofs.«01_k».proof.Proof.Online
public import Idealize.ShloMosaic.Lib.Pointwise

@[expose] public section

noncomputable section

namespace Cert.Terms

open Cert.Online
open Idealize.ShloMosaic
open scoped BigOperators

/-- Row `R` of sequence `b`, and lane `d` of head `h`, in the arrays of all sequences and heads. -/
def gr (b : Fin 2) (R : Fin 4096) : Fin 8192 := ⟨b.val * 4096 + R.val, by omega⟩
def gc (h : Fin 8) (d : Fin 128) : Fin 1024 := ⟨h.val * 128 + d.val, by omega⟩
/-- Head `h`'s lane of the running log forget gates. -/
def gl (h : Fin 8) : Fin 128 := ⟨h.val, by omega⟩

section
variable (q k : (⟨2, ![8192, 1024]⟩ : Shape).Idx → ℝ) (ct : (⟨2, ![8192, 128]⟩ : Shape).Idx → ℝ) (cr : (⟨4, ![2, 8, 1, 4096]⟩ : Shape).Idx → ℝ)
  (v : (⟨2, ![8192, 1024]⟩ : Shape).Idx → EReal) (b : Fin 2) (h : Fin 8) (R : Fin 4096)

/-- The part of the exponent that goes with the key, and the query's own addend. -/
def lin (s : Fin 4096) : ℝ :=
  (∑ d, q (ix2 (gr b R) (gc h d)) * k (ix2 (gr b s) (gc h d))) * ((11863283 / 134217728) * (Real.log 2)⁻¹)
    - (Real.log 2)⁻¹ * cr (ix4 b h 0 s)
def own : ℝ := (Real.log 2)⁻¹ * ct (ix2 (gr b R) (gl h))

/-- The exponent of a key seen by the query; none of a later key. -/
def opt (s : Fin 4096) : Option ℝ := if s.val ≤ R.val then some (lin q k cr b h R s + own ct b h R) else none

/-- The weights and the values, by position. -/
def wt (s : ℕ) : ℝ := if hs : s < 4096 then weight (opt q k ct cr b h R ⟨s, hs⟩) else 0
def vl (s : ℕ) (d : Fin 128) : EReal := if hs : s < 4096 then v (ix2 (gr b ⟨s, hs⟩) (gc h d)) else 0

/-- The weighted mean of the values. -/
def res (d : Fin 128) : EReal := (((∑ s, weight (opt q k ct cr b h R s))⁻¹ : ℝ) : EReal)
  * ∑ s : Fin 4096, (weight (opt q k ct cr b h R s) : EReal) * v (ix2 (gr b s) (gc h d))

theorem opt_self : opt q k ct cr b h R R = some (lin q k cr b h R R + own ct b h R) := if_pos le_rfl

theorem sum_pos : 0 < ∑ s, weight (opt q k ct cr b h R s) :=
  lt_of_lt_of_le (by rw [opt_self]; exact Real.rpow_pos_of_pos two_pos _)
    (Finset.single_le_sum (f := fun s => weight (opt q k ct cr b h R s)) (fun s _ => weight_nonneg _) (Finset.mem_univ R))

theorem sum_wt : ∑ s ∈ Finset.range 4096, wt q k ct cr b h R s = ∑ s, weight (opt q k ct cr b h R s) := by
  rw [Finset.sum_range]
  exact Finset.sum_congr rfl fun s _ => dif_pos s.isLt

theorem wt_late (s : ℕ) (hs : R.val < s) : wt q k ct cr b h R s = 0 := by
  unfold wt
  split
  · rw [opt, if_neg (by simpa using hs)]; rfl
  · rfl

/-- What the kernel divides in the end is the weighted mean. -/
theorem quotient_res {m l : EReal} {acc : Fin 128 → EReal}
    (hi : Inv (wt q k ct cr b h R) (vl v b h) m l acc 4096) (d : Fin 128) :
    Ideal.div (acc d) l = res q k ct cr v b h R d := by
  rw [hi.quotient (by rw [sum_wt]; exact sum_pos q k ct cr b h R) d, sum_wt, res, Finset.sum_range]
  refine congrArg _ (Finset.sum_congr rfl fun s _ => ?_)
  unfold wt vl
  rw [dif_pos s.isLt, dif_pos s.isLt]

end

end Cert.Terms

end
-- ==== Proof.Regular.lean ====
/- What the value claim's precondition says of the ideal program's arguments: the tables are the pinned ones, and the queries,
   the keys and the two arrays of decay sums are real numbers. -/
module

public import proofs.«01_k».proof.Proof.Pre
public import proofs.«01_k».proof.Proof.Terms
public import Idealize.ShloMosaic.Lib.Pointwise

@[expose] public section

set_option maxRecDepth 16384

noncomputable section

namespace Cert.Regular

open Idealize.ShloMosaic Idealize.ShloMosaic.TcCoe Idealize.SL.Sem Cert.Terms

variable (T0 T1 : (⟨1, ![10]⟩ : Shape).Idx → BitVec 32) (q k v : (⟨2, ![8192, 1024]⟩ : Shape).Idx → Ideal .bf16)
  (ct : (⟨2, ![8192, 128]⟩ : Shape).Idx → Ideal .f32) (cr : (⟨4, ![2, 8, 1, 4096]⟩ : Shape).Idx → Ideal .f32)

/-- A number whose absolute value is below infinity is real. -/
theorem real_of (x : EReal) (h : Ideal.cmp .olt (max x (-x)) (Ideal.ofBits .f32 0x7F800000#32) = 1#1) : x = (x.toReal : EReal) := by
  rw [Consts.top] at h
  have h' : max x (-x) < ⊤ := by
    unfold Ideal.cmp at h
    by_contra hn
    simp [hn] at h
  refine (EReal.coe_toReal ?_ ?_).symm
  · rintro rfl
    simp at h'
  · rintro rfl
    simp at h'

theorem tables (h : (Cert.Pre_regular.fn (F := Ideal) T0 T1 q k v ct cr).1 = fun _ => 1#1) : T0 = Pre.rows ∧ T1 = Pre.cols :=
  Pre.tables_of (F := Ideal) T0 T1 q k v ct cr h

theorem queries (h : (Cert.Pre_regular.fn (F := Ideal) T0 T1 q k v ct cr).2.1 = fun _ => 1#1) (i) :
    q i = ((EReal.toReal (q i) : ℝ) : EReal) := real_of _ (congrFun h i)

theorem keys (h : (Cert.Pre_regular.fn (F := Ideal) T0 T1 q k v ct cr).2.2.1 = fun _ => 1#1) (i) :
    k i = ((EReal.toReal (k i) : ℝ) : EReal) := real_of _ (congrFun h i)

theorem own (h : (Cert.Pre_regular.fn (F := Ideal) T0 T1 q k v ct cr).2.2.2.1 = fun _ => 1#1) (R : Fin 8192) (e : Fin 8) :
    ct (ix2 R (gl e)) = ((EReal.toReal (ct (ix2 R (gl e))) : ℝ) : EReal) := by
  have he : ∀ p : (⟨2, ![8192, 128]⟩ : Shape).Idx,
      (p = fun a => ⟨![0, 0] a + ((ix2 R e : (⟨2, ![8192, 8]⟩ : Shape).Idx) (a.cast rfl)).val, by
        match a with
        | ⟨0, _⟩ => show 0 + R.val < 8192; omega
        | ⟨1, _⟩ => show 0 + e.val < 128; omega⟩)
      → Ideal.cmp .olt (max (ct p) (-(ct p))) (Ideal.ofBits .f32 0x7F800000#32) = 1#1 := by
    rintro p rfl
    exact congrFun h (ix2 R e)
  refine real_of _ (he _ (funext fun a => Fin.ext ?_))
  match a with
  | ⟨0, _⟩ => exact (Nat.zero_add _).symm
  | ⟨1, _⟩ => exact (Nat.zero_add _).symm

theorem rows (h : (Cert.Pre_regular.fn (F := Ideal) T0 T1 q k v ct cr).2.2.2.2 = fun _ => 1#1) (i) :
    cr i = ((EReal.toReal (cr i) : ℝ) : EReal) := real_of _ (congrFun h i)

end Cert.Regular

end
-- ==== Proof.MemAttnValue.lean ====
/- The attention over the memory: a softmax over the slots of the memory, taken head by head. -/
module

public import proofs.«01_k».proof.Proof.Gen.MemAttnIdeal
public import proofs.«01_k».proof.Proof.Gen.MemAttnIdeal.Skeleton
public import proofs.«01_k».proof.Proof.Gen.MemAttnIdeal.Launch
public import proofs.«01_k».proof.Proof.Gen.MemAttnIdeal.Points
public import proofs.«01_k».proof.Proof.Gen.MemAttnIdeal.Frame
public import proofs.«01_k».proof.Proof.Gen.MemAttnRefIdeal.Read
public import proofs.«01_k».proof.Proof.Gen.Pre_regular_memory
public import proofs.«01_k».proof.Proof.Columns
public import proofs.«01_k».proof.Proof.Online
public import proofs.«01_k».proof.Proof.Consts
public import proofs.«01_k».proof.Proof.Regular
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.MemAttnValue

open Cert.Layer

section

/-- The greatest of some scores. -/
def top (s : Fin 256 → EReal) : EReal := Finset.univ.fold max (Ideal.ofBits .f32 0xFF800000#32) s

/-- The mean of some values under the softmax of scores: the weighted sum, over the sum of the weights. -/
def soft (s v : Fin 256 → EReal) : EReal :=
  Ideal.div (∑ n, Ideal.exp (s n - top s) * v n) (∑ n, Ideal.exp (s n - top s))

theorem soft_congr {s s' v v' : Fin 256 → EReal} (hs : ∀ n, s n = s' n) (hv : ∀ n, v n = v' n) : soft s v = soft s' v' := by
  obtain rfl : s = s' := funext hs
  obtain rfl : v = v' := funext hv
  rfl

/-- Where the scores are real, the mean is also the sum of the values, each times its share of the weights. -/
theorem soft_eq (s : Fin 256 → ℝ) (v : Fin 256 → EReal) :
    ∑ n, v n * Ideal.div (Ideal.exp ((s n : EReal) - top fun n => (s n : EReal))) (∑ n', Ideal.exp ((s n' : EReal) - top fun n => (s n : EReal)))
      = soft (fun n => (s n : EReal)) v := by
  unfold soft
  obtain ⟨M, hM⟩ : ∃ M : ℝ, (top fun n => (s n : EReal)) = (M : EReal) := by
    unfold top
    rw [Consts.bot]
    refine ⟨_, (EReal.coe_toReal ?_ ?_).symm⟩
    · exact (Online.fold_max_lt _ _ _ _ bot_lt_top fun n _ => EReal.coe_lt_top _).ne
    · exact ((EReal.bot_lt_coe (s 0)).trans_le (Online.le_fold_max Finset.univ (fun n => (s n : EReal)) ⊥ 0 (Finset.mem_univ _))).ne'
  rw [hM]
  have hp : 0 < ∑ n, Real.exp (s n - M) := Finset.sum_pos (fun n _ => Real.exp_pos _) ⟨0, Finset.mem_univ _⟩
  simp only [← EReal.coe_sub, Online.exp_coe]
  rw [Online.coe_sum, Online.div_coe _ _ hp.ne', mul_comm, Online.coe_mul_sum _ _ (inv_nonneg.mpr hp.le)]
  refine Finset.sum_congr rfl fun n _ => ?_
  rw [Online.div_coe _ _ hp.ne', mul_comm (v n), mul_comm ((Real.exp (s n - M) : ℝ) : EReal) (((∑ n, Real.exp (s n - M))⁻¹ : ℝ) : EReal), mul_assoc]

/-- The prompt's row `r` of batch `b`, among the rows of both. -/
def row (b : Fin 2) (r : Fin 4096) : Fin 8320 := ⟨b.val * 4096 + r.val, by omega⟩
/-- Column `e` of head `h`. -/
def lane (h : Fin 4) (e : Fin 256) : Fin 1024 := ⟨h.val * 256 + e.val, by omega⟩

variable (q : (⟨2, ![8320, 1024]⟩ : Shape).Idx → EReal) (mk mv : (⟨4, ![1, 2, 256, 1024]⟩ : Shape).Idx → EReal)

/-- A slot's score against a query. -/
def score (b : Fin 2) (r : Fin 4096) (h : Fin 4) (n : Fin 256) : EReal :=
  (∑ x : Fin 256, q (ix2 (row b r) (lane h x)) * mk (ix4 0 b n (lane h x))) * Ideal.ofBits .f32 0x3D800000#32

/-- The attention's result. -/
def attend (b : Fin 2) (r : Fin 4096) (h : Fin 4) (e : Fin 256) : EReal :=
  soft (score q mk b r h) fun n => mv (ix4 0 b n (lane h e))

theorem scale : Ideal.ofBits .f32 0x3D800000#32 = ((1 / 16 : ℝ) : EReal) := by
  simp [Ideal.ofBits, Ideal.ieee, -EReal.coe_mul]; norm_num

/-- Real queries and keys have real scores. -/
theorem score_real (hq : ∀ b r C, q (ix2 (row b r) C) = ((q (ix2 (row b r) C)).toReal : EReal)) (hk : ∀ i, mk i = ((mk i).toReal : EReal))
    (b : Fin 2) (r : Fin 4096) (h : Fin 4) (n : Fin 256) : score q mk b r h n
      = (((∑ x : Fin 256, (q (ix2 (row b r) (lane h x))).toReal * (mk (ix4 0 b n (lane h x))).toReal) * (1 / 16) : ℝ) : EReal) := by
  unfold score
  rw [scale, EReal.coe_mul, ← Online.coe_sum]
  refine congrArg (· * _) (Finset.sum_congr rfl fun x _ => ?_)
  rw [EReal.coe_mul, ← hq, ← hk]

end

section
open Cert.MemAttnIdeal Cert.MemAttnIdeal.Gen

variable (m : (ℓ : Loc nD τ sig) → Buf (Elt Ideal) ℓ)

theorem index : ∀ t : Fin cfg0.N, win0_0.index t = ![t.val, 0]
    ∧ win0_1.index t = ![0, t.val / 8, 0, 0]
    ∧ win0_2.index t = ![0, t.val / 8, 0, 0]
    ∧ win0_3.index t = ![t.val, 0] :=
  (by decide +kernel : ∀ t : Fin grid0.N, _)

theorem block_q (c : Dev nD) (t : Fin cfg0.N) (R : Fin 8320) (r : Fin 512) (hR : R.val = t.val * 512 + r.val) (d : Fin 1024) :
    X0_0 m c t (ix2 r d) = m ((c : Thread nD τ).loc main_arg0) (ix2 R d) := by
  unfold X0_0 Pipeline.Window.fill
  rw [dif_pos (moved0_0 t (ix2 r d))]
  blk_ext [iblk, V, index t]

theorem block_k (c : Dev nD) (t : Fin cfg0.N) (b : Fin 2) (hb : b.val = t.val / 8) (n : Fin 256) (d : Fin 1024) :
    iblk m c 1 t (ix4 0 0 n d) = m ((c : Thread nD τ).loc main_arg1) (ix4 0 b n d) := by
  blk_ext [iblk, V, index t]

theorem block_v (c : Dev nD) (t : Fin cfg0.N) (b : Fin 2) (hb : b.val = t.val / 8) (n : Fin 256) (d : Fin 1024) :
    iblk m c 2 t (ix4 0 0 n d) = m ((c : Thread nD τ).loc main_arg2) (ix4 0 b n d) := by
  blk_ext [iblk, V, index t]

/-- One head's columns of a block of the memory, loaded. -/
theorem load (o : ℕ) (w : (⟨4, ![1, 1, 256, 1024]⟩ : Shape).Idx → Ideal .f32) (inb) (n e : Fin 256) (h : o + e.val < 1024) :
    View.ld (Val := Elt Ideal) (e' := .f32) w (Rect.unit (s := S1x1x256x1024) ![0, 0, 0, o] ![1, 1, 256, 256] inb) (ix4 0 0 n e) = w (ix4 0 0 n ⟨o + e.val, h⟩) := by
  refine congrArg w (funext fun a => Fin.ext ((Rect.idx_unit_val _ _ _ _ a).trans ?_))
  match a with
  | ⟨0, _⟩ => rfl
  | ⟨1, _⟩ => rfl
  | ⟨2, _⟩ => exact Nat.zero_add _
  | ⟨3, _⟩ => rfl

theorem head_0 (q : FVec Ideal S512x1024 .bf16) (k v : FVec Ideal S1x1x256x256 .f32) (r : Fin 512) (e : Fin 256) :
    (k0_pay2 q k v (ix2 r e) : Ideal .bf16)
      = soft (fun n => (∑ x : Fin 256, q (ix2 r (lane 0 x)) * k (ix4 0 0 n x)) * Ideal.ofBits .f32 0x3D800000#32) fun n => v (ix4 0 0 n e) := by
  pointwise [k0_pay2]
  have hl : ∀ x : Fin 256, lane 0 x = ⟨x.val, by omega⟩ := fun x => Fin.ext (by show 0 * 256 + x.val = x.val; omega)
  simp only [hl]
  rfl

theorem head_1 (q : FVec Ideal S512x1024 .bf16) (k v : FVec Ideal S1x1x256x256 .f32) (r : Fin 512) (e : Fin 256) :
    (k0_pay5 (k0_pay3 q k) (k0_pay4 q k) v (ix2 r e) : Ideal .bf16)
      = soft (fun n => (∑ x : Fin 256, q (ix2 r (lane 1 x)) * k (ix4 0 0 n x)) * Ideal.ofBits .f32 0x3D800000#32) fun n => v (ix4 0 0 n e) := by
  pointwise [k0_pay5, k0_pay4, k0_pay3]
  rfl

theorem head_2 (q : FVec Ideal S512x1024 .bf16) (k v : FVec Ideal S1x1x256x256 .f32) (r : Fin 512) (e : Fin 256) :
    (k0_pay6 q k v (ix2 r e) : Ideal .bf16)
      = soft (fun n => (∑ x : Fin 256, q (ix2 r (lane 2 x)) * k (ix4 0 0 n x)) * Ideal.ofBits .f32 0x3D800000#32) fun n => v (ix4 0 0 n e) := by
  pointwise [k0_pay6]
  rfl

theorem head_3 (q : FVec Ideal S512x1024 .bf16) (k v : FVec Ideal S1x1x256x256 .f32) (r : Fin 512) (e : Fin 256) :
    (k0_pay1 q k v (ix2 r e) : Ideal .bf16)
      = soft (fun n => (∑ x : Fin 256, q (ix2 r (lane 3 x)) * k (ix4 0 0 n x)) * Ideal.ofBits .f32 0x3D800000#32) fun n => v (ix4 0 0 n e) := by
  pointwise [k0_pay1]
  rfl

/-- The arguments' entries, as a result of the kernel. -/
abbrev goal (c : Dev nD) := attend (m ((c : Thread nD τ).loc main_arg0)) (m ((c : Thread nD τ).loc main_arg1)) (m ((c : Thread nD τ).loc main_arg2))

theorem head_at (c : Dev nD) (t : Fin cfg0.N) (q : FVec Ideal S512x1024 .bf16) (k v : FVec Ideal S1x1x256x256 .f32) (y : Fin 512) (h : Fin 4)
    (b : Fin 2) (r : Fin 4096) (hR : b.val * 4096 + r.val = t.val * 512 + y.val) (e e' : Fin 256) (he : e = e') (h' : Fin 4) (hh : h = h')
    (hq : ∀ d, q (ix2 y d) = X0_0 m c t (ix2 y d)) (hk : ∀ n x, k (ix4 0 0 n x) = iblk m c 1 t (ix4 0 0 n (lane h x)))
    (hv : ∀ n x, v (ix4 0 0 n x) = iblk m c 2 t (ix4 0 0 n (lane h x))) :
    soft (fun n => (∑ x : Fin 256, q (ix2 y (lane h x)) * k (ix4 0 0 n x)) * Ideal.ofBits .f32 0x3D800000#32) (fun n => v (ix4 0 0 n e))
      = goal m c b r h' e' := by
  subst he hh
  have hb : b.val = t.val / 8 := by have := r.isLt; have := y.isLt; omega
  refine soft_congr (fun n => congrArg (· * _) (Finset.sum_congr rfl fun x _ => ?_)) fun n => ?_
  · exact congrArg₂ (· * ·) ((hq _).trans (block_q m c t (row b r) y hR _)) ((hk n x).trans (block_k m c t b hb n _))
  · exact (hv n e).trans (block_v m c t b hb n _)

/-- The batch, the row, the head and the column within it of an entry of the result. -/
def entry (c : Dev nD) (R : Fin 8192) (d : Fin 1024) : EReal :=
  goal m c ⟨R.val / 4096, by omega⟩ ⟨R.val % 4096, by omega⟩ ⟨d.val / 256, by omega⟩ ⟨d.val % 256, by omega⟩

theorem out (c : Dev nD) (t : Fin cfg0.N) (y : S512x1024.Idx) (R : Fin 8192) (hR : R.val = t.val * 512 + (y 0).val) (d : Fin 1024)
    (hd : d.val = (y 1).val) :
    (dats m 0 c).after 3 t y = entry m c R d := by
  have hN : t.val < 16 := lt_of_lt_of_eq t.isLt N_0
  rw [after0_3]; unfold outsAt0 out0_A_3; frame_out
  obtain ⟨r, e, rfl⟩ : ∃ (r : Fin 512) (e : Fin 1024), y = ix2 r e := ⟨y 0, y 1, eq_ix2 y⟩
  refine (View.canon_append_of_piecesOf (Val := Elt Ideal) (e := .bf16)
    (fun y : S512x1024.Idx => entry m c ⟨t.val * 512 + (y 0).val, by have : (y 0).val < 512 := (y 0).isLt; omega⟩ (y 1))
    [] [_, _, _, _] ⟨?_, ?_, ?_, ?_, trivial⟩ (ix2 r e) ?_).trans (congrArg₂ (entry m c) (Fin.ext hR.symm) (Fin.ext hd.symm))
  · intro x; rw [emb_cols 768 _ x (by have : (x 1).val < 256 := (x 1).isLt; omega)]
    obtain ⟨r, e, rfl⟩ : ∃ (r : Fin 512) (e : Fin 256), x = ix2 r e := ⟨x 0, x 1, eq_ix2 x⟩
    exact (head_3 _ _ _ r e).trans (head_at m c t _ _ _ r 3 _ _ (by show (t.val * 512 + r.val) / 4096 * 4096 + (t.val * 512 + r.val) % 4096 = _; omega)
      e _ (Fin.ext (by show e.val = (768 + e.val) % 256; omega)) _ (Fin.ext (by show 3 = (768 + e.val) / 256; omega))
      (fun d => rfl) (fun n x => load 768 _ _ n x (by omega)) (fun n x => load 768 _ _ n x (by omega)))
  · intro x; rw [emb_cols 512 _ x (by have : (x 1).val < 256 := (x 1).isLt; omega)]
    obtain ⟨r, e, rfl⟩ : ∃ (r : Fin 512) (e : Fin 256), x = ix2 r e := ⟨x 0, x 1, eq_ix2 x⟩
    exact (head_2 _ _ _ r e).trans (head_at m c t _ _ _ r 2 _ _ (by show (t.val * 512 + r.val) / 4096 * 4096 + (t.val * 512 + r.val) % 4096 = _; omega)
      e _ (Fin.ext (by show e.val = (512 + e.val) % 256; omega)) _ (Fin.ext (by show 2 = (512 + e.val) / 256; omega))
      (fun d => rfl) (fun n x => load 512 _ _ n x (by omega)) (fun n x => load 512 _ _ n x (by omega)))
  · intro x; rw [emb_cols 256 _ x (by have : (x 1).val < 256 := (x 1).isLt; omega)]
    obtain ⟨r, e, rfl⟩ : ∃ (r : Fin 512) (e : Fin 256), x = ix2 r e := ⟨x 0, x 1, eq_ix2 x⟩
    exact (head_1 _ _ _ r e).trans (head_at m c t _ _ _ r 1 _ _ (by show (t.val * 512 + r.val) / 4096 * 4096 + (t.val * 512 + r.val) % 4096 = _; omega)
      e _ (Fin.ext (by show e.val = (256 + e.val) % 256; omega)) _ (Fin.ext (by show 1 = (256 + e.val) / 256; omega))
      (fun d => rfl) (fun n x => load 256 _ _ n x (by omega)) (fun n x => load 256 _ _ n x (by omega)))
  · intro x; rw [emb_cols 0 _ x (by have : (x 1).val < 256 := (x 1).isLt; omega)]
    obtain ⟨r, e, rfl⟩ : ∃ (r : Fin 512) (e : Fin 256), x = ix2 r e := ⟨x 0, x 1, eq_ix2 x⟩
    exact (head_0 _ _ _ r e).trans (head_at m c t _ _ _ r 0 _ _ (by show (t.val * 512 + r.val) / 4096 * 4096 + (t.val * 512 + r.val) % 4096 = _; omega)
      e _ (Fin.ext (by show e.val = (0 + e.val) % 256; omega)) _ (Fin.ext (by show 0 = (0 + e.val) / 256; omega))
      (fun d => rfl) (fun n x => load 0 _ _ n x (by omega)) (fun n x => load 0 _ _ n x (by omega)))
  · exact View.cover_of_tiled_head _ _ _ rfl _

/-- The result array after the run. -/
theorem final (c : Dev nD) (R : Fin 8192) (d : Fin 1024) : ((dats m 0 c).arrAt 3 (cfgs 0).N (ix2 R d) : Ideal .bf16) = entry m c R d := by
  refine congrFun ((dats m 0 c).arrAt_eq_of_covers 3 (fun y : S8192x1024.Idx => entry m c (y 0) (y 1))
    (by decide +kernel) fun t hf (y : S512x1024.Idx) => ?_) (ix2 R d)
  blk_simp
  refine out m c t y _ ?_ _ ?_
  · blk_simp [index t]
  · blk_simp [index t]

end

section
open Cert.MemAttnRefIdeal Cert.MemAttnRefIdeal.Read

variable (x0 : (⟨S8320x1024, .bf16⟩ : BufTy).Contents (Elt Ideal)) (x1 x2 : (⟨S1x2x256x1024, .f32⟩ : BufTy).Contents (Elt Ideal))

theorem ref_q (b : Fin 2) (r : Fin 4096) (h : Fin 4) (x : Fin 256) : val_main_v2 (F := Ideal) x0 (ix4 b r h x) = x0 (ix2 (row b r) (lane h x)) := by
  rw [val_main_v2_apply, val_main_v1_apply, val_main_v0_apply]
  refine congrArg x0 (funext fun a => Fin.ext ?_)
  have := b.isLt; have := r.isLt; have := h.isLt; have := x.isLt
  match a with
  | ⟨0, _⟩ => show (((b.val * 4096 + r.val) * 4 + h.val) * 256 + x.val) / 1024 = b.val * 4096 + r.val; omega
  | ⟨1, _⟩ => show (((b.val * 4096 + r.val) * 4 + h.val) * 256 + x.val) % 1024 = h.val * 256 + x.val; omega

theorem ref_k (b : Fin 2) (n : Fin 256) (h : Fin 4) (x : Fin 256) : val_main_v4 (F := Ideal) x1 (ix4 b n h x) = x1 (ix4 0 b n (lane h x)) := by
  have e : idx_main_v4 (ix4 b n h x) = ix3 b n (lane h x) := by
    refine funext fun a => Fin.ext ?_
    have := b.isLt; have := n.isLt; have := h.isLt; have := x.isLt
    match a with
    | ⟨0, _⟩ => show (((b.val * 256 + n.val) * 4 + h.val) * 256 + x.val) / 262144 = b.val; omega
    | ⟨1, _⟩ => show (((b.val * 256 + n.val) * 4 + h.val) * 256 + x.val) / 1024 % 256 = n.val; omega
    | ⟨2, _⟩ => show (((b.val * 256 + n.val) * 4 + h.val) * 256 + x.val) % 1024 = h.val * 256 + x.val; omega
  rw [val_main_v4_apply, e, val_main_v3_apply]
  generalize lane h x = C
  refine congrArg x1 (funext fun a => Fin.ext ?_)
  have := b.isLt; have := n.isLt; have := C.isLt
  match a with
  | ⟨0, _⟩ => rfl
  | ⟨1, _⟩ => show ((b.val * 256 + n.val) * 1024 + C.val) / 262144 % 2 = b.val; omega
  | ⟨2, _⟩ => show ((b.val * 256 + n.val) * 1024 + C.val) / 1024 % 256 = n.val; omega
  | ⟨3, _⟩ => show ((b.val * 256 + n.val) * 1024 + C.val) % 1024 = C.val; omega

theorem ref_v (b : Fin 2) (n : Fin 256) (h : Fin 4) (x : Fin 256) : val_main_v20 (F := Ideal) x2 (ix4 b n h x) = x2 (ix4 0 b n (lane h x)) := by
  have e : idx_main_v20 (ix4 b n h x) = ix3 b n (lane h x) := by
    refine funext fun a => Fin.ext ?_
    have := b.isLt; have := n.isLt; have := h.isLt; have := x.isLt
    match a with
    | ⟨0, _⟩ => show (((b.val * 256 + n.val) * 4 + h.val) * 256 + x.val) / 262144 = b.val; omega
    | ⟨1, _⟩ => show (((b.val * 256 + n.val) * 4 + h.val) * 256 + x.val) / 1024 % 256 = n.val; omega
    | ⟨2, _⟩ => show (((b.val * 256 + n.val) * 4 + h.val) * 256 + x.val) % 1024 = h.val * 256 + x.val; omega
  rw [val_main_v20_apply, e, val_main_v19_apply]
  generalize lane h x = C
  refine congrArg x2 (funext fun a => Fin.ext ?_)
  have := b.isLt; have := n.isLt; have := C.isLt
  match a with
  | ⟨0, _⟩ => rfl
  | ⟨1, _⟩ => show ((b.val * 256 + n.val) * 1024 + C.val) / 262144 % 2 = b.val; omega
  | ⟨2, _⟩ => show ((b.val * 256 + n.val) * 1024 + C.val) / 1024 % 256 = n.val; omega
  | ⟨3, _⟩ => show ((b.val * 256 + n.val) * 1024 + C.val) % 1024 = C.val; omega

theorem ref_score (b : Fin 2) (h : Fin 4) (r : Fin 4096) (n : Fin 256) : val_main_v7 (F := Ideal) x0 x1 (ix4 b h r n) = score x0 x1 b r h n := by
  have el : ∀ x, lidx_main_v5 (ix4 b h r n) x = ix4 b r h x := fun x => funext fun a => by
    match a with
    | ⟨0, _⟩ => rfl
    | ⟨1, _⟩ => rfl
    | ⟨2, _⟩ => rfl
    | ⟨3, _⟩ => rfl
  have er : ∀ x, ridx_main_v5 (ix4 b h r n) x = ix4 b n h x := fun x => funext fun a => by
    match a with
    | ⟨0, _⟩ => rfl
    | ⟨1, _⟩ => rfl
    | ⟨2, _⟩ => rfl
    | ⟨3, _⟩ => rfl
  rw [val_main_v7_apply, val_main_v5_apply, val_main_v6_apply, val_main_cst_apply]
  refine congrArg (· * Ideal.ofBits .f32 0x3D800000#32) (Finset.sum_congr rfl fun x _ => ?_)
  rw [el, er, ref_q, ref_k]

theorem ref_top (b : Fin 2) (h : Fin 4) (r : Fin 4096) (n : Fin 256) : val_main_v12 (F := Ideal) x0 x1 (ix4 b h r n) = top (score x0 x1 b r h) := by
  rw [val_main_v12_apply, val_main_v11_apply, val_main_v10_apply, val_main_v9_apply, val_main_cst_1_apply]
  have e : val_main_v8 (F := Ideal) x0 x1 (ix3 b h r) = top (score x0 x1 b r h) := by
    have e1 : val_main_v8 (F := Ideal) x0 x1 (ix3 b h r)
        = Finset.univ.fold max (Ideal.ofBits .f32 0xFF800000#32) fun n : Fin 256 => val_main_v7 (F := Ideal) x0 x1 (ix4 b h r n) := by
      unfold val_main_v8
      generalize val_main_v7 (F := Ideal) x0 x1 = w
      simp only [pointwise]
      rfl
    rw [e1]
    exact congrArg (Finset.univ.fold max _) (funext fun n => ref_score x0 x1 b h r n)
  have ei : idx_main_v11 (idx_main_v12 (ix4 b h r n)) = ix3 b h r := funext fun a => by
    match a with
    | ⟨0, _⟩ => rfl
    | ⟨1, _⟩ => rfl
    | ⟨2, _⟩ => rfl
  rw [ei, e]
  show max (Ideal.ofBits .f32 0xFF800000#32) _ = _
  rw [Consts.bot]
  exact max_eq_right bot_le

theorem ref_exp (b : Fin 2) (h : Fin 4) (r : Fin 4096) (n : Fin 256) : val_main_v14 (F := Ideal) x0 x1 (ix4 b h r n)
    = Ideal.exp (score x0 x1 b r h n - top (score x0 x1 b r h)) := by
  rw [val_main_v14_apply, val_main_v13_apply, ref_score, ref_top]
  rfl

theorem ref_sum (b : Fin 2) (h : Fin 4) (r : Fin 4096) (n : Fin 256) : val_main_v17 (F := Ideal) x0 x1 (ix4 b h r n)
    = ∑ n', Ideal.exp (score x0 x1 b r h n' - top (score x0 x1 b r h)) := by
  rw [val_main_v17_apply, val_main_v16_apply, val_main_v15_apply, val_main_cst_2_apply]
  have ei : ∀ n', idx_main_v15 (idx_main_v16 (idx_main_v17 (ix4 b h r n))) n' = ix4 b h r n' := fun n' => funext fun a => by
    match a with
    | ⟨0, _⟩ => rfl
    | ⟨1, _⟩ => rfl
    | ⟨2, _⟩ => rfl
    | ⟨3, _⟩ => rfl
  rw [Finset.sum_congr rfl fun n' _ => (congrArg _ (ei n')).trans (ref_exp x0 x1 b h r n')]
  show Ideal.ofBits .f32 0x00000000#32 + _ = _
  rw [Consts.zero, zero_add]

theorem ref_out (hq : ∀ b r C, x0 (ix2 (row b r) C) = ((EReal.toReal (x0 (ix2 (row b r) C)) : ℝ) : EReal))
    (hk : ∀ i, x1 i = ((EReal.toReal (x1 i) : ℝ) : EReal)) (R : Fin 8192) (d : Fin 1024) :
    (val_main_v24 (F := Ideal) x0 x1 x2 (ix2 R d) : Ideal .bf16)
      = attend x0 x1 x2 ⟨R.val / 4096, by omega⟩ ⟨R.val % 4096, by omega⟩ ⟨d.val / 256, by omega⟩ ⟨d.val % 256, by omega⟩ := by
  have hR := R.isLt; have hd := d.isLt
  have e : idx_main_v22 (idx_main_v23 (ix2 R d))
      = ix4 ⟨R.val / 4096, by omega⟩ ⟨d.val / 256, by omega⟩ ⟨d.val % 256, by omega⟩ ⟨R.val % 4096, by omega⟩ := by
    refine funext fun a => Fin.ext ?_
    match a with
    | ⟨0, _⟩ => show (R.val * 1024 + d.val) / 4194304 = R.val / 4096; omega
    | ⟨1, _⟩ => show (R.val * 1024 + d.val) / 256 % 4 = d.val / 256; omega
    | ⟨2, _⟩ => show (R.val * 1024 + d.val) % 256 = d.val % 256; omega
    | ⟨3, _⟩ => show (R.val * 1024 + d.val) / 1024 % 4096 = R.val % 4096; omega
  refine (val_main_v23_apply (F := Ideal) x0 x1 x2 (ix2 R d)).trans ?_
  rw [val_main_v22_apply, e, val_main_v21_apply]
  generalize (⟨R.val / 4096, _⟩ : Fin 2) = b
  generalize (⟨R.val % 4096, _⟩ : Fin 4096) = r
  generalize (⟨d.val / 256, _⟩ : Fin 4) = h
  generalize (⟨d.val % 256, _⟩ : Fin 256) = j
  have el : ∀ n, lidx_main_v21 (ix4 b h j r) n = ix4 b n h j := fun n => funext fun a => by
    match a with
    | ⟨0, _⟩ => rfl
    | ⟨1, _⟩ => rfl
    | ⟨2, _⟩ => rfl
    | ⟨3, _⟩ => rfl
  have er : ∀ n, ridx_main_v21 (ix4 b h j r) n = ix4 b h r n := fun n => funext fun a => by
    match a with
    | ⟨0, _⟩ => rfl
    | ⟨1, _⟩ => rfl
    | ⟨2, _⟩ => rfl
    | ⟨3, _⟩ => rfl
  unfold attend
  have hs := funext (score_real x0 x1 hq hk b r h)
  rw [hs, ← soft_eq, ← hs]
  refine Finset.sum_congr rfl fun n _ => ?_
  rw [el, er, ref_v, val_main_v18_apply, ref_exp, ref_sum, ← score_real x0 x1 hq hk b r h n]
  simp only [← score_real x0 x1 hq hk b r h]
  rfl

/-- What the value claim's precondition says: the prompt's queries are real numbers. -/
theorem queries (h : (Cert.Pre_regular_memory.fn (F := Ideal) x0 x1 x2).1 = fun _ => 1#1) (b : Fin 2) (r : Fin 4096) (C : Fin 1024) :
    x0 (ix2 (row b r) C) = ((EReal.toReal (x0 (ix2 (row b r) C)) : ℝ) : EReal) := by
  have he : ∀ p : (⟨2, ![8320, 1024]⟩ : Shape).Idx,
      (p = fun a => ⟨![0, 0] a + ((ix2 ⟨b.val * 4096 + r.val, by omega⟩ C : (⟨2, ![8192, 1024]⟩ : Shape).Idx) (a.cast rfl)).val, by
        match a with
        | ⟨0, _⟩ => show 0 + (b.val * 4096 + r.val) < 8320; omega
        | ⟨1, _⟩ => show 0 + C.val < 1024; omega⟩)
      → Ideal.cmp .olt (max (x0 p) (-(x0 p))) (Ideal.ofBits .f32 0x7F800000#32) = 1#1 := by
    rintro p rfl
    exact congrFun h (ix2 ⟨b.val * 4096 + r.val, by omega⟩ C)
  refine Regular.real_of _ (he _ (funext fun a => Fin.ext ?_))
  match a with
  | ⟨0, _⟩ => exact (Nat.zero_add _).symm
  | ⟨1, _⟩ => exact (Nat.zero_add _).symm

/-- What it says besides: the keys of the memory are real numbers. -/
theorem keys (h : (Cert.Pre_regular_memory.fn (F := Ideal) x0 x1 x2).2 = fun _ => 1#1) (i : S1x2x256x1024.Idx) :
    x1 i = ((EReal.toReal (x1 i) : ℝ) : EReal) := Regular.real_of _ (congrFun h i)

end

end Cert.MemAttnValue

end
-- ==== Proof.Blocks.lean ====
/- One block of 256 queries against `n` keys, read row by row: the scores, the new maximum, the new sum and the new
   accumulator. The kernel writes this eight times, four times without a mask and four times with one. -/
module

public import proofs.«01_k».proof.Proof.Online
public import proofs.«01_k».proof.Proof.Consts
public import proofs.«01_k».proof.Proof.Gen.KernelIdeal.Skeleton
public import Idealize.ShloMosaic.Lib.Pointwise

@[expose] public section

set_option maxRecDepth 16384

noncomputable section

namespace Cert.Blocks

open Cert.KernelIdeal Cert.KernelIdeal.Gen
open Idealize.ShloMosaic
open scoped BigOperators

/-- The base-two logarithm of e, and the scale times it. -/
abbrev κ₂ : EReal := (((Real.log 2)⁻¹ : ℝ) : EReal)
abbrev κ₁ : EReal := (((11863283 / 134217728) * (Real.log 2)⁻¹ : ℝ) : EReal)

theorem named₂ : Named.named (F := Ideal) κ "log2e" (φ := .f32) 0x3FB8AA3B#32 = κ₂ :=
  IdealRules.named_const.ideal_named_scalar _ _ _ _ rfl
theorem named₁ : Named.named (F := Ideal) κ "scale_log2e" (φ := .f32) 0x3E0293EE#32 = κ₁ :=
  IdealRules.named_const.ideal_named_scalar _ _ _ _ rfl

/-- ONE QUERY'S STEP over `n` keys with scores `t` (its own addend `cq` left out) and values `v`: from the maximum, the
    sum and the accumulator `m`, `l`, `a` to `m'`, `l'`, `a'`. -/
structure Step {n : ℕ} (t : Fin n → EReal) (cq : EReal) (v : Fin n → Fin 128 → EReal) (m l : EReal) (a : Fin 128 → EReal)
    (m' l' : EReal) (a' : Fin 128 → EReal) : Prop where
  max : m' = max m ((Finset.univ.fold max ⊥ t) + cq)
  sum : l' = Ideal.exp2 (m - m') * l + ∑ s, Ideal.exp2 (t s - (m' - cq))
  acc : ∀ d, a' d = Ideal.exp2 (m - m') * a d + ∑ s, Ideal.exp2 (t s - (m' - cq)) * v s d

/-- A key's score against a query, without the query's own addend. -/
def score {n : ℕ} (q : FVec Ideal S256x128 .bf16) (k : FVec Ideal ⟨2, ![n, 128]⟩ .bf16) (ck : FVec Ideal ⟨4, ![1, 1, 1, n]⟩ .f32)
    (r : Fin 256) (s : Fin n) : EReal := (∑ d, q (ix2 r d) * k (ix2 s d)) * κ₁ - κ₂ * ck (ix4 0 0 0 s)

/-- The mask: key `s` is seen by query `o + r` when `s ≤ o + r`. -/
theorem mask (o s r : ℕ) (hs : s < 2 ^ 30) (hr : o + r < 2 ^ 30) (x y : EReal) :
    Scalar.select (IntOp.cmpi .sle (BitVec.ofNat 32 s) (IntOp.addi (BitVec.ofNat 32 o) (BitVec.ofNat 32 r))) x y
      = if s ≤ o + r then x else y := by
  have e : (BitVec.ofNat 32 s).sle (BitVec.ofNat 32 o + BitVec.ofNat 32 r) = decide (s ≤ o + r) := by
    rw [← BitVec.ofNat_add]
    have hs' : (BitVec.ofNat 32 s).toNat = s := by rw [BitVec.toNat_ofNat]; exact Nat.mod_eq_of_lt (by omega)
    have hr' : (BitVec.ofNat 32 (o + r)).toNat = o + r := by rw [BitVec.toNat_ofNat]; exact Nat.mod_eq_of_lt (by omega)
    rw [BitVec.sle, BitVec.toInt_eq_toNat_of_lt (by rw [hs']; omega), BitVec.toInt_eq_toNat_of_lt (by rw [hr']; omega), hs', hr']
    exact decide_eq_decide.mpr Int.ofNat_le
  unfold Scalar.select IntOp.cmpi IntOp.addi
  simp only [e]
  by_cases h : s ≤ o + r <;> simp [h]

variable (c m l : FVec Ideal S256x1 .f32) (a : FVec Ideal S256x128 .f32) (q : FVec Ideal S256x128 .bf16) (r : Fin 256)

/-- Against 256 keys. -/
theorem step256 (k : FVec Ideal S256x128 .bf16) (ck : FVec Ideal S1x1x1x256 .f32) (v : FVec Ideal S256x128 .bf16) :
    Step (fun s => k0_pay43 (F := Ideal) q k ck (ix2 r s)) (κ₂ * c (ix2 r 0)) (fun s d => v (ix2 s d)) (m (ix2 r 0)) (l (ix2 r 0)) (fun d => a (ix2 r d))
      (k0_pay45 (F := Ideal) q k ck c m (ix2 r 0)) (k0_pay48 (F := Ideal) q k ck c m l (ix2 r 0)) (fun d => k0_pay50 (F := Ideal) (k0_pay46 (F := Ideal) q k ck c m) (k0_pay47 (F := Ideal) q k ck c m) a v (ix2 r d)) where
  max := by
    pointwise [k0_pay45, k0_pay44]
    rw [Consts.bot, named₂]
  sum := by
    pointwise [k0_pay48, k0_pay47, k0_pay46, k0_pay44]
    rw [named₂]
    rfl
  acc d := by
    pointwise [k0_pay50, k0_pay47, k0_pay46, k0_pay44]
    rw [named₂]
    rfl

/-- Against 512. -/
theorem step512 (t : FVec Ideal S256x512 .f32) (v : FVec Ideal S512x128 .bf16) :
    Step (fun s => t (ix2 r s)) (κ₂ * c (ix2 r 0)) (fun s d => v (ix2 s d)) (m (ix2 r 0)) (l (ix2 r 0)) (fun d => a (ix2 r d))
      (k0_pay54 (F := Ideal) t c m (ix2 r 0)) (k0_pay57 (F := Ideal) t c m l (ix2 r 0)) (fun d => k0_pay58 (F := Ideal) t c m a v (ix2 r d)) where
  max := by
    pointwise [k0_pay54, k0_pay53]
    rw [Consts.bot, named₂]
  sum := by
    pointwise [k0_pay57, k0_pay56, k0_pay55, k0_pay53]
    rw [named₂]
    rfl
  acc d := by
    pointwise [k0_pay58, k0_pay56, k0_pay55, k0_pay53]
    rw [named₂]
    rfl

/-- Against 768. -/
theorem step768 (k : FVec Ideal S768x128 .bf16) (ck : FVec Ideal S1x1x1x768 .f32) (v : FVec Ideal S768x128 .bf16) :
    Step (fun s => k0_pay60 (F := Ideal) q k ck (ix2 r s)) (κ₂ * c (ix2 r 0)) (fun s d => v (ix2 s d)) (m (ix2 r 0)) (l (ix2 r 0)) (fun d => a (ix2 r d))
      (k0_pay62 (F := Ideal) q k ck c m (ix2 r 0)) (k0_pay65 (F := Ideal) q k ck c m l (ix2 r 0)) (fun d => k0_pay67 (F := Ideal) (k0_pay63 (F := Ideal) q k ck c m) (k0_pay64 (F := Ideal) q k ck c m) a v (ix2 r d)) where
  max := by
    pointwise [k0_pay62, k0_pay61]
    rw [Consts.bot, named₂]
  sum := by
    pointwise [k0_pay65, k0_pay64, k0_pay63, k0_pay61]
    rw [named₂]
    rfl
  acc d := by
    pointwise [k0_pay67, k0_pay64, k0_pay63, k0_pay61]
    rw [named₂]
    rfl

/-- Against 1024. -/
theorem step1024 (t : FVec Ideal S256x1024 .f32) (v : FVec Ideal S1024x128 .bf16) :
    Step (fun s => t (ix2 r s)) (κ₂ * c (ix2 r 0)) (fun s d => v (ix2 s d)) (m (ix2 r 0)) (l (ix2 r 0)) (fun d => a (ix2 r d))
      (k0_pay71 (F := Ideal) t c m (ix2 r 0)) (k0_pay74 (F := Ideal) t c m l (ix2 r 0)) (fun d => k0_pay75 (F := Ideal) t c m a v (ix2 r d)) where
  max := by
    pointwise [k0_pay71, k0_pay70]
    rw [Consts.bot, named₂]
  sum := by
    pointwise [k0_pay74, k0_pay73, k0_pay72, k0_pay70]
    rw [named₂]
    rfl
  acc d := by
    pointwise [k0_pay75, k0_pay73, k0_pay72, k0_pay70]
    rw [named₂]
    rfl

/-! ## The scores -/

/-- The scores without a mask. -/
theorem score_full (k : FVec Ideal S1024x128 .bf16) (ck : FVec Ideal S1x1x1x1024 .f32) (s : Fin 1024) :
    k0_pay8 (F := Ideal) q k ck (ix2 r s) = score q k ck r s := by
  pointwise [k0_pay8]
  rw [named₁, named₂]
  rfl

theorem score256 (k : FVec Ideal S256x128 .bf16) (ck : FVec Ideal S1x1x1x256 .f32) (s : Fin 256) :
    k0_pay43 (F := Ideal) q k ck (ix2 r s) = if s.val ≤ 0 + r.val then score q k ck r s else ⊥ := by
  pointwise [k0_pay43]
  rw [named₁, named₂, Consts.bot]
  exact (mask 0 s.val r.val (by have := s.isLt; omega) (by have := r.isLt; omega) _ _).trans (by rw [Nat.zero_add]; rfl)

theorem score512 (k : FVec Ideal S512x128 .bf16) (ck : FVec Ideal S1x1x1x512 .f32) (s : Fin 512) :
    k0_pay52 (F := Ideal) q k ck (ix2 r s) = if s.val ≤ 256 + r.val then score q k ck r s else ⊥ := by
  pointwise [k0_pay52]
  rw [named₁, named₂, Consts.bot]
  exact (mask 256 s.val r.val (by have := s.isLt; omega) (by have := r.isLt; omega) _ _)

theorem score768 (k : FVec Ideal S768x128 .bf16) (ck : FVec Ideal S1x1x1x768 .f32) (s : Fin 768) :
    k0_pay60 (F := Ideal) q k ck (ix2 r s) = if s.val ≤ 512 + r.val then score q k ck r s else ⊥ := by
  pointwise [k0_pay60]
  rw [named₁, named₂, Consts.bot]
  exact (mask 512 s.val r.val (by have := s.isLt; omega) (by have := r.isLt; omega) _ _)

theorem score1024 (k : FVec Ideal S1024x128 .bf16) (ck : FVec Ideal S1x1x1x1024 .f32) (s : Fin 1024) :
    k0_pay69 (F := Ideal) q k ck (ix2 r s) = if s.val ≤ 768 + r.val then score q k ck r s else ⊥ := by
  pointwise [k0_pay69]
  rw [named₁, named₂, Consts.bot]
  exact (mask 768 s.val r.val (by have := s.isLt; omega) (by have := r.isLt; omega) _ _)

/-! ## What the kernel stores -/

variable (t : FVec Ideal S256x512 .f32) (t' : FVec Ideal S256x1024 .f32)

theorem stored51 : k0_pay51 (F := Ideal) m = m := shapeCast_self ..
theorem stored49 : k0_pay49 (F := Ideal) m = m := shapeCast_self ..
theorem stored68 : k0_pay68 (F := Ideal) m = m := shapeCast_self ..
theorem stored66 : k0_pay66 (F := Ideal) m = m := shapeCast_self ..
theorem stored16 : k0_pay16 (F := Ideal) m = m := shapeCast_self ..
theorem stored25 : k0_pay25 (F := Ideal) m = m := shapeCast_self ..
theorem stored6 : k0_pay6 (F := Ideal) m = m := shapeCast_self ..
theorem stored59 : k0_pay59 (F := Ideal) t c m = k0_pay54 (F := Ideal) t c m := shapeCast_self ..
theorem stored76 : k0_pay76 (F := Ideal) t' c m = k0_pay71 (F := Ideal) t' c m := shapeCast_self ..

/-- The four blocks of queries against a whole block of keys, no mask: the same step. -/
theorem full0 (k v : FVec Ideal S1024x128 .bf16) (ck : FVec Ideal S1x1x1x1024 .f32) :
    Step (fun s => score q k ck r s) (κ₂ * c (ix2 r 0)) (fun s d => v (ix2 s d)) (m (ix2 r 0)) (l (ix2 r 0)) (fun d => a (ix2 r d))
      (k0_pay16 (F := Ideal) (k0_pay10 (F := Ideal) q k ck c m) (ix2 r 0)) (k0_pay13 (F := Ideal) q k ck c m l (ix2 r 0))
      (fun d => k0_pay15 (F := Ideal) (k0_pay12 (F := Ideal) q k ck c m) a (k0_pay14 (F := Ideal) q k ck c m) v (ix2 r d)) := by
  rw [stored16]
  have h := step1024 c m l a r (k0_pay8 (F := Ideal) q k ck) v
  simp only [score_full] at h
  exact h

theorem full1 (k v : FVec Ideal S1024x128 .bf16) (ck : FVec Ideal S1x1x1x1024 .f32) :
    Step (fun s => score q k ck r s) (κ₂ * c (ix2 r 0)) (fun s d => v (ix2 s d)) (m (ix2 r 0)) (l (ix2 r 0)) (fun d => a (ix2 r d))
      (k0_pay25 (F := Ideal) (k0_pay19 (F := Ideal) q k ck c m) (ix2 r 0))
      (k0_pay23 (F := Ideal) (k0_pay17 (F := Ideal) q k ck) (k0_pay20 (F := Ideal) q k ck c m) (k0_pay21 (F := Ideal) q k ck c m) l (ix2 r 0))
      (fun d => k0_pay24 (F := Ideal) (k0_pay17 (F := Ideal) q k ck) (k0_pay20 (F := Ideal) q k ck c m) (k0_pay21 (F := Ideal) q k ck c m) a v (ix2 r d)) :=
  full0 c m l a q r k v ck

theorem full2 (k v : FVec Ideal S1024x128 .bf16) (ck : FVec Ideal S1x1x1x1024 .f32) :
    Step (fun s => score q k ck r s) (κ₂ * c (ix2 r 0)) (fun s d => v (ix2 s d)) (m (ix2 r 0)) (l (ix2 r 0)) (fun d => a (ix2 r d))
      (k0_pay35 (F := Ideal) (k0_pay26 (F := Ideal) q k) (k0_pay27 (F := Ideal) ck) c m (ix2 r 0)) (k0_pay33 (F := Ideal) (k0_pay26 (F := Ideal) q k) (k0_pay27 (F := Ideal) ck) c m l (ix2 r 0))
      (fun d => k0_pay34 (F := Ideal) (k0_pay26 (F := Ideal) q k) (k0_pay27 (F := Ideal) ck) c m a v (ix2 r d)) :=
  full0 c m l a q r k v ck

theorem full3 (k v : FVec Ideal S1024x128 .bf16) (ck : FVec Ideal S1x1x1x1024 .f32) :
    Step (fun s => score q k ck r s) (κ₂ * c (ix2 r 0)) (fun s d => v (ix2 s d)) (m (ix2 r 0)) (l (ix2 r 0)) (fun d => a (ix2 r d))
      (k0_pay6 (F := Ideal) (k0_pay38 (F := Ideal) q k ck c m) (ix2 r 0)) (k0_pay41 (F := Ideal) q k ck c m l (ix2 r 0))
      (fun d => k0_pay5 (F := Ideal) (k0_pay40 (F := Ideal) q k ck c m) a (k0_pay42 (F := Ideal) q k ck c m) v (ix2 r d)) :=
  full0 c m l a q r k v ck

/-- Block 0 of the queries against the first 256 keys, masked. -/
theorem diag0 (k v : FVec Ideal S256x128 .bf16) (ck : FVec Ideal S1x1x1x256 .f32) :
    Step (fun s => if s.val ≤ 0 + r.val then score q k ck r s else ⊥) (κ₂ * c (ix2 r 0)) (fun s d => v (ix2 s d))
      (m (ix2 r 0)) (l (ix2 r 0)) (fun d => a (ix2 r d))
      (k0_pay51 (F := Ideal) (k0_pay45 (F := Ideal) q k ck c m) (ix2 r 0)) (k0_pay49 (F := Ideal) (k0_pay48 (F := Ideal) q k ck c m l) (ix2 r 0)) (fun d => k0_pay50 (F := Ideal) (k0_pay46 (F := Ideal) q k ck c m) (k0_pay47 (F := Ideal) q k ck c m) a v (ix2 r d)) := by
  rw [stored51, stored49]
  have h := step256 c m l a q r k ck v
  simp only [score256] at h
  exact h

/-- Block 1 of the queries against the first 512 keys, masked. -/
theorem diag1 (k v : FVec Ideal S512x128 .bf16) (ck : FVec Ideal S1x1x1x512 .f32) :
    Step (fun s => if s.val ≤ 256 + r.val then score q k ck r s else ⊥) (κ₂ * c (ix2 r 0)) (fun s d => v (ix2 s d))
      (m (ix2 r 0)) (l (ix2 r 0)) (fun d => a (ix2 r d))
      (k0_pay59 (F := Ideal) (k0_pay52 (F := Ideal) q k ck) c m (ix2 r 0)) (k0_pay57 (F := Ideal) (k0_pay52 (F := Ideal) q k ck) c m l (ix2 r 0)) (fun d => k0_pay58 (F := Ideal) (k0_pay52 (F := Ideal) q k ck) c m a v (ix2 r d)) := by
  rw [stored59]
  have h := step512 c m l a r (k0_pay52 (F := Ideal) q k ck) v
  simp only [score512] at h
  exact h

/-- Block 2 of the queries against the first 768 keys, masked. -/
theorem diag2 (k v : FVec Ideal S768x128 .bf16) (ck : FVec Ideal S1x1x1x768 .f32) :
    Step (fun s => if s.val ≤ 512 + r.val then score q k ck r s else ⊥) (κ₂ * c (ix2 r 0)) (fun s d => v (ix2 s d))
      (m (ix2 r 0)) (l (ix2 r 0)) (fun d => a (ix2 r d))
      (k0_pay68 (F := Ideal) (k0_pay62 (F := Ideal) q k ck c m) (ix2 r 0)) (k0_pay66 (F := Ideal) (k0_pay65 (F := Ideal) q k ck c m l) (ix2 r 0)) (fun d => k0_pay67 (F := Ideal) (k0_pay63 (F := Ideal) q k ck c m) (k0_pay64 (F := Ideal) q k ck c m) a v (ix2 r d)) := by
  rw [stored68, stored66]
  have h := step768 c m l a q r k ck v
  simp only [score768] at h
  exact h

/-- Block 3 of the queries against the first 1024 keys, masked. -/
theorem diag3 (k v : FVec Ideal S1024x128 .bf16) (ck : FVec Ideal S1x1x1x1024 .f32) :
    Step (fun s => if s.val ≤ 768 + r.val then score q k ck r s else ⊥) (κ₂ * c (ix2 r 0)) (fun s d => v (ix2 s d))
      (m (ix2 r 0)) (l (ix2 r 0)) (fun d => a (ix2 r d))
      (k0_pay76 (F := Ideal) (k0_pay69 (F := Ideal) q k ck) c m (ix2 r 0)) (k0_pay74 (F := Ideal) (k0_pay69 (F := Ideal) q k ck) c m l (ix2 r 0)) (fun d => k0_pay75 (F := Ideal) (k0_pay69 (F := Ideal) q k ck) c m a v (ix2 r d)) := by
  rw [stored76]
  have h := step1024 c m l a r (k0_pay69 (F := Ideal) q k ck) v
  simp only [score1024] at h
  exact h

end Cert.Blocks

end
-- ==== Proof.Rows.lean ====
/- Arrays of 1024 rows stored, and read, 256 rows at a time. -/
module

public import Idealize.ShloMosaic.Lib.Pointwise
public import Idealize.ShloMosaic.Lib.Pipeline.ValueKit

@[expose] public section

noncomputable section

namespace Cert.Rows

open Idealize.ShloMosaic

variable {sig : RefSig} {κ : Kind} {sp : Space} {e : EltTy} {Val : EltTy → Type} {N n k : ℕ}

/-- The rows from `o`, `n` of them, as a rectangle. -/
abbrev box (N n k o : ℕ) (inb : ∀ a, (![o, 0] : Fin 2 → ℕ) a + (⟨2, ![n, k]⟩ : Shape).size a ≤ (⟨2, ![N, k]⟩ : Shape).size a) :
    Rect (⟨2, ![N, k]⟩ : Shape) :=
  Rect.unit (s := (⟨2, ![N, k]⟩ : Shape)) ![o, 0] (⟨2, ![n, k]⟩ : Shape).size inb

theorem box_idx (o : ℕ) (inb) (r : Fin n) (j : Fin k) (h : o + r.val < N) :
    (box N n k o inb).toLoadRect.idx (ix2 r j) = ix2 ⟨o + r.val, h⟩ j := by
  funext a
  apply Fin.ext
  refine (Rect.idx_unit_val _ _ _ _ a).trans ?_
  match a with
  | ⟨0, _⟩ => rfl
  | ⟨1, _⟩ => exact Nat.zero_add _

theorem mem_box (o : ℕ) (inb) (y : Fin N) (j : Fin k) : ix2 y j ∈ (box N n k o inb).set ↔ o ≤ y.val ∧ y.val < o + n := by
  rw [Rect.mem_set_unit]
  constructor
  · intro h; exact h 0
  · intro h a
    match a with
    | ⟨0, _⟩ => exact h
    | ⟨1, _⟩ => exact ⟨Nat.zero_le _, by show j.val < 0 + k; have := j.isLt; omega⟩

/-- A load of rows through a view, of what the view's buffer holds. -/
theorem load (v : View sig κ sp (⟨2, ![N, k]⟩ : Shape) e) (f : v.ty.Contents Val) (o : ℕ) (inb) (r : Fin n) (j : Fin k)
    (h : o + r.val < N) :
    v.readAt Val (box N n k o inb).toLoadRect f (ix2 r j) = v.read Val f (ix2 ⟨o + r.val, h⟩ j) := by
  show v.read Val f ((box N n k o inb).toLoadRect.idx (ix2 r j)) = _
  rw [box_idx o inb r j h]

section
variable [∀ e, Nonempty (Val e)]

theorem load_rep (v : View sig κ sp (⟨2, ![N, k]⟩ : Shape) e) (x : (⟨2, ![N, k]⟩ : Shape).Idx → Val e) (o : ℕ) (inb) (r : Fin n)
    (j : Fin k) (h : o + r.val < N) :
    v.readAt Val (box N n k o inb).toLoadRect (v.rep x) (ix2 r j) = x (ix2 ⟨o + r.val, h⟩ j) := by
  rw [load v _ o inb r j h, View.read_rep]

theorem canon_hit (o : ℕ) (inb) (w : (⟨2, ![n, k]⟩ : Shape).Idx → Val e) (L : List (View.Piece Val (⟨2, ![N, k]⟩ : Shape) e)) (r : Fin n)
    (j : Fin k) (h : o + r.val < N) :
    View.canon (⟨box N n k o inb, w⟩ :: L) (ix2 ⟨o + r.val, h⟩ j) = w (ix2 r j) := by
  rw [← box_idx o inb r j h]
  exact View.canon_cons_emb (box N n k o inb) w L (ix2 r j)

theorem canon_skip (o : ℕ) (inb) (w : (⟨2, ![n, k]⟩ : Shape).Idx → Val e) (L : List (View.Piece Val (⟨2, ![N, k]⟩ : Shape) e)) (y : Fin N)
    (j : Fin k) (h : ¬(o ≤ y.val ∧ y.val < o + n)) :
    View.canon (⟨box N n k o inb, w⟩ :: L) (ix2 y j) = View.canon L (ix2 y j) :=
  View.canon_cons_of_not_mem _ L fun hm => h ((mem_box o inb y j).mp hm)

/-- Four stores of 256 rows, one after the other, over whatever was there: each row holds what its own store wrote. -/
theorem four (v : View sig κ sp (⟨2, ![1024, k]⟩ : Shape) e) (f : v.ty.Contents Val)
    (w0 w1 w2 w3 : (⟨2, ![256, k]⟩ : Shape).Idx → Val e) (L : List (View.Piece Val (⟨2, ![1024, k]⟩ : Shape) e)) (i0 i1 i2 i3)
    (r : Fin 256) (j : Fin k) :
    let F := v.writes Val f (⟨box 1024 256 k 768 i3, w3⟩ :: ⟨box 1024 256 k 512 i2, w2⟩ :: ⟨box 1024 256 k 256 i1, w1⟩
      :: ⟨box 1024 256 k 0 i0, w0⟩ :: L)
    v.read Val F (ix2 ⟨0 + r.val, by omega⟩ j) = w0 (ix2 r j) ∧ v.read Val F (ix2 ⟨256 + r.val, by omega⟩ j) = w1 (ix2 r j)
      ∧ v.read Val F (ix2 ⟨512 + r.val, by omega⟩ j) = w2 (ix2 r j) ∧ v.read Val F (ix2 ⟨768 + r.val, by omega⟩ j) = w3 (ix2 r j) := by
  intro F
  have hr := r.isLt
  have mem : ∀ o (inb) (w : (⟨2, ![256, k]⟩ : Shape).Idx → Val e) (h : o + r.val < 1024),
      ix2 ⟨o + r.val, h⟩ j ∈ (box 1024 256 k o inb).set := fun o inb w h => (mem_box o inb _ j).mpr ⟨by simp, by simpa using hr⟩
  refine ⟨?_, ?_, ?_, ?_⟩
  · rw [View.read_writes_apply_eq_canon v f _ _ ⟨⟨box 1024 256 k 0 i0, w0⟩, by simp, mem 0 i0 w0 (by omega)⟩,
      canon_skip 768 i3 w3 _ _ j (by dsimp only; omega), canon_skip 512 i2 w2 _ _ j (by dsimp only; omega),
      canon_skip 256 i1 w1 _ _ j (by dsimp only; omega), canon_hit 0 i0 w0 L r j]
  · rw [View.read_writes_apply_eq_canon v f _ _ ⟨⟨box 1024 256 k 256 i1, w1⟩, by simp, mem 256 i1 w1 (by omega)⟩,
      canon_skip 768 i3 w3 _ _ j (by dsimp only; omega), canon_skip 512 i2 w2 _ _ j (by dsimp only; omega), canon_hit 256 i1 w1 _ r j]
  · rw [View.read_writes_apply_eq_canon v f _ _ ⟨⟨box 1024 256 k 512 i2, w2⟩, by simp, mem 512 i2 w2 (by omega)⟩,
      canon_skip 768 i3 w3 _ _ j (by dsimp only; omega), canon_hit 512 i2 w2 _ r j]
  · rw [View.read_writes_apply_eq_canon v f _ _ ⟨⟨box 1024 256 k 768 i3, w3⟩, by simp, mem 768 i3 w3 (by omega)⟩,
      canon_hit 768 i3 w3 _ r j]

/-- Every row of 1024 is one of four blocks' rows. -/
theorem row_cases {P : Fin 1024 → Prop} (h0 : ∀ r : Fin 256, P ⟨0 + r.val, by omega⟩) (h1 : ∀ r : Fin 256, P ⟨256 + r.val, by omega⟩)
    (h2 : ∀ r : Fin 256, P ⟨512 + r.val, by omega⟩) (h3 : ∀ r : Fin 256, P ⟨768 + r.val, by omega⟩) (y : Fin 1024) : P y := by
  have hy := y.isLt
  rcases (by omega : y.val < 256 ∨ (256 ≤ y.val ∧ y.val < 512) ∨ (512 ≤ y.val ∧ y.val < 768) ∨ 768 ≤ y.val) with h | h | h | h
  · have := h0 ⟨y.val, h⟩; simpa using this
  · have := h1 ⟨y.val - 256, by omega⟩
    have e : (⟨256 + (y.val - 256), by omega⟩ : Fin 1024) = y := Fin.ext (by dsimp only; omega)
    simpa only [e] using this
  · have := h2 ⟨y.val - 512, by omega⟩
    have e : (⟨512 + (y.val - 512), by omega⟩ : Fin 1024) = y := Fin.ext (by dsimp only; omega)
    simpa only [e] using this
  · have := h3 ⟨y.val - 768, by omega⟩
    have e : (⟨768 + (y.val - 768), by omega⟩ : Fin 1024) = y := Fin.ext (by dsimp only; omega)
    simpa only [e] using this

end

end Cert.Rows

end
-- ==== Proof.Loads.lean ====
/- The blocks of queries, keys and values as they are loaded, and the running arrays as they are stored. -/
module

public import proofs.«01_k».proof.Proof.Blocks
public import proofs.«01_k».proof.Proof.Rows
public import proofs.«01_k».proof.Proof.Gen.KernelIdeal.Flash
public import Idealize.ShloMosaic.Lib.Pipeline.ReadBack

@[expose] public section

set_option maxRecDepth 16384

noncomputable section

namespace Cert.Paths

open Cert.KernelIdeal Cert.KernelIdeal.Gen Cert.Blocks Cert.Rows
open Idealize.ShloMosaic Idealize.ShloMosaic.TcCoe
open scoped BigOperators

/-- A key's score against a query, of one block of queries and one of keys, without the query's own addend. -/
def tscore (q k : S1024x128.Idx → EReal) (ck : S1x1x1x1024.Idx → EReal) (y s : Fin 1024) : EReal :=
  (∑ d, q (ix2 y d) * k (ix2 s d)) * κ₁ - κ₂ * ck (ix4 0 0 0 s)

theorem Step.of_eq {n : ℕ} {t t₁ : Fin n → EReal} {cq cq₁ : EReal} {v v₁ : Fin n → Fin 128 → EReal} {m l m₁ l₁ m' l' m₁' l₁' : EReal}
    {a a₁ a' a₁' : Fin 128 → EReal} (h : Step t cq v m l a m' l' a') (hm' : m₁' = m') (hl' : l₁' = l') (ha' : ∀ d, a₁' d = a' d)
    (ht : ∀ s, t s = t₁ s) (hc : cq = cq₁) (hv : ∀ s d, v s d = v₁ s d) (hm : m = m₁) (hl : l = l₁) (ha : ∀ d, a d = a₁ d) :
    Step t₁ cq₁ v₁ m₁ l₁ a₁ m₁' l₁' a₁' := by
  obtain rfl : t = t₁ := funext ht
  obtain rfl : v = v₁ := funext fun s => funext (hv s)
  obtain rfl : a = a₁ := funext ha
  obtain rfl : a₁' = a' := funext ha'
  subst hc hm hl hm' hl'
  exact h

/-- The key addends of the first `n` keys, loaded. -/
theorem load_ck (n : ℕ) (a9 : Memref sig .tc .vmem S1x1x1x1024 .f32) (x4 : S1x1x1x1024.Idx → Elt Ideal .f32) (inb) (s : Fin n) (h : s.val < 1024) :
    View.readAt (Elt Ideal) a9.view (Rect.unit (s := S1x1x1x1024) ![0, 0, 0, 0] (⟨4, ![1, 1, 1, n]⟩ : Shape).size inb).toLoadRect (a9.view.rep x4)
      (ix4 0 0 0 s) = x4 (ix4 0 0 0 ⟨s.val, h⟩) := by
  rw [View.readAt_rep]
  refine congrArg x4 (funext fun a => Fin.ext ((Rect.idx_unit_val _ _ _ _ a).trans ?_))
  match a with
  | ⟨0, _⟩ => rfl
  | ⟨1, _⟩ => rfl
  | ⟨2, _⟩ => rfl
  | ⟨3, _⟩ => exact Nat.zero_add _

/-- The scores read off the loaded blocks are the blocks' own. -/
theorem score_load (n o : ℕ) (hn : n ≤ 1024) (a5 a6 : Memref sig .tc .vmem S1024x128 .bf16) (a9 : Memref sig .tc .vmem S1x1x1x1024 .f32)
    (x0 x1 : S1024x128.Idx → Elt Ideal .bf16) (x4 : S1x1x1x1024.Idx → Elt Ideal .f32) (i5 i6 i9) (r : Fin 256) (ho : o + r.val < 1024) (s : Fin n) :
    score (n := n) (View.readAt (Elt Ideal) a5.view (box 1024 256 128 o i5).toLoadRect (a5.view.rep x0))
      (View.readAt (Elt Ideal) a6.view (box 1024 n 128 0 i6).toLoadRect (a6.view.rep x1))
      (View.readAt (Elt Ideal) a9.view (Rect.unit (s := S1x1x1x1024) ![0, 0, 0, 0] (⟨4, ![1, 1, 1, n]⟩ : Shape).size i9).toLoadRect (a9.view.rep x4)) r s
      = tscore x0 x1 x4 ⟨o + r.val, ho⟩ (Fin.castLE hn s) := by
  have hs : s.val < 1024 := by have := s.isLt; omega
  have e : (⟨0 + s.val, by omega⟩ : Fin 1024) = Fin.castLE hn s := Fin.ext (Nat.zero_add _)
  unfold score tscore
  rw [load_ck n a9 x4 i9 s hs]
  refine congrArg₂ (fun (x : EReal) (y : Fin 1024) => x * κ₁ - κ₂ * x4 (ix4 0 0 0 y)) (Finset.sum_congr rfl fun d _ => ?_) (Fin.ext rfl)
  rw [load_rep a5.view x0 o i5 r d ho, load_rep a6.view x1 0 i6 s d (by omega), e]

/-- The values of the first `n` keys, loaded. -/
theorem load_v (n : ℕ) (hn : n ≤ 1024) (a7 : Memref sig .tc .vmem S1024x128 .bf16) (x2 : S1024x128.Idx → Elt Ideal .bf16) (i7) (s : Fin n) (d : Fin 128) :
    View.readAt (Elt Ideal) a7.view (box 1024 n 128 0 i7).toLoadRect (a7.view.rep x2) (ix2 s d) = x2 (ix2 (Fin.castLE hn s) d) := by
  have hs : s.val < 1024 := by have := s.isLt; omega
  rw [load_rep a7.view x2 0 i7 s d (by omega)]
  exact congrArg (fun y => x2 (ix2 y d)) (Fin.ext (Nat.zero_add _))

/-- The whole of a block, loaded. -/
theorem load_whole (a : Memref sig .tc .vmem S1024x128 .f32) (x : S1024x128.Idx → Elt Ideal .f32) (inb) :
    View.readAt (Elt Ideal) a.view (box 1024 1024 128 0 inb).toLoadRect (a.view.rep x) = x := by
  refine funext fun (q : S1024x128.Idx) => ?_
  obtain ⟨y, j, rfl⟩ : ∃ y j, q = ix2 y j := ⟨q 0, q 1, (ix2_eta q).symm⟩
  rw [load_rep a.view x 0 inb y j (by have := y.isLt; omega)]
  exact congrArg (fun z => x (ix2 z j)) (Fin.ext (Nat.zero_add _))

section
variable {sig : RefSig} {κ : Kind} {sp : Space} {e : EltTy} {Val : EltTy → Type} [∀ e, Nonempty (Val e)] {k : ℕ}
  (v : View sig κ sp (⟨2, ![1024, k]⟩ : Shape) e) (w : (⟨2, ![1024, k]⟩ : Shape).Idx → Val e)
  (w0 w1 w2 : (⟨2, ![256, k]⟩ : Shape).Idx → Val e)

/-- A block filled and, for some of its first rows, stored again: a row not stored again still holds the fill. -/
theorem fill0 (inb) (y : Fin 1024) (j : Fin k) :
    v.read Val (v.writes Val v.junk [⟨box 1024 1024 k 0 inb, w⟩]) (ix2 y j) = w (ix2 y j) := by
  have hy := y.isLt
  rw [View.read_writes_apply_eq_canon v _ _ _ ⟨⟨box 1024 1024 k 0 inb, w⟩, by simp, (mem_box 0 inb y j).mpr ⟨by omega, by omega⟩⟩]
  have e : y = ⟨0 + y.val, by omega⟩ := Fin.ext (Nat.zero_add _).symm
  have h := canon_hit 0 inb w [] y j (by omega)
  rwa [← e] at h

theorem cov0 (inb) (o : ℕ) (ib) (r : Fin 256) (j : Fin k) (h : o + r.val < 1024) :
    View.readCov v [⟨box 1024 1024 k 0 inb, w⟩] (box 1024 256 k o ib).toLoadRect (ix2 r j) = w (ix2 ⟨o + r.val, h⟩ j) := by
  unfold View.readCov
  rw [load v _ o ib r j h, fill0 v w inb]

theorem cov1 (inb i0) (o : ℕ) (ho : 256 ≤ o) (ib) (r : Fin 256) (j : Fin k) (h : o + r.val < 1024) :
    View.readCov v [⟨box 1024 256 k 0 i0, w0⟩, ⟨box 1024 1024 k 0 inb, w⟩] (box 1024 256 k o ib).toLoadRect (ix2 r j)
      = w (ix2 ⟨o + r.val, h⟩ j) := by
  have m : ix2 ⟨o + r.val, h⟩ j ∈ (box 1024 1024 k 0 inb).set := (mem_box 0 inb _ j).mpr ⟨by omega, by dsimp only; omega⟩
  have f := fill0 v w inb ⟨o + r.val, h⟩ j
  rw [View.read_writes_apply_eq_canon v _ _ _ ⟨⟨box 1024 1024 k 0 inb, w⟩, by simp, m⟩] at f
  unfold View.readCov
  rw [load v _ o ib r j h, View.read_writes_apply_eq_canon v _ _ _ ⟨⟨box 1024 1024 k 0 inb, w⟩, by simp, m⟩,
    canon_skip 0 i0 w0 _ _ j (by dsimp only; omega), f]

theorem cov2 (inb i0 i1) (o : ℕ) (ho : 512 ≤ o) (ib) (r : Fin 256) (j : Fin k) (h : o + r.val < 1024) :
    View.readCov v [⟨box 1024 256 k 256 i1, w1⟩, ⟨box 1024 256 k 0 i0, w0⟩, ⟨box 1024 1024 k 0 inb, w⟩] (box 1024 256 k o ib).toLoadRect
      (ix2 r j) = w (ix2 ⟨o + r.val, h⟩ j) := by
  have m : ix2 ⟨o + r.val, h⟩ j ∈ (box 1024 1024 k 0 inb).set := (mem_box 0 inb _ j).mpr ⟨by omega, by dsimp only; omega⟩
  have f := fill0 v w inb ⟨o + r.val, h⟩ j
  rw [View.read_writes_apply_eq_canon v _ _ _ ⟨⟨box 1024 1024 k 0 inb, w⟩, by simp, m⟩] at f
  unfold View.readCov
  rw [load v _ o ib r j h, View.read_writes_apply_eq_canon v _ _ _ ⟨⟨box 1024 1024 k 0 inb, w⟩, by simp, m⟩,
    canon_skip 256 i1 w1 _ _ j (by dsimp only; omega), canon_skip 0 i0 w0 _ _ j (by dsimp only; omega), f]

theorem cov3 (inb i0 i1 i2) (o : ℕ) (ho : 768 ≤ o) (ib) (r : Fin 256) (j : Fin k) (h : o + r.val < 1024) :
    View.readCov v [⟨box 1024 256 k 512 i2, w2⟩, ⟨box 1024 256 k 256 i1, w1⟩, ⟨box 1024 256 k 0 i0, w0⟩, ⟨box 1024 1024 k 0 inb, w⟩]
      (box 1024 256 k o ib).toLoadRect (ix2 r j) = w (ix2 ⟨o + r.val, h⟩ j) := by
  have m : ix2 ⟨o + r.val, h⟩ j ∈ (box 1024 1024 k 0 inb).set := (mem_box 0 inb _ j).mpr ⟨by omega, by dsimp only; omega⟩
  have f := fill0 v w inb ⟨o + r.val, h⟩ j
  rw [View.read_writes_apply_eq_canon v _ _ _ ⟨⟨box 1024 1024 k 0 inb, w⟩, by simp, m⟩] at f
  unfold View.readCov
  rw [load v _ o ib r j h, View.read_writes_apply_eq_canon v _ _ _ ⟨⟨box 1024 1024 k 0 inb, w⟩, by simp, m⟩,
    canon_skip 512 i2 w2 _ _ j (by dsimp only; omega), canon_skip 256 i1 w1 _ _ j (by dsimp only; omega),
    canon_skip 0 i0 w0 _ _ j (by dsimp only; omega), f]

/-- A whole block read back is what was stored. -/
theorem cov_all (L : List (View.Piece Val (⟨2, ![1024, k]⟩ : Shape) e)) (ib) (y : Fin 1024) (j : Fin k) :
    View.readCov v L (box 1024 1024 k 0 ib).toLoadRect (ix2 y j) = v.read Val (v.writes Val v.junk L) (ix2 y j) := by
  unfold View.readCov
  rw [load v _ 0 ib y j (by have := y.isLt; omega)]
  exact congrArg (fun z => v.read Val (v.writes Val v.junk L) (ix2 z j)) (Fin.ext (Nat.zero_add _))
end

/-- The quotient stored at the end. -/
theorem quotient_at (a : FVec Ideal S1024x128 .f32) (l : FVec Ideal S1024x1 .f32) (y : Fin 1024) (d : Fin 128) :
    k0_pay7 (F := Ideal) a l (ix2 y d) = Ideal.div (a (ix2 y d)) (l (ix2 y 0)) := by
  pointwise [k0_pay7]

/-! The four arrays kept between grid points, as their entries. -/

def at0 (f : cc0_scratch0.ty.Contents (Elt Ideal)) : S1024x1.Idx → EReal := View.read (Elt Ideal) (View.whole cc0_scratch0) f

def at1 (f : cc0_scratch1.ty.Contents (Elt Ideal)) : S1024x1.Idx → EReal := View.read (Elt Ideal) (View.whole cc0_scratch1) f

def at2 (f : cc0_scratch2.ty.Contents (Elt Ideal)) : S1024x128.Idx → EReal := View.read (Elt Ideal) (View.whole cc0_scratch2) f

def at3 (f : cc0_scratch3.ty.Contents (Elt Ideal)) : S1024x1.Idx → EReal := View.read (Elt Ideal) (View.whole cc0_scratch3) f

theorem four0 (f : cc0_scratch0.ty.Contents (Elt Ideal)) (w0 w1 w2 w3 : S256x1.Idx → EReal)
    (L : List (View.Piece (Elt Ideal) S1024x1 .f32)) (i0 i1 i2 i3) (r : Fin 256) (j : Fin 1) :
    let F := (View.whole cc0_scratch0).writes (Elt Ideal) f (⟨box 1024 256 1 768 i3, w3⟩ :: ⟨box 1024 256 1 512 i2, w2⟩
      :: ⟨box 1024 256 1 256 i1, w1⟩ :: ⟨box 1024 256 1 0 i0, w0⟩ :: L)
    at0 F (ix2 ⟨0 + r.val, by omega⟩ j) = w0 (ix2 r j) ∧ at0 F (ix2 ⟨256 + r.val, by omega⟩ j) = w1 (ix2 r j)
      ∧ at0 F (ix2 ⟨512 + r.val, by omega⟩ j) = w2 (ix2 r j) ∧ at0 F (ix2 ⟨768 + r.val, by omega⟩ j) = w3 (ix2 r j) :=
  four (Val := Elt Ideal) (View.whole cc0_scratch0) f w0 w1 w2 w3 L i0 i1 i2 i3 r j

theorem four1 (f : cc0_scratch1.ty.Contents (Elt Ideal)) (w0 w1 w2 w3 : S256x1.Idx → EReal)
    (L : List (View.Piece (Elt Ideal) S1024x1 .f32)) (i0 i1 i2 i3) (r : Fin 256) (j : Fin 1) :
    let F := (View.whole cc0_scratch1).writes (Elt Ideal) f (⟨box 1024 256 1 768 i3, w3⟩ :: ⟨box 1024 256 1 512 i2, w2⟩
      :: ⟨box 1024 256 1 256 i1, w1⟩ :: ⟨box 1024 256 1 0 i0, w0⟩ :: L)
    at1 F (ix2 ⟨0 + r.val, by omega⟩ j) = w0 (ix2 r j) ∧ at1 F (ix2 ⟨256 + r.val, by omega⟩ j) = w1 (ix2 r j)
      ∧ at1 F (ix2 ⟨512 + r.val, by omega⟩ j) = w2 (ix2 r j) ∧ at1 F (ix2 ⟨768 + r.val, by omega⟩ j) = w3 (ix2 r j) :=
  four (Val := Elt Ideal) (View.whole cc0_scratch1) f w0 w1 w2 w3 L i0 i1 i2 i3 r j

theorem four2 (f : cc0_scratch2.ty.Contents (Elt Ideal)) (w0 w1 w2 w3 : S256x128.Idx → EReal)
    (L : List (View.Piece (Elt Ideal) S1024x128 .f32)) (i0 i1 i2 i3) (r : Fin 256) (j : Fin 128) :
    let F := (View.whole cc0_scratch2).writes (Elt Ideal) f (⟨box 1024 256 128 768 i3, w3⟩ :: ⟨box 1024 256 128 512 i2, w2⟩
      :: ⟨box 1024 256 128 256 i1, w1⟩ :: ⟨box 1024 256 128 0 i0, w0⟩ :: L)
    at2 F (ix2 ⟨0 + r.val, by omega⟩ j) = w0 (ix2 r j) ∧ at2 F (ix2 ⟨256 + r.val, by omega⟩ j) = w1 (ix2 r j)
      ∧ at2 F (ix2 ⟨512 + r.val, by omega⟩ j) = w2 (ix2 r j) ∧ at2 F (ix2 ⟨768 + r.val, by omega⟩ j) = w3 (ix2 r j) :=
  four (Val := Elt Ideal) (View.whole cc0_scratch2) f w0 w1 w2 w3 L i0 i1 i2 i3 r j

theorem load0 (f : cc0_scratch0.ty.Contents (Elt Ideal)) (o : ℕ) (inb) (r : Fin 256) (j : Fin 1) (h : o + r.val < 1024) :
    View.readAt (Elt Ideal) (View.whole cc0_scratch0) (box 1024 256 1 o inb).toLoadRect f (ix2 r j) = at0 f (ix2 ⟨o + r.val, h⟩ j) :=
  load (Val := Elt Ideal) (View.whole cc0_scratch0) f o inb r j h

theorem load1 (f : cc0_scratch1.ty.Contents (Elt Ideal)) (o : ℕ) (inb) (r : Fin 256) (j : Fin 1) (h : o + r.val < 1024) :
    View.readAt (Elt Ideal) (View.whole cc0_scratch1) (box 1024 256 1 o inb).toLoadRect f (ix2 r j) = at1 f (ix2 ⟨o + r.val, h⟩ j) :=
  load (Val := Elt Ideal) (View.whole cc0_scratch1) f o inb r j h

theorem load2 (f : cc0_scratch2.ty.Contents (Elt Ideal)) (o : ℕ) (inb) (r : Fin 256) (j : Fin 128) (h : o + r.val < 1024) :
    View.readAt (Elt Ideal) (View.whole cc0_scratch2) (box 1024 256 128 o inb).toLoadRect f (ix2 r j) = at2 f (ix2 ⟨o + r.val, h⟩ j) :=
  load (Val := Elt Ideal) (View.whole cc0_scratch2) f o inb r j h

theorem load3 (f : cc0_scratch3.ty.Contents (Elt Ideal)) (o : ℕ) (inb) (r : Fin 256) (j : Fin 1) (h : o + r.val < 1024) :
    View.readAt (Elt Ideal) (View.whole cc0_scratch3) (box 1024 256 1 o inb).toLoadRect f (ix2 r j) = at3 f (ix2 ⟨o + r.val, h⟩ j) :=
  load (Val := Elt Ideal) (View.whole cc0_scratch3) f o inb r j h

end Cert.Paths

end
-- ==== Proof.PathA.lean ====
/- What a grid point leaves in the running maximum, sum and accumulator, a row at a time: the first key block, which is also the query block's own. -/
module

public import proofs.«01_k».proof.Proof.Loads
public import proofs.«01_k».proof.Proof.Gen.KernelIdeal.Flash
public import Idealize.ShloMosaic.Lib.Pipeline.ReadBack

@[expose] public section

set_option maxRecDepth 16384

noncomputable section

namespace Cert.Paths

open Cert.KernelIdeal Cert.KernelIdeal.Gen Cert.Blocks Cert.Rows
open Idealize.ShloMosaic Idealize.ShloMosaic.TcCoe
open scoped BigOperators

section
variable (c : Dev nD) (i : grid0.Coords) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1x1x1x1024 .f32) (harg9 : arg9.IsWhole) (arg10 : Memref sig .tc .vmem S1024x128 .bf16) (harg10 : arg10.IsWhole) (T0 : (S10.Idx → Elt Ideal .i32)) (T1 : (S10.Idx → Elt Ideal .i32)) (x0 : (S1024x128.Idx → Elt Ideal .bf16)) (x1 : (S1024x128.Idx → Elt Ideal .bf16)) (x2 : (S1024x128.Idx → Elt Ideal .bf16)) (x3 : (S1024x128.Idx → Elt Ideal .f32)) (x4 : (S1x1x1x1024.Idx → Elt Ideal .f32)) (hc0 : (Scalar.cmpi .ne (Scalar.extui (Scalar.cmpi .eq (View.readAt (Elt Ideal) (tbM0_1).view (Rect.unit (s := S10) (k0_off1 i) S1.size (k0_off1_inb i)).toLoadRect T1 (Shape.Idx.first (numel1_S1.symm ▸ Nat.one_pos))) 0#32)) 0#32) = 1#1) (hc1 : ¬((Scalar.cmpi .ne (Scalar.extui (Scalar.cmpi .slt (View.readAt (Elt Ideal) (tbM0_1).view (Rect.unit (s := S10) (k0_off1 i) S1.size (k0_off1_inb i)).toLoadRect T1 (Shape.Idx.first (numel1_S1.symm ▸ Nat.one_pos))) (View.readAt (Elt Ideal) (tbM0_0).view (Rect.unit (s := S10) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S10) (k0_off1 i) S1.size (k0_off1_inb i)).toLoadRect T0 (Shape.Idx.first (numel1_S1.symm ▸ Nat.one_pos))) (View.readAt (Elt Ideal) (tbM0_1).view (Rect.unit (s := S10) (k0_off1 i) S1.size (k0_off1_inb i)).toLoadRect T1 (Shape.Idx.first (numel1_S1.symm ▸ Nat.one_pos))) = 1#1)

theorem stepA0 (r : Fin 256) :
    Step (fun s : Fin 256 => if s.val ≤ 0 + r.val then tscore x0 x1 x4 ⟨0 + r.val, by omega⟩ (Fin.castLE (by decide : 256 ≤ 1024) s) else ⊥) (κ₂ * k0_pay4 (F := Ideal) i x3 (ix2 ⟨0 + r.val, by omega⟩ 0))
      (fun s d => x2 (ix2 (Fin.castLE (by decide : 256 ≤ 1024) s) d)) (k0_pay1 (F := Ideal) (ix2 ⟨0 + r.val, by omega⟩ 0)) (k0_pay2 (F := Ideal) (ix2 ⟨0 + r.val, by omega⟩ 0)) (fun d => k0_pay3 (F := Ideal) (ix2 ⟨0 + r.val, by omega⟩ d))
      (at0 ((kernelRun0_A c i arg5 harg5 arg6 harg6 arg7 harg7 arg8 harg8 arg9 harg9 arg10 harg10 T0 T1 x0 x1 x2 x3 x4 hc0 hc1 k0_h3).2.1) (ix2 ⟨0 + r.val, by omega⟩ 0)) (at1 ((kernelRun0_A c i arg5 harg5 arg6 harg6 arg7 harg7 arg8 harg8 arg9 harg9 arg10 harg10 T0 T1 x0 x1 x2 x3 x4 hc0 hc1 k0_h3).2.2.1) (ix2 ⟨0 + r.val, by omega⟩ 0))
      (fun d => at2 ((kernelRun0_A c i arg5 harg5 arg6 harg6 arg7 harg7 arg8 harg8 arg9 harg9 arg10 harg10 T0 T1 x0 x1 x2 x3 x4 hc0 hc1 k0_h3).2.2.2.1) (ix2 ⟨0 + r.val, by omega⟩ d)) := by
  unfold kernelRun0_A
  dsimp only
  refine Step.of_eq (diag0 (kernelRun0_A.sl.v31 i arg8 x3) (kernelRun0_A.sl.v34) (kernelRun0_A.sl.v45) (kernelRun0_A.sl.v53) (View.readAt (Elt Ideal) arg5.view (Rect.unit (s := S1024x128) ![0, 0] S256x128.size inb_S1024x128_S256x128_0_0).toLoadRect (arg5.view.rep x0)) r (View.readAt (Elt Ideal) arg6.view (Rect.unit (s := S1024x128) ![0, 0] S256x128.size inb_S1024x128_S256x128_0_0).toLoadRect (arg6.view.rep x1)) (View.readAt (Elt Ideal) arg7.view (Rect.unit (s := S1024x128) ![0, 0] S256x128.size inb_S1024x128_S256x128_0_0).toLoadRect (arg7.view.rep x2)) (View.readAt (Elt Ideal) arg9.view (Rect.unit (s := S1x1x1x1024) ![0, 0, 0, 0] S1x1x1x256.size inb_S1x1x1x1024_S1x1x1x256_0_0_0_0).toLoadRect (arg9.view.rep x4))) ?h0 ?h1 ?h2 ?h3 ?h4 ?h5 ?h6 ?h7 ?h8
  case h0 => exact (four0 _ _ _ _ _ _ _ _ _ _ r 0).1
  case h1 => exact (four1 _ _ _ _ _ _ _ _ _ _ r 0).1
  case h2 => intro d; exact (four2 _ _ _ _ _ _ _ _ _ _ r d).1
  case h3 => intro s; exact congrArg (fun x : EReal => if s.val ≤ 0 + r.val then x else ⊥) (score_load 256 0 (by decide) arg5 arg6 arg9 x0 x1 x4 _ _ _ r (by omega) s)
  case h4 =>
    refine congrArg (κ₂ * ·) ((cov0 (Val := Elt Ideal) (View.whole cc0_scratch3) _ _ 0 _ r 0 (by omega)).trans ?_)
    exact congrArg (fun x => k0_pay4 (F := Ideal) i x (ix2 ⟨0 + r.val, by omega⟩ 0)) (load_whole arg8 x3 _)
  case h5 => intro s d; exact load_v 256 (by decide) arg7 x2 _ s d
  case h6 => exact cov0 (Val := Elt Ideal) (View.whole cc0_scratch0) _ _ 0 _ r 0 (by omega)
  case h7 => exact cov0 (Val := Elt Ideal) (View.whole cc0_scratch1) _ _ 0 _ r 0 (by omega)
  case h8 => intro d; exact cov0 (Val := Elt Ideal) (View.whole cc0_scratch2) _ _ 0 _ r d (by omega)

theorem stepA1 (r : Fin 256) :
    Step (fun s : Fin 512 => if s.val ≤ 256 + r.val then tscore x0 x1 x4 ⟨256 + r.val, by omega⟩ (Fin.castLE (by decide : 512 ≤ 1024) s) else ⊥) (κ₂ * k0_pay4 (F := Ideal) i x3 (ix2 ⟨256 + r.val, by omega⟩ 0))
      (fun s d => x2 (ix2 (Fin.castLE (by decide : 512 ≤ 1024) s) d)) (k0_pay1 (F := Ideal) (ix2 ⟨256 + r.val, by omega⟩ 0)) (k0_pay2 (F := Ideal) (ix2 ⟨256 + r.val, by omega⟩ 0)) (fun d => k0_pay3 (F := Ideal) (ix2 ⟨256 + r.val, by omega⟩ d))
      (at0 ((kernelRun0_A c i arg5 harg5 arg6 harg6 arg7 harg7 arg8 harg8 arg9 harg9 arg10 harg10 T0 T1 x0 x1 x2 x3 x4 hc0 hc1 k0_h3).2.1) (ix2 ⟨256 + r.val, by omega⟩ 0)) (at1 ((kernelRun0_A c i arg5 harg5 arg6 harg6 arg7 harg7 arg8 harg8 arg9 harg9 arg10 harg10 T0 T1 x0 x1 x2 x3 x4 hc0 hc1 k0_h3).2.2.1) (ix2 ⟨256 + r.val, by omega⟩ 0))
      (fun d => at2 ((kernelRun0_A c i arg5 harg5 arg6 harg6 arg7 harg7 arg8 harg8 arg9 harg9 arg10 harg10 T0 T1 x0 x1 x2 x3 x4 hc0 hc1 k0_h3).2.2.2.1) (ix2 ⟨256 + r.val, by omega⟩ d)) := by
  unfold kernelRun0_A
  dsimp only
  refine Step.of_eq (diag1 (kernelRun0_A.sl.v84 i arg8 x3) (kernelRun0_A.sl.v87 i arg5 arg6 arg8 arg9 x0 x1 x3 x4) (kernelRun0_A.sl.v98 i arg5 arg6 arg8 arg9 x0 x1 x3 x4) (kernelRun0_A.sl.v106 i arg5 arg6 arg7 arg8 arg9 x0 x1 x2 x3 x4) (View.readAt (Elt Ideal) arg5.view (Rect.unit (s := S1024x128) ![256, 0] S256x128.size inb_S1024x128_S256x128_256_0).toLoadRect (arg5.view.rep x0)) r (View.readAt (Elt Ideal) arg6.view (Rect.unit (s := S1024x128) ![0, 0] S512x128.size inb_S1024x128_S512x128_0_0).toLoadRect (arg6.view.rep x1)) (View.readAt (Elt Ideal) arg7.view (Rect.unit (s := S1024x128) ![0, 0] S512x128.size inb_S1024x128_S512x128_0_0).toLoadRect (arg7.view.rep x2)) (View.readAt (Elt Ideal) arg9.view (Rect.unit (s := S1x1x1x1024) ![0, 0, 0, 0] S1x1x1x512.size inb_S1x1x1x1024_S1x1x1x512_0_0_0_0).toLoadRect (arg9.view.rep x4))) ?h0 ?h1 ?h2 ?h3 ?h4 ?h5 ?h6 ?h7 ?h8
  case h0 => exact (four0 _ _ _ _ _ _ _ _ _ _ r 0).2.1
  case h1 => exact (four1 _ _ _ _ _ _ _ _ _ _ r 0).2.1
  case h2 => intro d; exact (four2 _ _ _ _ _ _ _ _ _ _ r d).2.1
  case h3 => intro s; exact congrArg (fun x : EReal => if s.val ≤ 256 + r.val then x else ⊥) (score_load 512 256 (by decide) arg5 arg6 arg9 x0 x1 x4 _ _ _ r (by omega) s)
  case h4 =>
    refine congrArg (κ₂ * ·) ((cov0 (Val := Elt Ideal) (View.whole cc0_scratch3) _ _ 256 _ r 0 (by omega)).trans ?_)
    exact congrArg (fun x => k0_pay4 (F := Ideal) i x (ix2 ⟨256 + r.val, by omega⟩ 0)) (load_whole arg8 x3 _)
  case h5 => intro s d; exact load_v 512 (by decide) arg7 x2 _ s d
  case h6 => exact cov1 (Val := Elt Ideal) (View.whole cc0_scratch0) _ _ _ _ 256 (by decide) _ r 0 (by omega)
  case h7 => exact cov1 (Val := Elt Ideal) (View.whole cc0_scratch1) _ _ _ _ 256 (by decide) _ r 0 (by omega)
  case h8 => intro d; exact cov1 (Val := Elt Ideal) (View.whole cc0_scratch2) _ _ _ _ 256 (by decide) _ r d (by omega)

theorem stepA2 (r : Fin 256) :
    Step (fun s : Fin 768 => if s.val ≤ 512 + r.val then tscore x0 x1 x4 ⟨512 + r.val, by omega⟩ (Fin.castLE (by decide : 768 ≤ 1024) s) else ⊥) (κ₂ * k0_pay4 (F := Ideal) i x3 (ix2 ⟨512 + r.val, by omega⟩ 0))
      (fun s d => x2 (ix2 (Fin.castLE (by decide : 768 ≤ 1024) s) d)) (k0_pay1 (F := Ideal) (ix2 ⟨512 + r.val, by omega⟩ 0)) (k0_pay2 (F := Ideal) (ix2 ⟨512 + r.val, by omega⟩ 0)) (fun d => k0_pay3 (F := Ideal) (ix2 ⟨512 + r.val, by omega⟩ d))
      (at0 ((kernelRun0_A c i arg5 harg5 arg6 harg6 arg7 harg7 arg8 harg8 arg9 harg9 arg10 harg10 T0 T1 x0 x1 x2 x3 x4 hc0 hc1 k0_h3).2.1) (ix2 ⟨512 + r.val, by omega⟩ 0)) (at1 ((kernelRun0_A c i arg5 harg5 arg6 harg6 arg7 harg7 arg8 harg8 arg9 harg9 arg10 harg10 T0 T1 x0 x1 x2 x3 x4 hc0 hc1 k0_h3).2.2.1) (ix2 ⟨512 + r.val, by omega⟩ 0))
      (fun d => at2 ((kernelRun0_A c i arg5 harg5 arg6 harg6 arg7 harg7 arg8 harg8 arg9 harg9 arg10 harg10 T0 T1 x0 x1 x2 x3 x4 hc0 hc1 k0_h3).2.2.2.1) (ix2 ⟨512 + r.val, by omega⟩ d)) := by
  unfold kernelRun0_A
  dsimp only
  refine Step.of_eq (diag2 (kernelRun0_A.sl.v137 i arg8 x3) (kernelRun0_A.sl.v140 i arg5 arg6 arg8 arg9 x0 x1 x3 x4) (kernelRun0_A.sl.v151 i arg5 arg6 arg8 arg9 x0 x1 x3 x4) (kernelRun0_A.sl.v159 i arg5 arg6 arg7 arg8 arg9 x0 x1 x2 x3 x4) (View.readAt (Elt Ideal) arg5.view (Rect.unit (s := S1024x128) ![512, 0] S256x128.size inb_S1024x128_S256x128_512_0).toLoadRect (arg5.view.rep x0)) r (View.readAt (Elt Ideal) arg6.view (Rect.unit (s := S1024x128) ![0, 0] S768x128.size inb_S1024x128_S768x128_0_0).toLoadRect (arg6.view.rep x1)) (View.readAt (Elt Ideal) arg7.view (Rect.unit (s := S1024x128) ![0, 0] S768x128.size inb_S1024x128_S768x128_0_0).toLoadRect (arg7.view.rep x2)) (View.readAt (Elt Ideal) arg9.view (Rect.unit (s := S1x1x1x1024) ![0, 0, 0, 0] S1x1x1x768.size inb_S1x1x1x1024_S1x1x1x768_0_0_0_0).toLoadRect (arg9.view.rep x4))) ?h0 ?h1 ?h2 ?h3 ?h4 ?h5 ?h6 ?h7 ?h8
  case h0 => exact (four0 _ _ _ _ _ _ _ _ _ _ r 0).2.2.1
  case h1 => exact (four1 _ _ _ _ _ _ _ _ _ _ r 0).2.2.1
  case h2 => intro d; exact (four2 _ _ _ _ _ _ _ _ _ _ r d).2.2.1
  case h3 => intro s; exact congrArg (fun x : EReal => if s.val ≤ 512 + r.val then x else ⊥) (score_load 768 512 (by decide) arg5 arg6 arg9 x0 x1 x4 _ _ _ r (by omega) s)
  case h4 =>
    refine congrArg (κ₂ * ·) ((cov0 (Val := Elt Ideal) (View.whole cc0_scratch3) _ _ 512 _ r 0 (by omega)).trans ?_)
    exact congrArg (fun x => k0_pay4 (F := Ideal) i x (ix2 ⟨512 + r.val, by omega⟩ 0)) (load_whole arg8 x3 _)
  case h5 => intro s d; exact load_v 768 (by decide) arg7 x2 _ s d
  case h6 => exact cov2 (Val := Elt Ideal) (View.whole cc0_scratch0) _ _ _ _ _ _ 512 (by decide) _ r 0 (by omega)
  case h7 => exact cov2 (Val := Elt Ideal) (View.whole cc0_scratch1) _ _ _ _ _ _ 512 (by decide) _ r 0 (by omega)
  case h8 => intro d; exact cov2 (Val := Elt Ideal) (View.whole cc0_scratch2) _ _ _ _ _ _ 512 (by decide) _ r d (by omega)

theorem stepA3 (r : Fin 256) :
    Step (fun s : Fin 1024 => if s.val ≤ 768 + r.val then tscore x0 x1 x4 ⟨768 + r.val, by omega⟩ (Fin.castLE (by decide : 1024 ≤ 1024) s) else ⊥) (κ₂ * k0_pay4 (F := Ideal) i x3 (ix2 ⟨768 + r.val, by omega⟩ 0))
      (fun s d => x2 (ix2 (Fin.castLE (by decide : 1024 ≤ 1024) s) d)) (k0_pay1 (F := Ideal) (ix2 ⟨768 + r.val, by omega⟩ 0)) (k0_pay2 (F := Ideal) (ix2 ⟨768 + r.val, by omega⟩ 0)) (fun d => k0_pay3 (F := Ideal) (ix2 ⟨768 + r.val, by omega⟩ d))
      (at0 ((kernelRun0_A c i arg5 harg5 arg6 harg6 arg7 harg7 arg8 harg8 arg9 harg9 arg10 harg10 T0 T1 x0 x1 x2 x3 x4 hc0 hc1 k0_h3).2.1) (ix2 ⟨768 + r.val, by omega⟩ 0)) (at1 ((kernelRun0_A c i arg5 harg5 arg6 harg6 arg7 harg7 arg8 harg8 arg9 harg9 arg10 harg10 T0 T1 x0 x1 x2 x3 x4 hc0 hc1 k0_h3).2.2.1) (ix2 ⟨768 + r.val, by omega⟩ 0))
      (fun d => at2 ((kernelRun0_A c i arg5 harg5 arg6 harg6 arg7 harg7 arg8 harg8 arg9 harg9 arg10 harg10 T0 T1 x0 x1 x2 x3 x4 hc0 hc1 k0_h3).2.2.2.1) (ix2 ⟨768 + r.val, by omega⟩ d)) := by
  unfold kernelRun0_A
  dsimp only
  refine Step.of_eq (diag3 (kernelRun0_A.sl.v190 i arg8 x3) (kernelRun0_A.sl.v193 i arg5 arg6 arg8 arg9 x0 x1 x3 x4) (kernelRun0_A.sl.v204 i arg5 arg6 arg8 arg9 x0 x1 x3 x4) (kernelRun0_A.sl.v212 i arg5 arg6 arg7 arg8 arg9 x0 x1 x2 x3 x4) (View.readAt (Elt Ideal) arg5.view (Rect.unit (s := S1024x128) ![768, 0] S256x128.size inb_S1024x128_S256x128_768_0).toLoadRect (arg5.view.rep x0)) r (View.readAt (Elt Ideal) arg6.view (Rect.unit (s := S1024x128) ![0, 0] S1024x128.size inb_S1024x128_S1024x128_0_0).toLoadRect (arg6.view.rep x1)) (View.readAt (Elt Ideal) arg7.view (Rect.unit (s := S1024x128) ![0, 0] S1024x128.size inb_S1024x128_S1024x128_0_0).toLoadRect (arg7.view.rep x2)) (View.readAt (Elt Ideal) arg9.view (Rect.unit (s := S1x1x1x1024) ![0, 0, 0, 0] S1x1x1x1024.size inb_S1x1x1x1024_S1x1x1x1024_0_0_0_0).toLoadRect (arg9.view.rep x4))) ?h0 ?h1 ?h2 ?h3 ?h4 ?h5 ?h6 ?h7 ?h8
  case h0 => exact (four0 _ _ _ _ _ _ _ _ _ _ r 0).2.2.2
  case h1 => exact (four1 _ _ _ _ _ _ _ _ _ _ r 0).2.2.2
  case h2 => intro d; exact (four2 _ _ _ _ _ _ _ _ _ _ r d).2.2.2
  case h3 => intro s; exact congrArg (fun x : EReal => if s.val ≤ 768 + r.val then x else ⊥) (score_load 1024 768 (by decide) arg5 arg6 arg9 x0 x1 x4 _ _ _ r (by omega) s)
  case h4 =>
    refine congrArg (κ₂ * ·) ((cov0 (Val := Elt Ideal) (View.whole cc0_scratch3) _ _ 768 _ r 0 (by omega)).trans ?_)
    exact congrArg (fun x => k0_pay4 (F := Ideal) i x (ix2 ⟨768 + r.val, by omega⟩ 0)) (load_whole arg8 x3 _)
  case h5 => intro s d; exact load_v 1024 (by decide) arg7 x2 _ s d
  case h6 => exact cov3 (Val := Elt Ideal) (View.whole cc0_scratch0) _ _ _ _ _ _ _ _ 768 (by decide) _ r 0 (by omega)
  case h7 => exact cov3 (Val := Elt Ideal) (View.whole cc0_scratch1) _ _ _ _ _ _ _ _ 768 (by decide) _ r 0 (by omega)
  case h8 => intro d; exact cov3 (Val := Elt Ideal) (View.whole cc0_scratch2) _ _ _ _ _ _ _ _ 768 (by decide) _ r d (by omega)

/-- Every row: some number of the block's first keys, enough to take in the row's own, with the mask. -/
theorem stepA (y : Fin 1024) : ∃ (n : ℕ) (hn : n ≤ 1024), y.val < n ∧
    Step (fun s : Fin n => if s.val ≤ y.val then tscore x0 x1 x4 y (Fin.castLE hn s) else ⊥) (κ₂ * k0_pay4 (F := Ideal) i x3 (ix2 y 0))
      (fun s d => x2 (ix2 (Fin.castLE hn s) d)) (k0_pay1 (F := Ideal) (ix2 y 0)) (k0_pay2 (F := Ideal) (ix2 y 0)) (fun d => k0_pay3 (F := Ideal) (ix2 y d))
      (at0 ((kernelRun0_A c i arg5 harg5 arg6 harg6 arg7 harg7 arg8 harg8 arg9 harg9 arg10 harg10 T0 T1 x0 x1 x2 x3 x4 hc0 hc1 k0_h3).2.1) (ix2 y 0)) (at1 ((kernelRun0_A c i arg5 harg5 arg6 harg6 arg7 harg7 arg8 harg8 arg9 harg9 arg10 harg10 T0 T1 x0 x1 x2 x3 x4 hc0 hc1 k0_h3).2.2.1) (ix2 y 0))
      (fun d => at2 ((kernelRun0_A c i arg5 harg5 arg6 harg6 arg7 harg7 arg8 harg8 arg9 harg9 arg10 harg10 T0 T1 x0 x1 x2 x3 x4 hc0 hc1 k0_h3).2.2.2.1) (ix2 y d)) := by
  revert y
  exact row_cases (fun r => ⟨256, by decide, by have := r.isLt; dsimp only; omega, stepA0 c i arg5 harg5 arg6 harg6 arg7 harg7 arg8 harg8 arg9 harg9 arg10 harg10 T0 T1 x0 x1 x2 x3 x4 hc0 hc1 k0_h3 r⟩)
    (fun r => ⟨512, by decide, by have := r.isLt; dsimp only; omega, stepA1 c i arg5 harg5 arg6 harg6 arg7 harg7 arg8 harg8 arg9 harg9 arg10 harg10 T0 T1 x0 x1 x2 x3 x4 hc0 hc1 k0_h3 r⟩)
    (fun r => ⟨768, by decide, by have := r.isLt; dsimp only; omega, stepA2 c i arg5 harg5 arg6 harg6 arg7 harg7 arg8 harg8 arg9 harg9 arg10 harg10 T0 T1 x0 x1 x2 x3 x4 hc0 hc1 k0_h3 r⟩)
    (fun r => ⟨1024, by decide, by have := r.isLt; dsimp only; omega, stepA3 c i arg5 harg5 arg6 harg6 arg7 harg7 arg8 harg8 arg9 harg9 arg10 harg10 T0 T1 x0 x1 x2 x3 x4 hc0 hc1 k0_h3 r⟩)

theorem keepA (y : Fin 1024) : at3 ((kernelRun0_A c i arg5 harg5 arg6 harg6 arg7 harg7 arg8 harg8 arg9 harg9 arg10 harg10 T0 T1 x0 x1 x2 x3 x4 hc0 hc1 k0_h3).2.2.2.2.1) (ix2 y 0) = k0_pay4 (F := Ideal) i x3 (ix2 y 0) := by
  unfold kernelRun0_A
  dsimp only
  refine (fill0 (Val := Elt Ideal) (View.whole cc0_scratch3) _ _ y 0).trans ?_
  exact congrArg (fun x => k0_pay4 (F := Ideal) i x (ix2 y 0)) (load_whole arg8 x3 _)

theorem outA (y : Fin 1024) (d : Fin 128) : out0_A_5 c i arg5 harg5 arg6 harg6 arg7 harg7 arg8 harg8 arg9 harg9 arg10 harg10 T0 T1 x0 x1 x2 x3 x4 hc0 hc1 k0_h3 (ix2 y d)
    = Ideal.div (at2 ((kernelRun0_A c i arg5 harg5 arg6 harg6 arg7 harg7 arg8 harg8 arg9 harg9 arg10 harg10 T0 T1 x0 x1 x2 x3 x4 hc0 hc1 k0_h3).2.2.2.1) (ix2 y d)) (at1 ((kernelRun0_A c i arg5 harg5 arg6 harg6 arg7 harg7 arg8 harg8 arg9 harg9 arg10 harg10 T0 T1 x0 x1 x2 x3 x4 hc0 hc1 k0_h3).2.2.1) (ix2 y 0)) := by
  unfold out0_A_5 kernelRun0_A
  dsimp only
  refine (fill0 (Val := Elt Ideal) VO0_5 _ _ y d).trans ?_
  refine (quotient_at _ _ y d).trans ?_
  exact congrArg₂ Ideal.div (cov_all (Val := Elt Ideal) (View.whole cc0_scratch2) _ _ y d) (cov_all (Val := Elt Ideal) (View.whole cc0_scratch1) _ _ y 0)

end

end Cert.Paths

end
-- ==== Proof.PathB.lean ====
/- What a grid point leaves in the running maximum, sum and accumulator, a row at a time: the first key block, when it comes before the query block. -/
module

public import proofs.«01_k».proof.Proof.Loads
public import proofs.«01_k».proof.Proof.Gen.KernelIdeal.Flash
public import Idealize.ShloMosaic.Lib.Pipeline.ReadBack

@[expose] public section

set_option maxRecDepth 16384

noncomputable section

namespace Cert.Paths

open Cert.KernelIdeal Cert.KernelIdeal.Gen Cert.Blocks Cert.Rows
open Idealize.ShloMosaic Idealize.ShloMosaic.TcCoe
open scoped BigOperators

section
variable (c : Dev nD) (i : grid0.Coords) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1x1x1x1024 .f32) (harg9 : arg9.IsWhole) (arg10 : Memref sig .tc .vmem S1024x128 .bf16) (harg10 : arg10.IsWhole) (T0 : (S10.Idx → Elt Ideal .i32)) (T1 : (S10.Idx → Elt Ideal .i32)) (x0 : (S1024x128.Idx → Elt Ideal .bf16)) (x1 : (S1024x128.Idx → Elt Ideal .bf16)) (x2 : (S1024x128.Idx → Elt Ideal .bf16)) (x3 : (S1024x128.Idx → Elt Ideal .f32)) (x4 : (S1x1x1x1024.Idx → Elt Ideal .f32)) (hc0 : (Scalar.cmpi .ne (Scalar.extui (Scalar.cmpi .eq (View.readAt (Elt Ideal) (tbM0_1).view (Rect.unit (s := S10) (k0_off1 i) S1.size (k0_off1_inb i)).toLoadRect T1 (Shape.Idx.first (numel1_S1.symm ▸ Nat.one_pos))) 0#32)) 0#32) = 1#1) (hc1 : (Scalar.cmpi .ne (Scalar.extui (Scalar.cmpi .slt (View.readAt (Elt Ideal) (tbM0_1).view (Rect.unit (s := S10) (k0_off1 i) S1.size (k0_off1_inb i)).toLoadRect T1 (Shape.Idx.first (numel1_S1.symm ▸ Nat.one_pos))) (View.readAt (Elt Ideal) (tbM0_0).view (Rect.unit (s := S10) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S10) (k0_off1 i) S1.size (k0_off1_inb i)).toLoadRect T0 (Shape.Idx.first (numel1_S1.symm ▸ Nat.one_pos))) (View.readAt (Elt Ideal) (tbM0_1).view (Rect.unit (s := S10) (k0_off1 i) S1.size (k0_off1_inb i)).toLoadRect T1 (Shape.Idx.first (numel1_S1.symm ▸ Nat.one_pos))) = 1#1))

theorem stepB0 (r : Fin 256) :
    Step (fun s => tscore x0 x1 x4 ⟨0 + r.val, by omega⟩ s) (κ₂ * k0_pay4 (F := Ideal) i x3 (ix2 ⟨0 + r.val, by omega⟩ 0))
      (fun s d => x2 (ix2 s d)) (k0_pay1 (F := Ideal) (ix2 ⟨0 + r.val, by omega⟩ 0)) (k0_pay2 (F := Ideal) (ix2 ⟨0 + r.val, by omega⟩ 0)) (fun d => k0_pay3 (F := Ideal) (ix2 ⟨0 + r.val, by omega⟩ d))
      (at0 ((kernelRun0_B c i arg5 harg5 arg6 harg6 arg7 harg7 arg8 harg8 arg9 harg9 arg10 harg10 T0 T1 x0 x1 x2 x3 x4 hc0 hc1 k0_h3).1) (ix2 ⟨0 + r.val, by omega⟩ 0)) (at1 ((kernelRun0_B c i arg5 harg5 arg6 harg6 arg7 harg7 arg8 harg8 arg9 harg9 arg10 harg10 T0 T1 x0 x1 x2 x3 x4 hc0 hc1 k0_h3).2.1) (ix2 ⟨0 + r.val, by omega⟩ 0))
      (fun d => at2 ((kernelRun0_B c i arg5 harg5 arg6 harg6 arg7 harg7 arg8 harg8 arg9 harg9 arg10 harg10 T0 T1 x0 x1 x2 x3 x4 hc0 hc1 k0_h3).2.2.1) (ix2 ⟨0 + r.val, by omega⟩ d)) := by
  unfold kernelRun0_B
  dsimp only
  refine Step.of_eq (full0 (kernelRun0_B.sl.v24 i arg8 x3) (kernelRun0_B.sl.v27) (kernelRun0_B.sl.v38) (kernelRun0_B.sl.v46) (View.readAt (Elt Ideal) arg5.view (Rect.unit (s := S1024x128) ![0, 0] S256x128.size inb_S1024x128_S256x128_0_0).toLoadRect (arg5.view.rep x0)) r (View.readAt (Elt Ideal) arg6.view (Rect.unit (s := S1024x128) ![0, 0] S1024x128.size inb_S1024x128_S1024x128_0_0).toLoadRect (arg6.view.rep x1)) (View.readAt (Elt Ideal) arg7.view (Rect.unit (s := S1024x128) ![0, 0] S1024x128.size inb_S1024x128_S1024x128_0_0).toLoadRect (arg7.view.rep x2)) (View.readAt (Elt Ideal) arg9.view (Rect.unit (s := S1x1x1x1024) ![0, 0, 0, 0] S1x1x1x1024.size inb_S1x1x1x1024_S1x1x1x1024_0_0_0_0).toLoadRect (arg9.view.rep x4))) ?h0 ?h1 ?h2 ?h3 ?h4 ?h5 ?h6 ?h7 ?h8
  case h0 => exact (four0 _ _ _ _ _ _ _ _ _ _ r 0).1
  case h1 => exact (four1 _ _ _ _ _ _ _ _ _ _ r 0).1
  case h2 => intro d; exact (four2 _ _ _ _ _ _ _ _ _ _ r d).1
  case h3 => intro s; exact (score_load 1024 0 (by decide) arg5 arg6 arg9 x0 x1 x4 _ _ _ r (by omega) s)
  case h4 =>
    refine congrArg (κ₂ * ·) ((cov0 (Val := Elt Ideal) (View.whole cc0_scratch3) _ _ 0 _ r 0 (by omega)).trans ?_)
    exact congrArg (fun x => k0_pay4 (F := Ideal) i x (ix2 ⟨0 + r.val, by omega⟩ 0)) (load_whole arg8 x3 _)
  case h5 => intro s d; exact load_v 1024 (by decide) arg7 x2 _ s d
  case h6 => exact cov0 (Val := Elt Ideal) (View.whole cc0_scratch0) _ _ 0 _ r 0 (by omega)
  case h7 => exact cov0 (Val := Elt Ideal) (View.whole cc0_scratch1) _ _ 0 _ r 0 (by omega)
  case h8 => intro d; exact cov0 (Val := Elt Ideal) (View.whole cc0_scratch2) _ _ 0 _ r d (by omega)

theorem stepB1 (r : Fin 256) :
    Step (fun s => tscore x0 x1 x4 ⟨256 + r.val, by omega⟩ s) (κ₂ * k0_pay4 (F := Ideal) i x3 (ix2 ⟨256 + r.val, by omega⟩ 0))
      (fun s d => x2 (ix2 s d)) (k0_pay1 (F := Ideal) (ix2 ⟨256 + r.val, by omega⟩ 0)) (k0_pay2 (F := Ideal) (ix2 ⟨256 + r.val, by omega⟩ 0)) (fun d => k0_pay3 (F := Ideal) (ix2 ⟨256 + r.val, by omega⟩ d))
      (at0 ((kernelRun0_B c i arg5 harg5 arg6 harg6 arg7 harg7 arg8 harg8 arg9 harg9 arg10 harg10 T0 T1 x0 x1 x2 x3 x4 hc0 hc1 k0_h3).1) (ix2 ⟨256 + r.val, by omega⟩ 0)) (at1 ((kernelRun0_B c i arg5 harg5 arg6 harg6 arg7 harg7 arg8 harg8 arg9 harg9 arg10 harg10 T0 T1 x0 x1 x2 x3 x4 hc0 hc1 k0_h3).2.1) (ix2 ⟨256 + r.val, by omega⟩ 0))
      (fun d => at2 ((kernelRun0_B c i arg5 harg5 arg6 harg6 arg7 harg7 arg8 harg8 arg9 harg9 arg10 harg10 T0 T1 x0 x1 x2 x3 x4 hc0 hc1 k0_h3).2.2.1) (ix2 ⟨256 + r.val, by omega⟩ d)) := by
  unfold kernelRun0_B
  dsimp only
  refine Step.of_eq (full1 (kernelRun0_B.sl.v70 i arg8 x3) (kernelRun0_B.sl.v73 i arg5 arg6 arg8 arg9 x0 x1 x3 x4) (kernelRun0_B.sl.v84 i arg5 arg6 arg8 arg9 x0 x1 x3 x4) (kernelRun0_B.sl.v92 i arg5 arg6 arg7 arg8 arg9 x0 x1 x2 x3 x4) (View.readAt (Elt Ideal) arg5.view (Rect.unit (s := S1024x128) ![256, 0] S256x128.size inb_S1024x128_S256x128_256_0).toLoadRect (arg5.view.rep x0)) r (View.readAt (Elt Ideal) arg6.view (Rect.unit (s := S1024x128) ![0, 0] S1024x128.size inb_S1024x128_S1024x128_0_0).toLoadRect (arg6.view.rep x1)) (View.readAt (Elt Ideal) arg7.view (Rect.unit (s := S1024x128) ![0, 0] S1024x128.size inb_S1024x128_S1024x128_0_0).toLoadRect (arg7.view.rep x2)) (View.readAt (Elt Ideal) arg9.view (Rect.unit (s := S1x1x1x1024) ![0, 0, 0, 0] S1x1x1x1024.size inb_S1x1x1x1024_S1x1x1x1024_0_0_0_0).toLoadRect (arg9.view.rep x4))) ?h0 ?h1 ?h2 ?h3 ?h4 ?h5 ?h6 ?h7 ?h8
  case h0 => exact (four0 _ _ _ _ _ _ _ _ _ _ r 0).2.1
  case h1 => exact (four1 _ _ _ _ _ _ _ _ _ _ r 0).2.1
  case h2 => intro d; exact (four2 _ _ _ _ _ _ _ _ _ _ r d).2.1
  case h3 => intro s; exact (score_load 1024 256 (by decide) arg5 arg6 arg9 x0 x1 x4 _ _ _ r (by omega) s)
  case h4 =>
    refine congrArg (κ₂ * ·) ((cov0 (Val := Elt Ideal) (View.whole cc0_scratch3) _ _ 256 _ r 0 (by omega)).trans ?_)
    exact congrArg (fun x => k0_pay4 (F := Ideal) i x (ix2 ⟨256 + r.val, by omega⟩ 0)) (load_whole arg8 x3 _)
  case h5 => intro s d; exact load_v 1024 (by decide) arg7 x2 _ s d
  case h6 => exact cov1 (Val := Elt Ideal) (View.whole cc0_scratch0) _ _ _ _ 256 (by decide) _ r 0 (by omega)
  case h7 => exact cov1 (Val := Elt Ideal) (View.whole cc0_scratch1) _ _ _ _ 256 (by decide) _ r 0 (by omega)
  case h8 => intro d; exact cov1 (Val := Elt Ideal) (View.whole cc0_scratch2) _ _ _ _ 256 (by decide) _ r d (by omega)

theorem stepB2 (r : Fin 256) :
    Step (fun s => tscore x0 x1 x4 ⟨512 + r.val, by omega⟩ s) (κ₂ * k0_pay4 (F := Ideal) i x3 (ix2 ⟨512 + r.val, by omega⟩ 0))
      (fun s d => x2 (ix2 s d)) (k0_pay1 (F := Ideal) (ix2 ⟨512 + r.val, by omega⟩ 0)) (k0_pay2 (F := Ideal) (ix2 ⟨512 + r.val, by omega⟩ 0)) (fun d => k0_pay3 (F := Ideal) (ix2 ⟨512 + r.val, by omega⟩ d))
      (at0 ((kernelRun0_B c i arg5 harg5 arg6 harg6 arg7 harg7 arg8 harg8 arg9 harg9 arg10 harg10 T0 T1 x0 x1 x2 x3 x4 hc0 hc1 k0_h3).1) (ix2 ⟨512 + r.val, by omega⟩ 0)) (at1 ((kernelRun0_B c i arg5 harg5 arg6 harg6 arg7 harg7 arg8 harg8 arg9 harg9 arg10 harg10 T0 T1 x0 x1 x2 x3 x4 hc0 hc1 k0_h3).2.1) (ix2 ⟨512 + r.val, by omega⟩ 0))
      (fun d => at2 ((kernelRun0_B c i arg5 harg5 arg6 harg6 arg7 harg7 arg8 harg8 arg9 harg9 arg10 harg10 T0 T1 x0 x1 x2 x3 x4 hc0 hc1 k0_h3).2.2.1) (ix2 ⟨512 + r.val, by omega⟩ d)) := by
  unfold kernelRun0_B
  dsimp only
  refine Step.of_eq (full2 (kernelRun0_B.sl.v116 i arg8 x3) (kernelRun0_B.sl.v119 i arg5 arg6 arg8 arg9 x0 x1 x3 x4) (kernelRun0_B.sl.v130 i arg5 arg6 arg8 arg9 x0 x1 x3 x4) (kernelRun0_B.sl.v138 i arg5 arg6 arg7 arg8 arg9 x0 x1 x2 x3 x4) (View.readAt (Elt Ideal) arg5.view (Rect.unit (s := S1024x128) ![512, 0] S256x128.size inb_S1024x128_S256x128_512_0).toLoadRect (arg5.view.rep x0)) r (View.readAt (Elt Ideal) arg6.view (Rect.unit (s := S1024x128) ![0, 0] S1024x128.size inb_S1024x128_S1024x128_0_0).toLoadRect (arg6.view.rep x1)) (View.readAt (Elt Ideal) arg7.view (Rect.unit (s := S1024x128) ![0, 0] S1024x128.size inb_S1024x128_S1024x128_0_0).toLoadRect (arg7.view.rep x2)) (View.readAt (Elt Ideal) arg9.view (Rect.unit (s := S1x1x1x1024) ![0, 0, 0, 0] S1x1x1x1024.size inb_S1x1x1x1024_S1x1x1x1024_0_0_0_0).toLoadRect (arg9.view.rep x4))) ?h0 ?h1 ?h2 ?h3 ?h4 ?h5 ?h6 ?h7 ?h8
  case h0 => exact (four0 _ _ _ _ _ _ _ _ _ _ r 0).2.2.1
  case h1 => exact (four1 _ _ _ _ _ _ _ _ _ _ r 0).2.2.1
  case h2 => intro d; exact (four2 _ _ _ _ _ _ _ _ _ _ r d).2.2.1
  case h3 => intro s; exact (score_load 1024 512 (by decide) arg5 arg6 arg9 x0 x1 x4 _ _ _ r (by omega) s)
  case h4 =>
    refine congrArg (κ₂ * ·) ((cov0 (Val := Elt Ideal) (View.whole cc0_scratch3) _ _ 512 _ r 0 (by omega)).trans ?_)
    exact congrArg (fun x => k0_pay4 (F := Ideal) i x (ix2 ⟨512 + r.val, by omega⟩ 0)) (load_whole arg8 x3 _)
  case h5 => intro s d; exact load_v 1024 (by decide) arg7 x2 _ s d
  case h6 => exact cov2 (Val := Elt Ideal) (View.whole cc0_scratch0) _ _ _ _ _ _ 512 (by decide) _ r 0 (by omega)
  case h7 => exact cov2 (Val := Elt Ideal) (View.whole cc0_scratch1) _ _ _ _ _ _ 512 (by decide) _ r 0 (by omega)
  case h8 => intro d; exact cov2 (Val := Elt Ideal) (View.whole cc0_scratch2) _ _ _ _ _ _ 512 (by decide) _ r d (by omega)

theorem stepB3 (r : Fin 256) :
    Step (fun s => tscore x0 x1 x4 ⟨768 + r.val, by omega⟩ s) (κ₂ * k0_pay4 (F := Ideal) i x3 (ix2 ⟨768 + r.val, by omega⟩ 0))
      (fun s d => x2 (ix2 s d)) (k0_pay1 (F := Ideal) (ix2 ⟨768 + r.val, by omega⟩ 0)) (k0_pay2 (F := Ideal) (ix2 ⟨768 + r.val, by omega⟩ 0)) (fun d => k0_pay3 (F := Ideal) (ix2 ⟨768 + r.val, by omega⟩ d))
      (at0 ((kernelRun0_B c i arg5 harg5 arg6 harg6 arg7 harg7 arg8 harg8 arg9 harg9 arg10 harg10 T0 T1 x0 x1 x2 x3 x4 hc0 hc1 k0_h3).1) (ix2 ⟨768 + r.val, by omega⟩ 0)) (at1 ((kernelRun0_B c i arg5 harg5 arg6 harg6 arg7 harg7 arg8 harg8 arg9 harg9 arg10 harg10 T0 T1 x0 x1 x2 x3 x4 hc0 hc1 k0_h3).2.1) (ix2 ⟨768 + r.val, by omega⟩ 0))
      (fun d => at2 ((kernelRun0_B c i arg5 harg5 arg6 harg6 arg7 harg7 arg8 harg8 arg9 harg9 arg10 harg10 T0 T1 x0 x1 x2 x3 x4 hc0 hc1 k0_h3).2.2.1) (ix2 ⟨768 + r.val, by omega⟩ d)) := by
  unfold kernelRun0_B
  dsimp only
  refine Step.of_eq (full3 (kernelRun0_B.sl.v162 i arg8 x3) (kernelRun0_B.sl.v165 i arg5 arg6 arg8 arg9 x0 x1 x3 x4) (kernelRun0_B.sl.v176 i arg5 arg6 arg8 arg9 x0 x1 x3 x4) (kernelRun0_B.sl.v184 i arg5 arg6 arg7 arg8 arg9 x0 x1 x2 x3 x4) (View.readAt (Elt Ideal) arg5.view (Rect.unit (s := S1024x128) ![768, 0] S256x128.size inb_S1024x128_S256x128_768_0).toLoadRect (arg5.view.rep x0)) r (View.readAt (Elt Ideal) arg6.view (Rect.unit (s := S1024x128) ![0, 0] S1024x128.size inb_S1024x128_S1024x128_0_0).toLoadRect (arg6.view.rep x1)) (View.readAt (Elt Ideal) arg7.view (Rect.unit (s := S1024x128) ![0, 0] S1024x128.size inb_S1024x128_S1024x128_0_0).toLoadRect (arg7.view.rep x2)) (View.readAt (Elt Ideal) arg9.view (Rect.unit (s := S1x1x1x1024) ![0, 0, 0, 0] S1x1x1x1024.size inb_S1x1x1x1024_S1x1x1x1024_0_0_0_0).toLoadRect (arg9.view.rep x4))) ?h0 ?h1 ?h2 ?h3 ?h4 ?h5 ?h6 ?h7 ?h8
  case h0 => exact (four0 _ _ _ _ _ _ _ _ _ _ r 0).2.2.2
  case h1 => exact (four1 _ _ _ _ _ _ _ _ _ _ r 0).2.2.2
  case h2 => intro d; exact (four2 _ _ _ _ _ _ _ _ _ _ r d).2.2.2
  case h3 => intro s; exact (score_load 1024 768 (by decide) arg5 arg6 arg9 x0 x1 x4 _ _ _ r (by omega) s)
  case h4 =>
    refine congrArg (κ₂ * ·) ((cov0 (Val := Elt Ideal) (View.whole cc0_scratch3) _ _ 768 _ r 0 (by omega)).trans ?_)
    exact congrArg (fun x => k0_pay4 (F := Ideal) i x (ix2 ⟨768 + r.val, by omega⟩ 0)) (load_whole arg8 x3 _)
  case h5 => intro s d; exact load_v 1024 (by decide) arg7 x2 _ s d
  case h6 => exact cov3 (Val := Elt Ideal) (View.whole cc0_scratch0) _ _ _ _ _ _ _ _ 768 (by decide) _ r 0 (by omega)
  case h7 => exact cov3 (Val := Elt Ideal) (View.whole cc0_scratch1) _ _ _ _ _ _ _ _ 768 (by decide) _ r 0 (by omega)
  case h8 => intro d; exact cov3 (Val := Elt Ideal) (View.whole cc0_scratch2) _ _ _ _ _ _ _ _ 768 (by decide) _ r d (by omega)

/-- Every row takes the whole block of keys. -/
theorem stepB (y : Fin 1024) : Step (fun s => tscore x0 x1 x4 y s) (κ₂ * k0_pay4 (F := Ideal) i x3 (ix2 y 0))
      (fun s d => x2 (ix2 s d)) (k0_pay1 (F := Ideal) (ix2 y 0)) (k0_pay2 (F := Ideal) (ix2 y 0)) (fun d => k0_pay3 (F := Ideal) (ix2 y d))
      (at0 ((kernelRun0_B c i arg5 harg5 arg6 harg6 arg7 harg7 arg8 harg8 arg9 harg9 arg10 harg10 T0 T1 x0 x1 x2 x3 x4 hc0 hc1 k0_h3).1) (ix2 y 0)) (at1 ((kernelRun0_B c i arg5 harg5 arg6 harg6 arg7 harg7 arg8 harg8 arg9 harg9 arg10 harg10 T0 T1 x0 x1 x2 x3 x4 hc0 hc1 k0_h3).2.1) (ix2 y 0))
      (fun d => at2 ((kernelRun0_B c i arg5 harg5 arg6 harg6 arg7 harg7 arg8 harg8 arg9 harg9 arg10 harg10 T0 T1 x0 x1 x2 x3 x4 hc0 hc1 k0_h3).2.2.1) (ix2 y d)) := by
  revert y
  exact row_cases (stepB0 c i arg5 harg5 arg6 harg6 arg7 harg7 arg8 harg8 arg9 harg9 arg10 harg10 T0 T1 x0 x1 x2 x3 x4 hc0 hc1 k0_h3) (stepB1 c i arg5 harg5 arg6 harg6 arg7 harg7 arg8 harg8 arg9 harg9 arg10 harg10 T0 T1 x0 x1 x2 x3 x4 hc0 hc1 k0_h3) (stepB2 c i arg5 harg5 arg6 harg6 arg7 harg7 arg8 harg8 arg9 harg9 arg10 harg10 T0 T1 x0 x1 x2 x3 x4 hc0 hc1 k0_h3) (stepB3 c i arg5 harg5 arg6 harg6 arg7 harg7 arg8 harg8 arg9 harg9 arg10 harg10 T0 T1 x0 x1 x2 x3 x4 hc0 hc1 k0_h3)

theorem keepB (y : Fin 1024) : at3 ((kernelRun0_B c i arg5 harg5 arg6 harg6 arg7 harg7 arg8 harg8 arg9 harg9 arg10 harg10 T0 T1 x0 x1 x2 x3 x4 hc0 hc1 k0_h3).2.2.2.1) (ix2 y 0) = k0_pay4 (F := Ideal) i x3 (ix2 y 0) := by
  unfold kernelRun0_B
  dsimp only
  refine (fill0 (Val := Elt Ideal) (View.whole cc0_scratch3) _ _ y 0).trans ?_
  exact congrArg (fun x => k0_pay4 (F := Ideal) i x (ix2 y 0)) (load_whole arg8 x3 _)

end

end Cert.Paths

end
-- ==== Proof.PathC.lean ====
/- What a grid point leaves in the running maximum, sum and accumulator, a row at a time: a later key block, the query block's own. -/
module

public import proofs.«01_k».proof.Proof.Loads
public import proofs.«01_k».proof.Proof.Gen.KernelIdeal.Flash
public import Idealize.ShloMosaic.Lib.Pipeline.ReadBack

@[expose] public section

set_option maxRecDepth 16384

noncomputable section

namespace Cert.Paths

open Cert.KernelIdeal Cert.KernelIdeal.Gen Cert.Blocks Cert.Rows
open Idealize.ShloMosaic Idealize.ShloMosaic.TcCoe
open scoped BigOperators

section
variable (c : Dev nD) (i : grid0.Coords) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1x1x1x1024 .f32) (harg9 : arg9.IsWhole) (arg10 : Memref sig .tc .vmem S1024x128 .bf16) (harg10 : arg10.IsWhole) (T0 : (S10.Idx → Elt Ideal .i32)) (T1 : (S10.Idx → Elt Ideal .i32)) (x0 : (S1024x128.Idx → Elt Ideal .bf16)) (x1 : (S1024x128.Idx → Elt Ideal .bf16)) (x2 : (S1024x128.Idx → Elt Ideal .bf16)) (x3 : (S1024x128.Idx → Elt Ideal .f32)) (x4 : (S1x1x1x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (View.readAt (Elt Ideal) (tbM0_1).view (Rect.unit (s := S10) (k0_off1 i) S1.size (k0_off1_inb i)).toLoadRect T1 (Shape.Idx.first (numel1_S1.symm ▸ Nat.one_pos))) 0#32)) 0#32) = 1#1)) (hc1 : ¬((Scalar.cmpi .ne (Scalar.extui (Scalar.cmpi .slt (View.readAt (Elt Ideal) (tbM0_1).view (Rect.unit (s := S10) (k0_off1 i) S1.size (k0_off1_inb i)).toLoadRect T1 (Shape.Idx.first (numel1_S1.symm ▸ Nat.one_pos))) (View.readAt (Elt Ideal) (tbM0_0).view (Rect.unit (s := S10) (k0_off1 i) S1.size (k0_off1_inb i)).toLoadRect T0 (Shape.Idx.first (numel1_S1.symm ▸ Nat.one_pos))))) 0#32) = 1#1)) (k0_h3 : k0_cond3 (View.readAt (Elt Ideal) (tbM0_0).view (Rect.unit (s := S10) (k0_off1 i) S1.size (k0_off1_inb i)).toLoadRect T0 (Shape.Idx.first (numel1_S1.symm ▸ Nat.one_pos))) (View.readAt (Elt Ideal) (tbM0_1).view (Rect.unit (s := S10) (k0_off1 i) S1.size (k0_off1_inb i)).toLoadRect T1 (Shape.Idx.first (numel1_S1.symm ▸ Nat.one_pos))) = 1#1)

theorem stepC0 (r : Fin 256) :
    Step (fun s : Fin 256 => if s.val ≤ 0 + r.val then tscore x0 x1 x4 ⟨0 + r.val, by omega⟩ (Fin.castLE (by decide : 256 ≤ 1024) s) else ⊥) (κ₂ * at3 xa3 (ix2 ⟨0 + r.val, by omega⟩ 0))
      (fun s d => x2 (ix2 (Fin.castLE (by decide : 256 ≤ 1024) s) d)) (at0 xa0 (ix2 ⟨0 + r.val, by omega⟩ 0)) (at1 xa1 (ix2 ⟨0 + r.val, by omega⟩ 0)) (fun d => at2 xa2 (ix2 ⟨0 + r.val, by omega⟩ d))
      (at0 ((kernelRun0_C c i arg5 harg5 arg6 harg6 arg7 harg7 arg8 harg8 arg9 harg9 arg10 harg10 T0 T1 x0 x1 x2 x3 x4 xa0 xa1 xa2 xa3 hc0 hc1 k0_h3).2.1) (ix2 ⟨0 + r.val, by omega⟩ 0)) (at1 ((kernelRun0_C c i arg5 harg5 arg6 harg6 arg7 harg7 arg8 harg8 arg9 harg9 arg10 harg10 T0 T1 x0 x1 x2 x3 x4 xa0 xa1 xa2 xa3 hc0 hc1 k0_h3).2.2.1) (ix2 ⟨0 + r.val, by omega⟩ 0))
      (fun d => at2 ((kernelRun0_C c i arg5 harg5 arg6 harg6 arg7 harg7 arg8 harg8 arg9 harg9 arg10 harg10 T0 T1 x0 x1 x2 x3 x4 xa0 xa1 xa2 xa3 hc0 hc1 k0_h3).2.2.2.1) (ix2 ⟨0 + r.val, by omega⟩ d)) := by
  unfold kernelRun0_C
  dsimp only
  refine Step.of_eq (diag0 (View.readAt (Elt Ideal) (View.whole cc0_scratch3) (Rect.unit (s := S1024x1) ![0, 0] S256x1.size inb_S1024x1_S256x1_0_0).toLoadRect xa3) (View.readAt (Elt Ideal) (View.whole cc0_scratch0) (Rect.unit (s := S1024x1) ![0, 0] S256x1.size inb_S1024x1_S256x1_0_0).toLoadRect xa0) (View.readAt (Elt Ideal) (View.whole cc0_scratch1) (Rect.unit (s := S1024x1) ![0, 0] S256x1.size inb_S1024x1_S256x1_0_0).toLoadRect xa1) (View.readAt (Elt Ideal) (View.whole cc0_scratch2) (Rect.unit (s := S1024x128) ![0, 0] S256x128.size inb_S1024x128_S256x128_0_0).toLoadRect xa2) (View.readAt (Elt Ideal) arg5.view (Rect.unit (s := S1024x128) ![0, 0] S256x128.size inb_S1024x128_S256x128_0_0).toLoadRect (arg5.view.rep x0)) r (View.readAt (Elt Ideal) arg6.view (Rect.unit (s := S1024x128) ![0, 0] S256x128.size inb_S1024x128_S256x128_0_0).toLoadRect (arg6.view.rep x1)) (View.readAt (Elt Ideal) arg7.view (Rect.unit (s := S1024x128) ![0, 0] S256x128.size inb_S1024x128_S256x128_0_0).toLoadRect (arg7.view.rep x2)) (View.readAt (Elt Ideal) arg9.view (Rect.unit (s := S1x1x1x1024) ![0, 0, 0, 0] S1x1x1x256.size inb_S1x1x1x1024_S1x1x1x256_0_0_0_0).toLoadRect (arg9.view.rep x4))) ?h0 ?h1 ?h2 ?h3 ?h4 ?h5 ?h6 ?h7 ?h8
  case h0 => exact (four0 _ _ _ _ _ _ _ _ _ _ r 0).1
  case h1 => exact (four1 _ _ _ _ _ _ _ _ _ _ r 0).1
  case h2 => intro d; exact (four2 _ _ _ _ _ _ _ _ _ _ r d).1
  case h3 => intro s; exact congrArg (fun x : EReal => if s.val ≤ 0 + r.val then x else ⊥) (score_load 256 0 (by decide) arg5 arg6 arg9 x0 x1 x4 _ _ _ r (by omega) s)
  case h4 => exact congrArg (κ₂ * ·) (load3 xa3 0 _ r 0 (by omega))
  case h5 => intro s d; exact load_v 256 (by decide) arg7 x2 _ s d
  case h6 => exact load0 xa0 0 _ r 0 (by omega)
  case h7 => exact load1 xa1 0 _ r 0 (by omega)
  case h8 => intro d; exact load2 xa2 0 _ r d (by omega)

theorem stepC1 (r : Fin 256) :
    Step (fun s : Fin 512 => if s.val ≤ 256 + r.val then tscore x0 x1 x4 ⟨256 + r.val, by omega⟩ (Fin.castLE (by decide : 512 ≤ 1024) s) else ⊥) (κ₂ * at3 xa3 (ix2 ⟨256 + r.val, by omega⟩ 0))
      (fun s d => x2 (ix2 (Fin.castLE (by decide : 512 ≤ 1024) s) d)) (at0 xa0 (ix2 ⟨256 + r.val, by omega⟩ 0)) (at1 xa1 (ix2 ⟨256 + r.val, by omega⟩ 0)) (fun d => at2 xa2 (ix2 ⟨256 + r.val, by omega⟩ d))
      (at0 ((kernelRun0_C c i arg5 harg5 arg6 harg6 arg7 harg7 arg8 harg8 arg9 harg9 arg10 harg10 T0 T1 x0 x1 x2 x3 x4 xa0 xa1 xa2 xa3 hc0 hc1 k0_h3).2.1) (ix2 ⟨256 + r.val, by omega⟩ 0)) (at1 ((kernelRun0_C c i arg5 harg5 arg6 harg6 arg7 harg7 arg8 harg8 arg9 harg9 arg10 harg10 T0 T1 x0 x1 x2 x3 x4 xa0 xa1 xa2 xa3 hc0 hc1 k0_h3).2.2.1) (ix2 ⟨256 + r.val, by omega⟩ 0))
      (fun d => at2 ((kernelRun0_C c i arg5 harg5 arg6 harg6 arg7 harg7 arg8 harg8 arg9 harg9 arg10 harg10 T0 T1 x0 x1 x2 x3 x4 xa0 xa1 xa2 xa3 hc0 hc1 k0_h3).2.2.2.1) (ix2 ⟨256 + r.val, by omega⟩ d)) := by
  unfold kernelRun0_C
  dsimp only
  refine Step.of_eq (diag1 (View.readAt (Elt Ideal) (View.whole cc0_scratch3) (Rect.unit (s := S1024x1) ![256, 0] S256x1.size inb_S1024x1_S256x1_256_0).toLoadRect xa3) (View.readAt (Elt Ideal) (View.whole cc0_scratch0) (Rect.unit (s := S1024x1) ![256, 0] S256x1.size inb_S1024x1_S256x1_256_0).toLoadRect xa0) (View.readAt (Elt Ideal) (View.whole cc0_scratch1) (Rect.unit (s := S1024x1) ![256, 0] S256x1.size inb_S1024x1_S256x1_256_0).toLoadRect xa1) (View.readAt (Elt Ideal) (View.whole cc0_scratch2) (Rect.unit (s := S1024x128) ![256, 0] S256x128.size inb_S1024x128_S256x128_256_0).toLoadRect xa2) (View.readAt (Elt Ideal) arg5.view (Rect.unit (s := S1024x128) ![256, 0] S256x128.size inb_S1024x128_S256x128_256_0).toLoadRect (arg5.view.rep x0)) r (View.readAt (Elt Ideal) arg6.view (Rect.unit (s := S1024x128) ![0, 0] S512x128.size inb_S1024x128_S512x128_0_0).toLoadRect (arg6.view.rep x1)) (View.readAt (Elt Ideal) arg7.view (Rect.unit (s := S1024x128) ![0, 0] S512x128.size inb_S1024x128_S512x128_0_0).toLoadRect (arg7.view.rep x2)) (View.readAt (Elt Ideal) arg9.view (Rect.unit (s := S1x1x1x1024) ![0, 0, 0, 0] S1x1x1x512.size inb_S1x1x1x1024_S1x1x1x512_0_0_0_0).toLoadRect (arg9.view.rep x4))) ?h0 ?h1 ?h2 ?h3 ?h4 ?h5 ?h6 ?h7 ?h8
  case h0 => exact (four0 _ _ _ _ _ _ _ _ _ _ r 0).2.1
  case h1 => exact (four1 _ _ _ _ _ _ _ _ _ _ r 0).2.1
  case h2 => intro d; exact (four2 _ _ _ _ _ _ _ _ _ _ r d).2.1
  case h3 => intro s; exact congrArg (fun x : EReal => if s.val ≤ 256 + r.val then x else ⊥) (score_load 512 256 (by decide) arg5 arg6 arg9 x0 x1 x4 _ _ _ r (by omega) s)
  case h4 => exact congrArg (κ₂ * ·) (load3 xa3 256 _ r 0 (by omega))
  case h5 => intro s d; exact load_v 512 (by decide) arg7 x2 _ s d
  case h6 => exact load0 xa0 256 _ r 0 (by omega)
  case h7 => exact load1 xa1 256 _ r 0 (by omega)
  case h8 => intro d; exact load2 xa2 256 _ r d (by omega)

theorem stepC2 (r : Fin 256) :
    Step (fun s : Fin 768 => if s.val ≤ 512 + r.val then tscore x0 x1 x4 ⟨512 + r.val, by omega⟩ (Fin.castLE (by decide : 768 ≤ 1024) s) else ⊥) (κ₂ * at3 xa3 (ix2 ⟨512 + r.val, by omega⟩ 0))
      (fun s d => x2 (ix2 (Fin.castLE (by decide : 768 ≤ 1024) s) d)) (at0 xa0 (ix2 ⟨512 + r.val, by omega⟩ 0)) (at1 xa1 (ix2 ⟨512 + r.val, by omega⟩ 0)) (fun d => at2 xa2 (ix2 ⟨512 + r.val, by omega⟩ d))
      (at0 ((kernelRun0_C c i arg5 harg5 arg6 harg6 arg7 harg7 arg8 harg8 arg9 harg9 arg10 harg10 T0 T1 x0 x1 x2 x3 x4 xa0 xa1 xa2 xa3 hc0 hc1 k0_h3).2.1) (ix2 ⟨512 + r.val, by omega⟩ 0)) (at1 ((kernelRun0_C c i arg5 harg5 arg6 harg6 arg7 harg7 arg8 harg8 arg9 harg9 arg10 harg10 T0 T1 x0 x1 x2 x3 x4 xa0 xa1 xa2 xa3 hc0 hc1 k0_h3).2.2.1) (ix2 ⟨512 + r.val, by omega⟩ 0))
      (fun d => at2 ((kernelRun0_C c i arg5 harg5 arg6 harg6 arg7 harg7 arg8 harg8 arg9 harg9 arg10 harg10 T0 T1 x0 x1 x2 x3 x4 xa0 xa1 xa2 xa3 hc0 hc1 k0_h3).2.2.2.1) (ix2 ⟨512 + r.val, by omega⟩ d)) := by
  unfold kernelRun0_C
  dsimp only
  refine Step.of_eq (diag2 (View.readAt (Elt Ideal) (View.whole cc0_scratch3) (Rect.unit (s := S1024x1) ![512, 0] S256x1.size inb_S1024x1_S256x1_512_0).toLoadRect xa3) (View.readAt (Elt Ideal) (View.whole cc0_scratch0) (Rect.unit (s := S1024x1) ![512, 0] S256x1.size inb_S1024x1_S256x1_512_0).toLoadRect xa0) (View.readAt (Elt Ideal) (View.whole cc0_scratch1) (Rect.unit (s := S1024x1) ![512, 0] S256x1.size inb_S1024x1_S256x1_512_0).toLoadRect xa1) (View.readAt (Elt Ideal) (View.whole cc0_scratch2) (Rect.unit (s := S1024x128) ![512, 0] S256x128.size inb_S1024x128_S256x128_512_0).toLoadRect xa2) (View.readAt (Elt Ideal) arg5.view (Rect.unit (s := S1024x128) ![512, 0] S256x128.size inb_S1024x128_S256x128_512_0).toLoadRect (arg5.view.rep x0)) r (View.readAt (Elt Ideal) arg6.view (Rect.unit (s := S1024x128) ![0, 0] S768x128.size inb_S1024x128_S768x128_0_0).toLoadRect (arg6.view.rep x1)) (View.readAt (Elt Ideal) arg7.view (Rect.unit (s := S1024x128) ![0, 0] S768x128.size inb_S1024x128_S768x128_0_0).toLoadRect (arg7.view.rep x2)) (View.readAt (Elt Ideal) arg9.view (Rect.unit (s := S1x1x1x1024) ![0, 0, 0, 0] S1x1x1x768.size inb_S1x1x1x1024_S1x1x1x768_0_0_0_0).toLoadRect (arg9.view.rep x4))) ?h0 ?h1 ?h2 ?h3 ?h4 ?h5 ?h6 ?h7 ?h8
  case h0 => exact (four0 _ _ _ _ _ _ _ _ _ _ r 0).2.2.1
  case h1 => exact (four1 _ _ _ _ _ _ _ _ _ _ r 0).2.2.1
  case h2 => intro d; exact (four2 _ _ _ _ _ _ _ _ _ _ r d).2.2.1
  case h3 => intro s; exact congrArg (fun x : EReal => if s.val ≤ 512 + r.val then x else ⊥) (score_load 768 512 (by decide) arg5 arg6 arg9 x0 x1 x4 _ _ _ r (by omega) s)
  case h4 => exact congrArg (κ₂ * ·) (load3 xa3 512 _ r 0 (by omega))
  case h5 => intro s d; exact load_v 768 (by decide) arg7 x2 _ s d
  case h6 => exact load0 xa0 512 _ r 0 (by omega)
  case h7 => exact load1 xa1 512 _ r 0 (by omega)
  case h8 => intro d; exact load2 xa2 512 _ r d (by omega)

theorem stepC3 (r : Fin 256) :
    Step (fun s : Fin 1024 => if s.val ≤ 768 + r.val then tscore x0 x1 x4 ⟨768 + r.val, by omega⟩ (Fin.castLE (by decide : 1024 ≤ 1024) s) else ⊥) (κ₂ * at3 xa3 (ix2 ⟨768 + r.val, by omega⟩ 0))
      (fun s d => x2 (ix2 (Fin.castLE (by decide : 1024 ≤ 1024) s) d)) (at0 xa0 (ix2 ⟨768 + r.val, by omega⟩ 0)) (at1 xa1 (ix2 ⟨768 + r.val, by omega⟩ 0)) (fun d => at2 xa2 (ix2 ⟨768 + r.val, by omega⟩ d))
      (at0 ((kernelRun0_C c i arg5 harg5 arg6 harg6 arg7 harg7 arg8 harg8 arg9 harg9 arg10 harg10 T0 T1 x0 x1 x2 x3 x4 xa0 xa1 xa2 xa3 hc0 hc1 k0_h3).2.1) (ix2 ⟨768 + r.val, by omega⟩ 0)) (at1 ((kernelRun0_C c i arg5 harg5 arg6 harg6 arg7 harg7 arg8 harg8 arg9 harg9 arg10 harg10 T0 T1 x0 x1 x2 x3 x4 xa0 xa1 xa2 xa3 hc0 hc1 k0_h3).2.2.1) (ix2 ⟨768 + r.val, by omega⟩ 0))
      (fun d => at2 ((kernelRun0_C c i arg5 harg5 arg6 harg6 arg7 harg7 arg8 harg8 arg9 harg9 arg10 harg10 T0 T1 x0 x1 x2 x3 x4 xa0 xa1 xa2 xa3 hc0 hc1 k0_h3).2.2.2.1) (ix2 ⟨768 + r.val, by omega⟩ d)) := by
  unfold kernelRun0_C
  dsimp only
  refine Step.of_eq (diag3 (View.readAt (Elt Ideal) (View.whole cc0_scratch3) (Rect.unit (s := S1024x1) ![768, 0] S256x1.size inb_S1024x1_S256x1_768_0).toLoadRect xa3) (View.readAt (Elt Ideal) (View.whole cc0_scratch0) (Rect.unit (s := S1024x1) ![768, 0] S256x1.size inb_S1024x1_S256x1_768_0).toLoadRect xa0) (View.readAt (Elt Ideal) (View.whole cc0_scratch1) (Rect.unit (s := S1024x1) ![768, 0] S256x1.size inb_S1024x1_S256x1_768_0).toLoadRect xa1) (View.readAt (Elt Ideal) (View.whole cc0_scratch2) (Rect.unit (s := S1024x128) ![768, 0] S256x128.size inb_S1024x128_S256x128_768_0).toLoadRect xa2) (View.readAt (Elt Ideal) arg5.view (Rect.unit (s := S1024x128) ![768, 0] S256x128.size inb_S1024x128_S256x128_768_0).toLoadRect (arg5.view.rep x0)) r (View.readAt (Elt Ideal) arg6.view (Rect.unit (s := S1024x128) ![0, 0] S1024x128.size inb_S1024x128_S1024x128_0_0).toLoadRect (arg6.view.rep x1)) (View.readAt (Elt Ideal) arg7.view (Rect.unit (s := S1024x128) ![0, 0] S1024x128.size inb_S1024x128_S1024x128_0_0).toLoadRect (arg7.view.rep x2)) (View.readAt (Elt Ideal) arg9.view (Rect.unit (s := S1x1x1x1024) ![0, 0, 0, 0] S1x1x1x1024.size inb_S1x1x1x1024_S1x1x1x1024_0_0_0_0).toLoadRect (arg9.view.rep x4))) ?h0 ?h1 ?h2 ?h3 ?h4 ?h5 ?h6 ?h7 ?h8
  case h0 => exact (four0 _ _ _ _ _ _ _ _ _ _ r 0).2.2.2
  case h1 => exact (four1 _ _ _ _ _ _ _ _ _ _ r 0).2.2.2
  case h2 => intro d; exact (four2 _ _ _ _ _ _ _ _ _ _ r d).2.2.2
  case h3 => intro s; exact congrArg (fun x : EReal => if s.val ≤ 768 + r.val then x else ⊥) (score_load 1024 768 (by decide) arg5 arg6 arg9 x0 x1 x4 _ _ _ r (by omega) s)
  case h4 => exact congrArg (κ₂ * ·) (load3 xa3 768 _ r 0 (by omega))
  case h5 => intro s d; exact load_v 1024 (by decide) arg7 x2 _ s d
  case h6 => exact load0 xa0 768 _ r 0 (by omega)
  case h7 => exact load1 xa1 768 _ r 0 (by omega)
  case h8 => intro d; exact load2 xa2 768 _ r d (by omega)

/-- Every row: some number of the block's first keys, enough to take in the row's own, with the mask. -/
theorem stepC (y : Fin 1024) : ∃ (n : ℕ) (hn : n ≤ 1024), y.val < n ∧
    Step (fun s : Fin n => if s.val ≤ y.val then tscore x0 x1 x4 y (Fin.castLE hn s) else ⊥) (κ₂ * at3 xa3 (ix2 y 0))
      (fun s d => x2 (ix2 (Fin.castLE hn s) d)) (at0 xa0 (ix2 y 0)) (at1 xa1 (ix2 y 0)) (fun d => at2 xa2 (ix2 y d))
      (at0 ((kernelRun0_C c i arg5 harg5 arg6 harg6 arg7 harg7 arg8 harg8 arg9 harg9 arg10 harg10 T0 T1 x0 x1 x2 x3 x4 xa0 xa1 xa2 xa3 hc0 hc1 k0_h3).2.1) (ix2 y 0)) (at1 ((kernelRun0_C c i arg5 harg5 arg6 harg6 arg7 harg7 arg8 harg8 arg9 harg9 arg10 harg10 T0 T1 x0 x1 x2 x3 x4 xa0 xa1 xa2 xa3 hc0 hc1 k0_h3).2.2.1) (ix2 y 0))
      (fun d => at2 ((kernelRun0_C c i arg5 harg5 arg6 harg6 arg7 harg7 arg8 harg8 arg9 harg9 arg10 harg10 T0 T1 x0 x1 x2 x3 x4 xa0 xa1 xa2 xa3 hc0 hc1 k0_h3).2.2.2.1) (ix2 y d)) := by
  revert y
  exact row_cases (fun r => ⟨256, by decide, by have := r.isLt; dsimp only; omega, stepC0 c i arg5 harg5 arg6 harg6 arg7 harg7 arg8 harg8 arg9 harg9 arg10 harg10 T0 T1 x0 x1 x2 x3 x4 xa0 xa1 xa2 xa3 hc0 hc1 k0_h3 r⟩)
    (fun r => ⟨512, by decide, by have := r.isLt; dsimp only; omega, stepC1 c i arg5 harg5 arg6 harg6 arg7 harg7 arg8 harg8 arg9 harg9 arg10 harg10 T0 T1 x0 x1 x2 x3 x4 xa0 xa1 xa2 xa3 hc0 hc1 k0_h3 r⟩)
    (fun r => ⟨768, by decide, by have := r.isLt; dsimp only; omega, stepC2 c i arg5 harg5 arg6 harg6 arg7 harg7 arg8 harg8 arg9 harg9 arg10 harg10 T0 T1 x0 x1 x2 x3 x4 xa0 xa1 xa2 xa3 hc0 hc1 k0_h3 r⟩)
    (fun r => ⟨1024, by decide, by have := r.isLt; dsimp only; omega, stepC3 c i arg5 harg5 arg6 harg6 arg7 harg7 arg8 harg8 arg9 harg9 arg10 harg10 T0 T1 x0 x1 x2 x3 x4 xa0 xa1 xa2 xa3 hc0 hc1 k0_h3 r⟩)

theorem keepC : (kernelRun0_C c i arg5 harg5 arg6 harg6 arg7 harg7 arg8 harg8 arg9 harg9 arg10 harg10 T0 T1 x0 x1 x2 x3 x4 xa0 xa1 xa2 xa3 hc0 hc1 k0_h3).2.2.2.2.1 = xa3 := by
  unfold kernelRun0_C
  rfl

theorem outC (y : Fin 1024) (d : Fin 128) : out0_C_5 c i arg5 harg5 arg6 harg6 arg7 harg7 arg8 harg8 arg9 harg9 arg10 harg10 T0 T1 x0 x1 x2 x3 x4 xa0 xa1 xa2 xa3 hc0 hc1 k0_h3 (ix2 y d)
    = Ideal.div (at2 ((kernelRun0_C c i arg5 harg5 arg6 harg6 arg7 harg7 arg8 harg8 arg9 harg9 arg10 harg10 T0 T1 x0 x1 x2 x3 x4 xa0 xa1 xa2 xa3 hc0 hc1 k0_h3).2.2.2.1) (ix2 y d)) (at1 ((kernelRun0_C c i arg5 harg5 arg6 harg6 arg7 harg7 arg8 harg8 arg9 harg9 arg10 harg10 T0 T1 x0 x1 x2 x3 x4 xa0 xa1 xa2 xa3 hc0 hc1 k0_h3).2.2.1) (ix2 y 0)) := by
  unfold out0_C_5 kernelRun0_C
  dsimp only
  refine (fill0 (Val := Elt Ideal) VO0_5 _ _ y d).trans ?_
  refine (quotient_at _ _ y d).trans ?_
  exact congrArg₂ Ideal.div (cov_all (Val := Elt Ideal) (View.whole cc0_scratch2) _ _ y d) (cov_all (Val := Elt Ideal) (View.whole cc0_scratch1) _ _ y 0)

end

end Cert.Paths

end
-- ==== Proof.PathD.lean ====
/- What a grid point leaves in the running maximum, sum and accumulator, a row at a time: a later key block, before the query block. -/
module

public import proofs.«01_k».proof.Proof.Loads
public import proofs.«01_k».proof.Proof.Gen.KernelIdeal.Flash
public import Idealize.ShloMosaic.Lib.Pipeline.ReadBack

@[expose] public section

set_option maxRecDepth 16384

noncomputable section

namespace Cert.Paths

open Cert.KernelIdeal Cert.KernelIdeal.Gen Cert.Blocks Cert.Rows
open Idealize.ShloMosaic Idealize.ShloMosaic.TcCoe
open scoped BigOperators

section
variable (c : Dev nD) (i : grid0.Coords) (arg5 : Memref sig .tc .vmem S1024x128 .bf16) (harg5 : arg5.IsWhole) (arg6 : Memref sig .tc .vmem S1024x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1x1x1x1024 .f32) (harg9 : arg9.IsWhole) (arg10 : Memref sig .tc .vmem S1024x128 .bf16) (harg10 : arg10.IsWhole) (T0 : (S10.Idx → Elt Ideal .i32)) (T1 : (S10.Idx → Elt Ideal .i32)) (x0 : (S1024x128.Idx → Elt Ideal .bf16)) (x1 : (S1024x128.Idx → Elt Ideal .bf16)) (x2 : (S1024x128.Idx → Elt Ideal .bf16)) (x3 : (S1024x128.Idx → Elt Ideal .f32)) (x4 : (S1x1x1x1024.Idx → Elt Ideal .f32)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (xa3 : Buf (Elt Ideal) ((c : Thread nD τ).loc cc0_scratch3)) (hc0 : ¬((Scalar.cmpi .ne (Scalar.extui (Scalar.cmpi .eq (View.readAt (Elt Ideal) (tbM0_1).view (Rect.unit (s := S10) (k0_off1 i) S1.size (k0_off1_inb i)).toLoadRect T1 (Shape.Idx.first (numel1_S1.symm ▸ Nat.one_pos))) 0#32)) 0#32) = 1#1)) (hc1 : (Scalar.cmpi .ne (Scalar.extui (Scalar.cmpi .slt (View.readAt (Elt Ideal) (tbM0_1).view (Rect.unit (s := S10) (k0_off1 i) S1.size (k0_off1_inb i)).toLoadRect T1 (Shape.Idx.first (numel1_S1.symm ▸ Nat.one_pos))) (View.readAt (Elt Ideal) (tbM0_0).view (Rect.unit (s := S10) (k0_off1 i) S1.size (k0_off1_inb i)).toLoadRect T0 (Shape.Idx.first (numel1_S1.symm ▸ Nat.one_pos))))) 0#32) = 1#1) (k0_h3 : ¬(k0_cond3 (View.readAt (Elt Ideal) (tbM0_0).view (Rect.unit (s := S10) (k0_off1 i) S1.size (k0_off1_inb i)).toLoadRect T0 (Shape.Idx.first (numel1_S1.symm ▸ Nat.one_pos))) (View.readAt (Elt Ideal) (tbM0_1).view (Rect.unit (s := S10) (k0_off1 i) S1.size (k0_off1_inb i)).toLoadRect T1 (Shape.Idx.first (numel1_S1.symm ▸ Nat.one_pos))) = 1#1))

theorem stepD0 (r : Fin 256) :
    Step (fun s => tscore x0 x1 x4 ⟨0 + r.val, by omega⟩ s) (κ₂ * at3 xa3 (ix2 ⟨0 + r.val, by omega⟩ 0))
      (fun s d => x2 (ix2 s d)) (at0 xa0 (ix2 ⟨0 + r.val, by omega⟩ 0)) (at1 xa1 (ix2 ⟨0 + r.val, by omega⟩ 0)) (fun d => at2 xa2 (ix2 ⟨0 + r.val, by omega⟩ d))
      (at0 ((kernelRun0_D c i arg5 harg5 arg6 harg6 arg7 harg7 arg8 harg8 arg9 harg9 arg10 harg10 T0 T1 x0 x1 x2 x3 x4 xa0 xa1 xa2 xa3 hc0 hc1 k0_h3).1) (ix2 ⟨0 + r.val, by omega⟩ 0)) (at1 ((kernelRun0_D c i arg5 harg5 arg6 harg6 arg7 harg7 arg8 harg8 arg9 harg9 arg10 harg10 T0 T1 x0 x1 x2 x3 x4 xa0 xa1 xa2 xa3 hc0 hc1 k0_h3).2.1) (ix2 ⟨0 + r.val, by omega⟩ 0))
      (fun d => at2 ((kernelRun0_D c i arg5 harg5 arg6 harg6 arg7 harg7 arg8 harg8 arg9 harg9 arg10 harg10 T0 T1 x0 x1 x2 x3 x4 xa0 xa1 xa2 xa3 hc0 hc1 k0_h3).2.2.1) (ix2 ⟨0 + r.val, by omega⟩ d)) := by
  unfold kernelRun0_D
  dsimp only
  refine Step.of_eq (full0 (View.readAt (Elt Ideal) (View.whole cc0_scratch3) (Rect.unit (s := S1024x1) ![0, 0] S256x1.size inb_S1024x1_S256x1_0_0).toLoadRect xa3) (View.readAt (Elt Ideal) (View.whole cc0_scratch0) (Rect.unit (s := S1024x1) ![0, 0] S256x1.size inb_S1024x1_S256x1_0_0).toLoadRect xa0) (View.readAt (Elt Ideal) (View.whole cc0_scratch1) (Rect.unit (s := S1024x1) ![0, 0] S256x1.size inb_S1024x1_S256x1_0_0).toLoadRect xa1) (View.readAt (Elt Ideal) (View.whole cc0_scratch2) (Rect.unit (s := S1024x128) ![0, 0] S256x128.size inb_S1024x128_S256x128_0_0).toLoadRect xa2) (View.readAt (Elt Ideal) arg5.view (Rect.unit (s := S1024x128) ![0, 0] S256x128.size inb_S1024x128_S256x128_0_0).toLoadRect (arg5.view.rep x0)) r (View.readAt (Elt Ideal) arg6.view (Rect.unit (s := S1024x128) ![0, 0] S1024x128.size inb_S1024x128_S1024x128_0_0).toLoadRect (arg6.view.rep x1)) (View.readAt (Elt Ideal) arg7.view (Rect.unit (s := S1024x128) ![0, 0] S1024x128.size inb_S1024x128_S1024x128_0_0).toLoadRect (arg7.view.rep x2)) (View.readAt (Elt Ideal) arg9.view (Rect.unit (s := S1x1x1x1024) ![0, 0, 0, 0] S1x1x1x1024.size inb_S1x1x1x1024_S1x1x1x1024_0_0_0_0).toLoadRect (arg9.view.rep x4))) ?h0 ?h1 ?h2 ?h3 ?h4 ?h5 ?h6 ?h7 ?h8
  case h0 => exact (four0 _ _ _ _ _ _ _ _ _ _ r 0).1
  case h1 => exact (four1 _ _ _ _ _ _ _ _ _ _ r 0).1
  case h2 => intro d; exact (four2 _ _ _ _ _ _ _ _ _ _ r d).1
  case h3 => intro s; exact (score_load 1024 0 (by decide) arg5 arg6 arg9 x0 x1 x4 _ _ _ r (by omega) s)
  case h4 => exact congrArg (κ₂ * ·) (load3 xa3 0 _ r 0 (by omega))
  case h5 => intro s d; exact load_v 1024 (by decide) arg7 x2 _ s d
  case h6 => exact load0 xa0 0 _ r 0 (by omega)
  case h7 => exact load1 xa1 0 _ r 0 (by omega)
  case h8 => intro d; exact load2 xa2 0 _ r d (by omega)

theorem stepD1 (r : Fin 256) :
    Step (fun s => tscore x0 x1 x4 ⟨256 + r.val, by omega⟩ s) (κ₂ * at3 xa3 (ix2 ⟨256 + r.val, by omega⟩ 0))
      (fun s d => x2 (ix2 s d)) (at0 xa0 (ix2 ⟨256 + r.val, by omega⟩ 0)) (at1 xa1 (ix2 ⟨256 + r.val, by omega⟩ 0)) (fun d => at2 xa2 (ix2 ⟨256 + r.val, by omega⟩ d))
      (at0 ((kernelRun0_D c i arg5 harg5 arg6 harg6 arg7 harg7 arg8 harg8 arg9 harg9 arg10 harg10 T0 T1 x0 x1 x2 x3 x4 xa0 xa1 xa2 xa3 hc0 hc1 k0_h3).1) (ix2 ⟨256 + r.val, by omega⟩ 0)) (at1 ((kernelRun0_D c i arg5 harg5 arg6 harg6 arg7 harg7 arg8 harg8 arg9 harg9 arg10 harg10 T0 T1 x0 x1 x2 x3 x4 xa0 xa1 xa2 xa3 hc0 hc1 k0_h3).2.1) (ix2 ⟨256 + r.val, by omega⟩ 0))
      (fun d => at2 ((kernelRun0_D c i arg5 harg5 arg6 harg6 arg7 harg7 arg8 harg8 arg9 harg9 arg10 harg10 T0 T1 x0 x1 x2 x3 x4 xa0 xa1 xa2 xa3 hc0 hc1 k0_h3).2.2.1) (ix2 ⟨256 + r.val, by omega⟩ d)) := by
  unfold kernelRun0_D
  dsimp only
  refine Step.of_eq (full1 (View.readAt (Elt Ideal) (View.whole cc0_scratch3) (Rect.unit (s := S1024x1) ![256, 0] S256x1.size inb_S1024x1_S256x1_256_0).toLoadRect xa3) (View.readAt (Elt Ideal) (View.whole cc0_scratch0) (Rect.unit (s := S1024x1) ![256, 0] S256x1.size inb_S1024x1_S256x1_256_0).toLoadRect xa0) (View.readAt (Elt Ideal) (View.whole cc0_scratch1) (Rect.unit (s := S1024x1) ![256, 0] S256x1.size inb_S1024x1_S256x1_256_0).toLoadRect xa1) (View.readAt (Elt Ideal) (View.whole cc0_scratch2) (Rect.unit (s := S1024x128) ![256, 0] S256x128.size inb_S1024x128_S256x128_256_0).toLoadRect xa2) (View.readAt (Elt Ideal) arg5.view (Rect.unit (s := S1024x128) ![256, 0] S256x128.size inb_S1024x128_S256x128_256_0).toLoadRect (arg5.view.rep x0)) r (View.readAt (Elt Ideal) arg6.view (Rect.unit (s := S1024x128) ![0, 0] S1024x128.size inb_S1024x128_S1024x128_0_0).toLoadRect (arg6.view.rep x1)) (View.readAt (Elt Ideal) arg7.view (Rect.unit (s := S1024x128) ![0, 0] S1024x128.size inb_S1024x128_S1024x128_0_0).toLoadRect (arg7.view.rep x2)) (View.readAt (Elt Ideal) arg9.view (Rect.unit (s := S1x1x1x1024) ![0, 0, 0, 0] S1x1x1x1024.size inb_S1x1x1x1024_S1x1x1x1024_0_0_0_0).toLoadRect (arg9.view.rep x4))) ?h0 ?h1 ?h2 ?h3 ?h4 ?h5 ?h6 ?h7 ?h8
  case h0 => exact (four0 _ _ _ _ _ _ _ _ _ _ r 0).2.1
  case h1 => exact (four1 _ _ _ _ _ _ _ _ _ _ r 0).2.1
  case h2 => intro d; exact (four2 _ _ _ _ _ _ _ _ _ _ r d).2.1
  case h3 => intro s; exact (score_load 1024 256 (by decide) arg5 arg6 arg9 x0 x1 x4 _ _ _ r (by omega) s)
  case h4 => exact congrArg (κ₂ * ·) (load3 xa3 256 _ r 0 (by omega))
  case h5 => intro s d; exact load_v 1024 (by decide) arg7 x2 _ s d
  case h6 => exact load0 xa0 256 _ r 0 (by omega)
  case h7 => exact load1 xa1 256 _ r 0 (by omega)
  case h8 => intro d; exact load2 xa2 256 _ r d (by omega)

theorem stepD2 (r : Fin 256) :
    Step (fun s => tscore x0 x1 x4 ⟨512 + r.val, by omega⟩ s) (κ₂ * at3 xa3 (ix2 ⟨512 + r.val, by omega⟩ 0))
      (fun s d => x2 (ix2 s d)) (at0 xa0 (ix2 ⟨512 + r.val, by omega⟩ 0)) (at1 xa1 (ix2 ⟨512 + r.val, by omega⟩ 0)) (fun d => at2 xa2 (ix2 ⟨512 + r.val, by omega⟩ d))
      (at0 ((kernelRun0_D c i arg5 harg5 arg6 harg6 arg7 harg7 arg8 harg8 arg9 harg9 arg10 harg10 T0 T1 x0 x1 x2 x3 x4 xa0 xa1 xa2 xa3 hc0 hc1 k0_h3).1) (ix2 ⟨512 + r.val, by omega⟩ 0)) (at1 ((kernelRun0_D c i arg5 harg5 arg6 harg6 arg7 harg7 arg8 harg8 arg9 harg9 arg10 harg10 T0 T1 x0 x1 x2 x3 x4 xa0 xa1 xa2 xa3 hc0 hc1 k0_h3).2.1) (ix2 ⟨512 + r.val, by omega⟩ 0))
      (fun d => at2 ((kernelRun0_D c i arg5 harg5 arg6 harg6 arg7 harg7 arg8 harg8 arg9 harg9 arg10 harg10 T0 T1 x0 x1 x2 x3 x4 xa0 xa1 xa2 xa3 hc0 hc1 k0_h3).2.2.1) (ix2 ⟨512 + r.val, by omega⟩ d)) := by
  unfold kernelRun0_D
  dsimp only
  refine Step.of_eq (full2 (View.readAt (Elt Ideal) (View.whole cc0_scratch3) (Rect.unit (s := S1024x1) ![512, 0] S256x1.size inb_S1024x1_S256x1_512_0).toLoadRect xa3) (View.readAt (Elt Ideal) (View.whole cc0_scratch0) (Rect.unit (s := S1024x1) ![512, 0] S256x1.size inb_S1024x1_S256x1_512_0).toLoadRect xa0) (View.readAt (Elt Ideal) (View.whole cc0_scratch1) (Rect.unit (s := S1024x1) ![512, 0] S256x1.size inb_S1024x1_S256x1_512_0).toLoadRect xa1) (View.readAt (Elt Ideal) (View.whole cc0_scratch2) (Rect.unit (s := S1024x128) ![512, 0] S256x128.size inb_S1024x128_S256x128_512_0).toLoadRect xa2) (View.readAt (Elt Ideal) arg5.view (Rect.unit (s := S1024x128) ![512, 0] S256x128.size inb_S1024x128_S256x128_512_0).toLoadRect (arg5.view.rep x0)) r (View.readAt (Elt Ideal) arg6.view (Rect.unit (s := S1024x128) ![0, 0] S1024x128.size inb_S1024x128_S1024x128_0_0).toLoadRect (arg6.view.rep x1)) (View.readAt (Elt Ideal) arg7.view (Rect.unit (s := S1024x128) ![0, 0] S1024x128.size inb_S1024x128_S1024x128_0_0).toLoadRect (arg7.view.rep x2)) (View.readAt (Elt Ideal) arg9.view (Rect.unit (s := S1x1x1x1024) ![0, 0, 0, 0] S1x1x1x1024.size inb_S1x1x1x1024_S1x1x1x1024_0_0_0_0).toLoadRect (arg9.view.rep x4))) ?h0 ?h1 ?h2 ?h3 ?h4 ?h5 ?h6 ?h7 ?h8
  case h0 => exact (four0 _ _ _ _ _ _ _ _ _ _ r 0).2.2.1
  case h1 => exact (four1 _ _ _ _ _ _ _ _ _ _ r 0).2.2.1
  case h2 => intro d; exact (four2 _ _ _ _ _ _ _ _ _ _ r d).2.2.1
  case h3 => intro s; exact (score_load 1024 512 (by decide) arg5 arg6 arg9 x0 x1 x4 _ _ _ r (by omega) s)
  case h4 => exact congrArg (κ₂ * ·) (load3 xa3 512 _ r 0 (by omega))
  case h5 => intro s d; exact load_v 1024 (by decide) arg7 x2 _ s d
  case h6 => exact load0 xa0 512 _ r 0 (by omega)
  case h7 => exact load1 xa1 512 _ r 0 (by omega)
  case h8 => intro d; exact load2 xa2 512 _ r d (by omega)

theorem stepD3 (r : Fin 256) :
    Step (fun s => tscore x0 x1 x4 ⟨768 + r.val, by omega⟩ s) (κ₂ * at3 xa3 (ix2 ⟨768 + r.val, by omega⟩ 0))
      (fun s d => x2 (ix2 s d)) (at0 xa0 (ix2 ⟨768 + r.val, by omega⟩ 0)) (at1 xa1 (ix2 ⟨768 + r.val, by omega⟩ 0)) (fun d => at2 xa2 (ix2 ⟨768 + r.val, by omega⟩ d))
      (at0 ((kernelRun0_D c i arg5 harg5 arg6 harg6 arg7 harg7 arg8 harg8 arg9 harg9 arg10 harg10 T0 T1 x0 x1 x2 x3 x4 xa0 xa1 xa2 xa3 hc0 hc1 k0_h3).1) (ix2 ⟨768 + r.val, by omega⟩ 0)) (at1 ((kernelRun0_D c i arg5 harg5 arg6 harg6 arg7 harg7 arg8 harg8 arg9 harg9 arg10 harg10 T0 T1 x0 x1 x2 x3 x4 xa0 xa1 xa2 xa3 hc0 hc1 k0_h3).2.1) (ix2 ⟨768 + r.val, by omega⟩ 0))
      (fun d => at2 ((kernelRun0_D c i arg5 harg5 arg6 harg6 arg7 harg7 arg8 harg8 arg9 harg9 arg10 harg10 T0 T1 x0 x1 x2 x3 x4 xa0 xa1 xa2 xa3 hc0 hc1 k0_h3).2.2.1) (ix2 ⟨768 + r.val, by omega⟩ d)) := by
  unfold kernelRun0_D
  dsimp only
  refine Step.of_eq (full3 (View.readAt (Elt Ideal) (View.whole cc0_scratch3) (Rect.unit (s := S1024x1) ![768, 0] S256x1.size inb_S1024x1_S256x1_768_0).toLoadRect xa3) (View.readAt (Elt Ideal) (View.whole cc0_scratch0) (Rect.unit (s := S1024x1) ![768, 0] S256x1.size inb_S1024x1_S256x1_768_0).toLoadRect xa0) (View.readAt (Elt Ideal) (View.whole cc0_scratch1) (Rect.unit (s := S1024x1) ![768, 0] S256x1.size inb_S1024x1_S256x1_768_0).toLoadRect xa1) (View.readAt (Elt Ideal) (View.whole cc0_scratch2) (Rect.unit (s := S1024x128) ![768, 0] S256x128.size inb_S1024x128_S256x128_768_0).toLoadRect xa2) (View.readAt (Elt Ideal) arg5.view (Rect.unit (s := S1024x128) ![768, 0] S256x128.size inb_S1024x128_S256x128_768_0).toLoadRect (arg5.view.rep x0)) r (View.readAt (Elt Ideal) arg6.view (Rect.unit (s := S1024x128) ![0, 0] S1024x128.size inb_S1024x128_S1024x128_0_0).toLoadRect (arg6.view.rep x1)) (View.readAt (Elt Ideal) arg7.view (Rect.unit (s := S1024x128) ![0, 0] S1024x128.size inb_S1024x128_S1024x128_0_0).toLoadRect (arg7.view.rep x2)) (View.readAt (Elt Ideal) arg9.view (Rect.unit (s := S1x1x1x1024) ![0, 0, 0, 0] S1x1x1x1024.size inb_S1x1x1x1024_S1x1x1x1024_0_0_0_0).toLoadRect (arg9.view.rep x4))) ?h0 ?h1 ?h2 ?h3 ?h4 ?h5 ?h6 ?h7 ?h8
  case h0 => exact (four0 _ _ _ _ _ _ _ _ _ _ r 0).2.2.2
  case h1 => exact (four1 _ _ _ _ _ _ _ _ _ _ r 0).2.2.2
  case h2 => intro d; exact (four2 _ _ _ _ _ _ _ _ _ _ r d).2.2.2
  case h3 => intro s; exact (score_load 1024 768 (by decide) arg5 arg6 arg9 x0 x1 x4 _ _ _ r (by omega) s)
  case h4 => exact congrArg (κ₂ * ·) (load3 xa3 768 _ r 0 (by omega))
  case h5 => intro s d; exact load_v 1024 (by decide) arg7 x2 _ s d
  case h6 => exact load0 xa0 768 _ r 0 (by omega)
  case h7 => exact load1 xa1 768 _ r 0 (by omega)
  case h8 => intro d; exact load2 xa2 768 _ r d (by omega)

/-- Every row takes the whole block of keys. -/
theorem stepD (y : Fin 1024) : Step (fun s => tscore x0 x1 x4 y s) (κ₂ * at3 xa3 (ix2 y 0))
      (fun s d => x2 (ix2 s d)) (at0 xa0 (ix2 y 0)) (at1 xa1 (ix2 y 0)) (fun d => at2 xa2 (ix2 y d))
      (at0 ((kernelRun0_D c i arg5 harg5 arg6 harg6 arg7 harg7 arg8 harg8 arg9 harg9 arg10 harg10 T0 T1 x0 x1 x2 x3 x4 xa0 xa1 xa2 xa3 hc0 hc1 k0_h3).1) (ix2 y 0)) (at1 ((kernelRun0_D c i arg5 harg5 arg6 harg6 arg7 harg7 arg8 harg8 arg9 harg9 arg10 harg10 T0 T1 x0 x1 x2 x3 x4 xa0 xa1 xa2 xa3 hc0 hc1 k0_h3).2.1) (ix2 y 0))
      (fun d => at2 ((kernelRun0_D c i arg5 harg5 arg6 harg6 arg7 harg7 arg8 harg8 arg9 harg9 arg10 harg10 T0 T1 x0 x1 x2 x3 x4 xa0 xa1 xa2 xa3 hc0 hc1 k0_h3).2.2.1) (ix2 y d)) := by
  revert y
  exact row_cases (stepD0 c i arg5 harg5 arg6 harg6 arg7 harg7 arg8 harg8 arg9 harg9 arg10 harg10 T0 T1 x0 x1 x2 x3 x4 xa0 xa1 xa2 xa3 hc0 hc1 k0_h3) (stepD1 c i arg5 harg5 arg6 harg6 arg7 harg7 arg8 harg8 arg9 harg9 arg10 harg10 T0 T1 x0 x1 x2 x3 x4 xa0 xa1 xa2 xa3 hc0 hc1 k0_h3) (stepD2 c i arg5 harg5 arg6 harg6 arg7 harg7 arg8 harg8 arg9 harg9 arg10 harg10 T0 T1 x0 x1 x2 x3 x4 xa0 xa1 xa2 xa3 hc0 hc1 k0_h3) (stepD3 c i arg5 harg5 arg6 harg6 arg7 harg7 arg8 harg8 arg9 harg9 arg10 harg10 T0 T1 x0 x1 x2 x3 x4 xa0 xa1 xa2 xa3 hc0 hc1 k0_h3)

theorem keepD : (kernelRun0_D c i arg5 harg5 arg6 harg6 arg7 harg7 arg8 harg8 arg9 harg9 arg10 harg10 T0 T1 x0 x1 x2 x3 x4 xa0 xa1 xa2 xa3 hc0 hc1 k0_h3).2.2.2.1 = xa3 := by
  unfold kernelRun0_D
  rfl

end

end Cert.Paths

end
-- ==== Proof.Grid.lean ====
/- The 160 grid points: which block of which array each window holds at a point, the first and last key block of a query
   block, and the lane the body keeps of the running log forget gates. -/
module

public import proofs.«01_k».proof.Proof.Loads
public import proofs.«01_k».proof.Proof.Gen.KernelIdeal.Flash
public import Idealize.ShloMosaic.Lib.Pipeline.Value
public import Idealize.ShloMosaic.Lib.Pipeline.ValueKit

@[expose] public section

set_option maxRecDepth 16384

noncomputable section

namespace Cert.Grid

open Cert.KernelIdeal Cert.KernelIdeal.Gen
open Idealize.ShloMosaic Idealize.ShloMosaic.TcCoe
open scoped BigOperators

/-- The query block and the key block of the pair at position `t`. -/
def qi (t : ℕ) : ℕ := ([0, 1, 1, 2, 2, 2, 3, 3, 3, 3] : List ℕ).getD (t % 10) 0
def kj (t : ℕ) : ℕ := ([0, 0, 1, 0, 1, 2, 0, 1, 2, 3] : List ℕ).getD (t % 10) 0

theorem N_eq : ∀ ch : Fin 1, (cfgA ch).N = 160 := by decide +kernel

theorem qi_kj : ∀ t : Fin 160, qi t.val < 4 ∧ kj t.val ≤ qi t.val ∧ (t.val % 10 = 0 → qi t.val = 0 ∧ kj t.val = 0)
    ∧ (kj t.val ≠ 0 → t.val ≠ 0 ∧ (t.val - 1) / 80 = t.val / 80 ∧ (t.val - 1) / 10 % 8 = t.val / 10 % 8
      ∧ qi (t.val - 1) = qi t.val ∧ kj (t.val - 1) + 1 = kj t.val) := by decide +kernel

theorem first : ∀ (ch : Fin 1) (t : Fin (cfgA ch).N), P0_0 ch t ↔ kj t.val = 0 := by decide +kernel
theorem below : ∀ (ch : Fin 1) (t : Fin (cfgA ch).N), P0_1 ch t ↔ kj t.val ≠ qi t.val := by decide +kernel
theorem head_eq : ∀ (ch : Fin 1) (t : Fin (cfgA ch).N), (crd ch t 1).val = t.val / 10 % 8 := by decide +kernel

theorem at_q : ∀ (ch : Fin 1) (t : Fin (cfgA ch).N), ((cfgA ch).win (0 : Fin 6)).index t (0 : Fin 2) = t.val / 80 * 4 + qi t.val
    ∧ ((cfgA ch).win (0 : Fin 6)).index t (1 : Fin 2) = t.val / 10 % 8 := by decide +kernel
theorem at_k : ∀ (ch : Fin 1) (t : Fin (cfgA ch).N), ((cfgA ch).win (1 : Fin 6)).index t (0 : Fin 2) = t.val / 80 * 4 + kj t.val
    ∧ ((cfgA ch).win (1 : Fin 6)).index t (1 : Fin 2) = t.val / 10 % 8 := by decide +kernel
theorem at_v : ∀ (ch : Fin 1) (t : Fin (cfgA ch).N), ((cfgA ch).win (2 : Fin 6)).index t (0 : Fin 2) = t.val / 80 * 4 + kj t.val
    ∧ ((cfgA ch).win (2 : Fin 6)).index t (1 : Fin 2) = t.val / 10 % 8 := by decide +kernel
theorem at_ct : ∀ (ch : Fin 1) (t : Fin (cfgA ch).N), ((cfgA ch).win (3 : Fin 6)).index t (0 : Fin 2) = t.val / 80 * 4 + qi t.val
    ∧ ((cfgA ch).win (3 : Fin 6)).index t (1 : Fin 2) = 0 := by decide +kernel
theorem at_cr : ∀ (ch : Fin 1) (t : Fin (cfgA ch).N), ((cfgA ch).win (4 : Fin 6)).index t (0 : Fin 4) = t.val / 80
    ∧ ((cfgA ch).win (4 : Fin 6)).index t (1 : Fin 4) = t.val / 10 % 8 ∧ ((cfgA ch).win (4 : Fin 6)).index t (2 : Fin 4) = 0
    ∧ ((cfgA ch).win (4 : Fin 6)).index t (3 : Fin 4) = kj t.val := by decide +kernel
theorem at_o : ∀ (ch : Fin 1) (t : Fin (cfgA ch).N), ((cfgA ch).win (5 : Fin 6)).index t (0 : Fin 2) = t.val / 80 * 4 + qi t.val
    ∧ ((cfgA ch).win (5 : Fin 6)).index t (1 : Fin 2) = t.val / 10 % 8 := by decide +kernel

variable (ch : Fin 1) (m : (ℓ : Loc nD τ sig) → Buf (Elt Ideal) ℓ) (ρ : Dev nD → PrngReg) (c : Dev nD)

/-- The argument arrays. -/
abbrev Q : S8192x1024.Idx → EReal := m ((c : Thread nD τ).loc main_arg2)
abbrev K : S8192x1024.Idx → EReal := m ((c : Thread nD τ).loc main_arg3)
abbrev V : S8192x1024.Idx → EReal := m ((c : Thread nD τ).loc main_arg4)
abbrev CT : S8192x128.Idx → EReal := m ((c : Thread nD τ).loc main_arg5)
abbrev CR : S2x8x1x4096.Idx → EReal := m ((c : Thread nD τ).loc main_arg6)

theorem blk_q (t : Fin (cfgA ch).N) (y : Fin 1024) (d : Fin 128) (R : Fin 8192) (C : Fin 1024)
    (hR : R.val = (t.val / 80 * 4 + qi t.val) * 1024 + y.val) (hC : C.val = t.val / 10 % 8 * 128 + d.val) :
    (iblk ch m ρ c (0 : Fin 6) t : S1024x128.Idx → EReal) (ix2 y d) = Q m c (ix2 R C) := by
  have hi := at_q ch t
  unfold iblk
  rw [View.read_apply]
  refine congrArg (Q m c) (funext fun a => Fin.ext ?_)
  match a with
  | ⟨0, _⟩ => show ((cfgA ch).win (0 : Fin 6)).index t 0 * 1024 + 1 * y.val = R.val; rw [hi.1]; omega
  | ⟨1, _⟩ => show ((cfgA ch).win (0 : Fin 6)).index t 1 * 128 + 1 * d.val = C.val; rw [hi.2]; omega

theorem blk_k (t : Fin (cfgA ch).N) (y : Fin 1024) (d : Fin 128) (R : Fin 8192) (C : Fin 1024)
    (hR : R.val = (t.val / 80 * 4 + kj t.val) * 1024 + y.val) (hC : C.val = t.val / 10 % 8 * 128 + d.val) :
    (iblk ch m ρ c (1 : Fin 6) t : S1024x128.Idx → EReal) (ix2 y d) = K m c (ix2 R C) := by
  have hi := at_k ch t
  unfold iblk
  rw [View.read_apply]
  refine congrArg (K m c) (funext fun a => Fin.ext ?_)
  match a with
  | ⟨0, _⟩ => show ((cfgA ch).win (1 : Fin 6)).index t 0 * 1024 + 1 * y.val = R.val; rw [hi.1]; omega
  | ⟨1, _⟩ => show ((cfgA ch).win (1 : Fin 6)).index t 1 * 128 + 1 * d.val = C.val; rw [hi.2]; omega

theorem blk_v (t : Fin (cfgA ch).N) (y : Fin 1024) (d : Fin 128) (R : Fin 8192) (C : Fin 1024)
    (hR : R.val = (t.val / 80 * 4 + kj t.val) * 1024 + y.val) (hC : C.val = t.val / 10 % 8 * 128 + d.val) :
    (iblk ch m ρ c (2 : Fin 6) t : S1024x128.Idx → EReal) (ix2 y d) = V m c (ix2 R C) := by
  have hi := at_v ch t
  unfold iblk
  rw [View.read_apply]
  refine congrArg (V m c) (funext fun a => Fin.ext ?_)
  match a with
  | ⟨0, _⟩ => show ((cfgA ch).win (2 : Fin 6)).index t 0 * 1024 + 1 * y.val = R.val; rw [hi.1]; omega
  | ⟨1, _⟩ => show ((cfgA ch).win (2 : Fin 6)).index t 1 * 128 + 1 * d.val = C.val; rw [hi.2]; omega

theorem blk_ct (t : Fin (cfgA ch).N) (y : Fin 1024) (e : Fin 128) (R : Fin 8192)
    (hR : R.val = (t.val / 80 * 4 + qi t.val) * 1024 + y.val) :
    (iblk ch m ρ c (3 : Fin 6) t : S1024x128.Idx → EReal) (ix2 y e) = CT m c (ix2 R e) := by
  have hi := at_ct ch t
  unfold iblk
  rw [View.read_apply]
  refine congrArg (CT m c) (funext fun a => Fin.ext ?_)
  match a with
  | ⟨0, _⟩ => show ((cfgA ch).win (3 : Fin 6)).index t 0 * 1024 + 1 * y.val = R.val; rw [hi.1]; omega
  | ⟨1, _⟩ => show ((cfgA ch).win (3 : Fin 6)).index t 1 * 128 + 1 * e.val = e.val; rw [hi.2]; omega

theorem blk_cr (t : Fin (cfgA ch).N) (s : Fin 1024) (b : Fin 2) (h : Fin 8) (S : Fin 4096)
    (hb : b.val = t.val / 80) (hh : h.val = t.val / 10 % 8) (hS : S.val = kj t.val * 1024 + s.val) :
    (iblk ch m ρ c (4 : Fin 6) t : S1x1x1x1024.Idx → EReal) (ix4 0 0 0 s) = CR m c (ix4 b h 0 S) := by
  have hi := at_cr ch t
  unfold iblk
  rw [View.read_apply]
  refine congrArg (CR m c) (funext fun a => Fin.ext ?_)
  match a with
  | ⟨0, _⟩ => show ((cfgA ch).win (4 : Fin 6)).index t 0 * 1 + 1 * 0 = b.val; rw [hi.1]; omega
  | ⟨1, _⟩ => show ((cfgA ch).win (4 : Fin 6)).index t 1 * 1 + 1 * 0 = h.val; rw [hi.2.1]; omega
  | ⟨2, _⟩ => show ((cfgA ch).win (4 : Fin 6)).index t 2 * 1 + 1 * 0 = 0; rw [hi.2.2.1]
  | ⟨3, _⟩ => show ((cfgA ch).win (4 : Fin 6)).index t 3 * 1024 + 1 * s.val = S.val; rw [hi.2.2.2]; omega

/-- The lane kept: lane `e` of a row, picked by comparing the lane numbers with the head. -/
theorem pick (i : grid0.Coords) (x : S1024x128.Idx → EReal) (y : Fin 1024) (e : Fin 128) (he : e.val = (i 1).val) :
    (k0_pay4 (F := Ideal) i x : S1024x1.Idx → EReal) (ix2 y 0) = x (ix2 y e) := by
  have key : (k0_pay4 (F := Ideal) i x : S1024x1.Idx → EReal) (ix2 y 0)
      = ∑ l : Fin 128, if l = e then x (ix2 y l) else 0 := by
    pointwise [k0_pay4]
    refine Finset.sum_congr rfl fun l _ => ?_
    have hl : l.val < 2 ^ 32 := by omega
    have hi : (i 1).val < 2 ^ 32 := by omega
    have eb : (BitVec.ofNat 32 l.val == BitVec.ofNat 32 (i 1).val) = decide (l = e) := by
      rw [beq_eq_decide]
      refine decide_eq_decide.mpr ⟨fun h => Fin.ext ?_, fun h => by rw [h, he]⟩
      have h' := congrArg BitVec.toNat h
      rw [BitVec.toNat_ofNat, BitVec.toNat_ofNat, Nat.mod_eq_of_lt hl, Nat.mod_eq_of_lt hi] at h'
      omega
    unfold Scalar.select IntOp.cmpi
    simp only [eb]
    by_cases h : l = e <;> simp [h]
  rw [key, Finset.sum_ite_eq']
  simp

end Cert.Grid

end
-- ==== Proof.Traj.lean ====
/- The kernel's running maximum, sum and accumulator from grid point to grid point, and the output blocks. -/
module

public import proofs.«01_k».proof.Proof.PathA
public import proofs.«01_k».proof.Proof.PathB
public import proofs.«01_k».proof.Proof.PathC
public import proofs.«01_k».proof.Proof.PathD
public import proofs.«01_k».proof.Proof.Grid
public import proofs.«01_k».proof.Proof.Terms

@[expose] public section

set_option maxRecDepth 16384

noncomputable section

namespace Cert.Traj

open Cert.KernelIdeal Cert.KernelIdeal.Gen Cert.Grid Cert.Terms Cert.Online Cert.Paths Cert.Blocks
open Idealize.ShloMosaic Idealize.ShloMosaic.TcCoe
open scoped BigOperators

variable (ch : Fin 1) (m : (ℓ : Loc nD τ sig) → Buf (Elt Ideal) ℓ) (ρ : Dev nD → PrngReg) (c : Dev nD)
variable (q k : S8192x1024.Idx → ℝ) (ct : S8192x128.Idx → ℝ) (cr : S2x8x1x4096.Idx → ℝ)

/-- The entries the scores are made of are these real numbers. -/
structure Reals : Prop where
  q : ∀ i, Q m c i = (q i : EReal)
  k : ∀ i, K m c i = (k i : EReal)
  ct : ∀ (R : Fin 8192) (h : Fin 8), CT m c (ix2 R (gl h)) = (ct (ix2 R (gl h)) : EReal)
  cr : ∀ i, CR m c i = (cr i : EReal)

/-- The sequence and the head of a point, the row of a query and the position of a key of its blocks. -/
def sq (t : ℕ) : Fin 2 := ⟨t / 80 % 2, Nat.mod_lt _ (by decide)⟩
def hd (t : ℕ) : Fin 8 := ⟨t / 10 % 8, Nat.mod_lt _ (by decide)⟩
def row (t : ℕ) (y : Fin 1024) : Fin 4096 := ⟨qi t % 4 * 1024 + y.val, by omega⟩
def key (t : ℕ) (s : Fin 1024) : Fin 4096 := ⟨kj t % 4 * 1024 + s.val, by omega⟩

theorem bounds (t : Fin (cfgA ch).N) : t.val < 160 ∧ qi t.val < 4 ∧ kj t.val ≤ qi t.val ∧ (t.val % 10 = 0 → qi t.val = 0 ∧ kj t.val = 0)
    ∧ (kj t.val ≠ 0 → t.val ≠ 0 ∧ (t.val - 1) / 80 = t.val / 80 ∧ (t.val - 1) / 10 % 8 = t.val / 10 % 8
      ∧ qi (t.val - 1) = qi t.val ∧ kj (t.val - 1) + 1 = kj t.val) := by
  have h : t.val < 160 := lt_of_lt_of_eq t.isLt (N_eq ch)
  exact ⟨h, qi_kj ⟨t.val, h⟩⟩

variable {m c q k ct cr}

/-- A key's score against a query, read in the arrays. -/
theorem score_eq (hr : Reals m c q k ct cr) (t : Fin (cfgA ch).N) (y s : Fin 1024) :
    tscore (iblk ch m ρ c (0 : Fin 6) t) (iblk ch m ρ c (1 : Fin 6) t) (iblk ch m ρ c (4 : Fin 6) t) y s
      = (lin q k cr (sq t.val) (hd t.val) (row t.val y) (key t.val s) : EReal) := by
  obtain ⟨h1, h2, h3, -⟩ := bounds ch t
  unfold tscore lin
  rw [blk_cr ch m ρ c t s (sq t.val) (hd t.val) (key t.val s) (by unfold sq; dsimp only; omega) rfl
    (by unfold key; dsimp only; omega), hr.cr]
  rw [Finset.sum_congr rfl fun d _ => congrArg₂ (fun x y : EReal => x * y)
    ((blk_q ch m ρ c t y d (gr (sq t.val) (row t.val y)) (gc (hd t.val) d)
      (by unfold gr sq row; dsimp only; omega) rfl).trans (hr.q _))
    ((blk_k ch m ρ c t s d (gr (sq t.val) (key t.val s)) (gc (hd t.val) d)
      (by unfold gr sq key; dsimp only; omega) rfl).trans (hr.k _))]
  simp only [← EReal.coe_mul, coe_sum, ← EReal.coe_sub]

theorem val_eq (t : Fin (cfgA ch).N) (s : Fin 1024) (d : Fin 128) :
    (iblk ch m ρ c (2 : Fin 6) t : S1024x128.Idx → EReal) (ix2 s d) = Grid.V m c (ix2 (gr (sq t.val) (key t.val s)) (gc (hd t.val) d)) := by
  obtain ⟨h1, h2, h3, -⟩ := bounds ch t
  exact blk_v ch m ρ c t s d _ _ (by unfold gr sq key; dsimp only; omega) rfl

/-- The query's own running log forget gate, as the body keeps it. -/
theorem own_eq (t : Fin (cfgA ch).N) (y : Fin 1024) :
    (k0_pay4 (F := Ideal) (crd ch t) (iblk ch m ρ c (3 : Fin 6) t) : S1024x1.Idx → EReal) (ix2 y 0)
      = CT m c (ix2 (gr (sq t.val) (row t.val y)) (gl (hd t.val))) := by
  obtain ⟨h1, h2, h3, -⟩ := bounds ch t
  rw [pick (crd ch t) _ y (gl (hd t.val)) (by rw [head_eq]; rfl)]
  exact blk_ct ch m ρ c t y _ _ (by unfold gr sq row; dsimp only; omega)

/-- What is carried: the invariant of the query's row after the first `B` keys, and its own addend. -/
def Carry (m : (ℓ : Loc nD τ sig) → Buf (Elt Ideal) ℓ) (c : Dev nD) (q k : S8192x1024.Idx → ℝ) (ct : S8192x128.Idx → ℝ)
    (cr : S2x8x1x4096.Idx → ℝ) (t : ℕ) (y : Fin 1024) (M L : EReal) (a : Fin 128 → EReal) (B : ℕ) : Prop :=
  Inv (wt q k ct cr (sq t) (hd t) (row t y)) (vl (Grid.V m c) (sq t) (hd t)) M L a B

/-- A block of keys all before the query. -/
theorem full (hr : Reals m c q k ct cr) (t : Fin (cfgA ch).N) (hk : kj t.val ≠ qi t.val) (y : Fin 1024) {cq M L M' L' : EReal} {a a' : Fin 128 → EReal}
    (hcq : cq = CT m c (ix2 (gr (sq t.val) (row t.val y)) (gl (hd t.val))))
    (st : Step (fun s => tscore (iblk ch m ρ c (0 : Fin 6) t) (iblk ch m ρ c (1 : Fin 6) t) (iblk ch m ρ c (4 : Fin 6) t) y s) (κ₂ * cq)
      (fun s d => (iblk ch m ρ c (2 : Fin 6) t : S1024x128.Idx → EReal) (ix2 s d)) M L a M' L' a')
    (hi : Carry m c q k ct cr t.val y M L a (1024 * kj t.val)) : Carry m c q k ct cr t.val y M' L' a' (1024 * (kj t.val + 1)) := by
  obtain ⟨h1, h2, h3, -⟩ := bounds ch t
  have hcq' : κ₂ * cq = (own ct (sq t.val) (hd t.val) (row t.val y) : EReal) := by rw [hcq, hr.ct, own, EReal.coe_mul]
  rw [hcq'] at st
  have hb : ∀ s : Fin 1024, 1024 * kj t.val + s.val = (key t.val s).val := fun s => by unfold key; dsimp only; omega
  have e : 1024 * (kj t.val + 1) = 1024 * kj t.val + 1024 := by omega
  rw [e]
  refine Inv.step hi (fun s => some (lin q k cr (sq t.val) (hd t.val) (row t.val y) (key t.val s))) (own ct (sq t.val) (hd t.val) (row t.val y))
    (fun s d => (iblk ch m ρ c (2 : Fin 6) t : S1024x128.Idx → EReal) (ix2 s d)) ?_ ?_ ?_ ?_ ?_
  · intro s
    rw [hb, wt, dif_pos (key t.val s).isLt, opt, if_pos (by unfold key row; dsimp only; omega)]
    rfl
  · intro s d
    rw [hb, vl, dif_pos (key t.val s).isLt, val_eq]
  · rw [st.max]
    simp only [score_eq ch ρ hr, Online.score]
  · rw [st.sum]
    simp only [score_eq ch ρ hr, Online.score]
  · intro d
    rw [st.acc d]
    simp only [score_eq ch ρ hr, Online.score]

/-- The query's own block of keys, of which the first `n` are taken. -/
theorem diag (hr : Reals m c q k ct cr) (t : Fin (cfgA ch).N) (hk : kj t.val = qi t.val) (y : Fin 1024) {cq M L M' L' : EReal} {a a' : Fin 128 → EReal}
    (hcq : cq = CT m c (ix2 (gr (sq t.val) (row t.val y)) (gl (hd t.val))))
    (st : ∃ (n : ℕ) (hn : n ≤ 1024), y.val < n ∧
      Step (fun s : Fin n => if s.val ≤ y.val then tscore (iblk ch m ρ c (0 : Fin 6) t) (iblk ch m ρ c (1 : Fin 6) t) (iblk ch m ρ c (4 : Fin 6) t) y (Fin.castLE hn s) else ⊥)
      (κ₂ * cq) (fun s d => (iblk ch m ρ c (2 : Fin 6) t : S1024x128.Idx → EReal) (ix2 (Fin.castLE hn s) d)) M L a M' L' a')
    (hi : Carry m c q k ct cr t.val y M L a (1024 * kj t.val)) : Carry m c q k ct cr t.val y M' L' a' 4096 := by
  obtain ⟨n, hn, hy, st⟩ := st
  obtain ⟨h1, h2, h3, -⟩ := bounds ch t
  have hcq' : κ₂ * cq = (own ct (sq t.val) (hd t.val) (row t.val y) : EReal) := by rw [hcq, hr.ct, own, EReal.coe_mul]
  rw [hcq'] at st
  have hb : ∀ s : Fin n, 1024 * kj t.val + s.val = (key t.val (Fin.castLE hn s)).val := fun s => by
    unfold key; simp only [Fin.val_castLE]; omega
  have hs : ∀ s : Fin n, (if s.val ≤ y.val then tscore (iblk ch m ρ c (0 : Fin 6) t) (iblk ch m ρ c (1 : Fin 6) t) (iblk ch m ρ c (4 : Fin 6) t) y (Fin.castLE hn s) else ⊥)
      = Online.score (if s.val ≤ y.val then some (lin q k cr (sq t.val) (hd t.val) (row t.val y) (key t.val (Fin.castLE hn s))) else none) := fun s => by
    rw [score_eq ch ρ hr]
    split <;> rfl
  refine Inv.extend (B := 1024 * kj t.val + n) (Inv.step hi (fun s : Fin n => if s.val ≤ y.val then some (lin q k cr (sq t.val) (hd t.val) (row t.val y) (key t.val (Fin.castLE hn s))) else none)
    (own ct (sq t.val) (hd t.val) (row t.val y))
    (fun s d => (iblk ch m ρ c (2 : Fin 6) t : S1024x128.Idx → EReal) (ix2 (Fin.castLE hn s) d)) ?_ ?_ ?_ ?_ ?_) (by omega) ?_
  · intro s
    rw [hb, wt, dif_pos (key t.val _).isLt, opt]
    by_cases h : s.val ≤ y.val
    · rw [if_pos h, if_pos (by unfold key row; simp only [Fin.val_castLE]; omega)]
      rfl
    · rw [if_neg h, if_neg (by unfold key row; simp only [Fin.val_castLE]; omega)]
      rfl
  · intro s d
    rw [hb, vl, dif_pos (key t.val _).isLt, val_eq]
  · rw [st.max]
    simp only [hs]
  · rw [st.sum]
    simp only [hs]
  · intro d
    rw [st.acc d]
    simp only [hs]
  · intro s h
    exact wt_late q k ct cr _ _ _ s (by unfold row; dsimp only; omega)

/-- Before a query block's first key block: a real maximum, and zeros. -/
theorem start (t : Fin (cfgA ch).N) (h0 : kj t.val = 0) (y : Fin 1024) :
    Carry m c q k ct cr t.val y (k0_pay1 (F := Ideal) (ix2 y 0)) (k0_pay2 (F := Ideal) (ix2 y 0)) (fun d => k0_pay3 (F := Ideal) (ix2 y d)) (1024 * kj t.val) := by
  obtain ⟨μ, hμ⟩ := Consts.start
  have e1 : (k0_pay1 (F := Ideal) : S1024x1.Idx → EReal) (ix2 y 0) = (μ : EReal) := by rw [← hμ]; pointwise [k0_pay1]
  have e2 : (k0_pay2 (F := Ideal) : S1024x1.Idx → EReal) (ix2 y 0) = 0 := by pointwise [k0_pay2]
  have e3 : ∀ d, (k0_pay3 (F := Ideal) : S1024x128.Idx → EReal) (ix2 y d) = 0 := fun d => by pointwise [k0_pay3]
  rw [e1, e2, show (fun d => (k0_pay3 (F := Ideal) : S1024x128.Idx → EReal) (ix2 y d)) = fun _ => 0 from funext e3, h0]
  exact Inv.init _ _ μ

/-- What a point leaves: before the query block's own key block the invariant and the addend, at it the output block. -/
def Good (ch : Fin 1) (m : (ℓ : Loc nD τ sig) → Buf (Elt Ideal) ℓ) (ρ : Dev nD → PrngReg) (c : Dev nD) (q k : S8192x1024.Idx → ℝ) (ct : S8192x128.Idx → ℝ)
    (cr : S2x8x1x4096.Idx → ℝ) (n : ℕ) (h : n < (cfgA ch).N) : Prop := ∀ y : Fin 1024,
  (kj n ≠ qi n →
    Carry m c q k ct cr n y (at0 (traj0 ch m ρ c n h).2.1 (ix2 y 0)) (at1 (traj0 ch m ρ c n h).2.2.1 (ix2 y 0))
      (fun d => at2 (traj0 ch m ρ c n h).2.2.2.1 (ix2 y d)) (1024 * (kj n + 1))
    ∧ at3 (traj0 ch m ρ c n h).2.2.2.2 (ix2 y 0) = CT m c (ix2 (gr (sq n) (row n y)) (gl (hd n))))
  ∧ (kj n = qi n → ∀ d, ((traj0 ch m ρ c n h).1 : S1024x128.Idx → EReal) (ix2 y d) = res q k ct cr (Grid.V m c) (sq n) (hd n) (row n y) d)

/-- The point before, when the query block has earlier key blocks: the same rows. -/
theorem before (t : Fin (cfgA ch).N) (h0 : kj t.val ≠ 0)
    (ih : ∀ n, n < t.val → ∀ h, Good ch m ρ c q k ct cr n h) (y : Fin 1024) :
    Carry m c q k ct cr t.val y (at0 (prev0 ch m ρ c t).2.1 (ix2 y 0)) (at1 (prev0 ch m ρ c t).2.2.1 (ix2 y 0))
      (fun d => at2 (prev0 ch m ρ c t).2.2.2.1 (ix2 y d)) (1024 * kj t.val)
    ∧ at3 (prev0 ch m ρ c t).2.2.2.2 (ix2 y 0) = CT m c (ix2 (gr (sq t.val) (row t.val y)) (gl (hd t.val))) := by
  obtain ⟨h1, h2, h3, -, h4⟩ := bounds ch t
  obtain ⟨hz, ha, hb, hq, hj⟩ := h4 h0
  have g := (ih (t.val - 1) (by omega) (by have := t.isLt; omega) y).1 (by omega)
  have es : sq (t.val - 1) = sq t.val := Fin.ext (by unfold sq; dsimp only; rw [ha])
  have eh : hd (t.val - 1) = hd t.val := Fin.ext hb
  have er : row (t.val - 1) y = row t.val y := Fin.ext (by unfold row; dsimp only; rw [hq])
  unfold Carry at g ⊢
  rw [es, eh, er, hj] at g
  unfold prev0
  rw [dif_neg hz]
  exact g

set_option maxHeartbeats 8000000 in
theorem pointA (hr : Reals m c q k ct cr) (t : Fin (cfgA ch).N) (q0 : P0_0 ch t) (q1 : ¬P0_1 ch t) :
    Good ch m ρ c q k ct cr t.val t.isLt := by
  intro y
  have e := (traj0_eq ch m ρ c t).trans (step0_A ch m ρ c t (prev0 ch m ρ c t) q0 q1)
  have hk : kj t.val = qi t.val := not_not.mp fun h => q1 ((below ch t).mpr h)
  have h0 : kj t.val = 0 := (first ch t).mp q0
  have s := diag ch ρ hr t hk y (own_eq ch ρ t y) (stepA c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1 y) (start ch t h0 y)
  refine ⟨fun h => absurd hk h, fun _ d => ?_⟩
  rw [e]
  exact (outA c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_A ch t q0 q1).1 (hypsR0_A ch t q0 q1).2.1 (hypsR0_A ch t q0 q1).2.2.1 y d).trans (quotient_res q k ct cr (Grid.V m c) (sq t.val) (hd t.val) (row t.val y) s d)

set_option maxHeartbeats 8000000 in
theorem pointB (hr : Reals m c q k ct cr) (t : Fin (cfgA ch).N) (q0 : P0_0 ch t) (q1 : P0_1 ch t) :
    Good ch m ρ c q k ct cr t.val t.isLt := by
  intro y
  have e := (traj0_eq ch m ρ c t).trans (step0_B ch m ρ c t (prev0 ch m ρ c t) q0 q1)
  have hk : kj t.val ≠ qi t.val := (below ch t).mp q1
  have h0 : kj t.val = 0 := (first ch t).mp q0
  have s := full ch ρ hr t hk y (own_eq ch ρ t y) (stepB c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_B ch t q0 q1).1 (hypsR0_B ch t q0 q1).2.1 (hypsR0_B ch t q0 q1).2.2.1 y) (start ch t h0 y)
  refine ⟨fun _ => ?_, fun h => absurd h hk⟩
  rw [e]
  exact ⟨s, (keepB c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (hypsR0_B ch t q0 q1).1 (hypsR0_B ch t q0 q1).2.1 (hypsR0_B ch t q0 q1).2.2.1 y).trans (own_eq ch ρ t y)⟩

set_option maxHeartbeats 8000000 in
theorem pointC (hr : Reals m c q k ct cr) (t : Fin (cfgA ch).N) (q0 : ¬P0_0 ch t) (q1 : ¬P0_1 ch t) (ih : ∀ n, n < t.val → ∀ h, Good ch m ρ c q k ct cr n h) :
    Good ch m ρ c q k ct cr t.val t.isLt := by
  intro y
  have e := (traj0_eq ch m ρ c t).trans (step0_C ch m ρ c t (prev0 ch m ρ c t) q0 q1)
  have hk : kj t.val = qi t.val := not_not.mp fun h => q1 ((below ch t).mpr h)
  have h0 : kj t.val ≠ 0 := fun h => q0 ((first ch t).mpr h)
  have b := before ch ρ t h0 ih y
  have s := diag ch ρ hr t hk y b.2 (stepC c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (prev0 ch m ρ c t).2.1 (prev0 ch m ρ c t).2.2.1 (prev0 ch m ρ c t).2.2.2.1 (prev0 ch m ρ c t).2.2.2.2 (hypsR0_C ch t q0 q1).1 (hypsR0_C ch t q0 q1).2.1 (hypsR0_C ch t q0 q1).2.2.1 y) b.1
  refine ⟨fun h => absurd hk h, fun _ d => ?_⟩
  rw [e]
  exact (outC c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (prev0 ch m ρ c t).2.1 (prev0 ch m ρ c t).2.2.1 (prev0 ch m ρ c t).2.2.2.1 (prev0 ch m ρ c t).2.2.2.2 (hypsR0_C ch t q0 q1).1 (hypsR0_C ch t q0 q1).2.1 (hypsR0_C ch t q0 q1).2.2.1 y d).trans (quotient_res q k ct cr (Grid.V m c) (sq t.val) (hd t.val) (row t.val y) s d)

set_option maxHeartbeats 8000000 in
theorem pointD (hr : Reals m c q k ct cr) (t : Fin (cfgA ch).N) (q0 : ¬P0_0 ch t) (q1 : P0_1 ch t) (ih : ∀ n, n < t.val → ∀ h, Good ch m ρ c q k ct cr n h) :
    Good ch m ρ c q k ct cr t.val t.isLt := by
  intro y
  have e := (traj0_eq ch m ρ c t).trans (step0_D ch m ρ c t (prev0 ch m ρ c t) q0 q1)
  have hk : kj t.val ≠ qi t.val := (below ch t).mp q1
  have h0 : kj t.val ≠ 0 := fun h => q0 ((first ch t).mpr h)
  have b := before ch ρ t h0 ih y
  have s := full ch ρ hr t hk y b.2 (stepD c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (prev0 ch m ρ c t).2.1 (prev0 ch m ρ c t).2.2.1 (prev0 ch m ρ c t).2.2.2.1 (prev0 ch m ρ c t).2.2.2.2 (hypsR0_D ch t q0 q1).1 (hypsR0_D ch t q0 q1).2.1 (hypsR0_D ch t q0 q1).2.2.1 y) b.1
  refine ⟨fun _ => ?_, fun h => absurd h hk⟩
  rw [e]
  exact ⟨s, (congrArg (fun f => at3 f (ix2 y 0)) (keepD c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (pinT_0 ch) (pinT_1 ch) (iblk ch m ρ c (0 : Fin 6) t) (iblk ch m ρ c (1 : Fin 6) t) (iblk ch m ρ c (2 : Fin 6) t) (iblk ch m ρ c (3 : Fin 6) t) (iblk ch m ρ c (4 : Fin 6) t) (prev0 ch m ρ c t).2.1 (prev0 ch m ρ c t).2.2.1 (prev0 ch m ρ c t).2.2.2.1 (prev0 ch m ρ c t).2.2.2.2 (hypsR0_D ch t q0 q1).1 (hypsR0_D ch t q0 q1).2.1 (hypsR0_D ch t q0 q1).2.2.1)).trans b.2⟩

/-- Every point is good. -/
theorem good (hr : Reals m c q k ct cr) : ∀ (n : ℕ) (h : n < (cfgA ch).N), Good ch m ρ c q k ct cr n h := by
  intro n
  induction n using Nat.strong_induction_on with
  | _ n ih =>
    intro h
    by_cases q0 : P0_0 ch ⟨n, h⟩
    · by_cases q1 : P0_1 ch ⟨n, h⟩
      · exact pointB ch ρ hr ⟨n, h⟩ q0 q1
      · exact pointA ch ρ hr ⟨n, h⟩ q0 q1
    · by_cases q1 : P0_1 ch ⟨n, h⟩
      · exact pointD ch ρ hr ⟨n, h⟩ q0 q1 ih
      · exact pointC ch ρ hr ⟨n, h⟩ q0 q1 ih

end Cert.Traj

end
-- ==== Proof.Value.lean ====
/- The kernel's result array: the weighted means, block by block. -/
module

public import proofs.«01_k».proof.Proof.Traj

@[expose] public section

set_option maxRecDepth 16384

noncomputable section

namespace Cert.Value

open Cert.KernelIdeal Cert.KernelIdeal.Gen Cert.Grid Cert.Terms Cert.Traj
open Idealize.ShloMosaic Idealize.ShloMosaic.TcCoe Idealize.SL.Sem
open Idealize.ShloMosaic.Pipeline (Dat)
open scoped BigOperators

/-- The weighted means, as the array of all rows and lanes. -/
def val (q k : S8192x1024.Idx → ℝ) (ct : S8192x128.Idx → ℝ) (cr : S2x8x1x4096.Idx → ℝ) (v : S8192x1024.Idx → EReal) : S8192x1024.Idx → EReal := fun i =>
  res q k ct cr v ⟨(i 0).val / 4096, by have := (i 0).isLt; change _ < 8192 at this; omega⟩ ⟨(i 1).val / 128, by have := (i 1).isLt; change _ < 1024 at this; omega⟩
    ⟨(i 0).val % 4096, Nat.mod_lt _ (by decide)⟩ ⟨(i 1).val % 128, Nat.mod_lt _ (by decide)⟩

theorem val_at (q k : S8192x1024.Idx → ℝ) (ct : S8192x128.Idx → ℝ) (cr : S2x8x1x4096.Idx → ℝ) (v : S8192x1024.Idx → EReal)
    (i : S8192x1024.Idx) (b : Fin 2) (h : Fin 8) (R : Fin 4096) (d : Fin 128)
    (h0 : (i 0).val = b.val * 4096 + R.val) (h1 : (i 1).val = h.val * 128 + d.val) : val q k ct cr v i = res q k ct cr v b h R d := by
  have hR := R.isLt
  have hd := d.isLt
  have eb : (⟨(i 0).val / 4096, by omega⟩ : Fin 2) = b := Fin.ext (by dsimp only; omega)
  have eh : (⟨(i 1).val / 128, by omega⟩ : Fin 8) = h := Fin.ext (by dsimp only; omega)
  have er : (⟨(i 0).val % 4096, Nat.mod_lt _ (by decide)⟩ : Fin 4096) = R := Fin.ext (by dsimp only; omega)
  have ed : (⟨(i 1).val % 128, Nat.mod_lt _ (by decide)⟩ : Fin 128) = d := Fin.ext (by dsimp only; omega)
  unfold val
  rw [eb, eh, er, ed]

variable (ch : Fin 1) (m : (ℓ : Loc nD τ sig) → Buf (Elt Ideal) ℓ) (ρ : Dev nD → PrngReg) (c : Dev nD)
variable {q k : S8192x1024.Idx → ℝ} {ct : S8192x128.Idx → ℝ} {cr : S2x8x1x4096.Idx → ℝ}

theorem flush_own (t : Fin (cfgA ch).N) (hf : ((cfgA ch).win (5 : Fin 6)).flush t = true) : kj t.val = qi t.val := by
  by_contra hk
  have q1 := (below ch t).mpr hk
  by_cases q0 : P0_0 ch t
  · rw [(sched0_B ch t q0 q1).2.1] at hf; exact Bool.noConfusion hf
  · rw [(sched0_D ch t q0 q1).2.1] at hf; exact Bool.noConfusion hf

theorem own_flush (t : Fin (cfgA ch).N) (hk : kj t.val = qi t.val) : ((cfgA ch).win (5 : Fin 6)).flush t = true := by
  have q1 : ¬P0_1 ch t := fun h => (below ch t).mp h hk
  by_cases q0 : P0_0 ch t
  · exact (sched0_A ch t q0 q1).2.1
  · exact (sched0_C ch t q0 q1).2.1

/-- An output block is written back whole, and where. -/
theorem cut_at (t : Fin (cfgA ch).N) (X : S1024x128.Idx → EReal) (y : Fin 1024) (d : Fin 128) :
    ((cfgA ch).win (5 : Fin 6)).cut ((cfgA ch).grid.coords t) X (ix2 y d : S1024x128.Idx) = X (ix2 y d) :=
  congrArg X (funext fun a => match a with | ⟨0, _⟩ => Fin.ext rfl | ⟨1, _⟩ => Fin.ext rfl)

theorem blk_o (t : Fin (cfgA ch).N) (f : S8192x1024.Idx → EReal) (y : Fin 1024) (d : Fin 128) (R : Fin 8192) (C : Fin 1024)
    (hR : R.val = (t.val / 80 * 4 + qi t.val) * 1024 + y.val) (hC : C.val = t.val / 10 % 8 * 128 + d.val) :
    (((cfgA ch).win (5 : Fin 6)).blk t).view.read (Elt Ideal) f (ix2 y d : S1024x128.Idx) = f (ix2 R C) := by
  have hi := at_o ch t
  rw [View.read_apply]
  refine congrArg f (funext fun a => Fin.ext ?_)
  match a with
  | ⟨0, _⟩ => show ((cfgA ch).win (5 : Fin 6)).index t 0 * 1024 + 1 * y.val = R.val; rw [hi.1]; omega
  | ⟨1, _⟩ => show ((cfgA ch).win (5 : Fin 6)).index t 1 * 128 + 1 * d.val = C.val; rw [hi.2]; omega

theorem flushed_eq (hr : Reals m c q k ct cr) (t : Fin (cfgA ch).N) (hf : ((cfgA ch).win (5 : Fin 6)).flush t = true) :
    (dats ch m ρ 0 c).flushed (5 : Fin 6) t = (((cfgA ch).win (5 : Fin 6)).blk t).view.read (Elt Ideal) (val q k ct cr (Grid.V m c)) := by
  show ((cfgA ch).win (5 : Fin 6)).cut ((cfgA ch).grid.coords t) ((dats ch m ρ 0 c).after (5 : Fin 6) t) = _
  rw [after0_5]
  have g : ∀ (y : Fin 1024) (d : Fin 128), ((traj0 ch m ρ c t.val t.isLt).1 : S1024x128.Idx → EReal) (ix2 y d)
      = res q k ct cr (Grid.V m c) (sq t.val) (hd t.val) (row t.val y) d :=
    fun y d => (good ch ρ hr t.val t.isLt y).2 (flush_own ch t hf) d
  generalize (traj0 ch m ρ c t.val t.isLt).1 = X at g ⊢
  obtain ⟨h1, h2, h3, -⟩ := bounds ch t
  funext x
  obtain ⟨y, d, rfl⟩ : ∃ (y : Fin 1024) (d : Fin 128), x = (ix2 y d : S1024x128.Idx) := ⟨x 0, x 1, eq_ix2 x⟩
  refine (cut_at ch t X y d).trans ((g y d).trans ?_)
  refine ((blk_o ch t _ y d (gr (sq t.val) (row t.val y)) (gc (hd t.val) d) (by unfold gr Traj.sq row; dsimp only; omega) rfl).trans ?_).symm
  exact val_at q k ct cr _ _ _ _ _ _ rfl rfl

/-- The point at which the output block of query block `a` of head `h` of sequence `b` is left. -/
theorem last : ∀ (b : Fin 2) (h : Fin 8) (a : Fin 4), ∃ t : Fin 160, t.val / 80 = b.val ∧ t.val / 10 % 8 = h.val ∧ qi t.val = a.val ∧ kj t.val = a.val := by
  decide +kernel

theorem sizes : ∀ (ch : Fin 1) (t : Fin (cfgA ch).N) (a : Fin 2), ((cfgA ch).win (5 : Fin 6)).size a = ![1024, 128] a
    ∧ ((cfgA ch).win (5 : Fin 6)).xsize ((cfgA ch).grid.coords t) a = ![1024, 128] a := by decide +kernel

theorem cover (i : S8192x1024.Idx) :
    ∃ t : Fin (cfgA ch).N, ((cfgA ch).win (5 : Fin 6)).flush t = true ∧ i ∈ (((cfgA ch).win (5 : Fin 6)).blk t).view.set := by
  have hi0 : (i 0).val < 8192 := (i 0).isLt
  have hi1 : (i 1).val < 1024 := (i 1).isLt
  obtain ⟨t', ht1, ht2, ht3, ht4⟩ := last ⟨(i 0).val / 4096, by omega⟩ ⟨(i 1).val / 128, by omega⟩ ⟨(i 0).val / 1024 % 4, by omega⟩
  let t : Fin (cfgA ch).N := ⟨t'.val, by rw [N_eq]; exact t'.isLt⟩
  refine ⟨t, own_flush ch t (ht4.trans ht3.symm), ?_⟩
  show i ∈ ((View.whole main_v0).slice (((cfgA ch).win (5 : Fin 6)).rect t)).set
  erw [View.set_slice_whole]
  refine (Pipeline.Window.mem_rect_iff ((cfgA ch).win (5 : Fin 6)) t i (by rfl)).mpr fun a => ?_
  have hs := sizes ch t
  have ho := at_o ch t
  dsimp only at ht1 ht2 ht3
  match a with
  | ⟨0, _⟩ =>
    show ((cfgA ch).win (5 : Fin 6)).index t 0 * ((cfgA ch).win (5 : Fin 6)).size 0 ≤ (i 0).val
      ∧ (i 0).val < ((cfgA ch).win (5 : Fin 6)).index t 0 * ((cfgA ch).win (5 : Fin 6)).size 0 + ((cfgA ch).win (5 : Fin 6)).xsize ((cfgA ch).grid.coords t) 0
    rw [ho.1, (hs 0).1, (hs 0).2]
    show (t'.val / 80 * 4 + qi t'.val) * 1024 ≤ (i 0).val ∧ (i 0).val < (t'.val / 80 * 4 + qi t'.val) * 1024 + 1024
    omega
  | ⟨1, _⟩ =>
    show ((cfgA ch).win (5 : Fin 6)).index t 1 * ((cfgA ch).win (5 : Fin 6)).size 1 ≤ (i 1).val
      ∧ (i 1).val < ((cfgA ch).win (5 : Fin 6)).index t 1 * ((cfgA ch).win (5 : Fin 6)).size 1 + ((cfgA ch).win (5 : Fin 6)).xsize ((cfgA ch).grid.coords t) 1
    rw [ho.2, (hs 1).1, (hs 1).2]
    show t'.val / 10 % 8 * 128 ≤ (i 1).val ∧ (i 1).val < t'.val / 10 % 8 * 128 + 128
    omega

theorem final (hr : Reals m c q k ct cr) : (dats ch m ρ 0 c).arrAt (5 : Fin 6) (cfgA ch).N = val q k ct cr (Grid.V m c) :=
  (dats ch m ρ 0 c).arrAt_eq_of_cover (5 : Fin 6) (val q k ct cr (Grid.V m c)) (fun t hf => flushed_eq ch m ρ c hr t hf) (cover ch)

/-- The run, read: the result array at the weighted means, the arguments unchanged. -/
theorem run (hp : Pinned ch m) (f : Dev nD → S8192x1024.Idx → EReal) (hf : ∀ c, (dats ch m ρ 0 c).arrAt (5 : Fin 6) (cfgA ch).N = f c) :
    θ_run defs (onTc (τ := τ) (main (F := Ideal))) ⟨m, fun _ => 0, ρ⟩ fun r => ∀ c : Dev nD,
      r.2.mem ((c : Thread nD τ).loc main_v0) = f c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ hr c => ⟨((hr c).1 (5 : Fin 6)).trans (hf c),
      ((hr c).2 0).trans (hp.1 c).symm, ((hr c).2 1).trans (hp.2 c).symm,
      ((hr c).1 (0 : Fin 6)).trans ((dats ch m ρ 0 c).arrAt_in (0 : Fin 6) rfl _),
      ((hr c).1 (1 : Fin 6)).trans ((dats ch m ρ 0 c).arrAt_in (1 : Fin 6) rfl _),
      ((hr c).1 (2 : Fin 6)).trans ((dats ch m ρ 0 c).arrAt_in (2 : Fin 6) rfl _),
      ((hr c).1 (3 : Fin 6)).trans ((dats ch m ρ 0 c).arrAt_in (3 : Fin 6) rfl _),
      ((hr c).1 (4 : Fin 6)).trans ((dats ch m ρ 0 c).arrAt_in (4 : Fin 6) rfl _)⟩)
    (run_main ch m ρ hp)

end Cert.Value

end
-- ==== Proof.Ref.lean ====
/- The reference read at an index: the softmax of each query's scores over the keys up to its own position, and the weighted
   mean of the values. -/
module

public import proofs.«01_k».proof.Proof.Terms
public import proofs.«01_k».proof.Proof.Consts
public import proofs.«01_k».proof.Proof.Gen.ReferenceIdeal.Read
public import Idealize.ShloMosaic.Lib.Pointwise

@[expose] public section

set_option maxRecDepth 16384

noncomputable section

namespace Cert.Ref

open Cert.ReferenceIdeal Cert.ReferenceIdeal.Gen Cert.ReferenceIdeal.Read Cert.Terms Cert.Online
open Idealize.ShloMosaic Idealize.ShloMosaic.TcCoe Idealize.SL.Sem
open scoped BigOperators

variable (x2 x3 x4 : (⟨S8192x1024, .bf16⟩ : BufTy).Contents (Elt Ideal)) (x5 : (⟨S8192x128, .f32⟩ : BufTy).Contents (Elt Ideal))
  (x6 : (⟨S2x8x1x4096, .f32⟩ : BufTy).Contents (Elt Ideal))
variable (b : Fin 2) (h : Fin 8) (R s : Fin 4096) (d : Fin 128)

/-! ## The arguments, split by sequence and head -/

theorem q_at : val_main_v1 (F := Ideal) x2 (ix4 b R h d) = x2 (ix2 (gr b R) (gc h d)) := by
  rw [val_main_v1_apply, val_main_v0_apply]
  refine congrArg x2 (funext fun a => Fin.ext ?_)
  match a with
  | ⟨0, _⟩ => show (((b.val * 4096 + R.val) * 8 + h.val) * 128 + d.val) / 1024 = b.val * 4096 + R.val; omega
  | ⟨1, _⟩ => show (((b.val * 4096 + R.val) * 8 + h.val) * 128 + d.val) % 1024 = h.val * 128 + d.val; omega

theorem k_at : val_main_v3 (F := Ideal) x3 (ix4 b R h d) = x3 (ix2 (gr b R) (gc h d)) := by
  rw [val_main_v3_apply, val_main_v2_apply]
  refine congrArg x3 (funext fun a => Fin.ext ?_)
  match a with
  | ⟨0, _⟩ => show (((b.val * 4096 + R.val) * 8 + h.val) * 128 + d.val) / 1024 = b.val * 4096 + R.val; omega
  | ⟨1, _⟩ => show (((b.val * 4096 + R.val) * 8 + h.val) * 128 + d.val) % 1024 = h.val * 128 + d.val; omega

theorem v_at : val_main_v5 (F := Ideal) x4 (ix4 b R h d) = x4 (ix2 (gr b R) (gc h d)) := by
  rw [val_main_v5_apply, val_main_v4_apply]
  refine congrArg x4 (funext fun a => Fin.ext ?_)
  match a with
  | ⟨0, _⟩ => show (((b.val * 4096 + R.val) * 8 + h.val) * 128 + d.val) / 1024 = b.val * 4096 + R.val; omega
  | ⟨1, _⟩ => show (((b.val * 4096 + R.val) * 8 + h.val) * 128 + d.val) % 1024 = h.val * 128 + d.val; omega

theorem cq_at : val_main_v16 (F := Ideal) x5 (ix4 b h R s) = x5 (ix2 (gr b R) (gl h)) := by
  rw [val_main_v16_apply, val_main_v14_apply, val_main_v8_apply, val_main_v7_apply, val_main_v6_apply]
  refine congrArg x5 (funext fun a => Fin.ext ?_)
  match a with
  | ⟨0, _⟩ => show ((b.val * 4096 + R.val) * 128 + h.val) / 128 = b.val * 4096 + R.val; omega
  | ⟨1, _⟩ => show ((b.val * 4096 + R.val) * 128 + h.val) % 128 = h.val; omega

theorem ck_at : val_main_v17 (F := Ideal) x6 (ix4 b h R s) = x6 (ix4 b h 0 s) := by
  rw [val_main_v17_apply, val_main_v15_apply, val_main_v9_apply]
  refine congrArg x6 (funext fun a => Fin.ext ?_)
  match a with
  | ⟨0, _⟩ => show ((b.val * 8 + h.val) * 4096 + s.val) / 32768 = b.val; omega
  | ⟨1, _⟩ => show ((b.val * 8 + h.val) * 4096 + s.val) / 4096 % 8 = h.val; omega
  | ⟨2, _⟩ => rfl
  | ⟨3, _⟩ => show ((b.val * 8 + h.val) * 4096 + s.val) % 4096 = s.val; omega

/-! ## The scores -/

theorem lidx : lidx_main_v11 (ix4 b h R s) d = ix4 b R h d := by
  funext a
  match a with
  | ⟨0, _⟩ => rfl
  | ⟨1, _⟩ => rfl
  | ⟨2, _⟩ => rfl
  | ⟨3, _⟩ => rfl

theorem ridx : ridx_main_v11 (ix4 b h R s) d = ix4 b s h d := by
  funext a
  match a with
  | ⟨0, _⟩ => rfl
  | ⟨1, _⟩ => rfl
  | ⟨2, _⟩ => rfl
  | ⟨3, _⟩ => rfl

theorem dot_at : val_main_v11 (F := Ideal) x2 x3 (ix4 b h R s) = ∑ d, x2 (ix2 (gr b R) (gc h d)) * x3 (ix2 (gr b s) (gc h d)) := by
  rw [val_main_v11_apply]
  exact Finset.sum_congr rfl fun d _ => by rw [lidx, ridx, q_at, k_at]

theorem scale_at (i : S2x8x4096x4096.Idx) : val_main_v12 (F := Ideal) i = ((11863283 / 134217728 : ℝ) : EReal) := by
  rw [val_main_v12_apply, val_main_cst_apply]
  exact Consts.scale

/-- The causal mask. -/
theorem mask_at : val_main_call0_v1 (F := Ideal) (ix4 b h R s) = BitVec.ofBool (decide (s.val ≤ R.val)) := by
  rw [val_main_call0_v1_apply, val_main_v24_apply, val_main_v22_apply, val_main_v23_apply, val_main_v20_apply, val_main_v21_apply,
    val_main_v10_apply, val_main_v10_apply]
  show BitVec.ofBool ((BitVec.ofNat 32 s.val).sle (BitVec.ofNat 32 R.val)) = _
  have hs' : (BitVec.ofNat 32 s.val).toNat = s.val := by rw [BitVec.toNat_ofNat]; exact Nat.mod_eq_of_lt (by omega)
  have hr' : (BitVec.ofNat 32 R.val).toNat = R.val := by rw [BitVec.toNat_ofNat]; exact Nat.mod_eq_of_lt (by omega)
  rw [BitVec.sle, BitVec.toInt_eq_toNat_of_lt (by rw [hs']; omega), BitVec.toInt_eq_toNat_of_lt (by rw [hr']; omega), hs', hr']
  exact congrArg BitVec.ofBool (decide_eq_decide.mpr Int.ofNat_le)

variable {q k : S8192x1024.Idx → ℝ} {ct : S8192x128.Idx → ℝ} {cr : S2x8x1x4096.Idx → ℝ}

section
variable (hq : ∀ i, x2 i = (q i : EReal)) (hk : ∀ i, x3 i = (k i : EReal))
  (hct : ∀ (R : Fin 8192) (h : Fin 8), x5 (ix2 R (gl h)) = (ct (ix2 R (gl h)) : EReal)) (hcr : ∀ i, x6 i = (cr i : EReal))
include hq hk hct hcr

theorem score_at : val_main_v25 (F := Ideal) x2 x3 x5 x6 (ix4 b h R s) = nscore (opt q k ct cr b h R s) := by
  rw [val_main_v25_apply, mask_at, val_main_v19_apply, val_main_v13_apply, val_main_v18_apply, dot_at, scale_at, cq_at, ck_at,
    val_main_call0_v2_apply, val_main_call0_v0_apply, val_main_cst_0_apply, hct, hcr]
  simp only [hq, hk, ← EReal.coe_mul, coe_sum]
  unfold opt
  by_cases e : s.val ≤ R.val
  · rw [if_pos e, decide_eq_true e]
    show ((_ : ℝ) : EReal) * ((_ : ℝ) : EReal) + (((_ : ℝ) : EReal) - ((_ : ℝ) : EReal)) = _
    rw [← EReal.coe_mul, ← EReal.coe_sub, ← EReal.coe_add]
    have hl : Real.log 2 ≠ 0 := (Real.log_pos one_lt_two).ne'
    refine congrArg Real.toEReal ?_
    unfold lin own
    field_simp
    ring
  · rw [if_neg e, decide_eq_false e]
    exact Consts.bot

/-- A query's greatest score. -/
theorem max_at : val_main_v30 (F := Ideal) x2 x3 x5 x6 (ix4 b h R s) = Finset.univ.fold max ⊥ fun s => nscore (opt q k ct cr b h R s) := by
  rw [val_main_v30_apply, val_main_v29_apply, val_main_v28_apply, val_main_v27_apply, val_main_cst_2_apply]
  have e : val_main_v26 (F := Ideal) x2 x3 x5 x6 (ix3 b h R) = Finset.univ.fold max ⊥ fun s => nscore (opt q k ct cr b h R s) := by
    have e1 : val_main_v26 (F := Ideal) x2 x3 x5 x6 (ix3 b h R)
        = Finset.univ.fold max (Ideal.ofBits .f32 0xFF800000#32) fun s : Fin 4096 => val_main_v25 (F := Ideal) x2 x3 x5 x6 (ix4 b h R s) := by
      unfold val_main_v26
      generalize val_main_v25 (F := Ideal) x2 x3 x5 x6 = w
      simp only [pointwise]
      rfl
    rw [e1, Consts.bot]
    exact congrArg (Finset.univ.fold max ⊥) (funext fun s => score_at x2 x3 x5 x6 b h R s hq hk hct hcr)
  have ei : idx_main_v29 (idx_main_v30 (ix4 b h R s)) = ix3 b h R := by
    funext a
    match a with
    | ⟨0, _⟩ => rfl
    | ⟨1, _⟩ => rfl
    | ⟨2, _⟩ => rfl
  rw [ei, e]
  show max (Ideal.ofBits .f32 0xFF800000#32) _ = _
  rw [Consts.bot]
  exact max_eq_right bot_le

theorem exp_at : val_main_v32 (F := Ideal) x2 x3 x5 x6 (ix4 b h R s)
    = Ideal.exp (nscore (opt q k ct cr b h R s) - Finset.univ.fold max ⊥ fun s => nscore (opt q k ct cr b h R s)) := by
  rw [val_main_v32_apply, val_main_v31_apply, score_at x2 x3 x5 x6 b h R s hq hk hct hcr, max_at x2 x3 x5 x6 b h R s hq hk hct hcr]
  rfl

theorem sum_at : val_main_v35 (F := Ideal) x2 x3 x5 x6 (ix4 b h R s)
    = ∑ s, Ideal.exp (nscore (opt q k ct cr b h R s) - Finset.univ.fold max ⊥ fun s => nscore (opt q k ct cr b h R s)) := by
  rw [val_main_v35_apply, val_main_v34_apply, val_main_v33_apply, val_main_cst_3_apply]
  have ei : ∀ s', idx_main_v33 (idx_main_v34 (idx_main_v35 (ix4 b h R s))) s' = ix4 b h R s' := fun s' => by
    funext a
    match a with
    | ⟨0, _⟩ => rfl
    | ⟨1, _⟩ => rfl
    | ⟨2, _⟩ => rfl
    | ⟨3, _⟩ => rfl
  rw [Finset.sum_congr rfl fun s' _ => (congrArg _ (ei s')).trans (exp_at x2 x3 x5 x6 b h R s' hq hk hct hcr)]
  show Ideal.ofBits .f32 0x00000000#32 + _ = _
  rw [Consts.zero, zero_add]

/-- The result, at a query and a lane. -/
theorem out_at : val_main_v40 (F := Ideal) x2 x3 x4 x5 x6 (ix2 (gr b R) (gc h d)) = res q k ct cr x4 b h R d := by
  rw [val_main_v40_apply, val_main_v39_apply, val_main_v38_apply]
  have ei : idx_main_v38 (idx_main_v39 (ix2 (gr b R) (gc h d))) = ix4 b h d R := by
    funext a
    refine Fin.ext ?_
    match a with
    | ⟨0, _⟩ => show ((b.val * 4096 + R.val) * 1024 + (h.val * 128 + d.val)) / 4194304 = b.val; omega
    | ⟨1, _⟩ => show ((b.val * 4096 + R.val) * 1024 + (h.val * 128 + d.val)) / 128 % 8 = h.val; omega
    | ⟨2, _⟩ => show ((b.val * 4096 + R.val) * 1024 + (h.val * 128 + d.val)) % 128 = d.val; omega
    | ⟨3, _⟩ => show ((b.val * 4096 + R.val) * 1024 + (h.val * 128 + d.val)) / 1024 % 4096 = R.val; omega
  rw [ei, val_main_v37_apply]
  have el : ∀ s, lidx_main_v37 (ix4 b h d R) s = ix4 b s h d := fun s => by
    funext a
    match a with
    | ⟨0, _⟩ => rfl
    | ⟨1, _⟩ => rfl
    | ⟨2, _⟩ => rfl
    | ⟨3, _⟩ => rfl
  have er : ∀ s, ridx_main_v37 (ix4 b h d R) s = ix4 b h R s := fun s => by
    funext a
    match a with
    | ⟨0, _⟩ => rfl
    | ⟨1, _⟩ => rfl
    | ⟨2, _⟩ => rfl
    | ⟨3, _⟩ => rfl
  refine Eq.trans ?_ (softmax_sum (opt q k ct cr b h R) R _ (opt_self q k ct cr b h R) (fun s => x4 (ix2 (gr b s) (gc h d))) rfl)
  show (∑ s, _) = _
  refine Finset.sum_congr rfl fun s _ => ?_
  rw [el, er, v_at, val_main_v36_apply, exp_at x2 x3 x5 x6 b h R s hq hk hct hcr, sum_at x2 x3 x5 x6 b h R s hq hk hct hcr]
  rfl

end

end Cert.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_regular
public import proofs.«01_k».proof.Proof.Gen.ReferenceIdeal.Run
public import proofs.«01_k».proof.Proof.Gen.ReferenceIdeal.Read
public import proofs.«01_k».proof.Proof.Gen.Pre_tables
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnH
public import proofs.«01_k».proof.Proof.Gen.FfnH.Skeleton
public import proofs.«01_k».proof.Proof.Gen.FfnH.Launch
public import proofs.«01_k».proof.Proof.Gen.FfnH.Points
public import proofs.«01_k».proof.Proof.Gen.FfnH.Frame
public import proofs.«01_k».proof.Proof.Gen.FfnHIdeal
public import proofs.«01_k».proof.Proof.Gen.FfnHIdeal.Skeleton
public import proofs.«01_k».proof.Proof.Gen.FfnHIdeal.Launch
public import proofs.«01_k».proof.Proof.Gen.FfnHIdeal.Points
public import proofs.«01_k».proof.Proof.Gen.FfnHIdeal.Frame
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.FfnHRefIdeal
public import proofs.«01_k».proof.Proof.Gen.FfnHRefIdeal.Run
public import proofs.«01_k».proof.Proof.Gen.FfnHRefIdeal.Read
public import proofs.«01_k».proof.Proof.Gen.MergeRefIdeal
public import proofs.«01_k».proof.Proof.Gen.MergeRefIdeal.Run
public import proofs.«01_k».proof.Proof.Gen.MergeRefIdeal.Read
public import proofs.«01_k».proof.Proof.FfnValue
public import proofs.«01_k».proof.Proof.FfnHValue
public import proofs.«01_k».proof.Proof.MergeValue
public import proofs.«01_k».proof.Proof.ConvAValue
public import proofs.«01_k».proof.Proof.GluValue
public import proofs.«01_k».proof.Proof.QMemValue
public import proofs.«01_k».proof.Proof.QkvValue
public import proofs.«01_k».proof.Proof.Gen.MemAttn
public import proofs.«01_k».proof.Proof.Gen.MemAttn.Skeleton
public import proofs.«01_k».proof.Proof.Gen.MemAttn.Launch
public import proofs.«01_k».proof.Proof.Gen.MemAttn.Points
public import proofs.«01_k».proof.Proof.Gen.MemAttn.Frame
public import proofs.«01_k».proof.Proof.Gen.MemAttnIdeal
public import proofs.«01_k».proof.Proof.Gen.MemAttnIdeal.Skeleton
public import proofs.«01_k».proof.Proof.Gen.MemAttnIdeal.Launch
public import proofs.«01_k».proof.Proof.Gen.MemAttnIdeal.Points
public import proofs.«01_k».proof.Proof.Gen.MemAttnIdeal.Frame
public import proofs.«01_k».proof.Proof.Gen.MemAttnRefIdeal
public import proofs.«01_k».proof.Proof.Gen.MemAttnRefIdeal.Run
public import proofs.«01_k».proof.Proof.Gen.MemAttnRefIdeal.Read
public import proofs.«01_k».proof.Proof.Gen.Pre_regular_memory
public import proofs.«01_k».proof.Proof.SampleValue
public import proofs.«01_k».proof.Proof.ForgetValue
public import proofs.«01_k».proof.Proof.MemoryRun
public import proofs.«01_k».proof.Proof.MemoryValue
public import proofs.«01_k».proof.Proof.MemAttnValue
public import proofs.«01_k».proof.Proof.Value
public import proofs.«01_k».proof.Proof.Ref
public import proofs.«01_k».proof.Proof.Regular
public import proofs.«01_k».proof.Proof.Gen.ConvA
public import proofs.«01_k».proof.Proof.Gen.ConvA.Skeleton
public import proofs.«01_k».proof.Proof.Gen.ConvA.Launch
public import proofs.«01_k».proof.Proof.Gen.ConvA.Points
public import proofs.«01_k».proof.Proof.Gen.ConvA.Frame
public import proofs.«01_k».proof.Proof.Gen.ConvAIdeal
public import proofs.«01_k».proof.Proof.Gen.ConvAIdeal.Skeleton
public import proofs.«01_k».proof.Proof.Gen.ConvAIdeal.Launch
public import proofs.«01_k».proof.Proof.Gen.ConvAIdeal.Points
public import proofs.«01_k».proof.Proof.Gen.ConvAIdeal.Frame
public import proofs.«01_k».proof.Proof.Gen.ConvARefIdeal
public import proofs.«01_k».proof.Proof.Gen.ConvARefIdeal.Run
public import proofs.«01_k».proof.Proof.Gen.ConvARefIdeal.Read
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.GluRefIdeal.Run
public import proofs.«01_k».proof.Proof.Gen.GluRefIdeal.Read
public import proofs.«01_k».proof.Proof.Gen.QMem
public import proofs.«01_k».proof.Proof.Gen.QMem.Skeleton
public import proofs.«01_k».proof.Proof.Gen.QMem.Launch
public import proofs.«01_k».proof.Proof.Gen.QMem.Points
public import proofs.«01_k».proof.Proof.Gen.QMem.Frame
public import proofs.«01_k».proof.Proof.Gen.QMemIdeal
public import proofs.«01_k».proof.Proof.Gen.QMemIdeal.Skeleton
public import proofs.«01_k».proof.Proof.Gen.QMemIdeal.Launch
public import proofs.«01_k».proof.Proof.Gen.QMemIdeal.Points
public import proofs.«01_k».proof.Proof.Gen.QMemIdeal.Frame
public import proofs.«01_k».proof.Proof.Gen.QMemRefIdeal
public import proofs.«01_k».proof.Proof.Gen.QMemRefIdeal.Run
public import proofs.«01_k».proof.Proof.Gen.QMemRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleRefIdeal
public import proofs.«01_k».proof.Proof.Gen.SampleRefIdeal.Run
public import proofs.«01_k».proof.Proof.Gen.SampleRefIdeal.Read
public import proofs.«01_k».proof.Proof.Gen.Forget
public import proofs.«01_k».proof.Proof.Gen.Forget.Skeleton
public import proofs.«01_k».proof.Proof.Gen.Forget.Launch
public import proofs.«01_k».proof.Proof.Gen.Forget.Points
public import proofs.«01_k».proof.Proof.Gen.Forget.Frame
public import proofs.«01_k».proof.Proof.Gen.ForgetIdeal
public import proofs.«01_k».proof.Proof.Gen.ForgetIdeal.Skeleton
public import proofs.«01_k».proof.Proof.Gen.ForgetIdeal.Launch
public import proofs.«01_k».proof.Proof.Gen.ForgetIdeal.Points
public import proofs.«01_k».proof.Proof.Gen.ForgetIdeal.Frame
public import proofs.«01_k».proof.Proof.Gen.ForgetRefIdeal
public import proofs.«01_k».proof.Proof.Gen.ForgetRefIdeal.Run
public import proofs.«01_k».proof.Proof.Gen.ForgetRefIdeal.Read
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryRefIdeal
public import proofs.«01_k».proof.Proof.Gen.MemoryRefIdeal.Run
public import proofs.«01_k».proof.Proof.Gen.MemoryRefIdeal.Read
public import Idealize.ShloMosaic.Adequacy
public import Idealize.ShloMosaic.Init

@[expose] public section

noncomputable section

namespace Cert.Proof

open Idealize.ShloMosaic Idealize.ShloMosaic.TcCoe Idealize.SL.Sem

/-! ## The frames -/

/-- The precondition pins the kernel's tables. -/
theorem pinned_kernel (m) (h : Cert.Pre_Kernel m) : Cert.Kernel.Gen.Pinned 0 m :=
  ⟨fun c => (Pre.tables_of _ _ _ _ _ _ _ (h c)).1, fun c => (Pre.tables_of _ _ _ _ _ _ _ (h c)).2⟩

theorem pinned_ideal (m) (h : Cert.Pre_KernelIdeal m) : Cert.KernelIdeal.Gen.Pinned 0 m :=
  ⟨fun c => (Pre.tables_of _ _ _ _ _ _ _ (h c)).1, fun c => (Pre.tables_of _ _ _ _ _ _ _ (h c)).2⟩

theorem pinned_regular (m) (h : Cert.Pre_KernelIdeal_regular m) : Cert.KernelIdeal.Gen.Pinned 0 m :=
  ⟨fun c => (Regular.tables _ _ _ _ _ _ _ (h c).1).1, fun c => (Regular.tables _ _ _ _ _ _ _ (h c).1).2⟩

theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run m g)

/-! ## The value -/

/-- The real numbers of an array. -/
def re {s : Shape} (x : s.Idx → EReal) : s.Idx → ℝ := fun i => (x i).toReal

theorem reals (m) (h : Cert.Pre_KernelIdeal_regular m) (c : Dev Cert.KernelIdeal.nD) :
    Traj.Reals m c (re (Grid.Q m c)) (re (Grid.K m c)) (re (Grid.CT m c)) (re (Grid.CR m c)) where
  q := Regular.queries _ _ _ _ _ _ _ (h c).2.1
  k := Regular.keys _ _ _ _ _ _ _ (h c).2.2.1
  ct := Regular.own _ _ _ _ _ _ _ (h c).2.2.2.1
  cr := Regular.rows _ _ _ _ _ _ _ (h c).2.2.2.2

/-- The weighted means of a device's arguments. -/
def out (m : (ℓ : Loc Cert.KernelIdeal.nD Cert.KernelIdeal.τ Cert.KernelIdeal.sig) → Buf (Elt Ideal) ℓ) (c : Dev Cert.KernelIdeal.nD) :=
  Value.val (re (Grid.Q m c)) (re (Grid.K m c)) (re (Grid.CT m c)) (re (Grid.CR m c)) (Grid.V m c)

/-- The reference's result is the weighted means. -/
theorem ref_out (m) (h : Cert.Pre_KernelIdeal_regular m) (c : Dev Cert.KernelIdeal.nD) :
    Cert.ReferenceIdeal.Read.val_main_v40 (F := Ideal) (Grid.Q m c) (Grid.K m c) (Grid.V m c) (Grid.CT m c) (Grid.CR m c) = out m c := by
  have hr := reals m h c
  funext i
  have h0 : (i 0).val < 8192 := (i 0).isLt
  have h1 : (i 1).val < 1024 := (i 1).isLt
  obtain ⟨b, R, e, d, hR, hD⟩ : ∃ (b : Fin 2) (R : Fin 4096) (e : Fin 8) (d : Fin 128),
      (i 0).val = b.val * 4096 + R.val ∧ (i 1).val = e.val * 128 + d.val :=
    ⟨⟨(i 0).val / 4096, by omega⟩, ⟨(i 0).val % 4096, by omega⟩, ⟨(i 1).val / 128, by omega⟩, ⟨(i 1).val % 128, by omega⟩,
      by show (i 0).val = (i 0).val / 4096 * 4096 + (i 0).val % 4096; omega,
      by show (i 1).val = (i 1).val / 128 * 128 + (i 1).val % 128; omega⟩
  have ei : i = ix2 (Terms.gr b R) (Terms.gc e d) := by
    refine (eq_ix2 i).trans ?_
    rw [show (i 0 : Fin 8192) = Terms.gr b R from Fin.ext hR, show (i 1 : Fin 1024) = Terms.gc e d from Fin.ext hD]
  refine Eq.trans ?_ (Value.val_at (re (Grid.Q m c)) (re (Grid.K m c)) (re (Grid.CT m c)) (re (Grid.CR m c)) (Grid.V m c) i b e R d hR hD).symm
  rw [ei]
  exact Ref.out_at (Grid.Q m c) (Grid.K m c) (Grid.V m c) (Grid.CT m c) (Grid.CR m c) b e R d hr.q hr.k hr.ct hr.cr

theorem value : Cert.algebraic_KernelIdeal_ReferenceIdeal_pre_regular := by
  intro m g m' g' hp hm
  refine ⟨out m, Value.run 0 m g (pinned_regular m hp) (out m) fun c => Value.final 0 m g c (reals m hp c), ?_⟩
  refine (θ_run (Cert.ReferenceIdeal.defs (F := Ideal)) _ _).mono (fun r h c => ⟨?_, (h c).2⟩) (Cert.ReferenceIdeal.Value.run m' g')
  refine (h c).1.trans ((Cert.ReferenceIdeal.Read.val_main_v40_eq m' c).trans ?_)
  obtain ⟨_, _, e2, e3, e4, e5, e6⟩ := hm c
  rw [e2, e3, e4, e5, e6]
  exact ref_out m hp c

theorem frame_Ffn : Cert.quiescent_FfnRefIdeal := fun m g _ =>
  (θ_run Cert.FfnRefIdeal.defs _ _).mono
    (fun r h => ⟨fun c => (h c).2, Idealize.ShloMosaic.sem_eq_zero_of_no_sems (by decide) r.2⟩)
    (Cert.FfnRefIdeal.Value.run m g)

theorem frame_FfnH : Cert.quiescent_FfnHRefIdeal := fun m g _ =>
  (θ_run Cert.FfnHRefIdeal.defs _ _).mono
    (fun r h => ⟨fun c => (h c).2.2, Idealize.ShloMosaic.sem_eq_zero_of_no_sems (by decide) r.2⟩)
    (Cert.FfnHRefIdeal.Value.run m g)

theorem frame_Merge : Cert.quiescent_MergeRefIdeal := fun m g _ =>
  (θ_run Cert.MergeRefIdeal.defs _ _).mono
    (fun r h => ⟨fun c => (h c).2, Idealize.ShloMosaic.sem_eq_zero_of_no_sems (by decide) r.2⟩)
    (Cert.MergeRefIdeal.Value.run m g)

theorem value_Ffn : Cert.algebraic_FfnIdeal_FfnRefIdeal := by
  pair_intro
  · run_from Cert.FfnIdeal.Gen.run_main m g
  · run_from Cert.FfnRefIdeal.Value.run m' g'
    refine (Cert.FfnRefIdeal.Read.val_main_v25_eq (m ((c : Thread Cert.FfnIdeal.nD Cert.FfnIdeal.τ).loc Cert.FfnIdeal.main_arg0)) (m ((c : Thread Cert.FfnIdeal.nD Cert.FfnIdeal.τ).loc Cert.FfnIdeal.main_arg1)) (m ((c : Thread Cert.FfnIdeal.nD Cert.FfnIdeal.τ).loc Cert.FfnIdeal.main_arg2)) (m ((c : Thread Cert.FfnIdeal.nD Cert.FfnIdeal.τ).loc Cert.FfnIdeal.main_arg3)) (m ((c : Thread Cert.FfnIdeal.nD Cert.FfnIdeal.τ).loc Cert.FfnIdeal.main_arg4))).trans (funext fun (i : Cert.FfnRefIdeal.S8320x2048.Idx) => ?_)
    obtain ⟨r, d, rfl⟩ : ∃ (r : Fin 8320) (d : Fin 2048), i = ix2 r d := ⟨i 0, i 1, eq_ix2 i⟩
    exact (Cert.FfnValue.ref_out (m ((c : Thread Cert.FfnIdeal.nD Cert.FfnIdeal.τ).loc Cert.FfnIdeal.main_arg0)) (m ((c : Thread Cert.FfnIdeal.nD Cert.FfnIdeal.τ).loc Cert.FfnIdeal.main_arg1)) (m ((c : Thread Cert.FfnIdeal.nD Cert.FfnIdeal.τ).loc Cert.FfnIdeal.main_arg2)) (m ((c : Thread Cert.FfnIdeal.nD Cert.FfnIdeal.τ).loc Cert.FfnIdeal.main_arg3)) (m ((c : Thread Cert.FfnIdeal.nD Cert.FfnIdeal.τ).loc Cert.FfnIdeal.main_arg4)) r d).trans (Cert.FfnValue.final m c r d).symm

theorem value_FfnH : Cert.algebraic_FfnHIdeal_FfnHRefIdeal := by
  pair_intro
  · run_from Cert.FfnHIdeal.Gen.run_main m g
  · run_from Cert.FfnHRefIdeal.Value.run m' g'
    · refine (Cert.FfnHRefIdeal.Read.val_main_v25_eq (m ((c : Thread Cert.FfnHIdeal.nD Cert.FfnHIdeal.τ).loc Cert.FfnHIdeal.main_arg0)) (m ((c : Thread Cert.FfnHIdeal.nD Cert.FfnHIdeal.τ).loc Cert.FfnHIdeal.main_arg1)) (m ((c : Thread Cert.FfnHIdeal.nD Cert.FfnHIdeal.τ).loc Cert.FfnHIdeal.main_arg2)) (m ((c : Thread Cert.FfnHIdeal.nD Cert.FfnHIdeal.τ).loc Cert.FfnHIdeal.main_arg3)) (m ((c : Thread Cert.FfnHIdeal.nD Cert.FfnHIdeal.τ).loc Cert.FfnHIdeal.main_arg4))).trans (funext fun (i : Cert.FfnHRefIdeal.S8320x2048.Idx) => ?_)
      obtain ⟨r, d, rfl⟩ : ∃ (r : Fin 8320) (d : Fin 2048), i = ix2 r d := ⟨i 0, i 1, eq_ix2 i⟩
      exact (Cert.FfnHValue.ref_out (m ((c : Thread Cert.FfnHIdeal.nD Cert.FfnHIdeal.τ).loc Cert.FfnHIdeal.main_arg0)) (m ((c : Thread Cert.FfnHIdeal.nD Cert.FfnHIdeal.τ).loc Cert.FfnHIdeal.main_arg1)) (m ((c : Thread Cert.FfnHIdeal.nD Cert.FfnHIdeal.τ).loc Cert.FfnHIdeal.main_arg2)) (m ((c : Thread Cert.FfnHIdeal.nD Cert.FfnHIdeal.τ).loc Cert.FfnHIdeal.main_arg3)) (m ((c : Thread Cert.FfnHIdeal.nD Cert.FfnHIdeal.τ).loc Cert.FfnHIdeal.main_arg4)) r d).trans (Cert.FfnHValue.final m c r d).symm
    · obtain ⟨e0, e1, e2, e3, e4, e5⟩ := hagree c
      have e := Cert.FfnHRefIdeal.Read.val_main_v38_eq m' c
      rw [e0, e1, e2, e3, e4, e5] at e
      refine e.trans (funext fun (i : Cert.FfnHRefIdeal.S8320x2048.Idx) => ?_)
      obtain ⟨r, d, rfl⟩ : ∃ (r : Fin 8320) (d : Fin 2048), i = ix2 r d := ⟨i 0, i 1, eq_ix2 i⟩
      exact (Cert.FfnHValue.ref_out_rows (m ((c : Thread Cert.FfnHIdeal.nD Cert.FfnHIdeal.τ).loc Cert.FfnHIdeal.main_arg0)) (m ((c : Thread Cert.FfnHIdeal.nD Cert.FfnHIdeal.τ).loc Cert.FfnHIdeal.main_arg1)) (m ((c : Thread Cert.FfnHIdeal.nD Cert.FfnHIdeal.τ).loc Cert.FfnHIdeal.main_arg2)) (m ((c : Thread Cert.FfnHIdeal.nD Cert.FfnHIdeal.τ).loc Cert.FfnHIdeal.main_arg3)) (m ((c : Thread Cert.FfnHIdeal.nD Cert.FfnHIdeal.τ).loc Cert.FfnHIdeal.main_arg4)) (m ((c : Thread Cert.FfnHIdeal.nD Cert.FfnHIdeal.τ).loc Cert.FfnHIdeal.main_arg5)) r d).trans (Cert.FfnHValue.final_rows m c r d).symm

set_option maxHeartbeats 8000000 in
theorem value_Merge : Cert.algebraic_MergeIdeal_MergeRefIdeal := by
  pair_intro
  · run_from Cert.MergeIdeal.Gen.run_main m g
  · run_from Cert.MergeRefIdeal.Value.run m' g'
    obtain ⟨e0, e1, e2, e3, e4, e5, e6, e7, e8⟩ := hagree c
    have e := (Cert.MergeRefIdeal.Read.val_main_v51_eq m' c).trans (Cert.MergeValue.ref_congr e0 e1 e2 e3 e4 e5 e6 e7 e8)
    refine e.trans (funext fun (i : Cert.MergeRefIdeal.S8320x2048.Idx) => ?_)
    obtain ⟨r, d, rfl⟩ : ∃ (r : Fin 8320) (d : Fin 2048), i = ix2 r d := ⟨i 0, i 1, eq_ix2 i⟩
    exact (Cert.MergeValue.ref_out (m ((c : Thread Cert.MergeIdeal.nD Cert.MergeIdeal.τ).loc Cert.MergeIdeal.main_arg0)) (m ((c : Thread Cert.MergeIdeal.nD Cert.MergeIdeal.τ).loc Cert.MergeIdeal.main_arg1)) (m ((c : Thread Cert.MergeIdeal.nD Cert.MergeIdeal.τ).loc Cert.MergeIdeal.main_arg2)) (m ((c : Thread Cert.MergeIdeal.nD Cert.MergeIdeal.τ).loc Cert.MergeIdeal.main_arg3)) (m ((c : Thread Cert.MergeIdeal.nD Cert.MergeIdeal.τ).loc Cert.MergeIdeal.main_arg4)) (m ((c : Thread Cert.MergeIdeal.nD Cert.MergeIdeal.τ).loc Cert.MergeIdeal.main_arg5)) (m ((c : Thread Cert.MergeIdeal.nD Cert.MergeIdeal.τ).loc Cert.MergeIdeal.main_arg6)) (m ((c : Thread Cert.MergeIdeal.nD Cert.MergeIdeal.τ).loc Cert.MergeIdeal.main_arg7)) (m ((c : Thread Cert.MergeIdeal.nD Cert.MergeIdeal.τ).loc Cert.MergeIdeal.main_arg8)) r d).trans (Cert.MergeValue.final m c r d).symm

theorem frame_ConvA : Cert.quiescent_ConvARefIdeal := fun m g _ =>
  (θ_run Cert.ConvARefIdeal.defs _ _).mono
    (fun r h => ⟨fun c => (h c).2.2, Idealize.ShloMosaic.sem_eq_zero_of_no_sems (by decide) r.2⟩)
    (Cert.ConvARefIdeal.Value.run m g)

theorem frame_Glu : Cert.quiescent_GluRefIdeal := fun m g _ =>
  (θ_run Cert.GluRefIdeal.defs _ _).mono
    (fun r h => ⟨fun c => (h c).2.2, Idealize.ShloMosaic.sem_eq_zero_of_no_sems (by decide) r.2⟩)
    (Cert.GluRefIdeal.Value.run m g)

theorem frame_QMem : Cert.quiescent_QMemRefIdeal := fun m g _ =>
  (θ_run Cert.QMemRefIdeal.defs _ _).mono
    (fun r h => ⟨fun c => (h c).2, Idealize.ShloMosaic.sem_eq_zero_of_no_sems (by decide) r.2⟩)
    (Cert.QMemRefIdeal.Value.run m g)

theorem frame_Qkv : Cert.quiescent_QkvRefIdeal := fun m g _ =>
  (θ_run Cert.QkvRefIdeal.defs _ _).mono
    (fun r h => ⟨fun c => (h c).2.2.2.2.2, Idealize.ShloMosaic.sem_eq_zero_of_no_sems (by decide) r.2⟩)
    (Cert.QkvRefIdeal.Value.run m g)

set_option maxHeartbeats 8000000 in
theorem value_ConvA : Cert.algebraic_ConvAIdeal_ConvARefIdeal := by
  pair_intro
  · run_from Cert.ConvAIdeal.Gen.run_main m g
  · run_from Cert.ConvARefIdeal.Value.run m' g'
    · refine (Cert.ConvARefIdeal.Read.val_main_v5_eq (m ((c : Thread Cert.ConvAIdeal.nD Cert.ConvAIdeal.τ).loc Cert.ConvAIdeal.main_arg0)) (m ((c : Thread Cert.ConvAIdeal.nD Cert.ConvAIdeal.τ).loc Cert.ConvAIdeal.main_arg1))).trans (funext fun (i : Cert.ConvARefIdeal.S8320x1024.Idx) => ?_)
      obtain ⟨r, d, rfl⟩ : ∃ (r : Fin 8320) (d : Fin 1024), i = ix2 r d := ⟨i 0, i 1, eq_ix2 i⟩
      exact (Cert.ConvAValue.ref_out (m ((c : Thread Cert.ConvAIdeal.nD Cert.ConvAIdeal.τ).loc Cert.ConvAIdeal.main_arg0)) (m ((c : Thread Cert.ConvAIdeal.nD Cert.ConvAIdeal.τ).loc Cert.ConvAIdeal.main_arg1)) r d).trans (Cert.ConvAValue.final m c r d).symm
    · refine (Cert.ConvARefIdeal.Read.val_main_v18_eq (m ((c : Thread Cert.ConvAIdeal.nD Cert.ConvAIdeal.τ).loc Cert.ConvAIdeal.main_arg0)) (m ((c : Thread Cert.ConvAIdeal.nD Cert.ConvAIdeal.τ).loc Cert.ConvAIdeal.main_arg1))).trans (funext fun (i : Cert.ConvARefIdeal.S8320x1024.Idx) => ?_)
      obtain ⟨r, d, rfl⟩ : ∃ (r : Fin 8320) (d : Fin 1024), i = ix2 r d := ⟨i 0, i 1, eq_ix2 i⟩
      exact (Cert.ConvAValue.ref_out_mul (m ((c : Thread Cert.ConvAIdeal.nD Cert.ConvAIdeal.τ).loc Cert.ConvAIdeal.main_arg0)) (m ((c : Thread Cert.ConvAIdeal.nD Cert.ConvAIdeal.τ).loc Cert.ConvAIdeal.main_arg1)) r d).trans (Cert.ConvAValue.final_mul m c r d).symm

set_option maxHeartbeats 8000000 in
theorem value_Glu : Cert.algebraic_GluIdeal_GluRefIdeal := by
  pair_intro
  · run_from Cert.GluIdeal.Gen.run_main m g
    exact Cert.GluIdeal.Gen.W_main_arg2 m (Cert.GluIdeal.Gen.dats m) c
  · run_from Cert.GluRefIdeal.Value.run m' g'
    · exact (Cert.GluRefIdeal.Read.val_main_v18_eq (m ((c : Thread Cert.GluIdeal.nD Cert.GluIdeal.τ).loc Cert.GluIdeal.main_arg0)) (m ((c : Thread Cert.GluIdeal.nD Cert.GluIdeal.τ).loc Cert.GluIdeal.main_arg1))).trans (Cert.GluValue.array m c).symm
    · rw [(hagree c).2.2]
      exact (Cert.GluRefIdeal.Read.val_main_v22_eq (m ((c : Thread Cert.GluIdeal.nD Cert.GluIdeal.τ).loc Cert.GluIdeal.main_arg0)) (m ((c : Thread Cert.GluIdeal.nD Cert.GluIdeal.τ).loc Cert.GluIdeal.main_arg1)) (m ((c : Thread Cert.GluIdeal.nD Cert.GluIdeal.τ).loc Cert.GluIdeal.main_arg2))).trans
        ((Cert.GluValue.ref_state _ _ _).trans ((congrArg (Cert.GluValue.state · _) (Cert.GluValue.array m c).symm).trans (Cert.GluValue.final_state m c).symm))

set_option maxHeartbeats 8000000 in
theorem value_QMem : Cert.algebraic_QMemIdeal_QMemRefIdeal := by
  pair_intro
  · run_from Cert.QMemIdeal.Gen.run_main m g
  · run_from Cert.QMemRefIdeal.Value.run m' g'
    refine (Cert.QMemRefIdeal.Read.val_main_v22_eq (m ((c : Thread Cert.QMemIdeal.nD Cert.QMemIdeal.τ).loc Cert.QMemIdeal.main_arg0)) (m ((c : Thread Cert.QMemIdeal.nD Cert.QMemIdeal.τ).loc Cert.QMemIdeal.main_arg1)) (m ((c : Thread Cert.QMemIdeal.nD Cert.QMemIdeal.τ).loc Cert.QMemIdeal.main_arg2))).trans (funext fun (i : Cert.QMemRefIdeal.S8320x1024.Idx) => ?_)
    obtain ⟨r, d, rfl⟩ : ∃ (r : Fin 8320) (d : Fin 1024), i = ix2 r d := ⟨i 0, i 1, eq_ix2 i⟩
    exact (Cert.QMemValue.ref_out (m ((c : Thread Cert.QMemIdeal.nD Cert.QMemIdeal.τ).loc Cert.QMemIdeal.main_arg0)) (m ((c : Thread Cert.QMemIdeal.nD Cert.QMemIdeal.τ).loc Cert.QMemIdeal.main_arg1)) (m ((c : Thread Cert.QMemIdeal.nD Cert.QMemIdeal.τ).loc Cert.QMemIdeal.main_arg2)) r d).trans (Cert.QMemValue.final m c r d).symm

set_option maxHeartbeats 8000000 in
theorem value_Qkv : Cert.algebraic_QkvIdeal_QkvRefIdeal := by
  pair_intro
  · run_from Cert.QkvIdeal.Gen.run_main m g
  · run_from Cert.QkvRefIdeal.Value.run m' g'
    · refine (Cert.QkvRefIdeal.Read.val_main_v51_eq (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2))).trans (funext fun (i : Cert.QkvRefIdeal.S8192x1024.Idx) => ?_)
      obtain ⟨r, d, rfl⟩ : ∃ (r : Fin 8192) (d : Fin 1024), i = ix2 r d := ⟨i 0, i 1, eq_ix2 i⟩
      exact (Cert.QkvValue.ref_q (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) r d).trans (Cert.QkvValue.final_q m c r d).symm
    · refine (Cert.QkvRefIdeal.Read.val_main_v53_eq (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg3))).trans (funext fun (i : Cert.QkvRefIdeal.S8192x1024.Idx) => ?_)
      obtain ⟨r, d, rfl⟩ : ∃ (r : Fin 8192) (d : Fin 1024), i = ix2 r d := ⟨i 0, i 1, eq_ix2 i⟩
      exact (Cert.QkvValue.ref_k (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg3)) r d).trans (Cert.QkvValue.final_k m c r d).symm
    · refine (Cert.QkvRefIdeal.Read.val_main_v55_eq (m ((c : Thread Cert.QkvIdeal.nD Cert.QkvIdeal.τ).loc Cert.QkvIdeal.main_arg0)) (m ((c : Thread Cert.QkvIdeal.nD Cert.QkvIdeal.τ).loc Cert.QkvIdeal.main_arg1))).trans (funext fun (i : Cert.QkvRefIdeal.S8192x1024.Idx) => ?_)
      obtain ⟨r, d, rfl⟩ : ∃ (r : Fin 8192) (d : Fin 1024), i = ix2 r d := ⟨i 0, i 1, eq_ix2 i⟩
      exact (Cert.QkvValue.ref_v (m ((c : Thread Cert.QkvIdeal.nD Cert.QkvIdeal.τ).loc Cert.QkvIdeal.main_arg0)) (m ((c : Thread Cert.QkvIdeal.nD Cert.QkvIdeal.τ).loc Cert.QkvIdeal.main_arg1)) r d).trans (Cert.QkvValue.final_v m c r d).symm
    · refine (Cert.QkvRefIdeal.Read.val_main_v42_eq (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg3))).trans (funext fun (i : Cert.QkvRefIdeal.S8192x8x128.Idx) => ?_)
      obtain ⟨r, b, e, rfl⟩ : ∃ (r : Fin 8192) (b : Fin 8) (e : Fin 128), i = ix3 r b e := ⟨i 0, i 1, i 2, eq_ix3 i⟩
      exact (Cert.QkvValue.ref_kh (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg3)) r b e ⟨b.val * 128 + e.val, by have : b.val < 8 := b.isLt; have : e.val < 128 := e.isLt; omega⟩ rfl).trans (Cert.QkvValue.final_kh m c r b e).symm
    · refine (Cert.QkvRefIdeal.Read.val_main_v49_eq (m ((c : Thread Cert.QkvIdeal.nD Cert.QkvIdeal.τ).loc Cert.QkvIdeal.main_arg0)) (m ((c : Thread Cert.QkvIdeal.nD Cert.QkvIdeal.τ).loc Cert.QkvIdeal.main_arg1))).trans (funext fun (i : Cert.QkvRefIdeal.S8192x8x128.Idx) => ?_)
      obtain ⟨r, b, e, rfl⟩ : ∃ (r : Fin 8192) (b : Fin 8) (e : Fin 128), i = ix3 r b e := ⟨i 0, i 1, i 2, eq_ix3 i⟩
      exact (Cert.QkvValue.ref_col_v (m ((c : Thread Cert.QkvIdeal.nD Cert.QkvIdeal.τ).loc Cert.QkvIdeal.main_arg0)) (m ((c : Thread Cert.QkvIdeal.nD Cert.QkvIdeal.τ).loc Cert.QkvIdeal.main_arg1)) r b e ⟨b.val * 128 + e.val, by have : b.val < 8 := b.isLt; have : e.val < 128 := e.isLt; omega⟩ rfl).trans (Cert.QkvValue.final_vh m c r b e).symm

theorem frame_Sample : Cert.quiescent_SampleRefIdeal := fun m g _ =>
  (θ_run Cert.SampleRefIdeal.defs _ _).mono
    (fun r h => ⟨fun c => (h c).2.2.2.2.2, Idealize.ShloMosaic.sem_eq_zero_of_no_sems (by decide) r.2⟩)
    (Cert.SampleRefIdeal.Value.run m g)

theorem frame_Forget : Cert.quiescent_ForgetRefIdeal := fun m g _ =>
  (θ_run Cert.ForgetRefIdeal.defs _ _).mono
    (fun r h => ⟨fun c => (h c).2, Idealize.ShloMosaic.sem_eq_zero_of_no_sems (by decide) r.2⟩)
    (Cert.ForgetRefIdeal.Value.run m g)

theorem frame_Memory : Cert.quiescent_MemoryRefIdeal := fun m g _ =>
  (θ_run Cert.MemoryRefIdeal.defs _ _).mono
    (fun r h => ⟨fun c => (h c).2.2, Idealize.ShloMosaic.sem_eq_zero_of_no_sems (by decide) r.2⟩)
    (Cert.MemoryRefIdeal.Value.run m g)

theorem frame_MemAttn : Cert.quiescent_MemAttnRefIdeal := fun m g _ =>
  (θ_run Cert.MemAttnRefIdeal.defs _ _).mono
    (fun r h => ⟨fun c => (h c).2, Idealize.ShloMosaic.sem_eq_zero_of_no_sems (by decide) r.2⟩)
    (Cert.MemAttnRefIdeal.Value.run m g)

set_option maxHeartbeats 8000000 in
theorem value_Sample : Cert.algebraic_SampleIdeal_SampleRefIdeal := by
  pair_intro
  · run_from Cert.SampleIdeal.Gen.run_main m g
  · run_from Cert.SampleRefIdeal.Value.run m' g'
    · refine (Cert.SampleRefIdeal.Read.val_main_v51_eq (m ((c : Thread Cert.SampleIdeal.nD Cert.SampleIdeal.τ).loc Cert.SampleIdeal.main_arg0)) (m ((c : Thread Cert.SampleIdeal.nD Cert.SampleIdeal.τ).loc Cert.SampleIdeal.main_arg1)) (m ((c : Thread Cert.SampleIdeal.nD Cert.SampleIdeal.τ).loc Cert.SampleIdeal.main_arg2))).trans (funext fun (i : Cert.SampleRefIdeal.S128x1024.Idx) => ?_)
      obtain ⟨r, d, rfl⟩ : ∃ (r : Fin 128) (d : Fin 1024), i = ix2 r d := ⟨i 0, i 1, eq_ix2 i⟩
      exact (Cert.SampleValue.ref_qb (m ((c : Thread Cert.SampleIdeal.nD Cert.SampleIdeal.τ).loc Cert.SampleIdeal.main_arg0)) (m ((c : Thread Cert.SampleIdeal.nD Cert.SampleIdeal.τ).loc Cert.SampleIdeal.main_arg1)) (m ((c : Thread Cert.SampleIdeal.nD Cert.SampleIdeal.τ).loc Cert.SampleIdeal.main_arg2)) r d).trans (Cert.SampleValue.final_q m c r d).symm
    · refine (Cert.SampleRefIdeal.Read.val_main_v44_eq (m ((c : Thread Cert.SampleIdeal.nD Cert.SampleIdeal.τ).loc Cert.SampleIdeal.main_arg0)) (m ((c : Thread Cert.SampleIdeal.nD Cert.SampleIdeal.τ).loc Cert.SampleIdeal.main_arg1)) (m ((c : Thread Cert.SampleIdeal.nD Cert.SampleIdeal.τ).loc Cert.SampleIdeal.main_arg3))).trans (funext fun (i : Cert.SampleRefIdeal.S128x1024.Idx) => ?_)
      obtain ⟨r, d, rfl⟩ : ∃ (r : Fin 128) (d : Fin 1024), i = ix2 r d := ⟨i 0, i 1, eq_ix2 i⟩
      exact (Cert.SampleValue.ref_k (m ((c : Thread Cert.SampleIdeal.nD Cert.SampleIdeal.τ).loc Cert.SampleIdeal.main_arg0)) (m ((c : Thread Cert.SampleIdeal.nD Cert.SampleIdeal.τ).loc Cert.SampleIdeal.main_arg1)) (m ((c : Thread Cert.SampleIdeal.nD Cert.SampleIdeal.τ).loc Cert.SampleIdeal.main_arg3)) r d).trans (Cert.SampleValue.final_k m c r d).symm
    · refine (Cert.SampleRefIdeal.Read.val_main_v52_eq (m ((c : Thread Cert.SampleIdeal.nD Cert.SampleIdeal.τ).loc Cert.SampleIdeal.main_arg0)) (m ((c : Thread Cert.SampleIdeal.nD Cert.SampleIdeal.τ).loc Cert.SampleIdeal.main_arg1)) (m ((c : Thread Cert.SampleIdeal.nD Cert.SampleIdeal.τ).loc Cert.SampleIdeal.main_arg3))).trans (funext fun (i : Cert.SampleRefIdeal.S128x1024.Idx) => ?_)
      obtain ⟨r, d, rfl⟩ : ∃ (r : Fin 128) (d : Fin 1024), i = ix2 r d := ⟨i 0, i 1, eq_ix2 i⟩
      exact (Cert.SampleValue.ref_kb (m ((c : Thread Cert.SampleIdeal.nD Cert.SampleIdeal.τ).loc Cert.SampleIdeal.main_arg0)) (m ((c : Thread Cert.SampleIdeal.nD Cert.SampleIdeal.τ).loc Cert.SampleIdeal.main_arg1)) (m ((c : Thread Cert.SampleIdeal.nD Cert.SampleIdeal.τ).loc Cert.SampleIdeal.main_arg3)) r d).trans (Cert.SampleValue.final_kb m c r d).symm
    · refine (Cert.SampleRefIdeal.Read.val_main_v50_eq (m ((c : Thread Cert.SampleIdeal.nD Cert.SampleIdeal.τ).loc Cert.SampleIdeal.main_arg0)) (m ((c : Thread Cert.SampleIdeal.nD Cert.SampleIdeal.τ).loc Cert.SampleIdeal.main_arg1))).trans (funext fun (i : Cert.SampleRefIdeal.S128x1024.Idx) => ?_)
      obtain ⟨r, d, rfl⟩ : ∃ (r : Fin 128) (d : Fin 1024), i = ix2 r d := ⟨i 0, i 1, eq_ix2 i⟩
      exact (Cert.SampleValue.ref_acc_v (m ((c : Thread Cert.SampleIdeal.nD Cert.SampleIdeal.τ).loc Cert.SampleIdeal.main_arg0)) (m ((c : Thread Cert.SampleIdeal.nD Cert.SampleIdeal.τ).loc Cert.SampleIdeal.main_arg1)) r d).trans (Cert.SampleValue.final_v m c r d).symm
    · refine (Cert.SampleRefIdeal.Read.val_main_v53_eq (m ((c : Thread Cert.SampleIdeal.nD Cert.SampleIdeal.τ).loc Cert.SampleIdeal.main_arg0)) (m ((c : Thread Cert.SampleIdeal.nD Cert.SampleIdeal.τ).loc Cert.SampleIdeal.main_arg1))).trans (funext fun (i : Cert.SampleRefIdeal.S128x1024.Idx) => ?_)
      obtain ⟨r, d, rfl⟩ : ∃ (r : Fin 128) (d : Fin 1024), i = ix2 r d := ⟨i 0, i 1, eq_ix2 i⟩
      exact (Cert.SampleValue.ref_vb (m ((c : Thread Cert.SampleIdeal.nD Cert.SampleIdeal.τ).loc Cert.SampleIdeal.main_arg0)) (m ((c : Thread Cert.SampleIdeal.nD Cert.SampleIdeal.τ).loc Cert.SampleIdeal.main_arg1)) r d).trans (Cert.SampleValue.final_vb m c r d).symm

set_option maxHeartbeats 8000000 in
theorem value_Forget : Cert.algebraic_ForgetIdeal_ForgetRefIdeal := by
  pair_intro
  · run_from Cert.ForgetIdeal.Gen.run_main m g
  · run_from Cert.ForgetRefIdeal.Value.run m' g'
    refine (Cert.ForgetRefIdeal.Read.val_main_v8_eq (m ((c : Thread Cert.ForgetIdeal.nD Cert.ForgetIdeal.τ).loc Cert.ForgetIdeal.main_arg0)) (m ((c : Thread Cert.ForgetIdeal.nD Cert.ForgetIdeal.τ).loc Cert.ForgetIdeal.main_arg1)) (m ((c : Thread Cert.ForgetIdeal.nD Cert.ForgetIdeal.τ).loc Cert.ForgetIdeal.main_arg2))).trans (funext fun (i : Cert.ForgetRefIdeal.S8320x128.Idx) => ?_)
    obtain ⟨r, d, rfl⟩ : ∃ (r : Fin 8320) (d : Fin 128), i = ix2 r d := ⟨i 0, i 1, eq_ix2 i⟩
    exact (Cert.ForgetValue.ref_out (m ((c : Thread Cert.ForgetIdeal.nD Cert.ForgetIdeal.τ).loc Cert.ForgetIdeal.main_arg0)) (m ((c : Thread Cert.ForgetIdeal.nD Cert.ForgetIdeal.τ).loc Cert.ForgetIdeal.main_arg1)) (m ((c : Thread Cert.ForgetIdeal.nD Cert.ForgetIdeal.τ).loc Cert.ForgetIdeal.main_arg2)) r d).trans (Cert.ForgetValue.final m c r d).symm

set_option maxHeartbeats 8000000 in
theorem value_Memory : Cert.algebraic_MemoryIdeal_MemoryRefIdeal := by
  pair_intro
  · run_from Cert.MemoryRun.run m g
  · run_from Cert.MemoryRefIdeal.Value.run m' g'
    · refine (Cert.MemoryRefIdeal.Read.val_main_v35_eq m' c).trans ?_
      rw [(hagree c).1, (hagree c).2.1, (hagree c).2.2.1, (hagree c).2.2.2]
      refine funext fun (i : Cert.MemoryRefIdeal.S512x1024.Idx) => ?_
      obtain ⟨r, d, rfl⟩ : ∃ (r : Fin 512) (d : Fin 1024), i = ix2 r d := ⟨i 0, i 1, eq_ix2 i⟩
      exact (Cert.MemoryValue.ref_k (m ((c : Thread Cert.MemoryIdeal.nD Cert.MemoryIdeal.τ).loc Cert.MemoryIdeal.main_arg0)) (m ((c : Thread Cert.MemoryIdeal.nD Cert.MemoryIdeal.τ).loc Cert.MemoryIdeal.main_arg1)) (m ((c : Thread Cert.MemoryIdeal.nD Cert.MemoryIdeal.τ).loc Cert.MemoryIdeal.main_arg2)) (m ((c : Thread Cert.MemoryIdeal.nD Cert.MemoryIdeal.τ).loc Cert.MemoryIdeal.main_arg3)) r d).trans (Cert.MemoryValue.final_k m g c r d).symm
    · refine (Cert.MemoryRefIdeal.Read.val_main_v37_eq (m ((c : Thread Cert.MemoryIdeal.nD Cert.MemoryIdeal.τ).loc Cert.MemoryIdeal.main_arg0)) (m ((c : Thread Cert.MemoryIdeal.nD Cert.MemoryIdeal.τ).loc Cert.MemoryIdeal.main_arg1)) (m ((c : Thread Cert.MemoryIdeal.nD Cert.MemoryIdeal.τ).loc Cert.MemoryIdeal.main_arg2))).trans (funext fun (i : Cert.MemoryRefIdeal.S512x1024.Idx) => ?_)
      obtain ⟨r, d, rfl⟩ : ∃ (r : Fin 512) (d : Fin 1024), i = ix2 r d := ⟨i 0, i 1, eq_ix2 i⟩
      exact (Cert.MemoryValue.ref_v (m ((c : Thread Cert.MemoryIdeal.nD Cert.MemoryIdeal.τ).loc Cert.MemoryIdeal.main_arg0)) (m ((c : Thread Cert.MemoryIdeal.nD Cert.MemoryIdeal.τ).loc Cert.MemoryIdeal.main_arg1)) (m ((c : Thread Cert.MemoryIdeal.nD Cert.MemoryIdeal.τ).loc Cert.MemoryIdeal.main_arg2)) r d).trans (Cert.MemoryValue.final_v m g c r d).symm

set_option maxHeartbeats 8000000 in
theorem value_MemAttn : Cert.algebraic_MemAttnIdeal_MemAttnRefIdeal_pre_regular_memory := by
  pair_intro
  · run_from Cert.MemAttnIdeal.Gen.run_main m g
  · run_from Cert.MemAttnRefIdeal.Value.run m' g'
    refine (Cert.MemAttnRefIdeal.Read.val_main_v24_eq (m ((c : Thread Cert.MemAttnIdeal.nD Cert.MemAttnIdeal.τ).loc Cert.MemAttnIdeal.main_arg0)) (m ((c : Thread Cert.MemAttnIdeal.nD Cert.MemAttnIdeal.τ).loc Cert.MemAttnIdeal.main_arg1)) (m ((c : Thread Cert.MemAttnIdeal.nD Cert.MemAttnIdeal.τ).loc Cert.MemAttnIdeal.main_arg2))).trans (funext fun (i : Cert.MemAttnRefIdeal.S8192x1024.Idx) => ?_)
    obtain ⟨r, d, rfl⟩ : ∃ (r : Fin 8192) (d : Fin 1024), i = ix2 r d := ⟨i 0, i 1, eq_ix2 i⟩
    exact (Cert.MemAttnValue.ref_out (m ((c : Thread Cert.MemAttnIdeal.nD Cert.MemAttnIdeal.τ).loc Cert.MemAttnIdeal.main_arg0)) (m ((c : Thread Cert.MemAttnIdeal.nD Cert.MemAttnIdeal.τ).loc Cert.MemAttnIdeal.main_arg1)) (m ((c : Thread Cert.MemAttnIdeal.nD Cert.MemAttnIdeal.τ).loc Cert.MemAttnIdeal.main_arg2)) (Cert.MemAttnValue.queries _ _ _ (hpre c).1)
      (Cert.MemAttnValue.keys _ _ _ (hpre c).2) r d).trans (Cert.MemAttnValue.final m c r d).symm

theorem claim : Cert.Claim :=
  ⟨Cert.Kernel.Gen.facts, Cert.KernelIdeal.Gen.facts, Cert.ReferenceIdeal.Gen.facts,
    Cert.Ffn.Gen.facts, Cert.FfnIdeal.Gen.facts, Cert.FfnRefIdeal.Gen.facts, Cert.FfnH.Gen.facts, Cert.FfnHIdeal.Gen.facts, Cert.FfnHRefIdeal.Gen.facts, Cert.Merge.Gen.facts, Cert.MergeIdeal.Gen.facts, Cert.MergeRefIdeal.Gen.facts,
    Cert.ConvA.Gen.facts, Cert.ConvAIdeal.Gen.facts, Cert.ConvARefIdeal.Gen.facts,
    Cert.Glu.Gen.facts, Cert.GluIdeal.Gen.facts, Cert.GluRefIdeal.Gen.facts,
    Cert.QMem.Gen.facts, Cert.QMemIdeal.Gen.facts, Cert.QMemRefIdeal.Gen.facts,
    Cert.Qkv.Gen.facts, Cert.QkvIdeal.Gen.facts, Cert.QkvRefIdeal.Gen.facts,
    Cert.Sample.Gen.facts, Cert.SampleIdeal.Gen.facts, Cert.SampleRefIdeal.Gen.facts,
    Cert.Forget.Gen.facts, Cert.ForgetIdeal.Gen.facts, Cert.ForgetRefIdeal.Gen.facts,
    Cert.Memory.Gen.facts, Cert.MemoryIdeal.Gen.facts, Cert.MemoryRefIdeal.Gen.facts,
    Cert.MemAttn.Gen.facts, Cert.MemAttnIdeal.Gen.facts, Cert.MemAttnRefIdeal.Gen.facts,
    Cert.Pre_tables.Gen.facts, Cert.Pre_regular.Gen.facts, Cert.Pre_regular_memory.Gen.facts,
    fun m g h => Cert.Kernel.Gen.frame 0 m g (pinned_kernel m h),
    fun m g h => Cert.KernelIdeal.Gen.frame 0 m g (pinned_ideal m h),
    fun m g h => Cert.KernelIdeal.Gen.frame 0 m g (pinned_regular m h),
    frame_reference,
    fun m g _ => frame_reference m g trivial,
    fun m g _ => Cert.Ffn.Gen.frame m g, fun m g _ => Cert.FfnIdeal.Gen.frame m g, frame_Ffn,
    fun m g _ => Cert.FfnH.Gen.frame m g, fun m g _ => Cert.FfnHIdeal.Gen.frame m g, frame_FfnH,
    fun m g _ => Cert.Merge.Gen.frame m g, fun m g _ => Cert.MergeIdeal.Gen.frame m g, frame_Merge,
    fun m g _ => Cert.ConvA.Gen.frame m g, fun m g _ => Cert.ConvAIdeal.Gen.frame m g, frame_ConvA,
    fun m g _ => Cert.Glu.Gen.frame m g, fun m g _ => Cert.GluIdeal.Gen.frame m g, frame_Glu,
    fun m g _ => Cert.QMem.Gen.frame m g, fun m g _ => Cert.QMemIdeal.Gen.frame m g, frame_QMem,
    fun m g _ => Cert.Qkv.Gen.frame m g, fun m g _ => Cert.QkvIdeal.Gen.frame m g, frame_Qkv,
    fun m g _ => Cert.Sample.Gen.frame m g, fun m g _ => Cert.SampleIdeal.Gen.frame m g, frame_Sample,
    fun m g _ => Cert.Forget.Gen.frame m g, fun m g _ => Cert.ForgetIdeal.Gen.frame m g, frame_Forget,
    fun m g _ => Cert.Memory.Gen.frame m g, fun m g _ => Cert.MemoryIdeal.Gen.frame m g, frame_Memory,
    fun m g _ => Cert.MemAttn.Gen.frame m g, fun m g _ => Cert.MemAttnIdeal.Gen.frame m g, fun m g _ => Cert.MemAttnIdeal.Gen.frame m g,
    frame_MemAttn, fun m g _ => frame_MemAttn m g trivial,
    ⟨IdealRules.named_const.statement Cert.KernelIdeal.κ "scale_log2e" .f32 0x3E0293EE#32 (((11863283 / 134217728) * (Real.log 2)⁻¹ : ℝ) : EReal) rfl,
      IdealRules.named_const.statement Cert.KernelIdeal.κ "log2e" .f32 0x3FB8AA3B#32 (((Real.log 2)⁻¹ : ℝ) : EReal) rfl⟩,
    value,
    trivial, value_Ffn, trivial, value_FfnH, trivial, value_Merge,
    trivial, value_ConvA, trivial, value_Glu, trivial, value_QMem, trivial, value_Qkv,
    trivial, value_Sample, trivial, value_Forget, trivial, value_Memory,
    trivial, value_MemAttn⟩

end Cert.Proof

end
